-- ==== Defs.lean ====
def Pre_Kernel (m : (ℓ : Loc Cert.Kernel.nD Cert.Kernel.τ Cert.Kernel.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerReferenceIdeal (m : (ℓ : Loc Cert.InnerReferenceIdeal.nD Cert.InnerReferenceIdeal.τ Cert.InnerReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_FfnTail (m : (ℓ : Loc Cert.FfnTail.nD Cert.FfnTail.τ Cert.FfnTail.sig) → Buf (Elt Bits) ℓ) : Prop :=
  True

def Pre_FfnTailIdeal (m : (ℓ : Loc Cert.FfnTailIdeal.nD Cert.FfnTailIdeal.τ Cert.FfnTailIdeal.sig) → Buf (Elt Ideal) ℓ) : Prop :=
  True

def Pre_FfnTailReferenceIdeal (m : (ℓ : Loc Cert.FfnTailReferenceIdeal.nD Cert.FfnTailReferenceIdeal.τ Cert.FfnTailReferenceIdeal.sig) → Buf (Elt Ideal) ℓ) : Prop :=
  True

def Pre_ProjTail (m : (ℓ : Loc Cert.ProjTail.nD Cert.ProjTail.τ Cert.ProjTail.sig) → Buf (Elt Bits) ℓ) : Prop :=
  True

def Pre_ProjTailIdeal (m : (ℓ : Loc Cert.ProjTailIdeal.nD Cert.ProjTailIdeal.τ Cert.ProjTailIdeal.sig) → Buf (Elt Ideal) ℓ) : Prop :=
  True

def Pre_ProjTailReferenceIdeal (m : (ℓ : Loc Cert.ProjTailReferenceIdeal.nD Cert.ProjTailReferenceIdeal.τ Cert.ProjTailReferenceIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleReferenceIdeal (m : (ℓ : Loc Cert.ConvSampleReferenceIdeal.nD Cert.ConvSampleReferenceIdeal.τ Cert.ConvSampleReferenceIdeal.sig) → Buf (Elt Ideal) ℓ) : Prop :=
  True

def Pre_Recur (m : (ℓ : Loc Cert.Recur.nD Cert.Recur.τ Cert.Recur.sig) → Buf (Elt Bits) ℓ) : Prop :=
  True

def Pre_RecurIdeal (m : (ℓ : Loc Cert.RecurIdeal.nD Cert.RecurIdeal.τ Cert.RecurIdeal.sig) → Buf (Elt Ideal) ℓ) : Prop :=
  True

def Pre_RecurReferenceIdeal (m : (ℓ : Loc Cert.RecurReferenceIdeal.nD Cert.RecurReferenceIdeal.τ Cert.RecurReferenceIdeal.sig) → Buf (Elt Ideal) ℓ) : Prop :=
  True

def Pre_RecurSample (m : (ℓ : Loc Cert.RecurSample.nD Cert.RecurSample.τ Cert.RecurSample.sig) → Buf (Elt Bits) ℓ) : Prop :=
  True

def Pre_RecurSampleIdeal (m : (ℓ : Loc Cert.RecurSampleIdeal.nD Cert.RecurSampleIdeal.τ Cert.RecurSampleIdeal.sig) → Buf (Elt Ideal) ℓ) : Prop :=
  True

def Pre_RecurSampleReferenceIdeal (m : (ℓ : Loc Cert.RecurSampleReferenceIdeal.nD Cert.RecurSampleReferenceIdeal.τ Cert.RecurSampleReferenceIdeal.sig) → Buf (Elt Ideal) ℓ) : Prop :=
  True

def Pre_ConvMeta (m : (ℓ : Loc Cert.ConvMeta.nD Cert.ConvMeta.τ Cert.ConvMeta.sig) → Buf (Elt Bits) ℓ) : Prop :=
  True

def Pre_ConvMetaIdeal (m : (ℓ : Loc Cert.ConvMetaIdeal.nD Cert.ConvMetaIdeal.τ Cert.ConvMetaIdeal.sig) → Buf (Elt Ideal) ℓ) : Prop :=
  True

def Pre_ConvMetaReferenceIdeal (m : (ℓ : Loc Cert.ConvMetaReferenceIdeal.nD Cert.ConvMetaReferenceIdeal.τ Cert.ConvMetaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1)
      ∧ r.2.mem ((c.tc : Thread Cert.Inner.nD Cert.Inner.τ).loc Cert.Inner.main_arg2) = m ((c.tc : Thread Cert.Inner.nD Cert.Inner.τ).loc Cert.Inner.main_arg2)
      ∧ r.2.mem ((c.tc : Thread Cert.Inner.nD Cert.Inner.τ).loc Cert.Inner.main_arg3) = m ((c.tc : Thread Cert.Inner.nD Cert.Inner.τ).loc Cert.Inner.main_arg3)
      ∧ r.2.mem ((c.tc : Thread Cert.Inner.nD Cert.Inner.τ).loc Cert.Inner.main_arg4) = m ((c.tc : Thread Cert.Inner.nD Cert.Inner.τ).loc Cert.Inner.main_arg4)
      ∧ r.2.mem ((c.tc : Thread Cert.Inner.nD Cert.Inner.τ).loc Cert.Inner.main_arg5) = m ((c.tc : Thread Cert.Inner.nD Cert.Inner.τ).loc Cert.Inner.main_arg5)
      ∧ r.2.mem ((c.tc : Thread Cert.Inner.nD Cert.Inner.τ).loc Cert.Inner.main_arg6) = m ((c.tc : Thread Cert.Inner.nD Cert.Inner.τ).loc Cert.Inner.main_arg6)
      ∧ r.2.mem ((c.tc : Thread Cert.Inner.nD Cert.Inner.τ).loc Cert.Inner.main_arg7) = m ((c.tc : Thread Cert.Inner.nD Cert.Inner.τ).loc Cert.Inner.main_arg7)
      ∧ r.2.mem ((c.tc : Thread Cert.Inner.nD Cert.Inner.τ).loc Cert.Inner.main_arg8) = m ((c.tc : Thread Cert.Inner.nD Cert.Inner.τ).loc Cert.Inner.main_arg8))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
      ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
      ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
      ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
      ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
      ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6)
      ∧ r.2.mem ((c.tc : Thread Cert.InnerIdeal.nD Cert.InnerIdeal.τ).loc Cert.InnerIdeal.main_arg7) = m ((c.tc : Thread Cert.InnerIdeal.nD Cert.InnerIdeal.τ).loc Cert.InnerIdeal.main_arg7)
      ∧ r.2.mem ((c.tc : Thread Cert.InnerIdeal.nD Cert.InnerIdeal.τ).loc Cert.InnerIdeal.main_arg8) = m ((c.tc : Thread Cert.InnerIdeal.nD Cert.InnerIdeal.τ).loc Cert.InnerIdeal.main_arg8))
      ∧ r.2.sem = fun _ => 0)

def quiescent_InnerReferenceIdeal [hInnerReferenceIdeal : Cert.InnerReferenceIdeal.Facts] : Prop :=
  ∀ (m : (ℓ : Loc Cert.InnerReferenceIdeal.nD Cert.InnerReferenceIdeal.τ Cert.InnerReferenceIdeal.sig) → Buf (Elt Ideal) ℓ) (g : Dev Cert.InnerReferenceIdeal.nD → PrngReg), Pre_InnerReferenceIdeal m →
    θ_run (Cert.InnerReferenceIdeal.defs (F := Ideal)) (onTc (τ := Cert.InnerReferenceIdeal.τ) (Cert.InnerReferenceIdeal.main (F := Ideal))) ⟨m, fun _ => 0, g⟩ (fun r => (∀ c : Dev Cert.InnerReferenceIdeal.nD,
      r.2.mem ((c.tc : Thread Cert.InnerReferenceIdeal.nD Cert.InnerReferenceIdeal.τ).loc Cert.InnerReferenceIdeal.main_arg0) = m ((c.tc : Thread Cert.InnerReferenceIdeal.nD Cert.InnerReferenceIdeal.τ).loc Cert.InnerReferenceIdeal.main_arg0)
      ∧ r.2.mem ((c.tc : Thread Cert.InnerReferenceIdeal.nD Cert.InnerReferenceIdeal.τ).loc Cert.InnerReferenceIdeal.main_arg1) = m ((c.tc : Thread Cert.InnerReferenceIdeal.nD Cert.InnerReferenceIdeal.τ).loc Cert.InnerReferenceIdeal.main_arg1)
      ∧ r.2.mem ((c.tc : Thread Cert.InnerReferenceIdeal.nD Cert.InnerReferenceIdeal.τ).loc Cert.InnerReferenceIdeal.main_arg2) = m ((c.tc : Thread Cert.InnerReferenceIdeal.nD Cert.InnerReferenceIdeal.τ).loc Cert.InnerReferenceIdeal.main_arg2)
      ∧ r.2.mem ((c.tc : Thread Cert.InnerReferenceIdeal.nD Cert.InnerReferenceIdeal.τ).loc Cert.InnerReferenceIdeal.main_arg3) = m ((c.tc : Thread Cert.InnerReferenceIdeal.nD Cert.InnerReferenceIdeal.τ).loc Cert.InnerReferenceIdeal.main_arg3)
      ∧ r.2.mem ((c.tc : Thread Cert.InnerReferenceIdeal.nD Cert.InnerReferenceIdeal.τ).loc Cert.InnerReferenceIdeal.main_arg4) = m ((c.tc : Thread Cert.InnerReferenceIdeal.nD Cert.InnerReferenceIdeal.τ).loc Cert.InnerReferenceIdeal.main_arg4)
      ∧ r.2.mem ((c.tc : Thread Cert.InnerReferenceIdeal.nD Cert.InnerReferenceIdeal.τ).loc Cert.InnerReferenceIdeal.main_arg5) = m ((c.tc : Thread Cert.InnerReferenceIdeal.nD Cert.InnerReferenceIdeal.τ).loc Cert.InnerReferenceIdeal.main_arg5)
      ∧ r.2.mem ((c.tc : Thread Cert.InnerReferenceIdeal.nD Cert.InnerReferenceIdeal.τ).loc Cert.InnerReferenceIdeal.main_arg6) = m ((c.tc : Thread Cert.InnerReferenceIdeal.nD Cert.InnerReferenceIdeal.τ).loc Cert.InnerReferenceIdeal.main_arg6)
      ∧ r.2.mem ((c.tc : Thread Cert.InnerReferenceIdeal.nD Cert.InnerReferenceIdeal.τ).loc Cert.InnerReferenceIdeal.main_arg7) = m ((c.tc : Thread Cert.InnerReferenceIdeal.nD Cert.InnerReferenceIdeal.τ).loc Cert.InnerReferenceIdeal.main_arg7)
      ∧ r.2.mem ((c.tc : Thread Cert.InnerReferenceIdeal.nD Cert.InnerReferenceIdeal.τ).loc Cert.InnerReferenceIdeal.main_arg8) = m ((c.tc : Thread Cert.InnerReferenceIdeal.nD Cert.InnerReferenceIdeal.τ).loc Cert.InnerReferenceIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4))
      ∧ r.2.sem = fun _ => 0)

def quiescent_FfnTail [hFfnTail : Cert.FfnTail.Facts] : Prop :=
  ∀ (m : (ℓ : Loc Cert.FfnTail.nD Cert.FfnTail.τ Cert.FfnTail.sig) → Buf (Elt Bits) ℓ) (g : Dev Cert.FfnTail.nD → PrngReg), Pre_FfnTail m →
    θ_run (Cert.FfnTail.defs (F := Bits)) (onTc (τ := Cert.FfnTail.τ) (Cert.FfnTail.main (F := Bits))) ⟨m, fun _ => 0, g⟩ (fun r => (∀ c : Dev Cert.FfnTail.nD,
      r.2.mem ((c.tc : Thread Cert.FfnTail.nD Cert.FfnTail.τ).loc Cert.FfnTail.main_arg0) = m ((c.tc : Thread Cert.FfnTail.nD Cert.FfnTail.τ).loc Cert.FfnTail.main_arg0)
      ∧ r.2.mem ((c.tc : Thread Cert.FfnTail.nD Cert.FfnTail.τ).loc Cert.FfnTail.main_arg1) = m ((c.tc : Thread Cert.FfnTail.nD Cert.FfnTail.τ).loc Cert.FfnTail.main_arg1)
      ∧ r.2.mem ((c.tc : Thread Cert.FfnTail.nD Cert.FfnTail.τ).loc Cert.FfnTail.main_arg2) = m ((c.tc : Thread Cert.FfnTail.nD Cert.FfnTail.τ).loc Cert.FfnTail.main_arg2)
      ∧ r.2.mem ((c.tc : Thread Cert.FfnTail.nD Cert.FfnTail.τ).loc Cert.FfnTail.main_arg3) = m ((c.tc : Thread Cert.FfnTail.nD Cert.FfnTail.τ).loc Cert.FfnTail.main_arg3)
      ∧ r.2.mem ((c.tc : Thread Cert.FfnTail.nD Cert.FfnTail.τ).loc Cert.FfnTail.main_arg4) = m ((c.tc : Thread Cert.FfnTail.nD Cert.FfnTail.τ).loc Cert.FfnTail.main_arg4)
      ∧ r.2.mem ((c.tc : Thread Cert.FfnTail.nD Cert.FfnTail.τ).loc Cert.FfnTail.main_arg5) = m ((c.tc : Thread Cert.FfnTail.nD Cert.FfnTail.τ).loc Cert.FfnTail.main_arg5)
      ∧ r.2.mem ((c.tc : Thread Cert.FfnTail.nD Cert.FfnTail.τ).loc Cert.FfnTail.main_arg6) = m ((c.tc : Thread Cert.FfnTail.nD Cert.FfnTail.τ).loc Cert.FfnTail.main_arg6)
      ∧ r.2.mem ((c.tc : Thread Cert.FfnTail.nD Cert.FfnTail.τ).loc Cert.FfnTail.main_arg7) = m ((c.tc : Thread Cert.FfnTail.nD Cert.FfnTail.τ).loc Cert.FfnTail.main_arg7))
      ∧ r.2.sem = fun _ => 0)

def quiescent_FfnTailIdeal [hFfnTailIdeal : Cert.FfnTailIdeal.Facts] : Prop :=
  ∀ (m : (ℓ : Loc Cert.FfnTailIdeal.nD Cert.FfnTailIdeal.τ Cert.FfnTailIdeal.sig) → Buf (Elt Ideal) ℓ) (g : Dev Cert.FfnTailIdeal.nD → PrngReg), Pre_FfnTailIdeal m →
    θ_run (Cert.FfnTailIdeal.defs (F := Ideal)) (onTc (τ := Cert.FfnTailIdeal.τ) (Cert.FfnTailIdeal.main (F := Ideal))) ⟨m, fun _ => 0, g⟩ (fun r => (∀ c : Dev Cert.FfnTailIdeal.nD,
      r.2.mem ((c.tc : Thread Cert.FfnTailIdeal.nD Cert.FfnTailIdeal.τ).loc Cert.FfnTailIdeal.main_arg0) = m ((c.tc : Thread Cert.FfnTailIdeal.nD Cert.FfnTailIdeal.τ).loc Cert.FfnTailIdeal.main_arg0)
      ∧ r.2.mem ((c.tc : Thread Cert.FfnTailIdeal.nD Cert.FfnTailIdeal.τ).loc Cert.FfnTailIdeal.main_arg1) = m ((c.tc : Thread Cert.FfnTailIdeal.nD Cert.FfnTailIdeal.τ).loc Cert.FfnTailIdeal.main_arg1)
      ∧ r.2.mem ((c.tc : Thread Cert.FfnTailIdeal.nD Cert.FfnTailIdeal.τ).loc Cert.FfnTailIdeal.main_arg2) = m ((c.tc : Thread Cert.FfnTailIdeal.nD Cert.FfnTailIdeal.τ).loc Cert.FfnTailIdeal.main_arg2)
      ∧ r.2.mem ((c.tc : Thread Cert.FfnTailIdeal.nD Cert.FfnTailIdeal.τ).loc Cert.FfnTailIdeal.main_arg3) = m ((c.tc : Thread Cert.FfnTailIdeal.nD Cert.FfnTailIdeal.τ).loc Cert.FfnTailIdeal.main_arg3)
      ∧ r.2.mem ((c.tc : Thread Cert.FfnTailIdeal.nD Cert.FfnTailIdeal.τ).loc Cert.FfnTailIdeal.main_arg4) = m ((c.tc : Thread Cert.FfnTailIdeal.nD Cert.FfnTailIdeal.τ).loc Cert.FfnTailIdeal.main_arg4)
      ∧ r.2.mem ((c.tc : Thread Cert.FfnTailIdeal.nD Cert.FfnTailIdeal.τ).loc Cert.FfnTailIdeal.main_arg5) = m ((c.tc : Thread Cert.FfnTailIdeal.nD Cert.FfnTailIdeal.τ).loc Cert.FfnTailIdeal.main_arg5)
      ∧ r.2.mem ((c.tc : Thread Cert.FfnTailIdeal.nD Cert.FfnTailIdeal.τ).loc Cert.FfnTailIdeal.main_arg6) = m ((c.tc : Thread Cert.FfnTailIdeal.nD Cert.FfnTailIdeal.τ).loc Cert.FfnTailIdeal.main_arg6)
      ∧ r.2.mem ((c.tc : Thread Cert.FfnTailIdeal.nD Cert.FfnTailIdeal.τ).loc Cert.FfnTailIdeal.main_arg7) = m ((c.tc : Thread Cert.FfnTailIdeal.nD Cert.FfnTailIdeal.τ).loc Cert.FfnTailIdeal.main_arg7))
      ∧ r.2.sem = fun _ => 0)

def quiescent_FfnTailReferenceIdeal [hFfnTailReferenceIdeal : Cert.FfnTailReferenceIdeal.Facts] : Prop :=
  ∀ (m : (ℓ : Loc Cert.FfnTailReferenceIdeal.nD Cert.FfnTailReferenceIdeal.τ Cert.FfnTailReferenceIdeal.sig) → Buf (Elt Ideal) ℓ) (g : Dev Cert.FfnTailReferenceIdeal.nD → PrngReg), Pre_FfnTailReferenceIdeal m →
    θ_run (Cert.FfnTailReferenceIdeal.defs (F := Ideal)) (onTc (τ := Cert.FfnTailReferenceIdeal.τ) (Cert.FfnTailReferenceIdeal.main (F := Ideal))) ⟨m, fun _ => 0, g⟩ (fun r => (∀ c : Dev Cert.FfnTailReferenceIdeal.nD,
      r.2.mem ((c.tc : Thread Cert.FfnTailReferenceIdeal.nD Cert.FfnTailReferenceIdeal.τ).loc Cert.FfnTailReferenceIdeal.main_arg0) = m ((c.tc : Thread Cert.FfnTailReferenceIdeal.nD Cert.FfnTailReferenceIdeal.τ).loc Cert.FfnTailReferenceIdeal.main_arg0)
      ∧ r.2.mem ((c.tc : Thread Cert.FfnTailReferenceIdeal.nD Cert.FfnTailReferenceIdeal.τ).loc Cert.FfnTailReferenceIdeal.main_arg1) = m ((c.tc : Thread Cert.FfnTailReferenceIdeal.nD Cert.FfnTailReferenceIdeal.τ).loc Cert.FfnTailReferenceIdeal.main_arg1)
      ∧ r.2.mem ((c.tc : Thread Cert.FfnTailReferenceIdeal.nD Cert.FfnTailReferenceIdeal.τ).loc Cert.FfnTailReferenceIdeal.main_arg2) = m ((c.tc : Thread Cert.FfnTailReferenceIdeal.nD Cert.FfnTailReferenceIdeal.τ).loc Cert.FfnTailReferenceIdeal.main_arg2)
      ∧ r.2.mem ((c.tc : Thread Cert.FfnTailReferenceIdeal.nD Cert.FfnTailReferenceIdeal.τ).loc Cert.FfnTailReferenceIdeal.main_arg3) = m ((c.tc : Thread Cert.FfnTailReferenceIdeal.nD Cert.FfnTailReferenceIdeal.τ).loc Cert.FfnTailReferenceIdeal.main_arg3)
      ∧ r.2.mem ((c.tc : Thread Cert.FfnTailReferenceIdeal.nD Cert.FfnTailReferenceIdeal.τ).loc Cert.FfnTailReferenceIdeal.main_arg4) = m ((c.tc : Thread Cert.FfnTailReferenceIdeal.nD Cert.FfnTailReferenceIdeal.τ).loc Cert.FfnTailReferenceIdeal.main_arg4)
      ∧ r.2.mem ((c.tc : Thread Cert.FfnTailReferenceIdeal.nD Cert.FfnTailReferenceIdeal.τ).loc Cert.FfnTailReferenceIdeal.main_arg5) = m ((c.tc : Thread Cert.FfnTailReferenceIdeal.nD Cert.FfnTailReferenceIdeal.τ).loc Cert.FfnTailReferenceIdeal.main_arg5)
      ∧ r.2.mem ((c.tc : Thread Cert.FfnTailReferenceIdeal.nD Cert.FfnTailReferenceIdeal.τ).loc Cert.FfnTailReferenceIdeal.main_arg6) = m ((c.tc : Thread Cert.FfnTailReferenceIdeal.nD Cert.FfnTailReferenceIdeal.τ).loc Cert.FfnTailReferenceIdeal.main_arg6)
      ∧ r.2.mem ((c.tc : Thread Cert.FfnTailReferenceIdeal.nD Cert.FfnTailReferenceIdeal.τ).loc Cert.FfnTailReferenceIdeal.main_arg7) = m ((c.tc : Thread Cert.FfnTailReferenceIdeal.nD Cert.FfnTailReferenceIdeal.τ).loc Cert.FfnTailReferenceIdeal.main_arg7))
      ∧ r.2.sem = fun _ => 0)

def quiescent_ProjTail [hProjTail : Cert.ProjTail.Facts] : Prop :=
  ∀ (m : (ℓ : Loc Cert.ProjTail.nD Cert.ProjTail.τ Cert.ProjTail.sig) → Buf (Elt Bits) ℓ) (g : Dev Cert.ProjTail.nD → PrngReg), Pre_ProjTail m →
    θ_run (Cert.ProjTail.defs (F := Bits)) (onTc (τ := Cert.ProjTail.τ) (Cert.ProjTail.main (F := Bits))) ⟨m, fun _ => 0, g⟩ (fun r => (∀ c : Dev Cert.ProjTail.nD,
      r.2.mem ((c.tc : Thread Cert.ProjTail.nD Cert.ProjTail.τ).loc Cert.ProjTail.main_arg0) = m ((c.tc : Thread Cert.ProjTail.nD Cert.ProjTail.τ).loc Cert.ProjTail.main_arg0)
      ∧ r.2.mem ((c.tc : Thread Cert.ProjTail.nD Cert.ProjTail.τ).loc Cert.ProjTail.main_arg1) = m ((c.tc : Thread Cert.ProjTail.nD Cert.ProjTail.τ).loc Cert.ProjTail.main_arg1)
      ∧ r.2.mem ((c.tc : Thread Cert.ProjTail.nD Cert.ProjTail.τ).loc Cert.ProjTail.main_arg2) = m ((c.tc : Thread Cert.ProjTail.nD Cert.ProjTail.τ).loc Cert.ProjTail.main_arg2)
      ∧ r.2.mem ((c.tc : Thread Cert.ProjTail.nD Cert.ProjTail.τ).loc Cert.ProjTail.main_arg3) = m ((c.tc : Thread Cert.ProjTail.nD Cert.ProjTail.τ).loc Cert.ProjTail.main_arg3)
      ∧ r.2.mem ((c.tc : Thread Cert.ProjTail.nD Cert.ProjTail.τ).loc Cert.ProjTail.main_arg4) = m ((c.tc : Thread Cert.ProjTail.nD Cert.ProjTail.τ).loc Cert.ProjTail.main_arg4)
      ∧ r.2.mem ((c.tc : Thread Cert.ProjTail.nD Cert.ProjTail.τ).loc Cert.ProjTail.main_arg5) = m ((c.tc : Thread Cert.ProjTail.nD Cert.ProjTail.τ).loc Cert.ProjTail.main_arg5)
      ∧ r.2.mem ((c.tc : Thread Cert.ProjTail.nD Cert.ProjTail.τ).loc Cert.ProjTail.main_arg6) = m ((c.tc : Thread Cert.ProjTail.nD Cert.ProjTail.τ).loc Cert.ProjTail.main_arg6)
      ∧ r.2.mem ((c.tc : Thread Cert.ProjTail.nD Cert.ProjTail.τ).loc Cert.ProjTail.main_arg7) = m ((c.tc : Thread Cert.ProjTail.nD Cert.ProjTail.τ).loc Cert.ProjTail.main_arg7))
      ∧ r.2.sem = fun _ => 0)

def quiescent_ProjTailIdeal [hProjTailIdeal : Cert.ProjTailIdeal.Facts] : Prop :=
  ∀ (m : (ℓ : Loc Cert.ProjTailIdeal.nD Cert.ProjTailIdeal.τ Cert.ProjTailIdeal.sig) → Buf (Elt Ideal) ℓ) (g : Dev Cert.ProjTailIdeal.nD → PrngReg), Pre_ProjTailIdeal m →
    θ_run (Cert.ProjTailIdeal.defs (F := Ideal)) (onTc (τ := Cert.ProjTailIdeal.τ) (Cert.ProjTailIdeal.main (F := Ideal))) ⟨m, fun _ => 0, g⟩ (fun r => (∀ c : Dev Cert.ProjTailIdeal.nD,
      r.2.mem ((c.tc : Thread Cert.ProjTailIdeal.nD Cert.ProjTailIdeal.τ).loc Cert.ProjTailIdeal.main_arg0) = m ((c.tc : Thread Cert.ProjTailIdeal.nD Cert.ProjTailIdeal.τ).loc Cert.ProjTailIdeal.main_arg0)
      ∧ r.2.mem ((c.tc : Thread Cert.ProjTailIdeal.nD Cert.ProjTailIdeal.τ).loc Cert.ProjTailIdeal.main_arg1) = m ((c.tc : Thread Cert.ProjTailIdeal.nD Cert.ProjTailIdeal.τ).loc Cert.ProjTailIdeal.main_arg1)
      ∧ r.2.mem ((c.tc : Thread Cert.ProjTailIdeal.nD Cert.ProjTailIdeal.τ).loc Cert.ProjTailIdeal.main_arg2) = m ((c.tc : Thread Cert.ProjTailIdeal.nD Cert.ProjTailIdeal.τ).loc Cert.ProjTailIdeal.main_arg2)
      ∧ r.2.mem ((c.tc : Thread Cert.ProjTailIdeal.nD Cert.ProjTailIdeal.τ).loc Cert.ProjTailIdeal.main_arg3) = m ((c.tc : Thread Cert.ProjTailIdeal.nD Cert.ProjTailIdeal.τ).loc Cert.ProjTailIdeal.main_arg3)
      ∧ r.2.mem ((c.tc : Thread Cert.ProjTailIdeal.nD Cert.ProjTailIdeal.τ).loc Cert.ProjTailIdeal.main_arg4) = m ((c.tc : Thread Cert.ProjTailIdeal.nD Cert.ProjTailIdeal.τ).loc Cert.ProjTailIdeal.main_arg4)
      ∧ r.2.mem ((c.tc : Thread Cert.ProjTailIdeal.nD Cert.ProjTailIdeal.τ).loc Cert.ProjTailIdeal.main_arg5) = m ((c.tc : Thread Cert.ProjTailIdeal.nD Cert.ProjTailIdeal.τ).loc Cert.ProjTailIdeal.main_arg5)
      ∧ r.2.mem ((c.tc : Thread Cert.ProjTailIdeal.nD Cert.ProjTailIdeal.τ).loc Cert.ProjTailIdeal.main_arg6) = m ((c.tc : Thread Cert.ProjTailIdeal.nD Cert.ProjTailIdeal.τ).loc Cert.ProjTailIdeal.main_arg6)
      ∧ r.2.mem ((c.tc : Thread Cert.ProjTailIdeal.nD Cert.ProjTailIdeal.τ).loc Cert.ProjTailIdeal.main_arg7) = m ((c.tc : Thread Cert.ProjTailIdeal.nD Cert.ProjTailIdeal.τ).loc Cert.ProjTailIdeal.main_arg7))
      ∧ r.2.sem = fun _ => 0)

def quiescent_ProjTailReferenceIdeal [hProjTailReferenceIdeal : Cert.ProjTailReferenceIdeal.Facts] : Prop :=
  ∀ (m : (ℓ : Loc Cert.ProjTailReferenceIdeal.nD Cert.ProjTailReferenceIdeal.τ Cert.ProjTailReferenceIdeal.sig) → Buf (Elt Ideal) ℓ) (g : Dev Cert.ProjTailReferenceIdeal.nD → PrngReg), Pre_ProjTailReferenceIdeal m →
    θ_run (Cert.ProjTailReferenceIdeal.defs (F := Ideal)) (onTc (τ := Cert.ProjTailReferenceIdeal.τ) (Cert.ProjTailReferenceIdeal.main (F := Ideal))) ⟨m, fun _ => 0, g⟩ (fun r => (∀ c : Dev Cert.ProjTailReferenceIdeal.nD,
      r.2.mem ((c.tc : Thread Cert.ProjTailReferenceIdeal.nD Cert.ProjTailReferenceIdeal.τ).loc Cert.ProjTailReferenceIdeal.main_arg0) = m ((c.tc : Thread Cert.ProjTailReferenceIdeal.nD Cert.ProjTailReferenceIdeal.τ).loc Cert.ProjTailReferenceIdeal.main_arg0)
      ∧ r.2.mem ((c.tc : Thread Cert.ProjTailReferenceIdeal.nD Cert.ProjTailReferenceIdeal.τ).loc Cert.ProjTailReferenceIdeal.main_arg1) = m ((c.tc : Thread Cert.ProjTailReferenceIdeal.nD Cert.ProjTailReferenceIdeal.τ).loc Cert.ProjTailReferenceIdeal.main_arg1)
      ∧ r.2.mem ((c.tc : Thread Cert.ProjTailReferenceIdeal.nD Cert.ProjTailReferenceIdeal.τ).loc Cert.ProjTailReferenceIdeal.main_arg2) = m ((c.tc : Thread Cert.ProjTailReferenceIdeal.nD Cert.ProjTailReferenceIdeal.τ).loc Cert.ProjTailReferenceIdeal.main_arg2)
      ∧ r.2.mem ((c.tc : Thread Cert.ProjTailReferenceIdeal.nD Cert.ProjTailReferenceIdeal.τ).loc Cert.ProjTailReferenceIdeal.main_arg3) = m ((c.tc : Thread Cert.ProjTailReferenceIdeal.nD Cert.ProjTailReferenceIdeal.τ).loc Cert.ProjTailReferenceIdeal.main_arg3)
      ∧ r.2.mem ((c.tc : Thread Cert.ProjTailReferenceIdeal.nD Cert.ProjTailReferenceIdeal.τ).loc Cert.ProjTailReferenceIdeal.main_arg4) = m ((c.tc : Thread Cert.ProjTailReferenceIdeal.nD Cert.ProjTailReferenceIdeal.τ).loc Cert.ProjTailReferenceIdeal.main_arg4)
      ∧ r.2.mem ((c.tc : Thread Cert.ProjTailReferenceIdeal.nD Cert.ProjTailReferenceIdeal.τ).loc Cert.ProjTailReferenceIdeal.main_arg5) = m ((c.tc : Thread Cert.ProjTailReferenceIdeal.nD Cert.ProjTailReferenceIdeal.τ).loc Cert.ProjTailReferenceIdeal.main_arg5)
      ∧ r.2.mem ((c.tc : Thread Cert.ProjTailReferenceIdeal.nD Cert.ProjTailReferenceIdeal.τ).loc Cert.ProjTailReferenceIdeal.main_arg6) = m ((c.tc : Thread Cert.ProjTailReferenceIdeal.nD Cert.ProjTailReferenceIdeal.τ).loc Cert.ProjTailReferenceIdeal.main_arg6)
      ∧ r.2.mem ((c.tc : Thread Cert.ProjTailReferenceIdeal.nD Cert.ProjTailReferenceIdeal.τ).loc Cert.ProjTailReferenceIdeal.main_arg7) = m ((c.tc : Thread Cert.ProjTailReferenceIdeal.nD Cert.ProjTailReferenceIdeal.τ).loc Cert.ProjTailReferenceIdeal.main_arg7))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2)
      ∧ r.2.mem ((c.tc : Thread Cert.ConvSample.nD Cert.ConvSample.τ).loc Cert.ConvSample.main_arg3) = m ((c.tc : Thread Cert.ConvSample.nD Cert.ConvSample.τ).loc Cert.ConvSample.main_arg3)
      ∧ r.2.mem ((c.tc : Thread Cert.ConvSample.nD Cert.ConvSample.τ).loc Cert.ConvSample.main_arg4) = m ((c.tc : Thread Cert.ConvSample.nD Cert.ConvSample.τ).loc Cert.ConvSample.main_arg4)
      ∧ r.2.mem ((c.tc : Thread Cert.ConvSample.nD Cert.ConvSample.τ).loc Cert.ConvSample.main_arg5) = m ((c.tc : Thread Cert.ConvSample.nD Cert.ConvSample.τ).loc Cert.ConvSample.main_arg5))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
      ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
      ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
      ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5))
      ∧ r.2.sem = fun _ => 0)

def quiescent_ConvSampleReferenceIdeal [hConvSampleReferenceIdeal : Cert.ConvSampleReferenceIdeal.Facts] : Prop :=
  ∀ (m : (ℓ : Loc Cert.ConvSampleReferenceIdeal.nD Cert.ConvSampleReferenceIdeal.τ Cert.ConvSampleReferenceIdeal.sig) → Buf (Elt Ideal) ℓ) (g : Dev Cert.ConvSampleReferenceIdeal.nD → PrngReg), Pre_ConvSampleReferenceIdeal m →
    θ_run (Cert.ConvSampleReferenceIdeal.defs (F := Ideal)) (onTc (τ := Cert.ConvSampleReferenceIdeal.τ) (Cert.ConvSampleReferenceIdeal.main (F := Ideal))) ⟨m, fun _ => 0, g⟩ (fun r => (∀ c : Dev Cert.ConvSampleReferenceIdeal.nD,
      r.2.mem ((c.tc : Thread Cert.ConvSampleReferenceIdeal.nD Cert.ConvSampleReferenceIdeal.τ).loc Cert.ConvSampleReferenceIdeal.main_arg0) = m ((c.tc : Thread Cert.ConvSampleReferenceIdeal.nD Cert.ConvSampleReferenceIdeal.τ).loc Cert.ConvSampleReferenceIdeal.main_arg0)
      ∧ r.2.mem ((c.tc : Thread Cert.ConvSampleReferenceIdeal.nD Cert.ConvSampleReferenceIdeal.τ).loc Cert.ConvSampleReferenceIdeal.main_arg1) = m ((c.tc : Thread Cert.ConvSampleReferenceIdeal.nD Cert.ConvSampleReferenceIdeal.τ).loc Cert.ConvSampleReferenceIdeal.main_arg1)
      ∧ r.2.mem ((c.tc : Thread Cert.ConvSampleReferenceIdeal.nD Cert.ConvSampleReferenceIdeal.τ).loc Cert.ConvSampleReferenceIdeal.main_arg2) = m ((c.tc : Thread Cert.ConvSampleReferenceIdeal.nD Cert.ConvSampleReferenceIdeal.τ).loc Cert.ConvSampleReferenceIdeal.main_arg2)
      ∧ r.2.mem ((c.tc : Thread Cert.ConvSampleReferenceIdeal.nD Cert.ConvSampleReferenceIdeal.τ).loc Cert.ConvSampleReferenceIdeal.main_arg3) = m ((c.tc : Thread Cert.ConvSampleReferenceIdeal.nD Cert.ConvSampleReferenceIdeal.τ).loc Cert.ConvSampleReferenceIdeal.main_arg3)
      ∧ r.2.mem ((c.tc : Thread Cert.ConvSampleReferenceIdeal.nD Cert.ConvSampleReferenceIdeal.τ).loc Cert.ConvSampleReferenceIdeal.main_arg4) = m ((c.tc : Thread Cert.ConvSampleReferenceIdeal.nD Cert.ConvSampleReferenceIdeal.τ).loc Cert.ConvSampleReferenceIdeal.main_arg4)
      ∧ r.2.mem ((c.tc : Thread Cert.ConvSampleReferenceIdeal.nD Cert.ConvSampleReferenceIdeal.τ).loc Cert.ConvSampleReferenceIdeal.main_arg5) = m ((c.tc : Thread Cert.ConvSampleReferenceIdeal.nD Cert.ConvSampleReferenceIdeal.τ).loc Cert.ConvSampleReferenceIdeal.main_arg5))
      ∧ r.2.sem = fun _ => 0)

def quiescent_Recur [hRecur : Cert.Recur.Facts] : Prop :=
  ∀ (m : (ℓ : Loc Cert.Recur.nD Cert.Recur.τ Cert.Recur.sig) → Buf (Elt Bits) ℓ) (g : Dev Cert.Recur.nD → PrngReg), Pre_Recur m →
    θ_run (Cert.Recur.defs (F := Bits)) (onTc (τ := Cert.Recur.τ) (Cert.Recur.main (F := Bits))) ⟨m, fun _ => 0, g⟩ (fun r => (∀ c : Dev Cert.Recur.nD,
      r.2.mem ((c.tc : Thread Cert.Recur.nD Cert.Recur.τ).loc Cert.Recur.main_arg0) = m ((c.tc : Thread Cert.Recur.nD Cert.Recur.τ).loc Cert.Recur.main_arg0)
      ∧ r.2.mem ((c.tc : Thread Cert.Recur.nD Cert.Recur.τ).loc Cert.Recur.main_arg1) = m ((c.tc : Thread Cert.Recur.nD Cert.Recur.τ).loc Cert.Recur.main_arg1)
      ∧ r.2.mem ((c.tc : Thread Cert.Recur.nD Cert.Recur.τ).loc Cert.Recur.main_arg2) = m ((c.tc : Thread Cert.Recur.nD Cert.Recur.τ).loc Cert.Recur.main_arg2)
      ∧ r.2.mem ((c.tc : Thread Cert.Recur.nD Cert.Recur.τ).loc Cert.Recur.main_arg3) = m ((c.tc : Thread Cert.Recur.nD Cert.Recur.τ).loc Cert.Recur.main_arg3)
      ∧ r.2.mem ((c.tc : Thread Cert.Recur.nD Cert.Recur.τ).loc Cert.Recur.main_arg4) = m ((c.tc : Thread Cert.Recur.nD Cert.Recur.τ).loc Cert.Recur.main_arg4)
      ∧ r.2.mem ((c.tc : Thread Cert.Recur.nD Cert.Recur.τ).loc Cert.Recur.main_arg5) = m ((c.tc : Thread Cert.Recur.nD Cert.Recur.τ).loc Cert.Recur.main_arg5)
      ∧ r.2.mem ((c.tc : Thread Cert.Recur.nD Cert.Recur.τ).loc Cert.Recur.main_arg6) = m ((c.tc : Thread Cert.Recur.nD Cert.Recur.τ).loc Cert.Recur.main_arg6)
      ∧ r.2.mem ((c.tc : Thread Cert.Recur.nD Cert.Recur.τ).loc Cert.Recur.main_arg7) = m ((c.tc : Thread Cert.Recur.nD Cert.Recur.τ).loc Cert.Recur.main_arg7)
      ∧ r.2.mem ((c.tc : Thread Cert.Recur.nD Cert.Recur.τ).loc Cert.Recur.main_arg8) = m ((c.tc : Thread Cert.Recur.nD Cert.Recur.τ).loc Cert.Recur.main_arg8)
      ∧ r.2.mem ((c.tc : Thread Cert.Recur.nD Cert.Recur.τ).loc Cert.Recur.main_arg9) = m ((c.tc : Thread Cert.Recur.nD Cert.Recur.τ).loc Cert.Recur.main_arg9)
      ∧ r.2.mem ((c.tc : Thread Cert.Recur.nD Cert.Recur.τ).loc Cert.Recur.main_arg10) = m ((c.tc : Thread Cert.Recur.nD Cert.Recur.τ).loc Cert.Recur.main_arg10)
      ∧ r.2.mem ((c.tc : Thread Cert.Recur.nD Cert.Recur.τ).loc Cert.Recur.main_arg11) = m ((c.tc : Thread Cert.Recur.nD Cert.Recur.τ).loc Cert.Recur.main_arg11)
      ∧ r.2.mem ((c.tc : Thread Cert.Recur.nD Cert.Recur.τ).loc Cert.Recur.main_arg12) = m ((c.tc : Thread Cert.Recur.nD Cert.Recur.τ).loc Cert.Recur.main_arg12)
      ∧ r.2.mem ((c.tc : Thread Cert.Recur.nD Cert.Recur.τ).loc Cert.Recur.main_arg13) = m ((c.tc : Thread Cert.Recur.nD Cert.Recur.τ).loc Cert.Recur.main_arg13)
      ∧ r.2.mem ((c.tc : Thread Cert.Recur.nD Cert.Recur.τ).loc Cert.Recur.main_arg14) = m ((c.tc : Thread Cert.Recur.nD Cert.Recur.τ).loc Cert.Recur.main_arg14))
      ∧ r.2.sem = fun _ => 0)

def quiescent_RecurIdeal [hRecurIdeal : Cert.RecurIdeal.Facts] : Prop :=
  ∀ (m : (ℓ : Loc Cert.RecurIdeal.nD Cert.RecurIdeal.τ Cert.RecurIdeal.sig) → Buf (Elt Ideal) ℓ) (g : Dev Cert.RecurIdeal.nD → PrngReg), Pre_RecurIdeal m →
    θ_run (Cert.RecurIdeal.defs (F := Ideal)) (onTc (τ := Cert.RecurIdeal.τ) (Cert.RecurIdeal.main (F := Ideal))) ⟨m, fun _ => 0, g⟩ (fun r => (∀ c : Dev Cert.RecurIdeal.nD,
      r.2.mem ((c.tc : Thread Cert.RecurIdeal.nD Cert.RecurIdeal.τ).loc Cert.RecurIdeal.main_arg0) = m ((c.tc : Thread Cert.RecurIdeal.nD Cert.RecurIdeal.τ).loc Cert.RecurIdeal.main_arg0)
      ∧ r.2.mem ((c.tc : Thread Cert.RecurIdeal.nD Cert.RecurIdeal.τ).loc Cert.RecurIdeal.main_arg1) = m ((c.tc : Thread Cert.RecurIdeal.nD Cert.RecurIdeal.τ).loc Cert.RecurIdeal.main_arg1)
      ∧ r.2.mem ((c.tc : Thread Cert.RecurIdeal.nD Cert.RecurIdeal.τ).loc Cert.RecurIdeal.main_arg2) = m ((c.tc : Thread Cert.RecurIdeal.nD Cert.RecurIdeal.τ).loc Cert.RecurIdeal.main_arg2)
      ∧ r.2.mem ((c.tc : Thread Cert.RecurIdeal.nD Cert.RecurIdeal.τ).loc Cert.RecurIdeal.main_arg3) = m ((c.tc : Thread Cert.RecurIdeal.nD Cert.RecurIdeal.τ).loc Cert.RecurIdeal.main_arg3)
      ∧ r.2.mem ((c.tc : Thread Cert.RecurIdeal.nD Cert.RecurIdeal.τ).loc Cert.RecurIdeal.main_arg4) = m ((c.tc : Thread Cert.RecurIdeal.nD Cert.RecurIdeal.τ).loc Cert.RecurIdeal.main_arg4)
      ∧ r.2.mem ((c.tc : Thread Cert.RecurIdeal.nD Cert.RecurIdeal.τ).loc Cert.RecurIdeal.main_arg5) = m ((c.tc : Thread Cert.RecurIdeal.nD Cert.RecurIdeal.τ).loc Cert.RecurIdeal.main_arg5)
      ∧ r.2.mem ((c.tc : Thread Cert.RecurIdeal.nD Cert.RecurIdeal.τ).loc Cert.RecurIdeal.main_arg6) = m ((c.tc : Thread Cert.RecurIdeal.nD Cert.RecurIdeal.τ).loc Cert.RecurIdeal.main_arg6)
      ∧ r.2.mem ((c.tc : Thread Cert.RecurIdeal.nD Cert.RecurIdeal.τ).loc Cert.RecurIdeal.main_arg7) = m ((c.tc : Thread Cert.RecurIdeal.nD Cert.RecurIdeal.τ).loc Cert.RecurIdeal.main_arg7)
      ∧ r.2.mem ((c.tc : Thread Cert.RecurIdeal.nD Cert.RecurIdeal.τ).loc Cert.RecurIdeal.main_arg8) = m ((c.tc : Thread Cert.RecurIdeal.nD Cert.RecurIdeal.τ).loc Cert.RecurIdeal.main_arg8)
      ∧ r.2.mem ((c.tc : Thread Cert.RecurIdeal.nD Cert.RecurIdeal.τ).loc Cert.RecurIdeal.main_arg9) = m ((c.tc : Thread Cert.RecurIdeal.nD Cert.RecurIdeal.τ).loc Cert.RecurIdeal.main_arg9)
      ∧ r.2.mem ((c.tc : Thread Cert.RecurIdeal.nD Cert.RecurIdeal.τ).loc Cert.RecurIdeal.main_arg10) = m ((c.tc : Thread Cert.RecurIdeal.nD Cert.RecurIdeal.τ).loc Cert.RecurIdeal.main_arg10)
      ∧ r.2.mem ((c.tc : Thread Cert.RecurIdeal.nD Cert.RecurIdeal.τ).loc Cert.RecurIdeal.main_arg11) = m ((c.tc : Thread Cert.RecurIdeal.nD Cert.RecurIdeal.τ).loc Cert.RecurIdeal.main_arg11)
      ∧ r.2.mem ((c.tc : Thread Cert.RecurIdeal.nD Cert.RecurIdeal.τ).loc Cert.RecurIdeal.main_arg12) = m ((c.tc : Thread Cert.RecurIdeal.nD Cert.RecurIdeal.τ).loc Cert.RecurIdeal.main_arg12)
      ∧ r.2.mem ((c.tc : Thread Cert.RecurIdeal.nD Cert.RecurIdeal.τ).loc Cert.RecurIdeal.main_arg13) = m ((c.tc : Thread Cert.RecurIdeal.nD Cert.RecurIdeal.τ).loc Cert.RecurIdeal.main_arg13)
      ∧ r.2.mem ((c.tc : Thread Cert.RecurIdeal.nD Cert.RecurIdeal.τ).loc Cert.RecurIdeal.main_arg14) = m ((c.tc : Thread Cert.RecurIdeal.nD Cert.RecurIdeal.τ).loc Cert.RecurIdeal.main_arg14))
      ∧ r.2.sem = fun _ => 0)

def quiescent_RecurReferenceIdeal [hRecurReferenceIdeal : Cert.RecurReferenceIdeal.Facts] : Prop :=
  ∀ (m : (ℓ : Loc Cert.RecurReferenceIdeal.nD Cert.RecurReferenceIdeal.τ Cert.RecurReferenceIdeal.sig) → Buf (Elt Ideal) ℓ) (g : Dev Cert.RecurReferenceIdeal.nD → PrngReg), Pre_RecurReferenceIdeal m →
    θ_run (Cert.RecurReferenceIdeal.defs (F := Ideal)) (onTc (τ := Cert.RecurReferenceIdeal.τ) (Cert.RecurReferenceIdeal.main (F := Ideal))) ⟨m, fun _ => 0, g⟩ (fun r => (∀ c : Dev Cert.RecurReferenceIdeal.nD,
      r.2.mem ((c.tc : Thread Cert.RecurReferenceIdeal.nD Cert.RecurReferenceIdeal.τ).loc Cert.RecurReferenceIdeal.main_arg0) = m ((c.tc : Thread Cert.RecurReferenceIdeal.nD Cert.RecurReferenceIdeal.τ).loc Cert.RecurReferenceIdeal.main_arg0)
      ∧ r.2.mem ((c.tc : Thread Cert.RecurReferenceIdeal.nD Cert.RecurReferenceIdeal.τ).loc Cert.RecurReferenceIdeal.main_arg1) = m ((c.tc : Thread Cert.RecurReferenceIdeal.nD Cert.RecurReferenceIdeal.τ).loc Cert.RecurReferenceIdeal.main_arg1)
      ∧ r.2.mem ((c.tc : Thread Cert.RecurReferenceIdeal.nD Cert.RecurReferenceIdeal.τ).loc Cert.RecurReferenceIdeal.main_arg2) = m ((c.tc : Thread Cert.RecurReferenceIdeal.nD Cert.RecurReferenceIdeal.τ).loc Cert.RecurReferenceIdeal.main_arg2)
      ∧ r.2.mem ((c.tc : Thread Cert.RecurReferenceIdeal.nD Cert.RecurReferenceIdeal.τ).loc Cert.RecurReferenceIdeal.main_arg3) = m ((c.tc : Thread Cert.RecurReferenceIdeal.nD Cert.RecurReferenceIdeal.τ).loc Cert.RecurReferenceIdeal.main_arg3)
      ∧ r.2.mem ((c.tc : Thread Cert.RecurReferenceIdeal.nD Cert.RecurReferenceIdeal.τ).loc Cert.RecurReferenceIdeal.main_arg4) = m ((c.tc : Thread Cert.RecurReferenceIdeal.nD Cert.RecurReferenceIdeal.τ).loc Cert.RecurReferenceIdeal.main_arg4)
      ∧ r.2.mem ((c.tc : Thread Cert.RecurReferenceIdeal.nD Cert.RecurReferenceIdeal.τ).loc Cert.RecurReferenceIdeal.main_arg5) = m ((c.tc : Thread Cert.RecurReferenceIdeal.nD Cert.RecurReferenceIdeal.τ).loc Cert.RecurReferenceIdeal.main_arg5)
      ∧ r.2.mem ((c.tc : Thread Cert.RecurReferenceIdeal.nD Cert.RecurReferenceIdeal.τ).loc Cert.RecurReferenceIdeal.main_arg6) = m ((c.tc : Thread Cert.RecurReferenceIdeal.nD Cert.RecurReferenceIdeal.τ).loc Cert.RecurReferenceIdeal.main_arg6)
      ∧ r.2.mem ((c.tc : Thread Cert.RecurReferenceIdeal.nD Cert.RecurReferenceIdeal.τ).loc Cert.RecurReferenceIdeal.main_arg7) = m ((c.tc : Thread Cert.RecurReferenceIdeal.nD Cert.RecurReferenceIdeal.τ).loc Cert.RecurReferenceIdeal.main_arg7)
      ∧ r.2.mem ((c.tc : Thread Cert.RecurReferenceIdeal.nD Cert.RecurReferenceIdeal.τ).loc Cert.RecurReferenceIdeal.main_arg8) = m ((c.tc : Thread Cert.RecurReferenceIdeal.nD Cert.RecurReferenceIdeal.τ).loc Cert.RecurReferenceIdeal.main_arg8)
      ∧ r.2.mem ((c.tc : Thread Cert.RecurReferenceIdeal.nD Cert.RecurReferenceIdeal.τ).loc Cert.RecurReferenceIdeal.main_arg9) = m ((c.tc : Thread Cert.RecurReferenceIdeal.nD Cert.RecurReferenceIdeal.τ).loc Cert.RecurReferenceIdeal.main_arg9)
      ∧ r.2.mem ((c.tc : Thread Cert.RecurReferenceIdeal.nD Cert.RecurReferenceIdeal.τ).loc Cert.RecurReferenceIdeal.main_arg10) = m ((c.tc : Thread Cert.RecurReferenceIdeal.nD Cert.RecurReferenceIdeal.τ).loc Cert.RecurReferenceIdeal.main_arg10)
      ∧ r.2.mem ((c.tc : Thread Cert.RecurReferenceIdeal.nD Cert.RecurReferenceIdeal.τ).loc Cert.RecurReferenceIdeal.main_arg11) = m ((c.tc : Thread Cert.RecurReferenceIdeal.nD Cert.RecurReferenceIdeal.τ).loc Cert.RecurReferenceIdeal.main_arg11)
      ∧ r.2.mem ((c.tc : Thread Cert.RecurReferenceIdeal.nD Cert.RecurReferenceIdeal.τ).loc Cert.RecurReferenceIdeal.main_arg12) = m ((c.tc : Thread Cert.RecurReferenceIdeal.nD Cert.RecurReferenceIdeal.τ).loc Cert.RecurReferenceIdeal.main_arg12)
      ∧ r.2.mem ((c.tc : Thread Cert.RecurReferenceIdeal.nD Cert.RecurReferenceIdeal.τ).loc Cert.RecurReferenceIdeal.main_arg13) = m ((c.tc : Thread Cert.RecurReferenceIdeal.nD Cert.RecurReferenceIdeal.τ).loc Cert.RecurReferenceIdeal.main_arg13)
      ∧ r.2.mem ((c.tc : Thread Cert.RecurReferenceIdeal.nD Cert.RecurReferenceIdeal.τ).loc Cert.RecurReferenceIdeal.main_arg14) = m ((c.tc : Thread Cert.RecurReferenceIdeal.nD Cert.RecurReferenceIdeal.τ).loc Cert.RecurReferenceIdeal.main_arg14))
      ∧ r.2.sem = fun _ => 0)

def quiescent_RecurSample [hRecurSample : Cert.RecurSample.Facts] : Prop :=
  ∀ (m : (ℓ : Loc Cert.RecurSample.nD Cert.RecurSample.τ Cert.RecurSample.sig) → Buf (Elt Bits) ℓ) (g : Dev Cert.RecurSample.nD → PrngReg), Pre_RecurSample m →
    θ_run (Cert.RecurSample.defs (F := Bits)) (onTc (τ := Cert.RecurSample.τ) (Cert.RecurSample.main (F := Bits))) ⟨m, fun _ => 0, g⟩ (fun r => (∀ c : Dev Cert.RecurSample.nD,
      r.2.mem ((c.tc : Thread Cert.RecurSample.nD Cert.RecurSample.τ).loc Cert.RecurSample.main_arg0) = m ((c.tc : Thread Cert.RecurSample.nD Cert.RecurSample.τ).loc Cert.RecurSample.main_arg0)
      ∧ r.2.mem ((c.tc : Thread Cert.RecurSample.nD Cert.RecurSample.τ).loc Cert.RecurSample.main_arg1) = m ((c.tc : Thread Cert.RecurSample.nD Cert.RecurSample.τ).loc Cert.RecurSample.main_arg1)
      ∧ r.2.mem ((c.tc : Thread Cert.RecurSample.nD Cert.RecurSample.τ).loc Cert.RecurSample.main_arg2) = m ((c.tc : Thread Cert.RecurSample.nD Cert.RecurSample.τ).loc Cert.RecurSample.main_arg2)
      ∧ r.2.mem ((c.tc : Thread Cert.RecurSample.nD Cert.RecurSample.τ).loc Cert.RecurSample.main_arg3) = m ((c.tc : Thread Cert.RecurSample.nD Cert.RecurSample.τ).loc Cert.RecurSample.main_arg3)
      ∧ r.2.mem ((c.tc : Thread Cert.RecurSample.nD Cert.RecurSample.τ).loc Cert.RecurSample.main_arg4) = m ((c.tc : Thread Cert.RecurSample.nD Cert.RecurSample.τ).loc Cert.RecurSample.main_arg4)
      ∧ r.2.mem ((c.tc : Thread Cert.RecurSample.nD Cert.RecurSample.τ).loc Cert.RecurSample.main_arg5) = m ((c.tc : Thread Cert.RecurSample.nD Cert.RecurSample.τ).loc Cert.RecurSample.main_arg5)
      ∧ r.2.mem ((c.tc : Thread Cert.RecurSample.nD Cert.RecurSample.τ).loc Cert.RecurSample.main_arg6) = m ((c.tc : Thread Cert.RecurSample.nD Cert.RecurSample.τ).loc Cert.RecurSample.main_arg6)
      ∧ r.2.mem ((c.tc : Thread Cert.RecurSample.nD Cert.RecurSample.τ).loc Cert.RecurSample.main_arg7) = m ((c.tc : Thread Cert.RecurSample.nD Cert.RecurSample.τ).loc Cert.RecurSample.main_arg7)
      ∧ r.2.mem ((c.tc : Thread Cert.RecurSample.nD Cert.RecurSample.τ).loc Cert.RecurSample.main_arg8) = m ((c.tc : Thread Cert.RecurSample.nD Cert.RecurSample.τ).loc Cert.RecurSample.main_arg8)
      ∧ r.2.mem ((c.tc : Thread Cert.RecurSample.nD Cert.RecurSample.τ).loc Cert.RecurSample.main_arg9) = m ((c.tc : Thread Cert.RecurSample.nD Cert.RecurSample.τ).loc Cert.RecurSample.main_arg9)
      ∧ r.2.mem ((c.tc : Thread Cert.RecurSample.nD Cert.RecurSample.τ).loc Cert.RecurSample.main_arg10) = m ((c.tc : Thread Cert.RecurSample.nD Cert.RecurSample.τ).loc Cert.RecurSample.main_arg10)
      ∧ r.2.mem ((c.tc : Thread Cert.RecurSample.nD Cert.RecurSample.τ).loc Cert.RecurSample.main_arg11) = m ((c.tc : Thread Cert.RecurSample.nD Cert.RecurSample.τ).loc Cert.RecurSample.main_arg11)
      ∧ r.2.mem ((c.tc : Thread Cert.RecurSample.nD Cert.RecurSample.τ).loc Cert.RecurSample.main_arg12) = m ((c.tc : Thread Cert.RecurSample.nD Cert.RecurSample.τ).loc Cert.RecurSample.main_arg12)
      ∧ r.2.mem ((c.tc : Thread Cert.RecurSample.nD Cert.RecurSample.τ).loc Cert.RecurSample.main_arg13) = m ((c.tc : Thread Cert.RecurSample.nD Cert.RecurSample.τ).loc Cert.RecurSample.main_arg13)
      ∧ r.2.mem ((c.tc : Thread Cert.RecurSample.nD Cert.RecurSample.τ).loc Cert.RecurSample.main_arg14) = m ((c.tc : Thread Cert.RecurSample.nD Cert.RecurSample.τ).loc Cert.RecurSample.main_arg14)
      ∧ r.2.mem ((c.tc : Thread Cert.RecurSample.nD Cert.RecurSample.τ).loc Cert.RecurSample.main_arg15) = m ((c.tc : Thread Cert.RecurSample.nD Cert.RecurSample.τ).loc Cert.RecurSample.main_arg15))
      ∧ r.2.sem = fun _ => 0)

def quiescent_RecurSampleIdeal [hRecurSampleIdeal : Cert.RecurSampleIdeal.Facts] : Prop :=
  ∀ (m : (ℓ : Loc Cert.RecurSampleIdeal.nD Cert.RecurSampleIdeal.τ Cert.RecurSampleIdeal.sig) → Buf (Elt Ideal) ℓ) (g : Dev Cert.RecurSampleIdeal.nD → PrngReg), Pre_RecurSampleIdeal m →
    θ_run (Cert.RecurSampleIdeal.defs (F := Ideal)) (onTc (τ := Cert.RecurSampleIdeal.τ) (Cert.RecurSampleIdeal.main (F := Ideal))) ⟨m, fun _ => 0, g⟩ (fun r => (∀ c : Dev Cert.RecurSampleIdeal.nD,
      r.2.mem ((c.tc : Thread Cert.RecurSampleIdeal.nD Cert.RecurSampleIdeal.τ).loc Cert.RecurSampleIdeal.main_arg0) = m ((c.tc : Thread Cert.RecurSampleIdeal.nD Cert.RecurSampleIdeal.τ).loc Cert.RecurSampleIdeal.main_arg0)
      ∧ r.2.mem ((c.tc : Thread Cert.RecurSampleIdeal.nD Cert.RecurSampleIdeal.τ).loc Cert.RecurSampleIdeal.main_arg1) = m ((c.tc : Thread Cert.RecurSampleIdeal.nD Cert.RecurSampleIdeal.τ).loc Cert.RecurSampleIdeal.main_arg1)
      ∧ r.2.mem ((c.tc : Thread Cert.RecurSampleIdeal.nD Cert.RecurSampleIdeal.τ).loc Cert.RecurSampleIdeal.main_arg2) = m ((c.tc : Thread Cert.RecurSampleIdeal.nD Cert.RecurSampleIdeal.τ).loc Cert.RecurSampleIdeal.main_arg2)
      ∧ r.2.mem ((c.tc : Thread Cert.RecurSampleIdeal.nD Cert.RecurSampleIdeal.τ).loc Cert.RecurSampleIdeal.main_arg3) = m ((c.tc : Thread Cert.RecurSampleIdeal.nD Cert.RecurSampleIdeal.τ).loc Cert.RecurSampleIdeal.main_arg3)
      ∧ r.2.mem ((c.tc : Thread Cert.RecurSampleIdeal.nD Cert.RecurSampleIdeal.τ).loc Cert.RecurSampleIdeal.main_arg4) = m ((c.tc : Thread Cert.RecurSampleIdeal.nD Cert.RecurSampleIdeal.τ).loc Cert.RecurSampleIdeal.main_arg4)
      ∧ r.2.mem ((c.tc : Thread Cert.RecurSampleIdeal.nD Cert.RecurSampleIdeal.τ).loc Cert.RecurSampleIdeal.main_arg5) = m ((c.tc : Thread Cert.RecurSampleIdeal.nD Cert.RecurSampleIdeal.τ).loc Cert.RecurSampleIdeal.main_arg5)
      ∧ r.2.mem ((c.tc : Thread Cert.RecurSampleIdeal.nD Cert.RecurSampleIdeal.τ).loc Cert.RecurSampleIdeal.main_arg6) = m ((c.tc : Thread Cert.RecurSampleIdeal.nD Cert.RecurSampleIdeal.τ).loc Cert.RecurSampleIdeal.main_arg6)
      ∧ r.2.mem ((c.tc : Thread Cert.RecurSampleIdeal.nD Cert.RecurSampleIdeal.τ).loc Cert.RecurSampleIdeal.main_arg7) = m ((c.tc : Thread Cert.RecurSampleIdeal.nD Cert.RecurSampleIdeal.τ).loc Cert.RecurSampleIdeal.main_arg7)
      ∧ r.2.mem ((c.tc : Thread Cert.RecurSampleIdeal.nD Cert.RecurSampleIdeal.τ).loc Cert.RecurSampleIdeal.main_arg8) = m ((c.tc : Thread Cert.RecurSampleIdeal.nD Cert.RecurSampleIdeal.τ).loc Cert.RecurSampleIdeal.main_arg8)
      ∧ r.2.mem ((c.tc : Thread Cert.RecurSampleIdeal.nD Cert.RecurSampleIdeal.τ).loc Cert.RecurSampleIdeal.main_arg9) = m ((c.tc : Thread Cert.RecurSampleIdeal.nD Cert.RecurSampleIdeal.τ).loc Cert.RecurSampleIdeal.main_arg9)
      ∧ r.2.mem ((c.tc : Thread Cert.RecurSampleIdeal.nD Cert.RecurSampleIdeal.τ).loc Cert.RecurSampleIdeal.main_arg10) = m ((c.tc : Thread Cert.RecurSampleIdeal.nD Cert.RecurSampleIdeal.τ).loc Cert.RecurSampleIdeal.main_arg10)
      ∧ r.2.mem ((c.tc : Thread Cert.RecurSampleIdeal.nD Cert.RecurSampleIdeal.τ).loc Cert.RecurSampleIdeal.main_arg11) = m ((c.tc : Thread Cert.RecurSampleIdeal.nD Cert.RecurSampleIdeal.τ).loc Cert.RecurSampleIdeal.main_arg11)
      ∧ r.2.mem ((c.tc : Thread Cert.RecurSampleIdeal.nD Cert.RecurSampleIdeal.τ).loc Cert.RecurSampleIdeal.main_arg12) = m ((c.tc : Thread Cert.RecurSampleIdeal.nD Cert.RecurSampleIdeal.τ).loc Cert.RecurSampleIdeal.main_arg12)
      ∧ r.2.mem ((c.tc : Thread Cert.RecurSampleIdeal.nD Cert.RecurSampleIdeal.τ).loc Cert.RecurSampleIdeal.main_arg13) = m ((c.tc : Thread Cert.RecurSampleIdeal.nD Cert.RecurSampleIdeal.τ).loc Cert.RecurSampleIdeal.main_arg13)
      ∧ r.2.mem ((c.tc : Thread Cert.RecurSampleIdeal.nD Cert.RecurSampleIdeal.τ).loc Cert.RecurSampleIdeal.main_arg14) = m ((c.tc : Thread Cert.RecurSampleIdeal.nD Cert.RecurSampleIdeal.τ).loc Cert.RecurSampleIdeal.main_arg14)
      ∧ r.2.mem ((c.tc : Thread Cert.RecurSampleIdeal.nD Cert.RecurSampleIdeal.τ).loc Cert.RecurSampleIdeal.main_arg15) = m ((c.tc : Thread Cert.RecurSampleIdeal.nD Cert.RecurSampleIdeal.τ).loc Cert.RecurSampleIdeal.main_arg15))
      ∧ r.2.sem = fun _ => 0)

def quiescent_RecurSampleReferenceIdeal [hRecurSampleReferenceIdeal : Cert.RecurSampleReferenceIdeal.Facts] : Prop :=
  ∀ (m : (ℓ : Loc Cert.RecurSampleReferenceIdeal.nD Cert.RecurSampleReferenceIdeal.τ Cert.RecurSampleReferenceIdeal.sig) → Buf (Elt Ideal) ℓ) (g : Dev Cert.RecurSampleReferenceIdeal.nD → PrngReg), Pre_RecurSampleReferenceIdeal m →
    θ_run (Cert.RecurSampleReferenceIdeal.defs (F := Ideal)) (onTc (τ := Cert.RecurSampleReferenceIdeal.τ) (Cert.RecurSampleReferenceIdeal.main (F := Ideal))) ⟨m, fun _ => 0, g⟩ (fun r => (∀ c : Dev Cert.RecurSampleReferenceIdeal.nD,
      r.2.mem ((c.tc : Thread Cert.RecurSampleReferenceIdeal.nD Cert.RecurSampleReferenceIdeal.τ).loc Cert.RecurSampleReferenceIdeal.main_arg0) = m ((c.tc : Thread Cert.RecurSampleReferenceIdeal.nD Cert.RecurSampleReferenceIdeal.τ).loc Cert.RecurSampleReferenceIdeal.main_arg0)
      ∧ r.2.mem ((c.tc : Thread Cert.RecurSampleReferenceIdeal.nD Cert.RecurSampleReferenceIdeal.τ).loc Cert.RecurSampleReferenceIdeal.main_arg1) = m ((c.tc : Thread Cert.RecurSampleReferenceIdeal.nD Cert.RecurSampleReferenceIdeal.τ).loc Cert.RecurSampleReferenceIdeal.main_arg1)
      ∧ r.2.mem ((c.tc : Thread Cert.RecurSampleReferenceIdeal.nD Cert.RecurSampleReferenceIdeal.τ).loc Cert.RecurSampleReferenceIdeal.main_arg2) = m ((c.tc : Thread Cert.RecurSampleReferenceIdeal.nD Cert.RecurSampleReferenceIdeal.τ).loc Cert.RecurSampleReferenceIdeal.main_arg2)
      ∧ r.2.mem ((c.tc : Thread Cert.RecurSampleReferenceIdeal.nD Cert.RecurSampleReferenceIdeal.τ).loc Cert.RecurSampleReferenceIdeal.main_arg3) = m ((c.tc : Thread Cert.RecurSampleReferenceIdeal.nD Cert.RecurSampleReferenceIdeal.τ).loc Cert.RecurSampleReferenceIdeal.main_arg3)
      ∧ r.2.mem ((c.tc : Thread Cert.RecurSampleReferenceIdeal.nD Cert.RecurSampleReferenceIdeal.τ).loc Cert.RecurSampleReferenceIdeal.main_arg4) = m ((c.tc : Thread Cert.RecurSampleReferenceIdeal.nD Cert.RecurSampleReferenceIdeal.τ).loc Cert.RecurSampleReferenceIdeal.main_arg4)
      ∧ r.2.mem ((c.tc : Thread Cert.RecurSampleReferenceIdeal.nD Cert.RecurSampleReferenceIdeal.τ).loc Cert.RecurSampleReferenceIdeal.main_arg5) = m ((c.tc : Thread Cert.RecurSampleReferenceIdeal.nD Cert.RecurSampleReferenceIdeal.τ).loc Cert.RecurSampleReferenceIdeal.main_arg5)
      ∧ r.2.mem ((c.tc : Thread Cert.RecurSampleReferenceIdeal.nD Cert.RecurSampleReferenceIdeal.τ).loc Cert.RecurSampleReferenceIdeal.main_arg6) = m ((c.tc : Thread Cert.RecurSampleReferenceIdeal.nD Cert.RecurSampleReferenceIdeal.τ).loc Cert.RecurSampleReferenceIdeal.main_arg6)
      ∧ r.2.mem ((c.tc : Thread Cert.RecurSampleReferenceIdeal.nD Cert.RecurSampleReferenceIdeal.τ).loc Cert.RecurSampleReferenceIdeal.main_arg7) = m ((c.tc : Thread Cert.RecurSampleReferenceIdeal.nD Cert.RecurSampleReferenceIdeal.τ).loc Cert.RecurSampleReferenceIdeal.main_arg7)
      ∧ r.2.mem ((c.tc : Thread Cert.RecurSampleReferenceIdeal.nD Cert.RecurSampleReferenceIdeal.τ).loc Cert.RecurSampleReferenceIdeal.main_arg8) = m ((c.tc : Thread Cert.RecurSampleReferenceIdeal.nD Cert.RecurSampleReferenceIdeal.τ).loc Cert.RecurSampleReferenceIdeal.main_arg8)
      ∧ r.2.mem ((c.tc : Thread Cert.RecurSampleReferenceIdeal.nD Cert.RecurSampleReferenceIdeal.τ).loc Cert.RecurSampleReferenceIdeal.main_arg9) = m ((c.tc : Thread Cert.RecurSampleReferenceIdeal.nD Cert.RecurSampleReferenceIdeal.τ).loc Cert.RecurSampleReferenceIdeal.main_arg9)
      ∧ r.2.mem ((c.tc : Thread Cert.RecurSampleReferenceIdeal.nD Cert.RecurSampleReferenceIdeal.τ).loc Cert.RecurSampleReferenceIdeal.main_arg10) = m ((c.tc : Thread Cert.RecurSampleReferenceIdeal.nD Cert.RecurSampleReferenceIdeal.τ).loc Cert.RecurSampleReferenceIdeal.main_arg10)
      ∧ r.2.mem ((c.tc : Thread Cert.RecurSampleReferenceIdeal.nD Cert.RecurSampleReferenceIdeal.τ).loc Cert.RecurSampleReferenceIdeal.main_arg11) = m ((c.tc : Thread Cert.RecurSampleReferenceIdeal.nD Cert.RecurSampleReferenceIdeal.τ).loc Cert.RecurSampleReferenceIdeal.main_arg11)
      ∧ r.2.mem ((c.tc : Thread Cert.RecurSampleReferenceIdeal.nD Cert.RecurSampleReferenceIdeal.τ).loc Cert.RecurSampleReferenceIdeal.main_arg12) = m ((c.tc : Thread Cert.RecurSampleReferenceIdeal.nD Cert.RecurSampleReferenceIdeal.τ).loc Cert.RecurSampleReferenceIdeal.main_arg12)
      ∧ r.2.mem ((c.tc : Thread Cert.RecurSampleReferenceIdeal.nD Cert.RecurSampleReferenceIdeal.τ).loc Cert.RecurSampleReferenceIdeal.main_arg13) = m ((c.tc : Thread Cert.RecurSampleReferenceIdeal.nD Cert.RecurSampleReferenceIdeal.τ).loc Cert.RecurSampleReferenceIdeal.main_arg13)
      ∧ r.2.mem ((c.tc : Thread Cert.RecurSampleReferenceIdeal.nD Cert.RecurSampleReferenceIdeal.τ).loc Cert.RecurSampleReferenceIdeal.main_arg14) = m ((c.tc : Thread Cert.RecurSampleReferenceIdeal.nD Cert.RecurSampleReferenceIdeal.τ).loc Cert.RecurSampleReferenceIdeal.main_arg14)
      ∧ r.2.mem ((c.tc : Thread Cert.RecurSampleReferenceIdeal.nD Cert.RecurSampleReferenceIdeal.τ).loc Cert.RecurSampleReferenceIdeal.main_arg15) = m ((c.tc : Thread Cert.RecurSampleReferenceIdeal.nD Cert.RecurSampleReferenceIdeal.τ).loc Cert.RecurSampleReferenceIdeal.main_arg15))
      ∧ r.2.sem = fun _ => 0)

def quiescent_ConvMeta [hConvMeta : Cert.ConvMeta.Facts] : Prop :=
  ∀ (m : (ℓ : Loc Cert.ConvMeta.nD Cert.ConvMeta.τ Cert.ConvMeta.sig) → Buf (Elt Bits) ℓ) (g : Dev Cert.ConvMeta.nD → PrngReg), Pre_ConvMeta m →
    θ_run (Cert.ConvMeta.defs (F := Bits)) (onTc (τ := Cert.ConvMeta.τ) (Cert.ConvMeta.main (F := Bits))) ⟨m, fun _ => 0, g⟩ (fun r => (∀ c : Dev Cert.ConvMeta.nD,
      r.2.mem ((c.tc : Thread Cert.ConvMeta.nD Cert.ConvMeta.τ).loc Cert.ConvMeta.main_arg0) = m ((c.tc : Thread Cert.ConvMeta.nD Cert.ConvMeta.τ).loc Cert.ConvMeta.main_arg0)
      ∧ r.2.mem ((c.tc : Thread Cert.ConvMeta.nD Cert.ConvMeta.τ).loc Cert.ConvMeta.main_arg1) = m ((c.tc : Thread Cert.ConvMeta.nD Cert.ConvMeta.τ).loc Cert.ConvMeta.main_arg1)
      ∧ r.2.mem ((c.tc : Thread Cert.ConvMeta.nD Cert.ConvMeta.τ).loc Cert.ConvMeta.main_arg2) = m ((c.tc : Thread Cert.ConvMeta.nD Cert.ConvMeta.τ).loc Cert.ConvMeta.main_arg2)
      ∧ r.2.mem ((c.tc : Thread Cert.ConvMeta.nD Cert.ConvMeta.τ).loc Cert.ConvMeta.main_arg3) = m ((c.tc : Thread Cert.ConvMeta.nD Cert.ConvMeta.τ).loc Cert.ConvMeta.main_arg3)
      ∧ r.2.mem ((c.tc : Thread Cert.ConvMeta.nD Cert.ConvMeta.τ).loc Cert.ConvMeta.main_arg4) = m ((c.tc : Thread Cert.ConvMeta.nD Cert.ConvMeta.τ).loc Cert.ConvMeta.main_arg4))
      ∧ r.2.sem = fun _ => 0)

def quiescent_ConvMetaIdeal [hConvMetaIdeal : Cert.ConvMetaIdeal.Facts] : Prop :=
  ∀ (m : (ℓ : Loc Cert.ConvMetaIdeal.nD Cert.ConvMetaIdeal.τ Cert.ConvMetaIdeal.sig) → Buf (Elt Ideal) ℓ) (g : Dev Cert.ConvMetaIdeal.nD → PrngReg), Pre_ConvMetaIdeal m →
    θ_run (Cert.ConvMetaIdeal.defs (F := Ideal)) (onTc (τ := Cert.ConvMetaIdeal.τ) (Cert.ConvMetaIdeal.main (F := Ideal))) ⟨m, fun _ => 0, g⟩ (fun r => (∀ c : Dev Cert.ConvMetaIdeal.nD,
      r.2.mem ((c.tc : Thread Cert.ConvMetaIdeal.nD Cert.ConvMetaIdeal.τ).loc Cert.ConvMetaIdeal.main_arg0) = m ((c.tc : Thread Cert.ConvMetaIdeal.nD Cert.ConvMetaIdeal.τ).loc Cert.ConvMetaIdeal.main_arg0)
      ∧ r.2.mem ((c.tc : Thread Cert.ConvMetaIdeal.nD Cert.ConvMetaIdeal.τ).loc Cert.ConvMetaIdeal.main_arg1) = m ((c.tc : Thread Cert.ConvMetaIdeal.nD Cert.ConvMetaIdeal.τ).loc Cert.ConvMetaIdeal.main_arg1)
      ∧ r.2.mem ((c.tc : Thread Cert.ConvMetaIdeal.nD Cert.ConvMetaIdeal.τ).loc Cert.ConvMetaIdeal.main_arg2) = m ((c.tc : Thread Cert.ConvMetaIdeal.nD Cert.ConvMetaIdeal.τ).loc Cert.ConvMetaIdeal.main_arg2)
      ∧ r.2.mem ((c.tc : Thread Cert.ConvMetaIdeal.nD Cert.ConvMetaIdeal.τ).loc Cert.ConvMetaIdeal.main_arg3) = m ((c.tc : Thread Cert.ConvMetaIdeal.nD Cert.ConvMetaIdeal.τ).loc Cert.ConvMetaIdeal.main_arg3)
      ∧ r.2.mem ((c.tc : Thread Cert.ConvMetaIdeal.nD Cert.ConvMetaIdeal.τ).loc Cert.ConvMetaIdeal.main_arg4) = m ((c.tc : Thread Cert.ConvMetaIdeal.nD Cert.ConvMetaIdeal.τ).loc Cert.ConvMetaIdeal.main_arg4))
      ∧ r.2.sem = fun _ => 0)

def quiescent_ConvMetaReferenceIdeal [hConvMetaReferenceIdeal : Cert.ConvMetaReferenceIdeal.Facts] : Prop :=
  ∀ (m : (ℓ : Loc Cert.ConvMetaReferenceIdeal.nD Cert.ConvMetaReferenceIdeal.τ Cert.ConvMetaReferenceIdeal.sig) → Buf (Elt Ideal) ℓ) (g : Dev Cert.ConvMetaReferenceIdeal.nD → PrngReg), Pre_ConvMetaReferenceIdeal m →
    θ_run (Cert.ConvMetaReferenceIdeal.defs (F := Ideal)) (onTc (τ := Cert.ConvMetaReferenceIdeal.τ) (Cert.ConvMetaReferenceIdeal.main (F := Ideal))) ⟨m, fun _ => 0, g⟩ (fun r => (∀ c : Dev Cert.ConvMetaReferenceIdeal.nD,
      r.2.mem ((c.tc : Thread Cert.ConvMetaReferenceIdeal.nD Cert.ConvMetaReferenceIdeal.τ).loc Cert.ConvMetaReferenceIdeal.main_arg0) = m ((c.tc : Thread Cert.ConvMetaReferenceIdeal.nD Cert.ConvMetaReferenceIdeal.τ).loc Cert.ConvMetaReferenceIdeal.main_arg0)
      ∧ r.2.mem ((c.tc : Thread Cert.ConvMetaReferenceIdeal.nD Cert.ConvMetaReferenceIdeal.τ).loc Cert.ConvMetaReferenceIdeal.main_arg1) = m ((c.tc : Thread Cert.ConvMetaReferenceIdeal.nD Cert.ConvMetaReferenceIdeal.τ).loc Cert.ConvMetaReferenceIdeal.main_arg1)
      ∧ r.2.mem ((c.tc : Thread Cert.ConvMetaReferenceIdeal.nD Cert.ConvMetaReferenceIdeal.τ).loc Cert.ConvMetaReferenceIdeal.main_arg2) = m ((c.tc : Thread Cert.ConvMetaReferenceIdeal.nD Cert.ConvMetaReferenceIdeal.τ).loc Cert.ConvMetaReferenceIdeal.main_arg2)
      ∧ r.2.mem ((c.tc : Thread Cert.ConvMetaReferenceIdeal.nD Cert.ConvMetaReferenceIdeal.τ).loc Cert.ConvMetaReferenceIdeal.main_arg3) = m ((c.tc : Thread Cert.ConvMetaReferenceIdeal.nD Cert.ConvMetaReferenceIdeal.τ).loc Cert.ConvMetaReferenceIdeal.main_arg3)
      ∧ r.2.mem ((c.tc : Thread Cert.ConvMetaReferenceIdeal.nD Cert.ConvMetaReferenceIdeal.τ).loc Cert.ConvMetaReferenceIdeal.main_arg4) = m ((c.tc : Thread Cert.ConvMetaReferenceIdeal.nD Cert.ConvMetaReferenceIdeal.τ).loc Cert.ConvMetaReferenceIdeal.main_arg4))
      ∧ r.2.sem = fun _ => 0)

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_Inner_InnerIdeal : Prop :=
  True

def algebraic_InnerIdeal_InnerReferenceIdeal [hInnerIdeal : Cert.InnerIdeal.Facts] [hInnerReferenceIdeal : Cert.InnerReferenceIdeal.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerReferenceIdeal.nD Cert.InnerReferenceIdeal.τ Cert.InnerReferenceIdeal.sig) → Buf (Elt Ideal) ℓ) (g' : Dev Cert.InnerReferenceIdeal.nD → PrngReg), Pre_InnerIdeal m →
    (∀ c : Dev Cert.InnerIdeal.nD,
      m' ((c.tc : Thread Cert.InnerReferenceIdeal.nD Cert.InnerReferenceIdeal.τ).loc Cert.InnerReferenceIdeal.main_arg0) = m ((c.tc : Thread Cert.InnerIdeal.nD Cert.InnerIdeal.τ).loc Cert.InnerIdeal.main_arg0)
      ∧ m' ((c.tc : Thread Cert.InnerReferenceIdeal.nD Cert.InnerReferenceIdeal.τ).loc Cert.InnerReferenceIdeal.main_arg1) = m ((c.tc : Thread Cert.InnerIdeal.nD Cert.InnerIdeal.τ).loc Cert.InnerIdeal.main_arg1)
      ∧ m' ((c.tc : Thread Cert.InnerReferenceIdeal.nD Cert.InnerReferenceIdeal.τ).loc Cert.InnerReferenceIdeal.main_arg2) = m ((c.tc : Thread Cert.InnerIdeal.nD Cert.InnerIdeal.τ).loc Cert.InnerIdeal.main_arg2)
      ∧ m' ((c.tc : Thread Cert.InnerReferenceIdeal.nD Cert.InnerReferenceIdeal.τ).loc Cert.InnerReferenceIdeal.main_arg3) = m ((c.tc : Thread Cert.InnerIdeal.nD Cert.InnerIdeal.τ).loc Cert.InnerIdeal.main_arg3)
      ∧ m' ((c.tc : Thread Cert.InnerReferenceIdeal.nD Cert.InnerReferenceIdeal.τ).loc Cert.InnerReferenceIdeal.main_arg4) = m ((c.tc : Thread Cert.InnerIdeal.nD Cert.InnerIdeal.τ).loc Cert.InnerIdeal.main_arg4)
      ∧ m' ((c.tc : Thread Cert.InnerReferenceIdeal.nD Cert.InnerReferenceIdeal.τ).loc Cert.InnerReferenceIdeal.main_arg5) = m ((c.tc : Thread Cert.InnerIdeal.nD Cert.InnerIdeal.τ).loc Cert.InnerIdeal.main_arg5)
      ∧ m' ((c.tc : Thread Cert.InnerReferenceIdeal.nD Cert.InnerReferenceIdeal.τ).loc Cert.InnerReferenceIdeal.main_arg6) = m ((c.tc : Thread Cert.InnerIdeal.nD Cert.InnerIdeal.τ).loc Cert.InnerIdeal.main_arg6)
      ∧ m' ((c.tc : Thread Cert.InnerReferenceIdeal.nD Cert.InnerReferenceIdeal.τ).loc Cert.InnerReferenceIdeal.main_arg7) = m ((c.tc : Thread Cert.InnerIdeal.nD Cert.InnerIdeal.τ).loc Cert.InnerIdeal.main_arg7)
      ∧ m' ((c.tc : Thread Cert.InnerReferenceIdeal.nD Cert.InnerReferenceIdeal.τ).loc Cert.InnerReferenceIdeal.main_arg8) = m ((c.tc : Thread Cert.InnerIdeal.nD Cert.InnerIdeal.τ).loc Cert.InnerIdeal.main_arg8)) →
    ∃ (v0 : (c : Dev Cert.InnerIdeal.nD) → Buf (Elt Ideal) ((c.tc : Thread Cert.InnerIdeal.nD Cert.InnerIdeal.τ).loc Cert.InnerIdeal.main_v8)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v8) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1)
          ∧ r.2.mem ((c.tc : Thread Cert.InnerIdeal.nD Cert.InnerIdeal.τ).loc Cert.InnerIdeal.main_arg2) = m ((c.tc : Thread Cert.InnerIdeal.nD Cert.InnerIdeal.τ).loc Cert.InnerIdeal.main_arg2)
          ∧ r.2.mem ((c.tc : Thread Cert.InnerIdeal.nD Cert.InnerIdeal.τ).loc Cert.InnerIdeal.main_arg3) = m ((c.tc : Thread Cert.InnerIdeal.nD Cert.InnerIdeal.τ).loc Cert.InnerIdeal.main_arg3)
          ∧ r.2.mem ((c.tc : Thread Cert.InnerIdeal.nD Cert.InnerIdeal.τ).loc Cert.InnerIdeal.main_arg4) = m ((c.tc : Thread Cert.InnerIdeal.nD Cert.InnerIdeal.τ).loc Cert.InnerIdeal.main_arg4)
          ∧ r.2.mem ((c.tc : Thread Cert.InnerIdeal.nD Cert.InnerIdeal.τ).loc Cert.InnerIdeal.main_arg5) = m ((c.tc : Thread Cert.InnerIdeal.nD Cert.InnerIdeal.τ).loc Cert.InnerIdeal.main_arg5)
          ∧ r.2.mem ((c.tc : Thread Cert.InnerIdeal.nD Cert.InnerIdeal.τ).loc Cert.InnerIdeal.main_arg6) = m ((c.tc : Thread Cert.InnerIdeal.nD Cert.InnerIdeal.τ).loc Cert.InnerIdeal.main_arg6)
          ∧ r.2.mem ((c.tc : Thread Cert.InnerIdeal.nD Cert.InnerIdeal.τ).loc Cert.InnerIdeal.main_arg7) = m ((c.tc : Thread Cert.InnerIdeal.nD Cert.InnerIdeal.τ).loc Cert.InnerIdeal.main_arg7)
          ∧ r.2.mem ((c.tc : Thread Cert.InnerIdeal.nD Cert.InnerIdeal.τ).loc Cert.InnerIdeal.main_arg8) = m ((c.tc : Thread Cert.InnerIdeal.nD Cert.InnerIdeal.τ).loc Cert.InnerIdeal.main_arg8))
      ∧ θ_run (Cert.InnerReferenceIdeal.defs (F := Ideal)) (onTc (τ := Cert.InnerReferenceIdeal.τ) (Cert.InnerReferenceIdeal.main (F := Ideal))) ⟨m', fun _ => 0, g'⟩ (fun r => ∀ c : Dev Cert.InnerReferenceIdeal.nD,
          r.2.mem ((c.tc : Thread Cert.InnerReferenceIdeal.nD Cert.InnerReferenceIdeal.τ).loc Cert.InnerReferenceIdeal.main_v23) = v0 c
          ∧ r.2.mem ((c.tc : Thread Cert.InnerReferenceIdeal.nD Cert.InnerReferenceIdeal.τ).loc Cert.InnerReferenceIdeal.main_arg0) = m' ((c.tc : Thread Cert.InnerReferenceIdeal.nD Cert.InnerReferenceIdeal.τ).loc Cert.InnerReferenceIdeal.main_arg0)
          ∧ r.2.mem ((c.tc : Thread Cert.InnerReferenceIdeal.nD Cert.InnerReferenceIdeal.τ).loc Cert.InnerReferenceIdeal.main_arg1) = m' ((c.tc : Thread Cert.InnerReferenceIdeal.nD Cert.InnerReferenceIdeal.τ).loc Cert.InnerReferenceIdeal.main_arg1)
          ∧ r.2.mem ((c.tc : Thread Cert.InnerReferenceIdeal.nD Cert.InnerReferenceIdeal.τ).loc Cert.InnerReferenceIdeal.main_arg2) = m' ((c.tc : Thread Cert.InnerReferenceIdeal.nD Cert.InnerReferenceIdeal.τ).loc Cert.InnerReferenceIdeal.main_arg2)
          ∧ r.2.mem ((c.tc : Thread Cert.InnerReferenceIdeal.nD Cert.InnerReferenceIdeal.τ).loc Cert.InnerReferenceIdeal.main_arg3) = m' ((c.tc : Thread Cert.InnerReferenceIdeal.nD Cert.InnerReferenceIdeal.τ).loc Cert.InnerReferenceIdeal.main_arg3)
          ∧ r.2.mem ((c.tc : Thread Cert.InnerReferenceIdeal.nD Cert.InnerReferenceIdeal.τ).loc Cert.InnerReferenceIdeal.main_arg4) = m' ((c.tc : Thread Cert.InnerReferenceIdeal.nD Cert.InnerReferenceIdeal.τ).loc Cert.InnerReferenceIdeal.main_arg4)
          ∧ r.2.mem ((c.tc : Thread Cert.InnerReferenceIdeal.nD Cert.InnerReferenceIdeal.τ).loc Cert.InnerReferenceIdeal.main_arg5) = m' ((c.tc : Thread Cert.InnerReferenceIdeal.nD Cert.InnerReferenceIdeal.τ).loc Cert.InnerReferenceIdeal.main_arg5)
          ∧ r.2.mem ((c.tc : Thread Cert.InnerReferenceIdeal.nD Cert.InnerReferenceIdeal.τ).loc Cert.InnerReferenceIdeal.main_arg6) = m' ((c.tc : Thread Cert.InnerReferenceIdeal.nD Cert.InnerReferenceIdeal.τ).loc Cert.InnerReferenceIdeal.main_arg6)
          ∧ r.2.mem ((c.tc : Thread Cert.InnerReferenceIdeal.nD Cert.InnerReferenceIdeal.τ).loc Cert.InnerReferenceIdeal.main_arg7) = m' ((c.tc : Thread Cert.InnerReferenceIdeal.nD Cert.InnerReferenceIdeal.τ).loc Cert.InnerReferenceIdeal.main_arg7)
          ∧ r.2.mem ((c.tc : Thread Cert.InnerReferenceIdeal.nD Cert.InnerReferenceIdeal.τ).loc Cert.InnerReferenceIdeal.main_arg8) = m' ((c.tc : Thread Cert.InnerReferenceIdeal.nD Cert.InnerReferenceIdeal.τ).loc Cert.InnerReferenceIdeal.main_arg8))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v14_0)) (v1 : (c : Dev Cert.ProjIdeal.nD) → Buf (Elt Ideal) ((c.tc : Thread Cert.ProjIdeal.nD Cert.ProjIdeal.τ).loc Cert.ProjIdeal.main_v14_1)) (v2 : (c : Dev Cert.ProjIdeal.nD) → Buf (Elt Ideal) ((c.tc : Thread Cert.ProjIdeal.nD Cert.ProjIdeal.τ).loc Cert.ProjIdeal.main_v14_2)) (v3 : (c : Dev Cert.ProjIdeal.nD) → Buf (Elt Ideal) ((c.tc : Thread Cert.ProjIdeal.nD Cert.ProjIdeal.τ).loc Cert.ProjIdeal.main_v14_3)) (v4 : (c : Dev Cert.ProjIdeal.nD) → Buf (Elt Ideal) ((c.tc : Thread Cert.ProjIdeal.nD Cert.ProjIdeal.τ).loc Cert.ProjIdeal.main_v14_4)) (v5 : (c : Dev Cert.ProjIdeal.nD) → Buf (Elt Ideal) ((c.tc : Thread Cert.ProjIdeal.nD Cert.ProjIdeal.τ).loc Cert.ProjIdeal.main_v14_5)) (v6 : (c : Dev Cert.ProjIdeal.nD) → Buf (Elt Ideal) ((c.tc : Thread Cert.ProjIdeal.nD Cert.ProjIdeal.τ).loc Cert.ProjIdeal.main_v14_6)) (v7 : (c : Dev Cert.ProjIdeal.nD) → Buf (Elt Ideal) ((c.tc : Thread Cert.ProjIdeal.nD Cert.ProjIdeal.τ).loc Cert.ProjIdeal.main_v14_7)) (v8 : (c : Dev Cert.ProjIdeal.nD) → Buf (Elt Ideal) ((c.tc : Thread Cert.ProjIdeal.nD Cert.ProjIdeal.τ).loc Cert.ProjIdeal.main_v14_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14_0) = v0 c
          ∧ r.2.mem ((c.tc : Thread Cert.ProjIdeal.nD Cert.ProjIdeal.τ).loc Cert.ProjIdeal.main_v14_1) = v1 c
          ∧ r.2.mem ((c.tc : Thread Cert.ProjIdeal.nD Cert.ProjIdeal.τ).loc Cert.ProjIdeal.main_v14_2) = v2 c
          ∧ r.2.mem ((c.tc : Thread Cert.ProjIdeal.nD Cert.ProjIdeal.τ).loc Cert.ProjIdeal.main_v14_3) = v3 c
          ∧ r.2.mem ((c.tc : Thread Cert.ProjIdeal.nD Cert.ProjIdeal.τ).loc Cert.ProjIdeal.main_v14_4) = v4 c
          ∧ r.2.mem ((c.tc : Thread Cert.ProjIdeal.nD Cert.ProjIdeal.τ).loc Cert.ProjIdeal.main_v14_5) = v5 c
          ∧ r.2.mem ((c.tc : Thread Cert.ProjIdeal.nD Cert.ProjIdeal.τ).loc Cert.ProjIdeal.main_v14_6) = v6 c
          ∧ r.2.mem ((c.tc : Thread Cert.ProjIdeal.nD Cert.ProjIdeal.τ).loc Cert.ProjIdeal.main_v14_7) = v7 c
          ∧ r.2.mem ((c.tc : Thread Cert.ProjIdeal.nD Cert.ProjIdeal.τ).loc Cert.ProjIdeal.main_v14_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v13) = v0 c
          ∧ r.2.mem ((c.tc : Thread Cert.ProjReferenceIdeal.nD Cert.ProjReferenceIdeal.τ).loc Cert.ProjReferenceIdeal.main_v14) = v1 c
          ∧ r.2.mem ((c.tc : Thread Cert.ProjReferenceIdeal.nD Cert.ProjReferenceIdeal.τ).loc Cert.ProjReferenceIdeal.main_v15) = v2 c
          ∧ r.2.mem ((c.tc : Thread Cert.ProjReferenceIdeal.nD Cert.ProjReferenceIdeal.τ).loc Cert.ProjReferenceIdeal.main_v25) = v3 c
          ∧ r.2.mem ((c.tc : Thread Cert.ProjReferenceIdeal.nD Cert.ProjReferenceIdeal.τ).loc Cert.ProjReferenceIdeal.main_v26) = v4 c
          ∧ r.2.mem ((c.tc : Thread Cert.ProjReferenceIdeal.nD Cert.ProjReferenceIdeal.τ).loc Cert.ProjReferenceIdeal.main_v29) = v5 c
          ∧ r.2.mem ((c.tc : Thread Cert.ProjReferenceIdeal.nD Cert.ProjReferenceIdeal.τ).loc Cert.ProjReferenceIdeal.main_v32) = v6 c
          ∧ r.2.mem ((c.tc : Thread Cert.ProjReferenceIdeal.nD Cert.ProjReferenceIdeal.τ).loc Cert.ProjReferenceIdeal.main_v35) = v7 c
          ∧ r.2.mem ((c.tc : Thread Cert.ProjReferenceIdeal.nD Cert.ProjReferenceIdeal.τ).loc Cert.ProjReferenceIdeal.main_v37) = v8 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v4_0)) (v1 : (c : Dev Cert.ConvIdeal.nD) → Buf (Elt Ideal) ((c.tc : Thread Cert.ConvIdeal.nD Cert.ConvIdeal.τ).loc Cert.ConvIdeal.main_v4_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4_0) = v0 c
          ∧ r.2.mem ((c.tc : Thread Cert.ConvIdeal.nD Cert.ConvIdeal.τ).loc Cert.ConvIdeal.main_v4_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v42) = v0 c
          ∧ r.2.mem ((c.tc : Thread Cert.ConvReferenceIdeal.nD Cert.ConvReferenceIdeal.τ).loc Cert.ConvReferenceIdeal.main_v43) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4))

def preserves_FfnTail_FfnTailIdeal : Prop :=
  True

def algebraic_FfnTailIdeal_FfnTailReferenceIdeal [hFfnTailIdeal : Cert.FfnTailIdeal.Facts] [hFfnTailReferenceIdeal : Cert.FfnTailReferenceIdeal.Facts] : Prop :=
  ∀ (m : (ℓ : Loc Cert.FfnTailIdeal.nD Cert.FfnTailIdeal.τ Cert.FfnTailIdeal.sig) → Buf (Elt Ideal) ℓ) (g : Dev Cert.FfnTailIdeal.nD → PrngReg)
    (m' : (ℓ : Loc Cert.FfnTailReferenceIdeal.nD Cert.FfnTailReferenceIdeal.τ Cert.FfnTailReferenceIdeal.sig) → Buf (Elt Ideal) ℓ) (g' : Dev Cert.FfnTailReferenceIdeal.nD → PrngReg), Pre_FfnTailIdeal m →
    (∀ c : Dev Cert.FfnTailIdeal.nD,
      m' ((c.tc : Thread Cert.FfnTailReferenceIdeal.nD Cert.FfnTailReferenceIdeal.τ).loc Cert.FfnTailReferenceIdeal.main_arg0) = m ((c.tc : Thread Cert.FfnTailIdeal.nD Cert.FfnTailIdeal.τ).loc Cert.FfnTailIdeal.main_arg0)
      ∧ m' ((c.tc : Thread Cert.FfnTailReferenceIdeal.nD Cert.FfnTailReferenceIdeal.τ).loc Cert.FfnTailReferenceIdeal.main_arg1) = m ((c.tc : Thread Cert.FfnTailIdeal.nD Cert.FfnTailIdeal.τ).loc Cert.FfnTailIdeal.main_arg1)
      ∧ m' ((c.tc : Thread Cert.FfnTailReferenceIdeal.nD Cert.FfnTailReferenceIdeal.τ).loc Cert.FfnTailReferenceIdeal.main_arg2) = m ((c.tc : Thread Cert.FfnTailIdeal.nD Cert.FfnTailIdeal.τ).loc Cert.FfnTailIdeal.main_arg2)
      ∧ m' ((c.tc : Thread Cert.FfnTailReferenceIdeal.nD Cert.FfnTailReferenceIdeal.τ).loc Cert.FfnTailReferenceIdeal.main_arg3) = m ((c.tc : Thread Cert.FfnTailIdeal.nD Cert.FfnTailIdeal.τ).loc Cert.FfnTailIdeal.main_arg3)
      ∧ m' ((c.tc : Thread Cert.FfnTailReferenceIdeal.nD Cert.FfnTailReferenceIdeal.τ).loc Cert.FfnTailReferenceIdeal.main_arg4) = m ((c.tc : Thread Cert.FfnTailIdeal.nD Cert.FfnTailIdeal.τ).loc Cert.FfnTailIdeal.main_arg4)
      ∧ m' ((c.tc : Thread Cert.FfnTailReferenceIdeal.nD Cert.FfnTailReferenceIdeal.τ).loc Cert.FfnTailReferenceIdeal.main_arg5) = m ((c.tc : Thread Cert.FfnTailIdeal.nD Cert.FfnTailIdeal.τ).loc Cert.FfnTailIdeal.main_arg5)
      ∧ m' ((c.tc : Thread Cert.FfnTailReferenceIdeal.nD Cert.FfnTailReferenceIdeal.τ).loc Cert.FfnTailReferenceIdeal.main_arg6) = m ((c.tc : Thread Cert.FfnTailIdeal.nD Cert.FfnTailIdeal.τ).loc Cert.FfnTailIdeal.main_arg6)
      ∧ m' ((c.tc : Thread Cert.FfnTailReferenceIdeal.nD Cert.FfnTailReferenceIdeal.τ).loc Cert.FfnTailReferenceIdeal.main_arg7) = m ((c.tc : Thread Cert.FfnTailIdeal.nD Cert.FfnTailIdeal.τ).loc Cert.FfnTailIdeal.main_arg7)) →
    ∃ (v0 : (c : Dev Cert.FfnTailIdeal.nD) → Buf (Elt Ideal) ((c.tc : Thread Cert.FfnTailIdeal.nD Cert.FfnTailIdeal.τ).loc Cert.FfnTailIdeal.main_v8)),
      θ_run (Cert.FfnTailIdeal.defs (F := Ideal)) (onTc (τ := Cert.FfnTailIdeal.τ) (Cert.FfnTailIdeal.main (F := Ideal))) ⟨m, fun _ => 0, g⟩ (fun r => ∀ c : Dev Cert.FfnTailIdeal.nD,
          r.2.mem ((c.tc : Thread Cert.FfnTailIdeal.nD Cert.FfnTailIdeal.τ).loc Cert.FfnTailIdeal.main_v8) = v0 c
          ∧ r.2.mem ((c.tc : Thread Cert.FfnTailIdeal.nD Cert.FfnTailIdeal.τ).loc Cert.FfnTailIdeal.main_arg0) = m ((c.tc : Thread Cert.FfnTailIdeal.nD Cert.FfnTailIdeal.τ).loc Cert.FfnTailIdeal.main_arg0)
          ∧ r.2.mem ((c.tc : Thread Cert.FfnTailIdeal.nD Cert.FfnTailIdeal.τ).loc Cert.FfnTailIdeal.main_arg1) = m ((c.tc : Thread Cert.FfnTailIdeal.nD Cert.FfnTailIdeal.τ).loc Cert.FfnTailIdeal.main_arg1)
          ∧ r.2.mem ((c.tc : Thread Cert.FfnTailIdeal.nD Cert.FfnTailIdeal.τ).loc Cert.FfnTailIdeal.main_arg2) = m ((c.tc : Thread Cert.FfnTailIdeal.nD Cert.FfnTailIdeal.τ).loc Cert.FfnTailIdeal.main_arg2)
          ∧ r.2.mem ((c.tc : Thread Cert.FfnTailIdeal.nD Cert.FfnTailIdeal.τ).loc Cert.FfnTailIdeal.main_arg3) = m ((c.tc : Thread Cert.FfnTailIdeal.nD Cert.FfnTailIdeal.τ).loc Cert.FfnTailIdeal.main_arg3)
          ∧ r.2.mem ((c.tc : Thread Cert.FfnTailIdeal.nD Cert.FfnTailIdeal.τ).loc Cert.FfnTailIdeal.main_arg4) = m ((c.tc : Thread Cert.FfnTailIdeal.nD Cert.FfnTailIdeal.τ).loc Cert.FfnTailIdeal.main_arg4)
          ∧ r.2.mem ((c.tc : Thread Cert.FfnTailIdeal.nD Cert.FfnTailIdeal.τ).loc Cert.FfnTailIdeal.main_arg5) = m ((c.tc : Thread Cert.FfnTailIdeal.nD Cert.FfnTailIdeal.τ).loc Cert.FfnTailIdeal.main_arg5)
          ∧ r.2.mem ((c.tc : Thread Cert.FfnTailIdeal.nD Cert.FfnTailIdeal.τ).loc Cert.FfnTailIdeal.main_arg6) = m ((c.tc : Thread Cert.FfnTailIdeal.nD Cert.FfnTailIdeal.τ).loc Cert.FfnTailIdeal.main_arg6)
          ∧ r.2.mem ((c.tc : Thread Cert.FfnTailIdeal.nD Cert.FfnTailIdeal.τ).loc Cert.FfnTailIdeal.main_arg7) = m ((c.tc : Thread Cert.FfnTailIdeal.nD Cert.FfnTailIdeal.τ).loc Cert.FfnTailIdeal.main_arg7))
      ∧ θ_run (Cert.FfnTailReferenceIdeal.defs (F := Ideal)) (onTc (τ := Cert.FfnTailReferenceIdeal.τ) (Cert.FfnTailReferenceIdeal.main (F := Ideal))) ⟨m', fun _ => 0, g'⟩ (fun r => ∀ c : Dev Cert.FfnTailReferenceIdeal.nD,
          r.2.mem ((c.tc : Thread Cert.FfnTailReferenceIdeal.nD Cert.FfnTailReferenceIdeal.τ).loc Cert.FfnTailReferenceIdeal.main_v33) = v0 c
          ∧ r.2.mem ((c.tc : Thread Cert.FfnTailReferenceIdeal.nD Cert.FfnTailReferenceIdeal.τ).loc Cert.FfnTailReferenceIdeal.main_arg0) = m' ((c.tc : Thread Cert.FfnTailReferenceIdeal.nD Cert.FfnTailReferenceIdeal.τ).loc Cert.FfnTailReferenceIdeal.main_arg0)
          ∧ r.2.mem ((c.tc : Thread Cert.FfnTailReferenceIdeal.nD Cert.FfnTailReferenceIdeal.τ).loc Cert.FfnTailReferenceIdeal.main_arg1) = m' ((c.tc : Thread Cert.FfnTailReferenceIdeal.nD Cert.FfnTailReferenceIdeal.τ).loc Cert.FfnTailReferenceIdeal.main_arg1)
          ∧ r.2.mem ((c.tc : Thread Cert.FfnTailReferenceIdeal.nD Cert.FfnTailReferenceIdeal.τ).loc Cert.FfnTailReferenceIdeal.main_arg2) = m' ((c.tc : Thread Cert.FfnTailReferenceIdeal.nD Cert.FfnTailReferenceIdeal.τ).loc Cert.FfnTailReferenceIdeal.main_arg2)
          ∧ r.2.mem ((c.tc : Thread Cert.FfnTailReferenceIdeal.nD Cert.FfnTailReferenceIdeal.τ).loc Cert.FfnTailReferenceIdeal.main_arg3) = m' ((c.tc : Thread Cert.FfnTailReferenceIdeal.nD Cert.FfnTailReferenceIdeal.τ).loc Cert.FfnTailReferenceIdeal.main_arg3)
          ∧ r.2.mem ((c.tc : Thread Cert.FfnTailReferenceIdeal.nD Cert.FfnTailReferenceIdeal.τ).loc Cert.FfnTailReferenceIdeal.main_arg4) = m' ((c.tc : Thread Cert.FfnTailReferenceIdeal.nD Cert.FfnTailReferenceIdeal.τ).loc Cert.FfnTailReferenceIdeal.main_arg4)
          ∧ r.2.mem ((c.tc : Thread Cert.FfnTailReferenceIdeal.nD Cert.FfnTailReferenceIdeal.τ).loc Cert.FfnTailReferenceIdeal.main_arg5) = m' ((c.tc : Thread Cert.FfnTailReferenceIdeal.nD Cert.FfnTailReferenceIdeal.τ).loc Cert.FfnTailReferenceIdeal.main_arg5)
          ∧ r.2.mem ((c.tc : Thread Cert.FfnTailReferenceIdeal.nD Cert.FfnTailReferenceIdeal.τ).loc Cert.FfnTailReferenceIdeal.main_arg6) = m' ((c.tc : Thread Cert.FfnTailReferenceIdeal.nD Cert.FfnTailReferenceIdeal.τ).loc Cert.FfnTailReferenceIdeal.main_arg6)
          ∧ r.2.mem ((c.tc : Thread Cert.FfnTailReferenceIdeal.nD Cert.FfnTailReferenceIdeal.τ).loc Cert.FfnTailReferenceIdeal.main_arg7) = m' ((c.tc : Thread Cert.FfnTailReferenceIdeal.nD Cert.FfnTailReferenceIdeal.τ).loc Cert.FfnTailReferenceIdeal.main_arg7))

def preserves_ProjTail_ProjTailIdeal : Prop :=
  True

def algebraic_ProjTailIdeal_ProjTailReferenceIdeal [hProjTailIdeal : Cert.ProjTailIdeal.Facts] [hProjTailReferenceIdeal : Cert.ProjTailReferenceIdeal.Facts] : Prop :=
  ∀ (m : (ℓ : Loc Cert.ProjTailIdeal.nD Cert.ProjTailIdeal.τ Cert.ProjTailIdeal.sig) → Buf (Elt Ideal) ℓ) (g : Dev Cert.ProjTailIdeal.nD → PrngReg)
    (m' : (ℓ : Loc Cert.ProjTailReferenceIdeal.nD Cert.ProjTailReferenceIdeal.τ Cert.ProjTailReferenceIdeal.sig) → Buf (Elt Ideal) ℓ) (g' : Dev Cert.ProjTailReferenceIdeal.nD → PrngReg), Pre_ProjTailIdeal m →
    (∀ c : Dev Cert.ProjTailIdeal.nD,
      m' ((c.tc : Thread Cert.ProjTailReferenceIdeal.nD Cert.ProjTailReferenceIdeal.τ).loc Cert.ProjTailReferenceIdeal.main_arg0) = m ((c.tc : Thread Cert.ProjTailIdeal.nD Cert.ProjTailIdeal.τ).loc Cert.ProjTailIdeal.main_arg0)
      ∧ m' ((c.tc : Thread Cert.ProjTailReferenceIdeal.nD Cert.ProjTailReferenceIdeal.τ).loc Cert.ProjTailReferenceIdeal.main_arg1) = m ((c.tc : Thread Cert.ProjTailIdeal.nD Cert.ProjTailIdeal.τ).loc Cert.ProjTailIdeal.main_arg1)
      ∧ m' ((c.tc : Thread Cert.ProjTailReferenceIdeal.nD Cert.ProjTailReferenceIdeal.τ).loc Cert.ProjTailReferenceIdeal.main_arg2) = m ((c.tc : Thread Cert.ProjTailIdeal.nD Cert.ProjTailIdeal.τ).loc Cert.ProjTailIdeal.main_arg2)
      ∧ m' ((c.tc : Thread Cert.ProjTailReferenceIdeal.nD Cert.ProjTailReferenceIdeal.τ).loc Cert.ProjTailReferenceIdeal.main_arg3) = m ((c.tc : Thread Cert.ProjTailIdeal.nD Cert.ProjTailIdeal.τ).loc Cert.ProjTailIdeal.main_arg3)
      ∧ m' ((c.tc : Thread Cert.ProjTailReferenceIdeal.nD Cert.ProjTailReferenceIdeal.τ).loc Cert.ProjTailReferenceIdeal.main_arg4) = m ((c.tc : Thread Cert.ProjTailIdeal.nD Cert.ProjTailIdeal.τ).loc Cert.ProjTailIdeal.main_arg4)
      ∧ m' ((c.tc : Thread Cert.ProjTailReferenceIdeal.nD Cert.ProjTailReferenceIdeal.τ).loc Cert.ProjTailReferenceIdeal.main_arg5) = m ((c.tc : Thread Cert.ProjTailIdeal.nD Cert.ProjTailIdeal.τ).loc Cert.ProjTailIdeal.main_arg5)
      ∧ m' ((c.tc : Thread Cert.ProjTailReferenceIdeal.nD Cert.ProjTailReferenceIdeal.τ).loc Cert.ProjTailReferenceIdeal.main_arg6) = m ((c.tc : Thread Cert.ProjTailIdeal.nD Cert.ProjTailIdeal.τ).loc Cert.ProjTailIdeal.main_arg6)
      ∧ m' ((c.tc : Thread Cert.ProjTailReferenceIdeal.nD Cert.ProjTailReferenceIdeal.τ).loc Cert.ProjTailReferenceIdeal.main_arg7) = m ((c.tc : Thread Cert.ProjTailIdeal.nD Cert.ProjTailIdeal.τ).loc Cert.ProjTailIdeal.main_arg7)) →
    ∃ (v0 : (c : Dev Cert.ProjTailIdeal.nD) → Buf (Elt Ideal) ((c.tc : Thread Cert.ProjTailIdeal.nD Cert.ProjTailIdeal.τ).loc Cert.ProjTailIdeal.main_v14_0)) (v1 : (c : Dev Cert.ProjTailIdeal.nD) → Buf (Elt Ideal) ((c.tc : Thread Cert.ProjTailIdeal.nD Cert.ProjTailIdeal.τ).loc Cert.ProjTailIdeal.main_v14_1)) (v2 : (c : Dev Cert.ProjTailIdeal.nD) → Buf (Elt Ideal) ((c.tc : Thread Cert.ProjTailIdeal.nD Cert.ProjTailIdeal.τ).loc Cert.ProjTailIdeal.main_v14_2)) (v3 : (c : Dev Cert.ProjTailIdeal.nD) → Buf (Elt Ideal) ((c.tc : Thread Cert.ProjTailIdeal.nD Cert.ProjTailIdeal.τ).loc Cert.ProjTailIdeal.main_v14_3)) (v4 : (c : Dev Cert.ProjTailIdeal.nD) → Buf (Elt Ideal) ((c.tc : Thread Cert.ProjTailIdeal.nD Cert.ProjTailIdeal.τ).loc Cert.ProjTailIdeal.main_v14_4)) (v5 : (c : Dev Cert.ProjTailIdeal.nD) → Buf (Elt Ideal) ((c.tc : Thread Cert.ProjTailIdeal.nD Cert.ProjTailIdeal.τ).loc Cert.ProjTailIdeal.main_v14_5)) (v6 : (c : Dev Cert.ProjTailIdeal.nD) → Buf (Elt Ideal) ((c.tc : Thread Cert.ProjTailIdeal.nD Cert.ProjTailIdeal.τ).loc Cert.ProjTailIdeal.main_v14_6)) (v7 : (c : Dev Cert.ProjTailIdeal.nD) → Buf (Elt Ideal) ((c.tc : Thread Cert.ProjTailIdeal.nD Cert.ProjTailIdeal.τ).loc Cert.ProjTailIdeal.main_v14_7)) (v8 : (c : Dev Cert.ProjTailIdeal.nD) → Buf (Elt Ideal) ((c.tc : Thread Cert.ProjTailIdeal.nD Cert.ProjTailIdeal.τ).loc Cert.ProjTailIdeal.main_v14_8)),
      θ_run (Cert.ProjTailIdeal.defs (F := Ideal)) (onTc (τ := Cert.ProjTailIdeal.τ) (Cert.ProjTailIdeal.main (F := Ideal))) ⟨m, fun _ => 0, g⟩ (fun r => ∀ c : Dev Cert.ProjTailIdeal.nD,
          r.2.mem ((c.tc : Thread Cert.ProjTailIdeal.nD Cert.ProjTailIdeal.τ).loc Cert.ProjTailIdeal.main_v14_0) = v0 c
          ∧ r.2.mem ((c.tc : Thread Cert.ProjTailIdeal.nD Cert.ProjTailIdeal.τ).loc Cert.ProjTailIdeal.main_v14_1) = v1 c
          ∧ r.2.mem ((c.tc : Thread Cert.ProjTailIdeal.nD Cert.ProjTailIdeal.τ).loc Cert.ProjTailIdeal.main_v14_2) = v2 c
          ∧ r.2.mem ((c.tc : Thread Cert.ProjTailIdeal.nD Cert.ProjTailIdeal.τ).loc Cert.ProjTailIdeal.main_v14_3) = v3 c
          ∧ r.2.mem ((c.tc : Thread Cert.ProjTailIdeal.nD Cert.ProjTailIdeal.τ).loc Cert.ProjTailIdeal.main_v14_4) = v4 c
          ∧ r.2.mem ((c.tc : Thread Cert.ProjTailIdeal.nD Cert.ProjTailIdeal.τ).loc Cert.ProjTailIdeal.main_v14_5) = v5 c
          ∧ r.2.mem ((c.tc : Thread Cert.ProjTailIdeal.nD Cert.ProjTailIdeal.τ).loc Cert.ProjTailIdeal.main_v14_6) = v6 c
          ∧ r.2.mem ((c.tc : Thread Cert.ProjTailIdeal.nD Cert.ProjTailIdeal.τ).loc Cert.ProjTailIdeal.main_v14_7) = v7 c
          ∧ r.2.mem ((c.tc : Thread Cert.ProjTailIdeal.nD Cert.ProjTailIdeal.τ).loc Cert.ProjTailIdeal.main_v14_8) = v8 c
          ∧ r.2.mem ((c.tc : Thread Cert.ProjTailIdeal.nD Cert.ProjTailIdeal.τ).loc Cert.ProjTailIdeal.main_arg0) = m ((c.tc : Thread Cert.ProjTailIdeal.nD Cert.ProjTailIdeal.τ).loc Cert.ProjTailIdeal.main_arg0)
          ∧ r.2.mem ((c.tc : Thread Cert.ProjTailIdeal.nD Cert.ProjTailIdeal.τ).loc Cert.ProjTailIdeal.main_arg1) = m ((c.tc : Thread Cert.ProjTailIdeal.nD Cert.ProjTailIdeal.τ).loc Cert.ProjTailIdeal.main_arg1)
          ∧ r.2.mem ((c.tc : Thread Cert.ProjTailIdeal.nD Cert.ProjTailIdeal.τ).loc Cert.ProjTailIdeal.main_arg2) = m ((c.tc : Thread Cert.ProjTailIdeal.nD Cert.ProjTailIdeal.τ).loc Cert.ProjTailIdeal.main_arg2)
          ∧ r.2.mem ((c.tc : Thread Cert.ProjTailIdeal.nD Cert.ProjTailIdeal.τ).loc Cert.ProjTailIdeal.main_arg3) = m ((c.tc : Thread Cert.ProjTailIdeal.nD Cert.ProjTailIdeal.τ).loc Cert.ProjTailIdeal.main_arg3)
          ∧ r.2.mem ((c.tc : Thread Cert.ProjTailIdeal.nD Cert.ProjTailIdeal.τ).loc Cert.ProjTailIdeal.main_arg4) = m ((c.tc : Thread Cert.ProjTailIdeal.nD Cert.ProjTailIdeal.τ).loc Cert.ProjTailIdeal.main_arg4)
          ∧ r.2.mem ((c.tc : Thread Cert.ProjTailIdeal.nD Cert.ProjTailIdeal.τ).loc Cert.ProjTailIdeal.main_arg5) = m ((c.tc : Thread Cert.ProjTailIdeal.nD Cert.ProjTailIdeal.τ).loc Cert.ProjTailIdeal.main_arg5)
          ∧ r.2.mem ((c.tc : Thread Cert.ProjTailIdeal.nD Cert.ProjTailIdeal.τ).loc Cert.ProjTailIdeal.main_arg6) = m ((c.tc : Thread Cert.ProjTailIdeal.nD Cert.ProjTailIdeal.τ).loc Cert.ProjTailIdeal.main_arg6)
          ∧ r.2.mem ((c.tc : Thread Cert.ProjTailIdeal.nD Cert.ProjTailIdeal.τ).loc Cert.ProjTailIdeal.main_arg7) = m ((c.tc : Thread Cert.ProjTailIdeal.nD Cert.ProjTailIdeal.τ).loc Cert.ProjTailIdeal.main_arg7))
      ∧ θ_run (Cert.ProjTailReferenceIdeal.defs (F := Ideal)) (onTc (τ := Cert.ProjTailReferenceIdeal.τ) (Cert.ProjTailReferenceIdeal.main (F := Ideal))) ⟨m', fun _ => 0, g'⟩ (fun r => ∀ c : Dev Cert.ProjTailReferenceIdeal.nD,
          r.2.mem ((c.tc : Thread Cert.ProjTailReferenceIdeal.nD Cert.ProjTailReferenceIdeal.τ).loc Cert.ProjTailReferenceIdeal.main_v13) = v0 c
          ∧ r.2.mem ((c.tc : Thread Cert.ProjTailReferenceIdeal.nD Cert.ProjTailReferenceIdeal.τ).loc Cert.ProjTailReferenceIdeal.main_v14) = v1 c
          ∧ r.2.mem ((c.tc : Thread Cert.ProjTailReferenceIdeal.nD Cert.ProjTailReferenceIdeal.τ).loc Cert.ProjTailReferenceIdeal.main_v15) = v2 c
          ∧ r.2.mem ((c.tc : Thread Cert.ProjTailReferenceIdeal.nD Cert.ProjTailReferenceIdeal.τ).loc Cert.ProjTailReferenceIdeal.main_v25) = v3 c
          ∧ r.2.mem ((c.tc : Thread Cert.ProjTailReferenceIdeal.nD Cert.ProjTailReferenceIdeal.τ).loc Cert.ProjTailReferenceIdeal.main_v26) = v4 c
          ∧ r.2.mem ((c.tc : Thread Cert.ProjTailReferenceIdeal.nD Cert.ProjTailReferenceIdeal.τ).loc Cert.ProjTailReferenceIdeal.main_v29) = v5 c
          ∧ r.2.mem ((c.tc : Thread Cert.ProjTailReferenceIdeal.nD Cert.ProjTailReferenceIdeal.τ).loc Cert.ProjTailReferenceIdeal.main_v32) = v6 c
          ∧ r.2.mem ((c.tc : Thread Cert.ProjTailReferenceIdeal.nD Cert.ProjTailReferenceIdeal.τ).loc Cert.ProjTailReferenceIdeal.main_v35) = v7 c
          ∧ r.2.mem ((c.tc : Thread Cert.ProjTailReferenceIdeal.nD Cert.ProjTailReferenceIdeal.τ).loc Cert.ProjTailReferenceIdeal.main_v37) = v8 c
          ∧ r.2.mem ((c.tc : Thread Cert.ProjTailReferenceIdeal.nD Cert.ProjTailReferenceIdeal.τ).loc Cert.ProjTailReferenceIdeal.main_arg0) = m' ((c.tc : Thread Cert.ProjTailReferenceIdeal.nD Cert.ProjTailReferenceIdeal.τ).loc Cert.ProjTailReferenceIdeal.main_arg0)
          ∧ r.2.mem ((c.tc : Thread Cert.ProjTailReferenceIdeal.nD Cert.ProjTailReferenceIdeal.τ).loc Cert.ProjTailReferenceIdeal.main_arg1) = m' ((c.tc : Thread Cert.ProjTailReferenceIdeal.nD Cert.ProjTailReferenceIdeal.τ).loc Cert.ProjTailReferenceIdeal.main_arg1)
          ∧ r.2.mem ((c.tc : Thread Cert.ProjTailReferenceIdeal.nD Cert.ProjTailReferenceIdeal.τ).loc Cert.ProjTailReferenceIdeal.main_arg2) = m' ((c.tc : Thread Cert.ProjTailReferenceIdeal.nD Cert.ProjTailReferenceIdeal.τ).loc Cert.ProjTailReferenceIdeal.main_arg2)
          ∧ r.2.mem ((c.tc : Thread Cert.ProjTailReferenceIdeal.nD Cert.ProjTailReferenceIdeal.τ).loc Cert.ProjTailReferenceIdeal.main_arg3) = m' ((c.tc : Thread Cert.ProjTailReferenceIdeal.nD Cert.ProjTailReferenceIdeal.τ).loc Cert.ProjTailReferenceIdeal.main_arg3)
          ∧ r.2.mem ((c.tc : Thread Cert.ProjTailReferenceIdeal.nD Cert.ProjTailReferenceIdeal.τ).loc Cert.ProjTailReferenceIdeal.main_arg4) = m' ((c.tc : Thread Cert.ProjTailReferenceIdeal.nD Cert.ProjTailReferenceIdeal.τ).loc Cert.ProjTailReferenceIdeal.main_arg4)
          ∧ r.2.mem ((c.tc : Thread Cert.ProjTailReferenceIdeal.nD Cert.ProjTailReferenceIdeal.τ).loc Cert.ProjTailReferenceIdeal.main_arg5) = m' ((c.tc : Thread Cert.ProjTailReferenceIdeal.nD Cert.ProjTailReferenceIdeal.τ).loc Cert.ProjTailReferenceIdeal.main_arg5)
          ∧ r.2.mem ((c.tc : Thread Cert.ProjTailReferenceIdeal.nD Cert.ProjTailReferenceIdeal.τ).loc Cert.ProjTailReferenceIdeal.main_arg6) = m' ((c.tc : Thread Cert.ProjTailReferenceIdeal.nD Cert.ProjTailReferenceIdeal.τ).loc Cert.ProjTailReferenceIdeal.main_arg6)
          ∧ r.2.mem ((c.tc : Thread Cert.ProjTailReferenceIdeal.nD Cert.ProjTailReferenceIdeal.τ).loc Cert.ProjTailReferenceIdeal.main_arg7) = m' ((c.tc : Thread Cert.ProjTailReferenceIdeal.nD Cert.ProjTailReferenceIdeal.τ).loc Cert.ProjTailReferenceIdeal.main_arg7))

def preserves_ConvSample_ConvSampleIdeal : Prop :=
  True

def algebraic_ConvSampleIdeal_ConvSampleReferenceIdeal [hConvSampleIdeal : Cert.ConvSampleIdeal.Facts] [hConvSampleReferenceIdeal : Cert.ConvSampleReferenceIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleReferenceIdeal.nD Cert.ConvSampleReferenceIdeal.τ Cert.ConvSampleReferenceIdeal.sig) → Buf (Elt Ideal) ℓ) (g' : Dev Cert.ConvSampleReferenceIdeal.nD → PrngReg), Pre_ConvSampleIdeal m →
    (∀ c : Dev Cert.ConvSampleIdeal.nD,
      m' ((c.tc : Thread Cert.ConvSampleReferenceIdeal.nD Cert.ConvSampleReferenceIdeal.τ).loc Cert.ConvSampleReferenceIdeal.main_arg0) = m ((c.tc : Thread Cert.ConvSampleIdeal.nD Cert.ConvSampleIdeal.τ).loc Cert.ConvSampleIdeal.main_arg0)
      ∧ m' ((c.tc : Thread Cert.ConvSampleReferenceIdeal.nD Cert.ConvSampleReferenceIdeal.τ).loc Cert.ConvSampleReferenceIdeal.main_arg1) = m ((c.tc : Thread Cert.ConvSampleIdeal.nD Cert.ConvSampleIdeal.τ).loc Cert.ConvSampleIdeal.main_arg1)
      ∧ m' ((c.tc : Thread Cert.ConvSampleReferenceIdeal.nD Cert.ConvSampleReferenceIdeal.τ).loc Cert.ConvSampleReferenceIdeal.main_arg2) = m ((c.tc : Thread Cert.ConvSampleIdeal.nD Cert.ConvSampleIdeal.τ).loc Cert.ConvSampleIdeal.main_arg2)
      ∧ m' ((c.tc : Thread Cert.ConvSampleReferenceIdeal.nD Cert.ConvSampleReferenceIdeal.τ).loc Cert.ConvSampleReferenceIdeal.main_arg3) = m ((c.tc : Thread Cert.ConvSampleIdeal.nD Cert.ConvSampleIdeal.τ).loc Cert.ConvSampleIdeal.main_arg3)
      ∧ m' ((c.tc : Thread Cert.ConvSampleReferenceIdeal.nD Cert.ConvSampleReferenceIdeal.τ).loc Cert.ConvSampleReferenceIdeal.main_arg4) = m ((c.tc : Thread Cert.ConvSampleIdeal.nD Cert.ConvSampleIdeal.τ).loc Cert.ConvSampleIdeal.main_arg4)
      ∧ m' ((c.tc : Thread Cert.ConvSampleReferenceIdeal.nD Cert.ConvSampleReferenceIdeal.τ).loc Cert.ConvSampleReferenceIdeal.main_arg5) = m ((c.tc : Thread Cert.ConvSampleIdeal.nD Cert.ConvSampleIdeal.τ).loc Cert.ConvSampleIdeal.main_arg5)) →
    ∃ (v0 : (c : Dev Cert.ConvSampleIdeal.nD) → Buf (Elt Ideal) ((c.tc : Thread Cert.ConvSampleIdeal.nD Cert.ConvSampleIdeal.τ).loc Cert.ConvSampleIdeal.main_v4_0)) (v1 : (c : Dev Cert.ConvSampleIdeal.nD) → Buf (Elt Ideal) ((c.tc : Thread Cert.ConvSampleIdeal.nD Cert.ConvSampleIdeal.τ).loc Cert.ConvSampleIdeal.main_v4_1)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v4_0) = v0 c
          ∧ r.2.mem ((c.tc : Thread Cert.ConvSampleIdeal.nD Cert.ConvSampleIdeal.τ).loc Cert.ConvSampleIdeal.main_v4_1) = v1 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
          ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
          ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
          ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5))
      ∧ θ_run (Cert.ConvSampleReferenceIdeal.defs (F := Ideal)) (onTc (τ := Cert.ConvSampleReferenceIdeal.τ) (Cert.ConvSampleReferenceIdeal.main (F := Ideal))) ⟨m', fun _ => 0, g'⟩ (fun r => ∀ c : Dev Cert.ConvSampleReferenceIdeal.nD,
          r.2.mem ((c.tc : Thread Cert.ConvSampleReferenceIdeal.nD Cert.ConvSampleReferenceIdeal.τ).loc Cert.ConvSampleReferenceIdeal.main_v45) = v0 c
          ∧ r.2.mem ((c.tc : Thread Cert.ConvSampleReferenceIdeal.nD Cert.ConvSampleReferenceIdeal.τ).loc Cert.ConvSampleReferenceIdeal.main_v46) = v1 c
          ∧ r.2.mem ((c.tc : Thread Cert.ConvSampleReferenceIdeal.nD Cert.ConvSampleReferenceIdeal.τ).loc Cert.ConvSampleReferenceIdeal.main_arg0) = m' ((c.tc : Thread Cert.ConvSampleReferenceIdeal.nD Cert.ConvSampleReferenceIdeal.τ).loc Cert.ConvSampleReferenceIdeal.main_arg0)
          ∧ r.2.mem ((c.tc : Thread Cert.ConvSampleReferenceIdeal.nD Cert.ConvSampleReferenceIdeal.τ).loc Cert.ConvSampleReferenceIdeal.main_arg1) = m' ((c.tc : Thread Cert.ConvSampleReferenceIdeal.nD Cert.ConvSampleReferenceIdeal.τ).loc Cert.ConvSampleReferenceIdeal.main_arg1)
          ∧ r.2.mem ((c.tc : Thread Cert.ConvSampleReferenceIdeal.nD Cert.ConvSampleReferenceIdeal.τ).loc Cert.ConvSampleReferenceIdeal.main_arg2) = m' ((c.tc : Thread Cert.ConvSampleReferenceIdeal.nD Cert.ConvSampleReferenceIdeal.τ).loc Cert.ConvSampleReferenceIdeal.main_arg2)
          ∧ r.2.mem ((c.tc : Thread Cert.ConvSampleReferenceIdeal.nD Cert.ConvSampleReferenceIdeal.τ).loc Cert.ConvSampleReferenceIdeal.main_arg3) = m' ((c.tc : Thread Cert.ConvSampleReferenceIdeal.nD Cert.ConvSampleReferenceIdeal.τ).loc Cert.ConvSampleReferenceIdeal.main_arg3)
          ∧ r.2.mem ((c.tc : Thread Cert.ConvSampleReferenceIdeal.nD Cert.ConvSampleReferenceIdeal.τ).loc Cert.ConvSampleReferenceIdeal.main_arg4) = m' ((c.tc : Thread Cert.ConvSampleReferenceIdeal.nD Cert.ConvSampleReferenceIdeal.τ).loc Cert.ConvSampleReferenceIdeal.main_arg4)
          ∧ r.2.mem ((c.tc : Thread Cert.ConvSampleReferenceIdeal.nD Cert.ConvSampleReferenceIdeal.τ).loc Cert.ConvSampleReferenceIdeal.main_arg5) = m' ((c.tc : Thread Cert.ConvSampleReferenceIdeal.nD Cert.ConvSampleReferenceIdeal.τ).loc Cert.ConvSampleReferenceIdeal.main_arg5))

def preserves_Recur_RecurIdeal : Prop :=
  True

def algebraic_RecurIdeal_RecurReferenceIdeal [hRecurIdeal : Cert.RecurIdeal.Facts] [hRecurReferenceIdeal : Cert.RecurReferenceIdeal.Facts] : Prop :=
  ∀ (m : (ℓ : Loc Cert.RecurIdeal.nD Cert.RecurIdeal.τ Cert.RecurIdeal.sig) → Buf (Elt Ideal) ℓ) (g : Dev Cert.RecurIdeal.nD → PrngReg)
    (m' : (ℓ : Loc Cert.RecurReferenceIdeal.nD Cert.RecurReferenceIdeal.τ Cert.RecurReferenceIdeal.sig) → Buf (Elt Ideal) ℓ) (g' : Dev Cert.RecurReferenceIdeal.nD → PrngReg), Pre_RecurIdeal m →
    (∀ c : Dev Cert.RecurIdeal.nD,
      m' ((c.tc : Thread Cert.RecurReferenceIdeal.nD Cert.RecurReferenceIdeal.τ).loc Cert.RecurReferenceIdeal.main_arg0) = m ((c.tc : Thread Cert.RecurIdeal.nD Cert.RecurIdeal.τ).loc Cert.RecurIdeal.main_arg0)
      ∧ m' ((c.tc : Thread Cert.RecurReferenceIdeal.nD Cert.RecurReferenceIdeal.τ).loc Cert.RecurReferenceIdeal.main_arg1) = m ((c.tc : Thread Cert.RecurIdeal.nD Cert.RecurIdeal.τ).loc Cert.RecurIdeal.main_arg1)
      ∧ m' ((c.tc : Thread Cert.RecurReferenceIdeal.nD Cert.RecurReferenceIdeal.τ).loc Cert.RecurReferenceIdeal.main_arg2) = m ((c.tc : Thread Cert.RecurIdeal.nD Cert.RecurIdeal.τ).loc Cert.RecurIdeal.main_arg2)
      ∧ m' ((c.tc : Thread Cert.RecurReferenceIdeal.nD Cert.RecurReferenceIdeal.τ).loc Cert.RecurReferenceIdeal.main_arg3) = m ((c.tc : Thread Cert.RecurIdeal.nD Cert.RecurIdeal.τ).loc Cert.RecurIdeal.main_arg3)
      ∧ m' ((c.tc : Thread Cert.RecurReferenceIdeal.nD Cert.RecurReferenceIdeal.τ).loc Cert.RecurReferenceIdeal.main_arg4) = m ((c.tc : Thread Cert.RecurIdeal.nD Cert.RecurIdeal.τ).loc Cert.RecurIdeal.main_arg4)
      ∧ m' ((c.tc : Thread Cert.RecurReferenceIdeal.nD Cert.RecurReferenceIdeal.τ).loc Cert.RecurReferenceIdeal.main_arg5) = m ((c.tc : Thread Cert.RecurIdeal.nD Cert.RecurIdeal.τ).loc Cert.RecurIdeal.main_arg5)
      ∧ m' ((c.tc : Thread Cert.RecurReferenceIdeal.nD Cert.RecurReferenceIdeal.τ).loc Cert.RecurReferenceIdeal.main_arg6) = m ((c.tc : Thread Cert.RecurIdeal.nD Cert.RecurIdeal.τ).loc Cert.RecurIdeal.main_arg6)
      ∧ m' ((c.tc : Thread Cert.RecurReferenceIdeal.nD Cert.RecurReferenceIdeal.τ).loc Cert.RecurReferenceIdeal.main_arg7) = m ((c.tc : Thread Cert.RecurIdeal.nD Cert.RecurIdeal.τ).loc Cert.RecurIdeal.main_arg7)
      ∧ m' ((c.tc : Thread Cert.RecurReferenceIdeal.nD Cert.RecurReferenceIdeal.τ).loc Cert.RecurReferenceIdeal.main_arg8) = m ((c.tc : Thread Cert.RecurIdeal.nD Cert.RecurIdeal.τ).loc Cert.RecurIdeal.main_arg8)
      ∧ m' ((c.tc : Thread Cert.RecurReferenceIdeal.nD Cert.RecurReferenceIdeal.τ).loc Cert.RecurReferenceIdeal.main_arg9) = m ((c.tc : Thread Cert.RecurIdeal.nD Cert.RecurIdeal.τ).loc Cert.RecurIdeal.main_arg9)
      ∧ m' ((c.tc : Thread Cert.RecurReferenceIdeal.nD Cert.RecurReferenceIdeal.τ).loc Cert.RecurReferenceIdeal.main_arg10) = m ((c.tc : Thread Cert.RecurIdeal.nD Cert.RecurIdeal.τ).loc Cert.RecurIdeal.main_arg10)
      ∧ m' ((c.tc : Thread Cert.RecurReferenceIdeal.nD Cert.RecurReferenceIdeal.τ).loc Cert.RecurReferenceIdeal.main_arg11) = m ((c.tc : Thread Cert.RecurIdeal.nD Cert.RecurIdeal.τ).loc Cert.RecurIdeal.main_arg11)
      ∧ m' ((c.tc : Thread Cert.RecurReferenceIdeal.nD Cert.RecurReferenceIdeal.τ).loc Cert.RecurReferenceIdeal.main_arg12) = m ((c.tc : Thread Cert.RecurIdeal.nD Cert.RecurIdeal.τ).loc Cert.RecurIdeal.main_arg12)
      ∧ m' ((c.tc : Thread Cert.RecurReferenceIdeal.nD Cert.RecurReferenceIdeal.τ).loc Cert.RecurReferenceIdeal.main_arg13) = m ((c.tc : Thread Cert.RecurIdeal.nD Cert.RecurIdeal.τ).loc Cert.RecurIdeal.main_arg13)
      ∧ m' ((c.tc : Thread Cert.RecurReferenceIdeal.nD Cert.RecurReferenceIdeal.τ).loc Cert.RecurReferenceIdeal.main_arg14) = m ((c.tc : Thread Cert.RecurIdeal.nD Cert.RecurIdeal.τ).loc Cert.RecurIdeal.main_arg14)) →
    ∃ (v0 : (c : Dev Cert.RecurIdeal.nD) → Buf (Elt Ideal) ((c.tc : Thread Cert.RecurIdeal.nD Cert.RecurIdeal.τ).loc Cert.RecurIdeal.main_v14_2)),
      θ_run (Cert.RecurIdeal.defs (F := Ideal)) (onTc (τ := Cert.RecurIdeal.τ) (Cert.RecurIdeal.main (F := Ideal))) ⟨m, fun _ => 0, g⟩ (fun r => ∀ c : Dev Cert.RecurIdeal.nD,
          r.2.mem ((c.tc : Thread Cert.RecurIdeal.nD Cert.RecurIdeal.τ).loc Cert.RecurIdeal.main_v14_2) = v0 c
          ∧ r.2.mem ((c.tc : Thread Cert.RecurIdeal.nD Cert.RecurIdeal.τ).loc Cert.RecurIdeal.main_arg0) = m ((c.tc : Thread Cert.RecurIdeal.nD Cert.RecurIdeal.τ).loc Cert.RecurIdeal.main_arg0)
          ∧ r.2.mem ((c.tc : Thread Cert.RecurIdeal.nD Cert.RecurIdeal.τ).loc Cert.RecurIdeal.main_arg1) = m ((c.tc : Thread Cert.RecurIdeal.nD Cert.RecurIdeal.τ).loc Cert.RecurIdeal.main_arg1)
          ∧ r.2.mem ((c.tc : Thread Cert.RecurIdeal.nD Cert.RecurIdeal.τ).loc Cert.RecurIdeal.main_arg2) = m ((c.tc : Thread Cert.RecurIdeal.nD Cert.RecurIdeal.τ).loc Cert.RecurIdeal.main_arg2)
          ∧ r.2.mem ((c.tc : Thread Cert.RecurIdeal.nD Cert.RecurIdeal.τ).loc Cert.RecurIdeal.main_arg3) = m ((c.tc : Thread Cert.RecurIdeal.nD Cert.RecurIdeal.τ).loc Cert.RecurIdeal.main_arg3)
          ∧ r.2.mem ((c.tc : Thread Cert.RecurIdeal.nD Cert.RecurIdeal.τ).loc Cert.RecurIdeal.main_arg4) = m ((c.tc : Thread Cert.RecurIdeal.nD Cert.RecurIdeal.τ).loc Cert.RecurIdeal.main_arg4)
          ∧ r.2.mem ((c.tc : Thread Cert.RecurIdeal.nD Cert.RecurIdeal.τ).loc Cert.RecurIdeal.main_arg5) = m ((c.tc : Thread Cert.RecurIdeal.nD Cert.RecurIdeal.τ).loc Cert.RecurIdeal.main_arg5)
          ∧ r.2.mem ((c.tc : Thread Cert.RecurIdeal.nD Cert.RecurIdeal.τ).loc Cert.RecurIdeal.main_arg6) = m ((c.tc : Thread Cert.RecurIdeal.nD Cert.RecurIdeal.τ).loc Cert.RecurIdeal.main_arg6)
          ∧ r.2.mem ((c.tc : Thread Cert.RecurIdeal.nD Cert.RecurIdeal.τ).loc Cert.RecurIdeal.main_arg7) = m ((c.tc : Thread Cert.RecurIdeal.nD Cert.RecurIdeal.τ).loc Cert.RecurIdeal.main_arg7)
          ∧ r.2.mem ((c.tc : Thread Cert.RecurIdeal.nD Cert.RecurIdeal.τ).loc Cert.RecurIdeal.main_arg8) = m ((c.tc : Thread Cert.RecurIdeal.nD Cert.RecurIdeal.τ).loc Cert.RecurIdeal.main_arg8)
          ∧ r.2.mem ((c.tc : Thread Cert.RecurIdeal.nD Cert.RecurIdeal.τ).loc Cert.RecurIdeal.main_arg9) = m ((c.tc : Thread Cert.RecurIdeal.nD Cert.RecurIdeal.τ).loc Cert.RecurIdeal.main_arg9)
          ∧ r.2.mem ((c.tc : Thread Cert.RecurIdeal.nD Cert.RecurIdeal.τ).loc Cert.RecurIdeal.main_arg10) = m ((c.tc : Thread Cert.RecurIdeal.nD Cert.RecurIdeal.τ).loc Cert.RecurIdeal.main_arg10)
          ∧ r.2.mem ((c.tc : Thread Cert.RecurIdeal.nD Cert.RecurIdeal.τ).loc Cert.RecurIdeal.main_arg11) = m ((c.tc : Thread Cert.RecurIdeal.nD Cert.RecurIdeal.τ).loc Cert.RecurIdeal.main_arg11)
          ∧ r.2.mem ((c.tc : Thread Cert.RecurIdeal.nD Cert.RecurIdeal.τ).loc Cert.RecurIdeal.main_arg12) = m ((c.tc : Thread Cert.RecurIdeal.nD Cert.RecurIdeal.τ).loc Cert.RecurIdeal.main_arg12)
          ∧ r.2.mem ((c.tc : Thread Cert.RecurIdeal.nD Cert.RecurIdeal.τ).loc Cert.RecurIdeal.main_arg13) = m ((c.tc : Thread Cert.RecurIdeal.nD Cert.RecurIdeal.τ).loc Cert.RecurIdeal.main_arg13)
          ∧ r.2.mem ((c.tc : Thread Cert.RecurIdeal.nD Cert.RecurIdeal.τ).loc Cert.RecurIdeal.main_arg14) = m ((c.tc : Thread Cert.RecurIdeal.nD Cert.RecurIdeal.τ).loc Cert.RecurIdeal.main_arg14))
      ∧ θ_run (Cert.RecurReferenceIdeal.defs (F := Ideal)) (onTc (τ := Cert.RecurReferenceIdeal.τ) (Cert.RecurReferenceIdeal.main (F := Ideal))) ⟨m', fun _ => 0, g'⟩ (fun r => ∀ c : Dev Cert.RecurReferenceIdeal.nD,
          r.2.mem ((c.tc : Thread Cert.RecurReferenceIdeal.nD Cert.RecurReferenceIdeal.τ).loc Cert.RecurReferenceIdeal.main_v19) = v0 c
          ∧ r.2.mem ((c.tc : Thread Cert.RecurReferenceIdeal.nD Cert.RecurReferenceIdeal.τ).loc Cert.RecurReferenceIdeal.main_arg0) = m' ((c.tc : Thread Cert.RecurReferenceIdeal.nD Cert.RecurReferenceIdeal.τ).loc Cert.RecurReferenceIdeal.main_arg0)
          ∧ r.2.mem ((c.tc : Thread Cert.RecurReferenceIdeal.nD Cert.RecurReferenceIdeal.τ).loc Cert.RecurReferenceIdeal.main_arg1) = m' ((c.tc : Thread Cert.RecurReferenceIdeal.nD Cert.RecurReferenceIdeal.τ).loc Cert.RecurReferenceIdeal.main_arg1)
          ∧ r.2.mem ((c.tc : Thread Cert.RecurReferenceIdeal.nD Cert.RecurReferenceIdeal.τ).loc Cert.RecurReferenceIdeal.main_arg2) = m' ((c.tc : Thread Cert.RecurReferenceIdeal.nD Cert.RecurReferenceIdeal.τ).loc Cert.RecurReferenceIdeal.main_arg2)
          ∧ r.2.mem ((c.tc : Thread Cert.RecurReferenceIdeal.nD Cert.RecurReferenceIdeal.τ).loc Cert.RecurReferenceIdeal.main_arg3) = m' ((c.tc : Thread Cert.RecurReferenceIdeal.nD Cert.RecurReferenceIdeal.τ).loc Cert.RecurReferenceIdeal.main_arg3)
          ∧ r.2.mem ((c.tc : Thread Cert.RecurReferenceIdeal.nD Cert.RecurReferenceIdeal.τ).loc Cert.RecurReferenceIdeal.main_arg4) = m' ((c.tc : Thread Cert.RecurReferenceIdeal.nD Cert.RecurReferenceIdeal.τ).loc Cert.RecurReferenceIdeal.main_arg4)
          ∧ r.2.mem ((c.tc : Thread Cert.RecurReferenceIdeal.nD Cert.RecurReferenceIdeal.τ).loc Cert.RecurReferenceIdeal.main_arg5) = m' ((c.tc : Thread Cert.RecurReferenceIdeal.nD Cert.RecurReferenceIdeal.τ).loc Cert.RecurReferenceIdeal.main_arg5)
          ∧ r.2.mem ((c.tc : Thread Cert.RecurReferenceIdeal.nD Cert.RecurReferenceIdeal.τ).loc Cert.RecurReferenceIdeal.main_arg6) = m' ((c.tc : Thread Cert.RecurReferenceIdeal.nD Cert.RecurReferenceIdeal.τ).loc Cert.RecurReferenceIdeal.main_arg6)
          ∧ r.2.mem ((c.tc : Thread Cert.RecurReferenceIdeal.nD Cert.RecurReferenceIdeal.τ).loc Cert.RecurReferenceIdeal.main_arg7) = m' ((c.tc : Thread Cert.RecurReferenceIdeal.nD Cert.RecurReferenceIdeal.τ).loc Cert.RecurReferenceIdeal.main_arg7)
          ∧ r.2.mem ((c.tc : Thread Cert.RecurReferenceIdeal.nD Cert.RecurReferenceIdeal.τ).loc Cert.RecurReferenceIdeal.main_arg8) = m' ((c.tc : Thread Cert.RecurReferenceIdeal.nD Cert.RecurReferenceIdeal.τ).loc Cert.RecurReferenceIdeal.main_arg8)
          ∧ r.2.mem ((c.tc : Thread Cert.RecurReferenceIdeal.nD Cert.RecurReferenceIdeal.τ).loc Cert.RecurReferenceIdeal.main_arg9) = m' ((c.tc : Thread Cert.RecurReferenceIdeal.nD Cert.RecurReferenceIdeal.τ).loc Cert.RecurReferenceIdeal.main_arg9)
          ∧ r.2.mem ((c.tc : Thread Cert.RecurReferenceIdeal.nD Cert.RecurReferenceIdeal.τ).loc Cert.RecurReferenceIdeal.main_arg10) = m' ((c.tc : Thread Cert.RecurReferenceIdeal.nD Cert.RecurReferenceIdeal.τ).loc Cert.RecurReferenceIdeal.main_arg10)
          ∧ r.2.mem ((c.tc : Thread Cert.RecurReferenceIdeal.nD Cert.RecurReferenceIdeal.τ).loc Cert.RecurReferenceIdeal.main_arg11) = m' ((c.tc : Thread Cert.RecurReferenceIdeal.nD Cert.RecurReferenceIdeal.τ).loc Cert.RecurReferenceIdeal.main_arg11)
          ∧ r.2.mem ((c.tc : Thread Cert.RecurReferenceIdeal.nD Cert.RecurReferenceIdeal.τ).loc Cert.RecurReferenceIdeal.main_arg12) = m' ((c.tc : Thread Cert.RecurReferenceIdeal.nD Cert.RecurReferenceIdeal.τ).loc Cert.RecurReferenceIdeal.main_arg12)
          ∧ r.2.mem ((c.tc : Thread Cert.RecurReferenceIdeal.nD Cert.RecurReferenceIdeal.τ).loc Cert.RecurReferenceIdeal.main_arg13) = m' ((c.tc : Thread Cert.RecurReferenceIdeal.nD Cert.RecurReferenceIdeal.τ).loc Cert.RecurReferenceIdeal.main_arg13)
          ∧ r.2.mem ((c.tc : Thread Cert.RecurReferenceIdeal.nD Cert.RecurReferenceIdeal.τ).loc Cert.RecurReferenceIdeal.main_arg14) = m' ((c.tc : Thread Cert.RecurReferenceIdeal.nD Cert.RecurReferenceIdeal.τ).loc Cert.RecurReferenceIdeal.main_arg14))

def preserves_RecurSample_RecurSampleIdeal : Prop :=
  True

def algebraic_RecurSampleIdeal_RecurSampleReferenceIdeal [hRecurSampleIdeal : Cert.RecurSampleIdeal.Facts] [hRecurSampleReferenceIdeal : Cert.RecurSampleReferenceIdeal.Facts] : Prop :=
  ∀ (m : (ℓ : Loc Cert.RecurSampleIdeal.nD Cert.RecurSampleIdeal.τ Cert.RecurSampleIdeal.sig) → Buf (Elt Ideal) ℓ) (g : Dev Cert.RecurSampleIdeal.nD → PrngReg)
    (m' : (ℓ : Loc Cert.RecurSampleReferenceIdeal.nD Cert.RecurSampleReferenceIdeal.τ Cert.RecurSampleReferenceIdeal.sig) → Buf (Elt Ideal) ℓ) (g' : Dev Cert.RecurSampleReferenceIdeal.nD → PrngReg), Pre_RecurSampleIdeal m →
    (∀ c : Dev Cert.RecurSampleIdeal.nD,
      m' ((c.tc : Thread Cert.RecurSampleReferenceIdeal.nD Cert.RecurSampleReferenceIdeal.τ).loc Cert.RecurSampleReferenceIdeal.main_arg0) = m ((c.tc : Thread Cert.RecurSampleIdeal.nD Cert.RecurSampleIdeal.τ).loc Cert.RecurSampleIdeal.main_arg0)
      ∧ m' ((c.tc : Thread Cert.RecurSampleReferenceIdeal.nD Cert.RecurSampleReferenceIdeal.τ).loc Cert.RecurSampleReferenceIdeal.main_arg1) = m ((c.tc : Thread Cert.RecurSampleIdeal.nD Cert.RecurSampleIdeal.τ).loc Cert.RecurSampleIdeal.main_arg1)
      ∧ m' ((c.tc : Thread Cert.RecurSampleReferenceIdeal.nD Cert.RecurSampleReferenceIdeal.τ).loc Cert.RecurSampleReferenceIdeal.main_arg2) = m ((c.tc : Thread Cert.RecurSampleIdeal.nD Cert.RecurSampleIdeal.τ).loc Cert.RecurSampleIdeal.main_arg2)
      ∧ m' ((c.tc : Thread Cert.RecurSampleReferenceIdeal.nD Cert.RecurSampleReferenceIdeal.τ).loc Cert.RecurSampleReferenceIdeal.main_arg3) = m ((c.tc : Thread Cert.RecurSampleIdeal.nD Cert.RecurSampleIdeal.τ).loc Cert.RecurSampleIdeal.main_arg3)
      ∧ m' ((c.tc : Thread Cert.RecurSampleReferenceIdeal.nD Cert.RecurSampleReferenceIdeal.τ).loc Cert.RecurSampleReferenceIdeal.main_arg4) = m ((c.tc : Thread Cert.RecurSampleIdeal.nD Cert.RecurSampleIdeal.τ).loc Cert.RecurSampleIdeal.main_arg4)
      ∧ m' ((c.tc : Thread Cert.RecurSampleReferenceIdeal.nD Cert.RecurSampleReferenceIdeal.τ).loc Cert.RecurSampleReferenceIdeal.main_arg5) = m ((c.tc : Thread Cert.RecurSampleIdeal.nD Cert.RecurSampleIdeal.τ).loc Cert.RecurSampleIdeal.main_arg5)
      ∧ m' ((c.tc : Thread Cert.RecurSampleReferenceIdeal.nD Cert.RecurSampleReferenceIdeal.τ).loc Cert.RecurSampleReferenceIdeal.main_arg6) = m ((c.tc : Thread Cert.RecurSampleIdeal.nD Cert.RecurSampleIdeal.τ).loc Cert.RecurSampleIdeal.main_arg6)
      ∧ m' ((c.tc : Thread Cert.RecurSampleReferenceIdeal.nD Cert.RecurSampleReferenceIdeal.τ).loc Cert.RecurSampleReferenceIdeal.main_arg7) = m ((c.tc : Thread Cert.RecurSampleIdeal.nD Cert.RecurSampleIdeal.τ).loc Cert.RecurSampleIdeal.main_arg7)
      ∧ m' ((c.tc : Thread Cert.RecurSampleReferenceIdeal.nD Cert.RecurSampleReferenceIdeal.τ).loc Cert.RecurSampleReferenceIdeal.main_arg8) = m ((c.tc : Thread Cert.RecurSampleIdeal.nD Cert.RecurSampleIdeal.τ).loc Cert.RecurSampleIdeal.main_arg8)
      ∧ m' ((c.tc : Thread Cert.RecurSampleReferenceIdeal.nD Cert.RecurSampleReferenceIdeal.τ).loc Cert.RecurSampleReferenceIdeal.main_arg9) = m ((c.tc : Thread Cert.RecurSampleIdeal.nD Cert.RecurSampleIdeal.τ).loc Cert.RecurSampleIdeal.main_arg9)
      ∧ m' ((c.tc : Thread Cert.RecurSampleReferenceIdeal.nD Cert.RecurSampleReferenceIdeal.τ).loc Cert.RecurSampleReferenceIdeal.main_arg10) = m ((c.tc : Thread Cert.RecurSampleIdeal.nD Cert.RecurSampleIdeal.τ).loc Cert.RecurSampleIdeal.main_arg10)
      ∧ m' ((c.tc : Thread Cert.RecurSampleReferenceIdeal.nD Cert.RecurSampleReferenceIdeal.τ).loc Cert.RecurSampleReferenceIdeal.main_arg11) = m ((c.tc : Thread Cert.RecurSampleIdeal.nD Cert.RecurSampleIdeal.τ).loc Cert.RecurSampleIdeal.main_arg11)
      ∧ m' ((c.tc : Thread Cert.RecurSampleReferenceIdeal.nD Cert.RecurSampleReferenceIdeal.τ).loc Cert.RecurSampleReferenceIdeal.main_arg12) = m ((c.tc : Thread Cert.RecurSampleIdeal.nD Cert.RecurSampleIdeal.τ).loc Cert.RecurSampleIdeal.main_arg12)
      ∧ m' ((c.tc : Thread Cert.RecurSampleReferenceIdeal.nD Cert.RecurSampleReferenceIdeal.τ).loc Cert.RecurSampleReferenceIdeal.main_arg13) = m ((c.tc : Thread Cert.RecurSampleIdeal.nD Cert.RecurSampleIdeal.τ).loc Cert.RecurSampleIdeal.main_arg13)
      ∧ m' ((c.tc : Thread Cert.RecurSampleReferenceIdeal.nD Cert.RecurSampleReferenceIdeal.τ).loc Cert.RecurSampleReferenceIdeal.main_arg14) = m ((c.tc : Thread Cert.RecurSampleIdeal.nD Cert.RecurSampleIdeal.τ).loc Cert.RecurSampleIdeal.main_arg14)
      ∧ m' ((c.tc : Thread Cert.RecurSampleReferenceIdeal.nD Cert.RecurSampleReferenceIdeal.τ).loc Cert.RecurSampleReferenceIdeal.main_arg15) = m ((c.tc : Thread Cert.RecurSampleIdeal.nD Cert.RecurSampleIdeal.τ).loc Cert.RecurSampleIdeal.main_arg15)) →
    ∃ (v0 : (c : Dev Cert.RecurSampleIdeal.nD) → Buf (Elt Ideal) ((c.tc : Thread Cert.RecurSampleIdeal.nD Cert.RecurSampleIdeal.τ).loc Cert.RecurSampleIdeal.main_v14_2)),
      θ_run (Cert.RecurSampleIdeal.defs (F := Ideal)) (onTc (τ := Cert.RecurSampleIdeal.τ) (Cert.RecurSampleIdeal.main (F := Ideal))) ⟨m, fun _ => 0, g⟩ (fun r => ∀ c : Dev Cert.RecurSampleIdeal.nD,
          r.2.mem ((c.tc : Thread Cert.RecurSampleIdeal.nD Cert.RecurSampleIdeal.τ).loc Cert.RecurSampleIdeal.main_v14_2) = v0 c
          ∧ r.2.mem ((c.tc : Thread Cert.RecurSampleIdeal.nD Cert.RecurSampleIdeal.τ).loc Cert.RecurSampleIdeal.main_arg0) = m ((c.tc : Thread Cert.RecurSampleIdeal.nD Cert.RecurSampleIdeal.τ).loc Cert.RecurSampleIdeal.main_arg0)
          ∧ r.2.mem ((c.tc : Thread Cert.RecurSampleIdeal.nD Cert.RecurSampleIdeal.τ).loc Cert.RecurSampleIdeal.main_arg1) = m ((c.tc : Thread Cert.RecurSampleIdeal.nD Cert.RecurSampleIdeal.τ).loc Cert.RecurSampleIdeal.main_arg1)
          ∧ r.2.mem ((c.tc : Thread Cert.RecurSampleIdeal.nD Cert.RecurSampleIdeal.τ).loc Cert.RecurSampleIdeal.main_arg2) = m ((c.tc : Thread Cert.RecurSampleIdeal.nD Cert.RecurSampleIdeal.τ).loc Cert.RecurSampleIdeal.main_arg2)
          ∧ r.2.mem ((c.tc : Thread Cert.RecurSampleIdeal.nD Cert.RecurSampleIdeal.τ).loc Cert.RecurSampleIdeal.main_arg3) = m ((c.tc : Thread Cert.RecurSampleIdeal.nD Cert.RecurSampleIdeal.τ).loc Cert.RecurSampleIdeal.main_arg3)
          ∧ r.2.mem ((c.tc : Thread Cert.RecurSampleIdeal.nD Cert.RecurSampleIdeal.τ).loc Cert.RecurSampleIdeal.main_arg4) = m ((c.tc : Thread Cert.RecurSampleIdeal.nD Cert.RecurSampleIdeal.τ).loc Cert.RecurSampleIdeal.main_arg4)
          ∧ r.2.mem ((c.tc : Thread Cert.RecurSampleIdeal.nD Cert.RecurSampleIdeal.τ).loc Cert.RecurSampleIdeal.main_arg5) = m ((c.tc : Thread Cert.RecurSampleIdeal.nD Cert.RecurSampleIdeal.τ).loc Cert.RecurSampleIdeal.main_arg5)
          ∧ r.2.mem ((c.tc : Thread Cert.RecurSampleIdeal.nD Cert.RecurSampleIdeal.τ).loc Cert.RecurSampleIdeal.main_arg6) = m ((c.tc : Thread Cert.RecurSampleIdeal.nD Cert.RecurSampleIdeal.τ).loc Cert.RecurSampleIdeal.main_arg6)
          ∧ r.2.mem ((c.tc : Thread Cert.RecurSampleIdeal.nD Cert.RecurSampleIdeal.τ).loc Cert.RecurSampleIdeal.main_arg7) = m ((c.tc : Thread Cert.RecurSampleIdeal.nD Cert.RecurSampleIdeal.τ).loc Cert.RecurSampleIdeal.main_arg7)
          ∧ r.2.mem ((c.tc : Thread Cert.RecurSampleIdeal.nD Cert.RecurSampleIdeal.τ).loc Cert.RecurSampleIdeal.main_arg8) = m ((c.tc : Thread Cert.RecurSampleIdeal.nD Cert.RecurSampleIdeal.τ).loc Cert.RecurSampleIdeal.main_arg8)
          ∧ r.2.mem ((c.tc : Thread Cert.RecurSampleIdeal.nD Cert.RecurSampleIdeal.τ).loc Cert.RecurSampleIdeal.main_arg9) = m ((c.tc : Thread Cert.RecurSampleIdeal.nD Cert.RecurSampleIdeal.τ).loc Cert.RecurSampleIdeal.main_arg9)
          ∧ r.2.mem ((c.tc : Thread Cert.RecurSampleIdeal.nD Cert.RecurSampleIdeal.τ).loc Cert.RecurSampleIdeal.main_arg10) = m ((c.tc : Thread Cert.RecurSampleIdeal.nD Cert.RecurSampleIdeal.τ).loc Cert.RecurSampleIdeal.main_arg10)
          ∧ r.2.mem ((c.tc : Thread Cert.RecurSampleIdeal.nD Cert.RecurSampleIdeal.τ).loc Cert.RecurSampleIdeal.main_arg11) = m ((c.tc : Thread Cert.RecurSampleIdeal.nD Cert.RecurSampleIdeal.τ).loc Cert.RecurSampleIdeal.main_arg11)
          ∧ r.2.mem ((c.tc : Thread Cert.RecurSampleIdeal.nD Cert.RecurSampleIdeal.τ).loc Cert.RecurSampleIdeal.main_arg12) = m ((c.tc : Thread Cert.RecurSampleIdeal.nD Cert.RecurSampleIdeal.τ).loc Cert.RecurSampleIdeal.main_arg12)
          ∧ r.2.mem ((c.tc : Thread Cert.RecurSampleIdeal.nD Cert.RecurSampleIdeal.τ).loc Cert.RecurSampleIdeal.main_arg13) = m ((c.tc : Thread Cert.RecurSampleIdeal.nD Cert.RecurSampleIdeal.τ).loc Cert.RecurSampleIdeal.main_arg13)
          ∧ r.2.mem ((c.tc : Thread Cert.RecurSampleIdeal.nD Cert.RecurSampleIdeal.τ).loc Cert.RecurSampleIdeal.main_arg14) = m ((c.tc : Thread Cert.RecurSampleIdeal.nD Cert.RecurSampleIdeal.τ).loc Cert.RecurSampleIdeal.main_arg14)
          ∧ r.2.mem ((c.tc : Thread Cert.RecurSampleIdeal.nD Cert.RecurSampleIdeal.τ).loc Cert.RecurSampleIdeal.main_arg15) = m ((c.tc : Thread Cert.RecurSampleIdeal.nD Cert.RecurSampleIdeal.τ).loc Cert.RecurSampleIdeal.main_arg15))
      ∧ θ_run (Cert.RecurSampleReferenceIdeal.defs (F := Ideal)) (onTc (τ := Cert.RecurSampleReferenceIdeal.τ) (Cert.RecurSampleReferenceIdeal.main (F := Ideal))) ⟨m', fun _ => 0, g'⟩ (fun r => ∀ c : Dev Cert.RecurSampleReferenceIdeal.nD,
          r.2.mem ((c.tc : Thread Cert.RecurSampleReferenceIdeal.nD Cert.RecurSampleReferenceIdeal.τ).loc Cert.RecurSampleReferenceIdeal.main_v20) = v0 c
          ∧ r.2.mem ((c.tc : Thread Cert.RecurSampleReferenceIdeal.nD Cert.RecurSampleReferenceIdeal.τ).loc Cert.RecurSampleReferenceIdeal.main_arg0) = m' ((c.tc : Thread Cert.RecurSampleReferenceIdeal.nD Cert.RecurSampleReferenceIdeal.τ).loc Cert.RecurSampleReferenceIdeal.main_arg0)
          ∧ r.2.mem ((c.tc : Thread Cert.RecurSampleReferenceIdeal.nD Cert.RecurSampleReferenceIdeal.τ).loc Cert.RecurSampleReferenceIdeal.main_arg1) = m' ((c.tc : Thread Cert.RecurSampleReferenceIdeal.nD Cert.RecurSampleReferenceIdeal.τ).loc Cert.RecurSampleReferenceIdeal.main_arg1)
          ∧ r.2.mem ((c.tc : Thread Cert.RecurSampleReferenceIdeal.nD Cert.RecurSampleReferenceIdeal.τ).loc Cert.RecurSampleReferenceIdeal.main_arg2) = m' ((c.tc : Thread Cert.RecurSampleReferenceIdeal.nD Cert.RecurSampleReferenceIdeal.τ).loc Cert.RecurSampleReferenceIdeal.main_arg2)
          ∧ r.2.mem ((c.tc : Thread Cert.RecurSampleReferenceIdeal.nD Cert.RecurSampleReferenceIdeal.τ).loc Cert.RecurSampleReferenceIdeal.main_arg3) = m' ((c.tc : Thread Cert.RecurSampleReferenceIdeal.nD Cert.RecurSampleReferenceIdeal.τ).loc Cert.RecurSampleReferenceIdeal.main_arg3)
          ∧ r.2.mem ((c.tc : Thread Cert.RecurSampleReferenceIdeal.nD Cert.RecurSampleReferenceIdeal.τ).loc Cert.RecurSampleReferenceIdeal.main_arg4) = m' ((c.tc : Thread Cert.RecurSampleReferenceIdeal.nD Cert.RecurSampleReferenceIdeal.τ).loc Cert.RecurSampleReferenceIdeal.main_arg4)
          ∧ r.2.mem ((c.tc : Thread Cert.RecurSampleReferenceIdeal.nD Cert.RecurSampleReferenceIdeal.τ).loc Cert.RecurSampleReferenceIdeal.main_arg5) = m' ((c.tc : Thread Cert.RecurSampleReferenceIdeal.nD Cert.RecurSampleReferenceIdeal.τ).loc Cert.RecurSampleReferenceIdeal.main_arg5)
          ∧ r.2.mem ((c.tc : Thread Cert.RecurSampleReferenceIdeal.nD Cert.RecurSampleReferenceIdeal.τ).loc Cert.RecurSampleReferenceIdeal.main_arg6) = m' ((c.tc : Thread Cert.RecurSampleReferenceIdeal.nD Cert.RecurSampleReferenceIdeal.τ).loc Cert.RecurSampleReferenceIdeal.main_arg6)
          ∧ r.2.mem ((c.tc : Thread Cert.RecurSampleReferenceIdeal.nD Cert.RecurSampleReferenceIdeal.τ).loc Cert.RecurSampleReferenceIdeal.main_arg7) = m' ((c.tc : Thread Cert.RecurSampleReferenceIdeal.nD Cert.RecurSampleReferenceIdeal.τ).loc Cert.RecurSampleReferenceIdeal.main_arg7)
          ∧ r.2.mem ((c.tc : Thread Cert.RecurSampleReferenceIdeal.nD Cert.RecurSampleReferenceIdeal.τ).loc Cert.RecurSampleReferenceIdeal.main_arg8) = m' ((c.tc : Thread Cert.RecurSampleReferenceIdeal.nD Cert.RecurSampleReferenceIdeal.τ).loc Cert.RecurSampleReferenceIdeal.main_arg8)
          ∧ r.2.mem ((c.tc : Thread Cert.RecurSampleReferenceIdeal.nD Cert.RecurSampleReferenceIdeal.τ).loc Cert.RecurSampleReferenceIdeal.main_arg9) = m' ((c.tc : Thread Cert.RecurSampleReferenceIdeal.nD Cert.RecurSampleReferenceIdeal.τ).loc Cert.RecurSampleReferenceIdeal.main_arg9)
          ∧ r.2.mem ((c.tc : Thread Cert.RecurSampleReferenceIdeal.nD Cert.RecurSampleReferenceIdeal.τ).loc Cert.RecurSampleReferenceIdeal.main_arg10) = m' ((c.tc : Thread Cert.RecurSampleReferenceIdeal.nD Cert.RecurSampleReferenceIdeal.τ).loc Cert.RecurSampleReferenceIdeal.main_arg10)
          ∧ r.2.mem ((c.tc : Thread Cert.RecurSampleReferenceIdeal.nD Cert.RecurSampleReferenceIdeal.τ).loc Cert.RecurSampleReferenceIdeal.main_arg11) = m' ((c.tc : Thread Cert.RecurSampleReferenceIdeal.nD Cert.RecurSampleReferenceIdeal.τ).loc Cert.RecurSampleReferenceIdeal.main_arg11)
          ∧ r.2.mem ((c.tc : Thread Cert.RecurSampleReferenceIdeal.nD Cert.RecurSampleReferenceIdeal.τ).loc Cert.RecurSampleReferenceIdeal.main_arg12) = m' ((c.tc : Thread Cert.RecurSampleReferenceIdeal.nD Cert.RecurSampleReferenceIdeal.τ).loc Cert.RecurSampleReferenceIdeal.main_arg12)
          ∧ r.2.mem ((c.tc : Thread Cert.RecurSampleReferenceIdeal.nD Cert.RecurSampleReferenceIdeal.τ).loc Cert.RecurSampleReferenceIdeal.main_arg13) = m' ((c.tc : Thread Cert.RecurSampleReferenceIdeal.nD Cert.RecurSampleReferenceIdeal.τ).loc Cert.RecurSampleReferenceIdeal.main_arg13)
          ∧ r.2.mem ((c.tc : Thread Cert.RecurSampleReferenceIdeal.nD Cert.RecurSampleReferenceIdeal.τ).loc Cert.RecurSampleReferenceIdeal.main_arg14) = m' ((c.tc : Thread Cert.RecurSampleReferenceIdeal.nD Cert.RecurSampleReferenceIdeal.τ).loc Cert.RecurSampleReferenceIdeal.main_arg14)
          ∧ r.2.mem ((c.tc : Thread Cert.RecurSampleReferenceIdeal.nD Cert.RecurSampleReferenceIdeal.τ).loc Cert.RecurSampleReferenceIdeal.main_arg15) = m' ((c.tc : Thread Cert.RecurSampleReferenceIdeal.nD Cert.RecurSampleReferenceIdeal.τ).loc Cert.RecurSampleReferenceIdeal.main_arg15))

def preserves_ConvMeta_ConvMetaIdeal : Prop :=
  True

def algebraic_ConvMetaIdeal_ConvMetaReferenceIdeal [hConvMetaIdeal : Cert.ConvMetaIdeal.Facts] [hConvMetaReferenceIdeal : Cert.ConvMetaReferenceIdeal.Facts] : Prop :=
  ∀ (m : (ℓ : Loc Cert.ConvMetaIdeal.nD Cert.ConvMetaIdeal.τ Cert.ConvMetaIdeal.sig) → Buf (Elt Ideal) ℓ) (g : Dev Cert.ConvMetaIdeal.nD → PrngReg)
    (m' : (ℓ : Loc Cert.ConvMetaReferenceIdeal.nD Cert.ConvMetaReferenceIdeal.τ Cert.ConvMetaReferenceIdeal.sig) → Buf (Elt Ideal) ℓ) (g' : Dev Cert.ConvMetaReferenceIdeal.nD → PrngReg), Pre_ConvMetaIdeal m →
    (∀ c : Dev Cert.ConvMetaIdeal.nD,
      m' ((c.tc : Thread Cert.ConvMetaReferenceIdeal.nD Cert.ConvMetaReferenceIdeal.τ).loc Cert.ConvMetaReferenceIdeal.main_arg0) = m ((c.tc : Thread Cert.ConvMetaIdeal.nD Cert.ConvMetaIdeal.τ).loc Cert.ConvMetaIdeal.main_arg0)
      ∧ m' ((c.tc : Thread Cert.ConvMetaReferenceIdeal.nD Cert.ConvMetaReferenceIdeal.τ).loc Cert.ConvMetaReferenceIdeal.main_arg1) = m ((c.tc : Thread Cert.ConvMetaIdeal.nD Cert.ConvMetaIdeal.τ).loc Cert.ConvMetaIdeal.main_arg1)
      ∧ m' ((c.tc : Thread Cert.ConvMetaReferenceIdeal.nD Cert.ConvMetaReferenceIdeal.τ).loc Cert.ConvMetaReferenceIdeal.main_arg2) = m ((c.tc : Thread Cert.ConvMetaIdeal.nD Cert.ConvMetaIdeal.τ).loc Cert.ConvMetaIdeal.main_arg2)
      ∧ m' ((c.tc : Thread Cert.ConvMetaReferenceIdeal.nD Cert.ConvMetaReferenceIdeal.τ).loc Cert.ConvMetaReferenceIdeal.main_arg3) = m ((c.tc : Thread Cert.ConvMetaIdeal.nD Cert.ConvMetaIdeal.τ).loc Cert.ConvMetaIdeal.main_arg3)
      ∧ m' ((c.tc : Thread Cert.ConvMetaReferenceIdeal.nD Cert.ConvMetaReferenceIdeal.τ).loc Cert.ConvMetaReferenceIdeal.main_arg4) = m ((c.tc : Thread Cert.ConvMetaIdeal.nD Cert.ConvMetaIdeal.τ).loc Cert.ConvMetaIdeal.main_arg4)) →
    ∃ (v0 : (c : Dev Cert.ConvMetaIdeal.nD) → Buf (Elt Ideal) ((c.tc : Thread Cert.ConvMetaIdeal.nD Cert.ConvMetaIdeal.τ).loc Cert.ConvMetaIdeal.main_v4_0)) (v1 : (c : Dev Cert.ConvMetaIdeal.nD) → Buf (Elt Ideal) ((c.tc : Thread Cert.ConvMetaIdeal.nD Cert.ConvMetaIdeal.τ).loc Cert.ConvMetaIdeal.main_v4_1)),
      θ_run (Cert.ConvMetaIdeal.defs (F := Ideal)) (onTc (τ := Cert.ConvMetaIdeal.τ) (Cert.ConvMetaIdeal.main (F := Ideal))) ⟨m, fun _ => 0, g⟩ (fun r => ∀ c : Dev Cert.ConvMetaIdeal.nD,
          r.2.mem ((c.tc : Thread Cert.ConvMetaIdeal.nD Cert.ConvMetaIdeal.τ).loc Cert.ConvMetaIdeal.main_v4_0) = v0 c
          ∧ r.2.mem ((c.tc : Thread Cert.ConvMetaIdeal.nD Cert.ConvMetaIdeal.τ).loc Cert.ConvMetaIdeal.main_v4_1) = v1 c
          ∧ r.2.mem ((c.tc : Thread Cert.ConvMetaIdeal.nD Cert.ConvMetaIdeal.τ).loc Cert.ConvMetaIdeal.main_arg0) = m ((c.tc : Thread Cert.ConvMetaIdeal.nD Cert.ConvMetaIdeal.τ).loc Cert.ConvMetaIdeal.main_arg0)
          ∧ r.2.mem ((c.tc : Thread Cert.ConvMetaIdeal.nD Cert.ConvMetaIdeal.τ).loc Cert.ConvMetaIdeal.main_arg1) = m ((c.tc : Thread Cert.ConvMetaIdeal.nD Cert.ConvMetaIdeal.τ).loc Cert.ConvMetaIdeal.main_arg1)
          ∧ r.2.mem ((c.tc : Thread Cert.ConvMetaIdeal.nD Cert.ConvMetaIdeal.τ).loc Cert.ConvMetaIdeal.main_arg2) = m ((c.tc : Thread Cert.ConvMetaIdeal.nD Cert.ConvMetaIdeal.τ).loc Cert.ConvMetaIdeal.main_arg2)
          ∧ r.2.mem ((c.tc : Thread Cert.ConvMetaIdeal.nD Cert.ConvMetaIdeal.τ).loc Cert.ConvMetaIdeal.main_arg3) = m ((c.tc : Thread Cert.ConvMetaIdeal.nD Cert.ConvMetaIdeal.τ).loc Cert.ConvMetaIdeal.main_arg3)
          ∧ r.2.mem ((c.tc : Thread Cert.ConvMetaIdeal.nD Cert.ConvMetaIdeal.τ).loc Cert.ConvMetaIdeal.main_arg4) = m ((c.tc : Thread Cert.ConvMetaIdeal.nD Cert.ConvMetaIdeal.τ).loc Cert.ConvMetaIdeal.main_arg4))
      ∧ θ_run (Cert.ConvMetaReferenceIdeal.defs (F := Ideal)) (onTc (τ := Cert.ConvMetaReferenceIdeal.τ) (Cert.ConvMetaReferenceIdeal.main (F := Ideal))) ⟨m', fun _ => 0, g'⟩ (fun r => ∀ c : Dev Cert.ConvMetaReferenceIdeal.nD,
          r.2.mem ((c.tc : Thread Cert.ConvMetaReferenceIdeal.nD Cert.ConvMetaReferenceIdeal.τ).loc Cert.ConvMetaReferenceIdeal.main_v45) = v0 c
          ∧ r.2.mem ((c.tc : Thread Cert.ConvMetaReferenceIdeal.nD Cert.ConvMetaReferenceIdeal.τ).loc Cert.ConvMetaReferenceIdeal.main_v47) = v1 c
          ∧ r.2.mem ((c.tc : Thread Cert.ConvMetaReferenceIdeal.nD Cert.ConvMetaReferenceIdeal.τ).loc Cert.ConvMetaReferenceIdeal.main_arg0) = m' ((c.tc : Thread Cert.ConvMetaReferenceIdeal.nD Cert.ConvMetaReferenceIdeal.τ).loc Cert.ConvMetaReferenceIdeal.main_arg0)
          ∧ r.2.mem ((c.tc : Thread Cert.ConvMetaReferenceIdeal.nD Cert.ConvMetaReferenceIdeal.τ).loc Cert.ConvMetaReferenceIdeal.main_arg1) = m' ((c.tc : Thread Cert.ConvMetaReferenceIdeal.nD Cert.ConvMetaReferenceIdeal.τ).loc Cert.ConvMetaReferenceIdeal.main_arg1)
          ∧ r.2.mem ((c.tc : Thread Cert.ConvMetaReferenceIdeal.nD Cert.ConvMetaReferenceIdeal.τ).loc Cert.ConvMetaReferenceIdeal.main_arg2) = m' ((c.tc : Thread Cert.ConvMetaReferenceIdeal.nD Cert.ConvMetaReferenceIdeal.τ).loc Cert.ConvMetaReferenceIdeal.main_arg2)
          ∧ r.2.mem ((c.tc : Thread Cert.ConvMetaReferenceIdeal.nD Cert.ConvMetaReferenceIdeal.τ).loc Cert.ConvMetaReferenceIdeal.main_arg3) = m' ((c.tc : Thread Cert.ConvMetaReferenceIdeal.nD Cert.ConvMetaReferenceIdeal.τ).loc Cert.ConvMetaReferenceIdeal.main_arg3)
          ∧ r.2.mem ((c.tc : Thread Cert.ConvMetaReferenceIdeal.nD Cert.ConvMetaReferenceIdeal.τ).loc Cert.ConvMetaReferenceIdeal.main_arg4) = m' ((c.tc : Thread Cert.ConvMetaReferenceIdeal.nD Cert.ConvMetaReferenceIdeal.τ).loc Cert.ConvMetaReferenceIdeal.main_arg4))

def Claim : Prop :=
  ∃ (hKernel : Cert.Kernel.Facts) (hFfn : Cert.Ffn.Facts) (hFfnIdeal : Cert.FfnIdeal.Facts) (hFfnReferenceIdeal : Cert.FfnReferenceIdeal.Facts) (hInner : Cert.Inner.Facts) (hInnerIdeal : Cert.InnerIdeal.Facts) (hInnerReferenceIdeal : Cert.InnerReferenceIdeal.Facts) (hProj : Cert.Proj.Facts) (hProjIdeal : Cert.ProjIdeal.Facts) (hProjReferenceIdeal : Cert.ProjReferenceIdeal.Facts) (hConv : Cert.Conv.Facts) (hConvIdeal : Cert.ConvIdeal.Facts) (hConvReferenceIdeal : Cert.ConvReferenceIdeal.Facts) (hFfnTail : Cert.FfnTail.Facts) (hFfnTailIdeal : Cert.FfnTailIdeal.Facts) (hFfnTailReferenceIdeal : Cert.FfnTailReferenceIdeal.Facts) (hProjTail : Cert.ProjTail.Facts) (hProjTailIdeal : Cert.ProjTailIdeal.Facts) (hProjTailReferenceIdeal : Cert.ProjTailReferenceIdeal.Facts) (hConvSample : Cert.ConvSample.Facts) (hConvSampleIdeal : Cert.ConvSampleIdeal.Facts) (hConvSampleReferenceIdeal : Cert.ConvSampleReferenceIdeal.Facts) (hRecur : Cert.Recur.Facts) (hRecurIdeal : Cert.RecurIdeal.Facts) (hRecurReferenceIdeal : Cert.RecurReferenceIdeal.Facts) (hRecurSample : Cert.RecurSample.Facts) (hRecurSampleIdeal : Cert.RecurSampleIdeal.Facts) (hRecurSampleReferenceIdeal : Cert.RecurSampleReferenceIdeal.Facts) (hConvMeta : Cert.ConvMeta.Facts) (hConvMetaIdeal : Cert.ConvMetaIdeal.Facts) (hConvMetaReferenceIdeal : Cert.ConvMetaReferenceIdeal.Facts),
    quiescent_Kernel (hKernel := hKernel)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Inner (hInner := hInner)
    ∧ quiescent_InnerIdeal (hInnerIdeal := hInnerIdeal)
    ∧ quiescent_InnerReferenceIdeal (hInnerReferenceIdeal := hInnerReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_FfnTail (hFfnTail := hFfnTail)
    ∧ quiescent_FfnTailIdeal (hFfnTailIdeal := hFfnTailIdeal)
    ∧ quiescent_FfnTailReferenceIdeal (hFfnTailReferenceIdeal := hFfnTailReferenceIdeal)
    ∧ quiescent_ProjTail (hProjTail := hProjTail)
    ∧ quiescent_ProjTailIdeal (hProjTailIdeal := hProjTailIdeal)
    ∧ quiescent_ProjTailReferenceIdeal (hProjTailReferenceIdeal := hProjTailReferenceIdeal)
    ∧ quiescent_ConvSample (hConvSample := hConvSample)
    ∧ quiescent_ConvSampleIdeal (hConvSampleIdeal := hConvSampleIdeal)
    ∧ quiescent_ConvSampleReferenceIdeal (hConvSampleReferenceIdeal := hConvSampleReferenceIdeal)
    ∧ quiescent_Recur (hRecur := hRecur)
    ∧ quiescent_RecurIdeal (hRecurIdeal := hRecurIdeal)
    ∧ quiescent_RecurReferenceIdeal (hRecurReferenceIdeal := hRecurReferenceIdeal)
    ∧ quiescent_RecurSample (hRecurSample := hRecurSample)
    ∧ quiescent_RecurSampleIdeal (hRecurSampleIdeal := hRecurSampleIdeal)
    ∧ quiescent_RecurSampleReferenceIdeal (hRecurSampleReferenceIdeal := hRecurSampleReferenceIdeal)
    ∧ quiescent_ConvMeta (hConvMeta := hConvMeta)
    ∧ quiescent_ConvMetaIdeal (hConvMetaIdeal := hConvMetaIdeal)
    ∧ quiescent_ConvMetaReferenceIdeal (hConvMetaReferenceIdeal := hConvMetaReferenceIdeal)
    ∧ preserves_Ffn_FfnIdeal
    ∧ algebraic_FfnIdeal_FfnReferenceIdeal (hFfnIdeal := hFfnIdeal) (hFfnReferenceIdeal := hFfnReferenceIdeal)
    ∧ preserves_Inner_InnerIdeal
    ∧ algebraic_InnerIdeal_InnerReferenceIdeal (hInnerIdeal := hInnerIdeal) (hInnerReferenceIdeal := hInnerReferenceIdeal)
    ∧ preserves_Proj_ProjIdeal
    ∧ algebraic_ProjIdeal_ProjReferenceIdeal (hProjIdeal := hProjIdeal) (hProjReferenceIdeal := hProjReferenceIdeal)
    ∧ preserves_Conv_ConvIdeal
    ∧ algebraic_ConvIdeal_ConvReferenceIdeal (hConvIdeal := hConvIdeal) (hConvReferenceIdeal := hConvReferenceIdeal)
    ∧ preserves_FfnTail_FfnTailIdeal
    ∧ algebraic_FfnTailIdeal_FfnTailReferenceIdeal (hFfnTailIdeal := hFfnTailIdeal) (hFfnTailReferenceIdeal := hFfnTailReferenceIdeal)
    ∧ preserves_ProjTail_ProjTailIdeal
    ∧ algebraic_ProjTailIdeal_ProjTailReferenceIdeal (hProjTailIdeal := hProjTailIdeal) (hProjTailReferenceIdeal := hProjTailReferenceIdeal)
    ∧ preserves_ConvSample_ConvSampleIdeal
    ∧ algebraic_ConvSampleIdeal_ConvSampleReferenceIdeal (hConvSampleIdeal := hConvSampleIdeal) (hConvSampleReferenceIdeal := hConvSampleReferenceIdeal)
    ∧ preserves_Recur_RecurIdeal
    ∧ algebraic_RecurIdeal_RecurReferenceIdeal (hRecurIdeal := hRecurIdeal) (hRecurReferenceIdeal := hRecurReferenceIdeal)
    ∧ preserves_RecurSample_RecurSampleIdeal
    ∧ algebraic_RecurSampleIdeal_RecurSampleReferenceIdeal (hRecurSampleIdeal := hRecurSampleIdeal) (hRecurSampleReferenceIdeal := hRecurSampleReferenceIdeal)
    ∧ preserves_ConvMeta_ConvMetaIdeal
    ∧ algebraic_ConvMetaIdeal_ConvMetaReferenceIdeal (hConvMetaIdeal := hConvMetaIdeal) (hConvMetaReferenceIdeal := hConvMetaReferenceIdeal)
-- ==== Kernel.lean ====
abbrev S16x1x128 : Shape := ⟨3, ![16, 1, 128]⟩
abbrev S256x1024x128 : Shape := ⟨3, ![256, 1024, 128]⟩
abbrev S256x512x128 : Shape := ⟨3, ![256, 512, 128]⟩
abbrev S256x8x128 : Shape := ⟨3, ![256, 8, 128]⟩
abbrev S32768x256 : Shape := ⟨2, ![32768, 256]⟩
abbrev S256x256x128 : Shape := ⟨3, ![256, 256, 128]⟩
abbrev S32768x64 : Shape := ⟨2, ![32768, 64]⟩
abbrev S128x256 : Shape := ⟨2, ![128, 256]⟩
abbrev S256x128 : Shape := ⟨2, ![256, 128]⟩
abbrev S128x64 : Shape := ⟨2, ![128, 64]⟩
abbrev S16x256x128 : Shape := ⟨3, ![16, 256, 128]⟩
abbrev S32768x1024 : Shape := ⟨2, ![32768, 1024]⟩
abbrev S4x1x128 : Shape := ⟨3, ![4, 1, 128]⟩
abbrev S4x1024x128 : Shape := ⟨3, ![4, 1024, 128]⟩
abbrev S4x512x128 : Shape := ⟨3, ![4, 512, 128]⟩
abbrev S4x8x128 : Shape := ⟨3, ![4, 8, 128]⟩
abbrev S2048x256 : Shape := ⟨2, ![2048, 256]⟩
abbrev S2048x64 : Shape := ⟨2, ![2048, 64]⟩
abbrev S512x1024 : Shape := ⟨2, ![512, 1024]⟩
abbrev S2560x128 : Shape := ⟨2, ![2560, 128]⟩
abbrev S2560x2048 : Shape := ⟨2, ![2560, 2048]⟩
abbrev S4x80x512 : Shape := ⟨3, ![4, 80, 512]⟩
abbrev S4x2560x64 : Shape := ⟨3, ![4, 2560, 64]⟩
abbrev S320x2560 : Shape := ⟨2, ![320, 2560]⟩
abbrev S2560x64 : Shape := ⟨2, ![2560, 64]⟩
abbrev S384x64 : Shape := ⟨2, ![384, 64]⟩
abbrev S1x128x64 : Shape := ⟨3, ![1, 128, 64]⟩
abbrev S256x64 : Shape := ⟨2, ![256, 64]⟩
abbrev S1x256x64 : Shape := ⟨3, ![1, 256, 64]⟩
abbrev S1x384x64 : Shape := ⟨3, ![1, 384, 64]⟩
abbrev S64x128 : Shape := ⟨2, ![64, 128]⟩
abbrev S1x64x128 : Shape := ⟨3, ![1, 64, 128]⟩
abbrev S64x384 : Shape := ⟨2, ![64, 384]⟩
abbrev S16x2560 : Shape := ⟨2, ![16, 2560]⟩
abbrev S1x1x128 : Shape := ⟨3, ![1, 1, 128]⟩
abbrev S1x128 : Shape := ⟨2, ![1, 128]⟩
abbrev S64x1024 : Shape := ⟨2, ![64, 1024]⟩
abbrev S1x8x128 : Shape := ⟨3, ![1, 8, 128]⟩
abbrev S8x128 : Shape := ⟨2, ![8, 128]⟩
abbrev S256x1024 : Shape := ⟨2, ![256, 1024]⟩
abbrev S16x128 : Shape := ⟨2, ![16, 128]⟩
abbrev S1x16x128 : Shape := ⟨3, ![1, 16, 128]⟩
abbrev S512x128 : Shape := ⟨2, ![512, 128]⟩
abbrev S32x16x128 : Shape := ⟨3, ![32, 16, 128]⟩
abbrev S128 : Shape := ⟨1, ![128]⟩
abbrev S1 : Shape := ⟨1, ![1]⟩
abbrev S1x1x1 : Shape := ⟨3, ![1, 1, 1]⟩
abbrev S32x8x128 : Shape := ⟨3, ![32, 8, 128]⟩
abbrev S64x512 : Shape := ⟨2, ![64, 512]⟩
abbrev S8x512 : Shape := ⟨2, ![8, 512]⟩
abbrev S256x512 : Shape := ⟨2, ![256, 512]⟩
abbrev S32x8x512 : Shape := ⟨3, ![32, 8, 512]⟩
abbrev S128x128 : Shape := ⟨2, ![128, 128]⟩
abbrev S128x512 : Shape := ⟨2, ![128, 512]⟩
abbrev S16x8x512 : Shape := ⟨3, ![16, 8, 512]⟩
abbrev S1x256x128 : Shape := ⟨3, ![1, 256, 128]⟩
abbrev S512 : Shape := ⟨1, ![512]⟩
abbrev S1x512 : Shape := ⟨2, ![1, 512]⟩
abbrev S128x2048 : Shape := ⟨2, ![128, 2048]⟩
abbrev S1x80x512 : Shape := ⟨3, ![1, 80, 512]⟩
abbrev S80x512 : Shape := ⟨2, ![80, 512]⟩
abbrev S80x256 : Shape := ⟨2, ![80, 256]⟩
abbrev S1x64x512 : Shape := ⟨3, ![1, 64, 512]⟩
abbrev S1x1x512 : Shape := ⟨3, ![1, 1, 512]⟩
abbrev S1024x128 : Shape := ⟨2, ![1024, 128]⟩
abbrev S128x1024 : Shape := ⟨2, ![128, 1024]⟩

abbrev nBuf : Space → Nat
  | .hbm => 12
  | .vmem => 29
  | .smem => 0
  | _ => 0

abbrev bufTy : (tb : Table) → Fin (tcTables nBuf tb) → BufTy
  | .hbm, ⟨0, _⟩ => ⟨S16x1x128, .i32⟩
  | .hbm, ⟨1, _⟩ => ⟨S256x1024x128, .bf16⟩
  | .hbm, ⟨2, _⟩ => ⟨S256x512x128, .bf16⟩
  | .hbm, ⟨3, _⟩ => ⟨S256x8x128, .f32⟩
  | .hbm, ⟨4, _⟩ => ⟨S32768x256, .bf16⟩
  | .hbm, ⟨5, _⟩ => ⟨S256x256x128, .bf16⟩
  | .hbm, ⟨6, _⟩ => ⟨S32768x64, .bf16⟩
  | .hbm, ⟨7, _⟩ => ⟨S128x256, .bf16⟩
  | .hbm, ⟨8, _⟩ => ⟨S256x128, .bf16⟩
  | .hbm, ⟨9, _⟩ => ⟨S128x64, .bf16⟩
  | .hbm, ⟨10, _⟩ => ⟨S16x256x128, .f32⟩
  | .hbm, ⟨11, _⟩ => ⟨S32768x1024, .bf16⟩
  | .local _ .vmem, ⟨0, _⟩ => ⟨S4x1x128, .i32⟩
  | .local _ .vmem, ⟨1, _⟩ => ⟨S4x1x128, .i32⟩
  | .local _ .vmem, ⟨2, _⟩ => ⟨S4x1024x128, .bf16⟩
  | .local _ .vmem, ⟨3, _⟩ => ⟨S4x1024x128, .bf16⟩
  | .local _ .vmem, ⟨4, _⟩ => ⟨S4x512x128, .bf16⟩
  | .local _ .vmem, ⟨5, _⟩ => ⟨S4x512x128, .bf16⟩
  | .local _ .vmem, ⟨6, _⟩ => ⟨S4x8x128, .f32⟩
  | .local _ .vmem, ⟨7, _⟩ => ⟨S4x8x128, .f32⟩
  | .local _ .vmem, ⟨8, _⟩ => ⟨S2048x256, .bf16⟩
  | .local _ .vmem, ⟨9, _⟩ => ⟨S2048x256, .bf16⟩
  | .local _ .vmem, ⟨10, _⟩ => ⟨S16x256x128, .bf16⟩
  | .local _ .vmem, ⟨11, _⟩ => ⟨S16x256x128, .bf16⟩
  | .local _ .vmem, ⟨12, _⟩ => ⟨S2048x64, .bf16⟩
  | .local _ .vmem, ⟨13, _⟩ => ⟨S2048x64, .bf16⟩
  | .local _ .vmem, ⟨14, _⟩ => ⟨S128x256, .bf16⟩
  | .local _ .vmem, ⟨15, _⟩ => ⟨S256x128, .bf16⟩
  | .local _ .vmem, ⟨16, _⟩ => ⟨S128x64, .bf16⟩
  | .local _ .vmem, ⟨17, _⟩ => ⟨S16x256x128, .f32⟩
  | .local _ .vmem, ⟨18, _⟩ => ⟨S512x1024, .bf16⟩
  | .local _ .vmem, ⟨19, _⟩ => ⟨S512x1024, .bf16⟩
  | .local _ .vmem, ⟨20, _⟩ => ⟨S2560x128, .i32⟩
  | .local _ .vmem, ⟨21, _⟩ => ⟨S2560x128, .i16⟩
  | .local _ .vmem, ⟨22, _⟩ => ⟨S2560x128, .i16⟩
  | .local _ .vmem, ⟨23, _⟩ => ⟨S2560x128, .i16⟩
  | .local _ .vmem, ⟨24, _⟩ => ⟨S2560x2048, .f32⟩
  | .local _ .vmem, ⟨25, _⟩ => ⟨S4x80x512, .f32⟩
  | .local _ .vmem, ⟨26, _⟩ => ⟨S4x2560x64, .bf16⟩
  | .local _ .vmem, ⟨27, _⟩ => ⟨S320x2560, .bf16⟩
  | .local _ .vmem, ⟨28, _⟩ => ⟨S2560x64, .bf16⟩
  | _, _ => ⟨S16x1x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [BitOps F]

abbrev grid0 : Pipeline.Grid := ⟨2, ![16, 4], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg23 : BitVec 32 := Scf.iv c0_i32 c1_i32 k0_t1
  let v27 : Index := Scalar.indexCast arg23
  let c0 : Index := 0#32
  let c0_14 : Index := 0#32
  ![v27.toNat, 0, 0]
def k0_off2 (k0_t1 : Fin k0_t1_loop.trips) : Fin 3 → Nat :=
  let c0_i32 : BitVec 32 := 0#32
  let c1_i32 : BitVec 32 := 1#32
  let arg23 : BitVec 32 := Scf.iv c0_i32 c1_i32 k0_t1
  let v30 : Index := Scalar.indexCast arg23
  let c0_15 : Index := 0#32
  let c0_16 : Index := 0#32
  ![v30.toNat, 0, 0]
def k0_off3 (k0_t1 : Fin k0_t1_loop.trips) : Fin 3 → Nat :=
  let c0_i32 : BitVec 32 := 0#32
  let c1_i32 : BitVec 32 := 1#32
  let arg23 : BitVec 32 := Scf.iv c0_i32 c1_i32 k0_t1
  let v33 : Index := Scalar.indexCast arg23
  let c64 : Index := 64#32
  let c0_17 : Index := 0#32
  ![v33.toNat, 64, 0]
def k0_off4 (k0_t1 : Fin k0_t1_loop.trips) : Fin 3 → Nat :=
  let c0_i32 : BitVec 32 := 0#32
  let c1_i32 : BitVec 32 := 1#32
  let arg23 : BitVec 32 := Scf.iv c0_i32 c1_i32 k0_t1
  let v36 : Index := Scalar.indexCast arg23
  let c128 : Index := 128#32
  let c0_18 : Index := 0#32
  ![v36.toNat, 128, 0]
def k0_off5 (k0_t1 : Fin k0_t1_loop.trips) : Fin 3 → Nat :=
  let c0_i32 : BitVec 32 := 0#32
  let c1_i32 : BitVec 32 := 1#32
  let arg23 : BitVec 32 := Scf.iv c0_i32 c1_i32 k0_t1
  let v39 : Index := Scalar.indexCast arg23
  let c192 : Index := 192#32
  let c0_19 : Index := 0#32
  ![v39.toNat, 192, 0]
def k0_off6 (k0_t1 : Fin k0_t1_loop.trips) : Fin 3 → Nat :=
  let c0_i32 : BitVec 32 := 0#32
  let c1_i32 : BitVec 32 := 1#32
  let arg23 : BitVec 32 := Scf.iv c0_i32 c1_i32 k0_t1
  let v42 : Index := Scalar.indexCast arg23
  let c256 : Index := 256#32
  let c0_20 : Index := 0#32
  ![v42.toNat, 256, 0]
def k0_off7 (k0_t1 : Fin k0_t1_loop.trips) : Fin 3 → Nat :=
  let c0_i32 : BitVec 32 := 0#32
  let c1_i32 : BitVec 32 := 1#32
  let arg23 : BitVec 32 := Scf.iv c0_i32 c1_i32 k0_t1
  let v45 : Index := Scalar.indexCast arg23
  let c320 : Index := 320#32
  let c0_21 : Index := 0#32
  ![v45.toNat, 320, 0]
def k0_off8 (k0_t1 : Fin k0_t1_loop.trips) : Fin 3 → Nat :=
  let c0_i32 : BitVec 32 := 0#32
  let c1_i32 : BitVec 32 := 1#32
  let arg23 : BitVec 32 := Scf.iv c0_i32 c1_i32 k0_t1
  let v48 : Index := Scalar.indexCast arg23
  let c384 : Index := 384#32
  let c0_22 : Index := 0#32
  ![v48.toNat, 384, 0]
def k0_off9 (k0_t1 : Fin k0_t1_loop.trips) : Fin 3 → Nat :=
  let c0_i32 : BitVec 32 := 0#32
  let c1_i32 : BitVec 32 := 1#32
  let arg23 : BitVec 32 := Scf.iv c0_i32 c1_i32 k0_t1
  let v51 : Index := Scalar.indexCast arg23
  let c448 : Index := 448#32
  let c0_23 : Index := 0#32
  ![v51.toNat, 448, 0]
def k0_off10 (k0_t1 : Fin k0_t1_loop.trips) : Fin 3 → Nat :=
  let c0_i32 : BitVec 32 := 0#32
  let c1_i32 : BitVec 32 := 1#32
  let arg23 : BitVec 32 := Scf.iv c0_i32 c1_i32 k0_t1
  let v55 : Index := Scalar.indexCast arg23
  let c0_24 : Index := 0#32
  let c0_25 : Index := 0#32
  ![v55.toNat, 0, 0]
@[reducible] def k0_t2_loop (i : grid0.Coords) (k0_t1 : Fin k0_t1_loop.trips) : Scf.Loop 32 :=
  let c0_i32_34 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_27 : BitVec 32 := 0#32
  let v60 : BitVec 1 := Scalar.cmpi .sgt v26 c0_i32_27
  let v61 : BitVec 32 := Scalar.extui v60
  let c0_i32_28 : BitVec 32 := 0#32
  let v62 : BitVec 1 := Scalar.cmpi .slt v26 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v26 c2_i32_26
  let c0_i32_31 : BitVec 32 := 0#32
  let v72 : BitVec 1 := Scalar.cmpi .ne v71 c0_i32_31
  let v73 : BitVec 1 := Scalar.andi v70 v72
  let v59 : BitVec 32 := Scalar.divsi v26 c2_i32_26
  let c1_i32_32 : BitVec 32 := 1#32
  let v74 : BitVec 32 := Scalar.subi v59 c1_i32_32
  let v75 : BitVec 32 := Scalar.select v73 v74 v59
  let v76 : BitVec 32 := Scalar.subi v75 c0_i32_34
  let c1_i32_35 : BitVec 32 := 1#32
  let v78 : BitVec 32 := Scalar.divsi v76 c1_i32_35
  let v79 : BitVec 32 := Scalar.muli v78 c1_i32_35
  let v80 : BitVec 32 := Scalar.addi c0_i32_34 v79
  let c1_i32_36 : BitVec 32 := 1#32
  ⟨c0_i32_34, v80, c1_i32_36⟩
def k0_mult1 (i : grid0.Coords) (k0_t1 : Fin k0_t1_loop.trips) (k0_t2 : Fin (k0_t2_loop i k0_t1).trips) : BitVec 32 :=
  let c0_i32_34 : BitVec 32 := 0#32
  let c1_i32_36 : BitVec 32 := 1#32
  let arg24 : BitVec 32 := Scf.iv c0_i32_34 c1_i32_36 k0_t2
  let c512_i32 : BitVec 32 := 512#32
  let v511 : BitVec 32 := Scalar.muli arg24 c512_i32
  v511
def k0_off11 (i : grid0.Coords) (k0_t1 : Fin k0_t1_loop.trips) (k0_t2 : Fin (k0_t2_loop i k0_t1).trips) : Fin 2 → Nat :=
  let c0_i32_34 : BitVec 32 := 0#32
  let c1_i32_36 : BitVec 32 := 1#32
  let arg24 : BitVec 32 := Scf.iv c0_i32_34 c1_i32_36 k0_t2
  let c512_i32 : BitVec 32 := 512#32
  let v511 : BitVec 32 := Scalar.muli arg24 c512_i32
  let v512 : BitVec 32 := v511
  let v513 : Index := Scalar.indexCast v512
  let c0_249 : Index := 0#32
  ![v513.toNat, 0]
def k0_off12 (i : grid0.Coords) (k0_t1 : Fin k0_t1_loop.trips) (k0_t2 : Fin (k0_t2_loop i k0_t1).trips) : Fin 2 → Nat :=
  let c0_i32_34 : BitVec 32 := 0#32
  let c1_i32_36 : BitVec 32 := 1#32
  let arg24 : BitVec 32 := Scf.iv c0_i32_34 c1_i32_36 k0_t2
  let c512_i32 : BitVec 32 := 512#32
  let v511 : BitVec 32 := Scalar.muli arg24 c512_i32
  let v512 : BitVec 32 := v511
  let v590 : Index := Scalar.indexCast v512
  let c0_263 : Index := 0#32
  ![v590.toNat, 0]
def k0_off13 (i : grid0.Coords) (k0_t1 : Fin k0_t1_loop.trips) (k0_t2 : Fin (k0_t2_loop i k0_t1).trips) : Fin 2 → Nat :=
  let c0_i32_34 : BitVec 32 := 0#32
  let c1_i32_36 : BitVec 32 := 1#32
  let arg24 : BitVec 32 := Scf.iv c0_i32_34 c1_i32_36 k0_t2
  let c512_i32 : BitVec 32 := 512#32
  let v511 : BitVec 32 := Scalar.muli arg24 c512_i32
  let v512 : BitVec 32 := v511
  let c256_i32 : BitVec 32 := 256#32
  let v610 : BitVec 32 := Scalar.addi v512 c256_i32
  let v611 : Index := Scalar.indexCast v610
  let c0_266 : Index := 0#32
  ![v611.toNat, 0]
def k0_off14 (i : grid0.Coords) (k0_t1 : Fin k0_t1_loop.trips) (k0_t2 : Fin (k0_t2_loop i k0_t1).trips) : Fin 2 → Nat :=
  let c0_i32_34 : BitVec 32 := 0#32
  let c1_i32_36 : BitVec 32 := 1#32
  let arg24 : BitVec 32 := Scf.iv c0_i32_34 c1_i32_36 k0_t2
  let c512_i32 : BitVec 32 := 512#32
  let v511 : BitVec 32 := Scalar.muli arg24 c512_i32
  let v512 : BitVec 32 := v511
  let c256_i32 : BitVec 32 := 256#32
  let v610 : BitVec 32 := Scalar.addi v512 c256_i32
  let v688 : Index := Scalar.indexCast v610
  let c0_282 : Index := 0#32
  ![v688.toNat, 0]
@[reducible] def k0_t3_loop (i : grid0.Coords) (k0_t1 : Fin k0_t1_loop.trips) : Scf.Loop 32 :=
  let c0_i32_34 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_27 : BitVec 32 := 0#32
  let v60 : BitVec 1 := Scalar.cmpi .sgt v26 c0_i32_27
  let v61 : BitVec 32 := Scalar.extui v60
  let c0_i32_28 : BitVec 32 := 0#32
  let v62 : BitVec 1 := Scalar.cmpi .slt v26 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v26 c2_i32_26
  let c0_i32_31 : BitVec 32 := 0#32
  let v72 : BitVec 1 := Scalar.cmpi .ne v71 c0_i32_31
  let v73 : BitVec 1 := Scalar.andi v70 v72
  let v59 : BitVec 32 := Scalar.divsi v26 c2_i32_26
  let c1_i32_32 : BitVec 32 := 1#32
  let v74 : BitVec 32 := Scalar.subi v59 c1_i32_32
  let v75 : BitVec 32 := Scalar.select v73 v74 v59
  let v76 : BitVec 32 := Scalar.subi v75 c0_i32_34
  let c1_i32_35 : BitVec 32 := 1#32
  let v78 : BitVec 32 := Scalar.divsi v76 c1_i32_35
  let v79 : BitVec 32 := Scalar.muli v78 c1_i32_35
  let v80 : BitVec 32 := Scalar.addi c0_i32_34 v79
  let v77 : BitVec 32 := Scalar.addi c0_i32_34 v76
  let c1_i32_37 : BitVec 32 := 1#32
  ⟨v80, v77, c1_i32_37⟩
def k0_mult2 (i : grid0.Coords) (k0_t1 : Fin k0_t1_loop.trips) (k0_t3 : Fin (k0_t3_loop i k0_t1).trips) : BitVec 32 :=
  let c0_i32_34 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_27 : BitVec 32 := 0#32
  let v60 : BitVec 1 := Scalar.cmpi .sgt v26 c0_i32_27
  let v61 : BitVec 32 := Scalar.extui v60
  let c0_i32_28 : BitVec 32 := 0#32
  let v62 : BitVec 1 := Scalar.cmpi .slt v26 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v26 c2_i32_26
  let c0_i32_31 : BitVec 32 := 0#32
  let v72 : BitVec 1 := Scalar.cmpi .ne v71 c0_i32_31
  let v73 : BitVec 1 := Scalar.andi v70 v72
  let v59 : BitVec 32 := Scalar.divsi v26 c2_i32_26
  let c1_i32_32 : BitVec 32 := 1#32
  let v74 : BitVec 32 := Scalar.subi v59 c1_i32_32
  let v75 : BitVec 32 := Scalar.select v73 v74 v59
  let v76 : BitVec 32 := Scalar.subi v75 c0_i32_34
  let c1_i32_35 : BitVec 32 := 1#32
  let v78 : BitVec 32 := Scalar.divsi v76 c1_i32_35
  let v79 : BitVec 32 := Scalar.muli v78 c1_i32_35
  let v80 : BitVec 32 := Scalar.addi c0_i32_34 v79
  let c1_i32_37 : BitVec 32 := 1#32
  let arg24 : BitVec 32 := Scf.iv v80 c1_i32_37 k0_t3
  let c512_i32 : BitVec 32 := 512#32
  let v511 : BitVec 32 := Scalar.muli arg24 c512_i32
  v511
def k0_off15 (i : grid0.Coords) (k0_t1 : Fin k0_t1_loop.trips) (k0_t3 : Fin (k0_t3_loop i k0_t1).trips) : Fin 2 → Nat :=
  let c0_i32_34 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_27 : BitVec 32 := 0#32
  let v60 : BitVec 1 := Scalar.cmpi .sgt v26 c0_i32_27
  let v61 : BitVec 32 := Scalar.extui v60
  let c0_i32_28 : BitVec 32 := 0#32
  let v62 : BitVec 1 := Scalar.cmpi .slt v26 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v26 c2_i32_26
  let c0_i32_31 : BitVec 32 := 0#32
  let v72 : BitVec 1 := Scalar.cmpi .ne v71 c0_i32_31
  let v73 : BitVec 1 := Scalar.andi v70 v72
  let v59 : BitVec 32 := Scalar.divsi v26 c2_i32_26
  let c1_i32_32 : BitVec 32 := 1#32
  let v74 : BitVec 32 := Scalar.subi v59 c1_i32_32
  let v75 : BitVec 32 := Scalar.select v73 v74 v59
  let v76 : BitVec 32 := Scalar.subi v75 c0_i32_34
  let c1_i32_35 : BitVec 32 := 1#32
  let v78 : BitVec 32 := Scalar.divsi v76 c1_i32_35
  let v79 : BitVec 32 := Scalar.muli v78 c1_i32_35
  let v80 : BitVec 32 := Scalar.addi c0_i32_34 v79
  let c1_i32_37 : BitVec 32 := 1#32
  let arg24 : BitVec 32 := Scf.iv v80 c1_i32_37 k0_t3
  let c512_i32 : BitVec 32 := 512#32
  let v511 : BitVec 32 := Scalar.muli arg24 c512_i32
  let v512 : BitVec 32 := v511
  let v513 : Index := Scalar.indexCast v512
  let c0_249 : Index := 0#32
  ![v513.toNat, 0]
def k0_off16 (i : grid0.Coords) (k0_t1 : Fin k0_t1_loop.trips) (k0_t3 : Fin (k0_t3_loop i k0_t1).trips) : Fin 2 → Nat :=
  let c0_i32_34 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_27 : BitVec 32 := 0#32
  let v60 : BitVec 1 := Scalar.cmpi .sgt v26 c0_i32_27
  let v61 : BitVec 32 := Scalar.extui v60
  let c0_i32_28 : BitVec 32 := 0#32
  let v62 : BitVec 1 := Scalar.cmpi .slt v26 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v26 c2_i32_26
  let c0_i32_31 : BitVec 32 := 0#32
  let v72 : BitVec 1 := Scalar.cmpi .ne v71 c0_i32_31
  let v73 : BitVec 1 := Scalar.andi v70 v72
  let v59 : BitVec 32 := Scalar.divsi v26 c2_i32_26
  let c1_i32_32 : BitVec 32 := 1#32
  let v74 : BitVec 32 := Scalar.subi v59 c1_i32_32
  let v75 : BitVec 32 := Scalar.select v73 v74 v59
  let v76 : BitVec 32 := Scalar.subi v75 c0_i32_34
  let c1_i32_35 : BitVec 32 := 1#32
  let v78 : BitVec 32 := Scalar.divsi v76 c1_i32_35
  let v79 : BitVec 32 := Scalar.muli v78 c1_i32_35
  let v80 : BitVec 32 := Scalar.addi c0_i32_34 v79
  let c1_i32_37 : BitVec 32 := 1#32
  let arg24 : BitVec 32 := Scf.iv v80 c1_i32_37 k0_t3
  let c512_i32 : BitVec 32 := 512#32
  let v511 : BitVec 32 := Scalar.muli arg24 c512_i32
  let v512 : BitVec 32 := v511
  let v590 : Index := Scalar.indexCast v512
  let c0_263 : Index := 0#32
  ![v590.toNat, 0]
def k0_off17 (i : grid0.Coords) (k0_t1 : Fin k0_t1_loop.trips) (k0_t3 : Fin (k0_t3_loop i k0_t1).trips) : Fin 2 → Nat :=
  let c0_i32_34 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_27 : BitVec 32 := 0#32
  let v60 : BitVec 1 := Scalar.cmpi .sgt v26 c0_i32_27
  let v61 : BitVec 32 := Scalar.extui v60
  let c0_i32_28 : BitVec 32 := 0#32
  let v62 : BitVec 1 := Scalar.cmpi .slt v26 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v26 c2_i32_26
  let c0_i32_31 : BitVec 32 := 0#32
  let v72 : BitVec 1 := Scalar.cmpi .ne v71 c0_i32_31
  let v73 : BitVec 1 := Scalar.andi v70 v72
  let v59 : BitVec 32 := Scalar.divsi v26 c2_i32_26
  let c1_i32_32 : BitVec 32 := 1#32
  let v74 : BitVec 32 := Scalar.subi v59 c1_i32_32
  let v75 : BitVec 32 := Scalar.select v73 v74 v59
  let v76 : BitVec 32 := Scalar.subi v75 c0_i32_34
  let c1_i32_35 : BitVec 32 := 1#32
  let v78 : BitVec 32 := Scalar.divsi v76 c1_i32_35
  let v79 : BitVec 32 := Scalar.muli v78 c1_i32_35
  let v80 : BitVec 32 := Scalar.addi c0_i32_34 v79
  let c1_i32_37 : BitVec 32 := 1#32
  let arg24 : BitVec 32 := Scf.iv v80 c1_i32_37 k0_t3
  let c512_i32 : BitVec 32 := 512#32
  let v511 : BitVec 32 := Scalar.muli arg24 c512_i32
  let v512 : BitVec 32 := v511
  let c256_i32 : BitVec 32 := 256#32
  let v610 : BitVec 32 := Scalar.addi v512 c256_i32
  let v611 : Index := Scalar.indexCast v610
  let c0_266 : Index := 0#32
  ![v611.toNat, 0]
def k0_off18 (i : grid0.Coords) (k0_t1 : Fin k0_t1_loop.trips) (k0_t3 : Fin (k0_t3_loop i k0_t1).trips) : Fin 2 → Nat :=
  let c0_i32_34 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_27 : BitVec 32 := 0#32
  let v60 : BitVec 1 := Scalar.cmpi .sgt v26 c0_i32_27
  let v61 : BitVec 32 := Scalar.extui v60
  let c0_i32_28 : BitVec 32 := 0#32
  let v62 : BitVec 1 := Scalar.cmpi .slt v26 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v26 c2_i32_26
  let c0_i32_31 : BitVec 32 := 0#32
  let v72 : BitVec 1 := Scalar.cmpi .ne v71 c0_i32_31
  let v73 : BitVec 1 := Scalar.andi v70 v72
  let v59 : BitVec 32 := Scalar.divsi v26 c2_i32_26
  let c1_i32_32 : BitVec 32 := 1#32
  let v74 : BitVec 32 := Scalar.subi v59 c1_i32_32
  let v75 : BitVec 32 := Scalar.select v73 v74 v59
  let v76 : BitVec 32 := Scalar.subi v75 c0_i32_34
  let c1_i32_35 : BitVec 32 := 1#32
  let v78 : BitVec 32 := Scalar.divsi v76 c1_i32_35
  let v79 : BitVec 32 := Scalar.muli v78 c1_i32_35
  let v80 : BitVec 32 := Scalar.addi c0_i32_34 v79
  let c1_i32_37 : BitVec 32 := 1#32
  let arg24 : BitVec 32 := Scf.iv v80 c1_i32_37 k0_t3
  let c512_i32 : BitVec 32 := 512#32
  let v511 : BitVec 32 := Scalar.muli arg24 c512_i32
  let v512 : BitVec 32 := v511
  let c256_i32 : BitVec 32 := 256#32
  let v610 : BitVec 32 := Scalar.addi v512 c256_i32
  let v688 : Index := Scalar.indexCast v610
  let c0_282 : Index := 0#32
  ![v688.toNat, 0]
def k0_cond2 (i : grid0.Coords) (k0_t1 : Fin k0_t1_loop.trips) : BitVec 1 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c2_i32_38 : BitVec 32 := 2#32
  let c0_i32_39 : BitVec 32 := 0#32
  let v81 : BitVec 1 := Scalar.cmpi .eq c2_i32_38 c0_i32_39
  let c1_i32_40 : BitVec 32 := 1#32
  let v82 : BitVec 32 := Scalar.select v81 c1_i32_40 c2_i32_38
  let v83 : BitVec 32 := Scalar.remsi v26 v82
  let c0_i32_42 : BitVec 32 := 0#32
  let v85 : BitVec 1 := Scalar.cmpi .slt v83 c0_i32_42
  let c0_i32_43 : BitVec 32 := 0#32
  let v86 : BitVec 1 := Scalar.cmpi .slt v82 c0_i32_43
  let v87 : BitVec 1 := Scalar.xori v85 v86
  let c0_i32_41 : BitVec 32 := 0#32
  let v84 : BitVec 1 := Scalar.cmpi .ne v83 c0_i32_41
  let v88 : BitVec 1 := Scalar.andi v87 v84
  let v89 : BitVec 32 := Scalar.addi v83 v82
  let v90 : BitVec 32 := Scalar.select v88 v89 v83
  let c1_i32_44 : BitVec 32 := 1#32
  let v91 : BitVec 1 := Scalar.cmpi .eq v90 c1_i32_44
  let v92 : BitVec 32 := Scalar.extui v91
  let c0_i32_45 : BitVec 32 := 0#32
  let v93 : BitVec 1 := Scalar.cmpi .ne v92 c0_i32_45
  v93

def k0_mult3 (i : grid0.Coords) (k0_t1 : Fin k0_t1_loop.trips) : BitVec 32 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_249 : BitVec 32 := 1#32
  let v511 : BitVec 32 := Scalar.subi v26 c1_i32_249
  let c256_i32 : BitVec 32 := 256#32
  let v512 : BitVec 32 := Scalar.muli v511 c256_i32
  v512
def k0_off19 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_249 : BitVec 32 := 1#32
  let v511 : BitVec 32 := Scalar.subi v26 c1_i32_249
  let c256_i32 : BitVec 32 := 256#32
  let v512 : BitVec 32 := Scalar.muli v511 c256_i32
  let v513 : BitVec 32 := v512
  let v514 : Index := Scalar.indexCast v513
  let c0_250 : Index := 0#32
  ![v514.toNat, 0]
def k0_off20 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_249 : BitVec 32 := 1#32
  let v511 : BitVec 32 := Scalar.subi v26 c1_i32_249
  let c256_i32 : BitVec 32 := 256#32
  let v512 : BitVec 32 := Scalar.muli v511 c256_i32
  let v513 : BitVec 32 := v512
  let v591 : Index := Scalar.indexCast v513
  let c0_264 : Index := 0#32
  ![v591.toNat, 0]
def k0_mult4 (i : grid0.Coords) (k0_t1 : Fin k0_t1_loop.trips) : BitVec 32 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c256_i32_267 : BitVec 32 := 256#32
  let v612 : BitVec 32 := Scalar.muli v26 c256_i32_267
  v612
def k0_off21 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c256_i32_267 : BitVec 32 := 256#32
  let v612 : BitVec 32 := Scalar.muli v26 c256_i32_267
  let v613 : BitVec 32 := v612
  let v614 : Index := Scalar.indexCast v613
  let c0_268 : Index := 0#32
  ![v614.toNat, 0]
def k0_mult5 (i : grid0.Coords) (k0_t1 : Fin k0_t1_loop.trips) : BitVec 32 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c256_i32_269 : BitVec 32 := 256#32
  let v618 : BitVec 32 := Scalar.muli v26 c256_i32_269
  v618
def k0_cond3 (i : grid0.Coords) (k0_t1 : Fin k0_t1_loop.trips) : BitVec 1 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_46 : BitVec 32 := 1#32
  let v94 : BitVec 32 := Scalar.addi v26 c1_i32_46
  let c0_i32_48 : BitVec 32 := 0#32
  let v96 : BitVec 1 := Scalar.cmpi .sgt v94 c0_i32_48
  let v97 : BitVec 32 := Scalar.extui v96
  let c0_i32_49 : BitVec 32 := 0#32
  let v98 : BitVec 1 := Scalar.cmpi .slt v94 c0_i32_49
  let v99 : BitVec 32 := Scalar.extui v98
  let v100 : BitVec 32 := Scalar.subi v97 v99
  let c2_i32_47 : BitVec 32 := 2#32
  let c0_i32_50 : BitVec 32 := 0#32
  let v101 : BitVec 1 := Scalar.cmpi .sgt c2_i32_47 c0_i32_50
  let v102 : BitVec 32 := Scalar.extui v101
  let c0_i32_51 : BitVec 32 := 0#32
  let v103 : BitVec 1 := Scalar.cmpi .slt c2_i32_47 c0_i32_51
  let v104 : BitVec 32 := Scalar.extui v103
  let v105 : BitVec 32 := Scalar.subi v102 v104
  let v106 : BitVec 1 := Scalar.cmpi .ne v100 v105
  let v107 : BitVec 32 := Scalar.remsi v94 c2_i32_47
  let c0_i32_52 : BitVec 32 := 0#32
  let v108 : BitVec 1 := Scalar.cmpi .ne v107 c0_i32_52
  let v109 : BitVec 1 := Scalar.andi v106 v108
  let v95 : BitVec 32 := Scalar.divsi v94 c2_i32_47
  let c1_i32_53 : BitVec 32 := 1#32
  let v110 : BitVec 32 := Scalar.subi v95 c1_i32_53
  let v111 : BitVec 32 := Scalar.select v109 v110 v95
  let c1_i32_54 : BitVec 32 := 1#32
  let v112 : BitVec 32 := Scalar.subi v111 c1_i32_54
  let c0_i32_55 : BitVec 32 := 0#32
  let v113 : BitVec 32 := Scalar.maxsi v112 c0_i32_55
  let c4_i32_56 : BitVec 32 := 4#32
  let v114 : BitVec 32 := Scalar.minsi v113 c4_i32_56
  let c0_i32_57 : BitVec 32 := 0#32
  let v115 : BitVec 1 := Scalar.cmpi .ne v114 c0_i32_57
  v115

def k0_cond4 (i : grid0.Coords) (k0_t1 : Fin k0_t1_loop.trips) : BitVec 1 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_46 : BitVec 32 := 1#32
  let v94 : BitVec 32 := Scalar.addi v26 c1_i32_46
  let c0_i32_48 : BitVec 32 := 0#32
  let v96 : BitVec 1 := Scalar.cmpi .sgt v94 c0_i32_48
  let v97 : BitVec 32 := Scalar.extui v96
  let c0_i32_49 : BitVec 32 := 0#32
  let v98 : BitVec 1 := Scalar.cmpi .slt v94 c0_i32_49
  let v99 : BitVec 32 := Scalar.extui v98
  let v100 : BitVec 32 := Scalar.subi v97 v99
  let c2_i32_47 : BitVec 32 := 2#32
  let c0_i32_50 : BitVec 32 := 0#32
  let v101 : BitVec 1 := Scalar.cmpi .sgt c2_i32_47 c0_i32_50
  let v102 : BitVec 32 := Scalar.extui v101
  let c0_i32_51 : BitVec 32 := 0#32
  let v103 : BitVec 1 := Scalar.cmpi .slt c2_i32_47 c0_i32_51
  let v104 : BitVec 32 := Scalar.extui v103
  let v105 : BitVec 32 := Scalar.subi v102 v104
  let v106 : BitVec 1 := Scalar.cmpi .ne v100 v105
  let v107 : BitVec 32 := Scalar.remsi v94 c2_i32_47
  let c0_i32_52 : BitVec 32 := 0#32
  let v108 : BitVec 1 := Scalar.cmpi .ne v107 c0_i32_52
  let v109 : BitVec 1 := Scalar.andi v106 v108
  let v95 : BitVec 32 := Scalar.divsi v94 c2_i32_47
  let c1_i32_53 : BitVec 32 := 1#32
  let v110 : BitVec 32 := Scalar.subi v95 c1_i32_53
  let v111 : BitVec 32 := Scalar.select v109 v110 v95
  let c1_i32_54 : BitVec 32 := 1#32
  let v112 : BitVec 32 := Scalar.subi v111 c1_i32_54
  let c0_i32_55 : BitVec 32 := 0#32
  let v113 : BitVec 32 := Scalar.maxsi v112 c0_i32_55
  let c4_i32_56 : BitVec 32 := 4#32
  let v114 : BitVec 32 := Scalar.minsi v113 c4_i32_56
  let c1_i32_249 : BitVec 32 := 1#32
  let v511 : BitVec 32 := Scalar.subi v114 c1_i32_249
  let c0_i32_250 : BitVec 32 := 0#32
  let v512 : BitVec 1 := Scalar.cmpi .ne v511 c0_i32_250
  v512

def k0_cond5 (i : grid0.Coords) (k0_t1 : Fin k0_t1_loop.trips) : BitVec 1 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_46 : BitVec 32 := 1#32
  let v94 : BitVec 32 := Scalar.addi v26 c1_i32_46
  let c0_i32_48 : BitVec 32 := 0#32
  let v96 : BitVec 1 := Scalar.cmpi .sgt v94 c0_i32_48
  let v97 : BitVec 32 := Scalar.extui v96
  let c0_i32_49 : BitVec 32 := 0#32
  let v98 : BitVec 1 := Scalar.cmpi .slt v94 c0_i32_49
  let v99 : BitVec 32 := Scalar.extui v98
  let v100 : BitVec 32 := Scalar.subi v97 v99
  let c2_i32_47 : BitVec 32 := 2#32
  let c0_i32_50 : BitVec 32 := 0#32
  let v101 : BitVec 1 := Scalar.cmpi .sgt c2_i32_47 c0_i32_50
  let v102 : BitVec 32 := Scalar.extui v101
  let c0_i32_51 : BitVec 32 := 0#32
  let v103 : BitVec 1 := Scalar.cmpi .slt c2_i32_47 c0_i32_51
  let v104 : BitVec 32 := Scalar.extui v103
  let v105 : BitVec 32 := Scalar.subi v102 v104
  let v106 : BitVec 1 := Scalar.cmpi .ne v100 v105
  let v107 : BitVec 32 := Scalar.remsi v94 c2_i32_47
  let c0_i32_52 : BitVec 32 := 0#32
  let v108 : BitVec 1 := Scalar.cmpi .ne v107 c0_i32_52
  let v109 : BitVec 1 := Scalar.andi v106 v108
  let v95 : BitVec 32 := Scalar.divsi v94 c2_i32_47
  let c1_i32_53 : BitVec 32 := 1#32
  let v110 : BitVec 32 := Scalar.subi v95 c1_i32_53
  let v111 : BitVec 32 := Scalar.select v109 v110 v95
  let c1_i32_54 : BitVec 32 := 1#32
  let v112 : BitVec 32 := Scalar.subi v111 c1_i32_54
  let c0_i32_55 : BitVec 32 := 0#32
  let v113 : BitVec 32 := Scalar.maxsi v112 c0_i32_55
  let c4_i32_56 : BitVec 32 := 4#32
  let v114 : BitVec 32 := Scalar.minsi v113 c4_i32_56
  let c1_i32_249 : BitVec 32 := 1#32
  let v511 : BitVec 32 := Scalar.subi v114 c1_i32_249
  let c1_i32_251 : BitVec 32 := 1#32
  let v514 : BitVec 32 := Scalar.subi v511 c1_i32_251
  let c0_i32_252 : BitVec 32 := 0#32
  let v515 : BitVec 1 := Scalar.cmpi .ne v514 c0_i32_252
  v515

def k0_cond6 (i : grid0.Coords) (k0_t1 : Fin k0_t1_loop.trips) : BitVec 1 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_46 : BitVec 32 := 1#32
  let v94 : BitVec 32 := Scalar.addi v26 c1_i32_46
  let c0_i32_48 : BitVec 32 := 0#32
  let v96 : BitVec 1 := Scalar.cmpi .sgt v94 c0_i32_48
  let v97 : BitVec 32 := Scalar.extui v96
  let c0_i32_49 : BitVec 32 := 0#32
  let v98 : BitVec 1 := Scalar.cmpi .slt v94 c0_i32_49
  let v99 : BitVec 32 := Scalar.extui v98
  let v100 : BitVec 32 := Scalar.subi v97 v99
  let c2_i32_47 : BitVec 32 := 2#32
  let c0_i32_50 : BitVec 32 := 0#32
  let v101 : BitVec 1 := Scalar.cmpi .sgt c2_i32_47 c0_i32_50
  let v102 : BitVec 32 := Scalar.extui v101
  let c0_i32_51 : BitVec 32 := 0#32
  let v103 : BitVec 1 := Scalar.cmpi .slt c2_i32_47 c0_i32_51
  let v104 : BitVec 32 := Scalar.extui v103
  let v105 : BitVec 32 := Scalar.subi v102 v104
  let v106 : BitVec 1 := Scalar.cmpi .ne v100 v105
  let v107 : BitVec 32 := Scalar.remsi v94 c2_i32_47
  let c0_i32_52 : BitVec 32 := 0#32
  let v108 : BitVec 1 := Scalar.cmpi .ne v107 c0_i32_52
  let v109 : BitVec 1 := Scalar.andi v106 v108
  let v95 : BitVec 32 := Scalar.divsi v94 c2_i32_47
  let c1_i32_53 : BitVec 32 := 1#32
  let v110 : BitVec 32 := Scalar.subi v95 c1_i32_53
  let v111 : BitVec 32 := Scalar.select v109 v110 v95
  let c1_i32_54 : BitVec 32 := 1#32
  let v112 : BitVec 32 := Scalar.subi v111 c1_i32_54
  let c0_i32_55 : BitVec 32 := 0#32
  let v113 : BitVec 32 := Scalar.maxsi v112 c0_i32_55
  let c4_i32_56 : BitVec 32 := 4#32
  let v114 : BitVec 32 := Scalar.minsi v113 c4_i32_56
  let c1_i32_249 : BitVec 32 := 1#32
  let v511 : BitVec 32 := Scalar.subi v114 c1_i32_249
  let c1_i32_251 : BitVec 32 := 1#32
  let v514 : BitVec 32 := Scalar.subi v511 c1_i32_251
  let c1_i32_253 : BitVec 32 := 1#32
  let v517 : BitVec 32 := Scalar.subi v514 c1_i32_253
  let c0_i32_254 : BitVec 32 := 0#32
  let v518 : BitVec 1 := Scalar.cmpi .ne v517 c0_i32_254
  v518

@[reducible] def k0_t4_loop : Scf.Loop 32 :=
  let c0_i32_256 : BitVec 32 := 0#32
  let c16_i32 : BitVec 32 := 16#32
  let v522 : BitVec 32 := Scalar.addi c0_i32_256 c16_i32
  let c1_i32_257 : BitVec 32 := 1#32
  ⟨c0_i32_256, v522, c1_i32_257⟩
@[reducible] def k0_t5_loop : Scf.Loop 32 :=
  let c0_i32_317 : BitVec 32 := 0#32
  let c16_i32_318 : BitVec 32 := 16#32
  let v1118 : BitVec 32 := Scalar.addi c0_i32_317 c16_i32_318
  let c1_i32_319 : BitVec 32 := 1#32
  ⟨c0_i32_317, v1118, c1_i32_319⟩
@[reducible] def k0_t6_loop : Scf.Loop 32 :=
  let c0_i32_256 : BitVec 32 := 0#32
  let c16_i32 : BitVec 32 := 16#32
  let v522 : BitVec 32 := Scalar.addi c0_i32_256 c16_i32
  let c1_i32_257 : BitVec 32 := 1#32
  ⟨c0_i32_256, v522, c1_i32_257⟩
@[reducible] def k0_t7_loop : Scf.Loop 32 :=
  let c0_i32_307 : BitVec 32 := 0#32
  let c16_i32_308 : BitVec 32 := 16#32
  let v1003 : BitVec 32 := Scalar.addi c0_i32_307 c16_i32_308
  let c1_i32_309 : BitVec 32 := 1#32
  ⟨c0_i32_307, v1003, c1_i32_309⟩
@[reducible] def k0_t8_loop : Scf.Loop 32 :=
  let c0_i32_254 : BitVec 32 := 0#32
  let c16_i32 : BitVec 32 := 16#32
  let v519 : BitVec 32 := Scalar.addi c0_i32_254 c16_i32
  let c1_i32_255 : BitVec 32 := 1#32
  ⟨c0_i32_254, v519, c1_i32_255⟩
@[reducible] def k0_t9_loop : Scf.Loop 32 :=
  let c0_i32_294 : BitVec 32 := 0#32
  let c16_i32_295 : BitVec 32 := 16#32
  let v885 : BitVec 32 := Scalar.addi c0_i32_294 c16_i32_295
  let c1_i32_296 : BitVec 32 := 1#32
  ⟨c0_i32_294, v885, c1_i32_296⟩
@[reducible] def k0_t10_loop : Scf.Loop 32 :=
  let c0_i32_252 : BitVec 32 := 0#32
  let c16_i32 : BitVec 32 := 16#32
  let v516 : BitVec 32 := Scalar.addi c0_i32_252 c16_i32
  let c1_i32_253 : BitVec 32 := 1#32
  ⟨c0_i32_252, v516, c1_i32_253⟩
@[reducible] def k0_t11_loop : Scf.Loop 32 :=
  let c0_i32_281 : BitVec 32 := 0#32
  let c16_i32_282 : BitVec 32 := 16#32
  let v767 : BitVec 32 := Scalar.addi c0_i32_281 c16_i32_282
  let c1_i32_283 : BitVec 32 := 1#32
  ⟨c0_i32_281, v767, c1_i32_283⟩
@[reducible] def k0_t12_loop : Scf.Loop 32 :=
  let c0_i32_250 : BitVec 32 := 0#32
  let c16_i32 : BitVec 32 := 16#32
  let v513 : BitVec 32 := Scalar.addi c0_i32_250 c16_i32
  let c1_i32_251 : BitVec 32 := 1#32
  ⟨c0_i32_250, v513, c1_i32_251⟩
@[reducible] def k0_t13_loop : Scf.Loop 32 :=
  let c0_i32_268 : BitVec 32 := 0#32
  let c16_i32_269 : BitVec 32 := 16#32
  let v649 : BitVec 32 := Scalar.addi c0_i32_268 c16_i32_269
  let c1_i32_270 : BitVec 32 := 1#32
  ⟨c0_i32_268, v649, c1_i32_270⟩
@[reducible] def k0_t14_loop (i : grid0.Coords) (k0_t1 : Fin k0_t1_loop.trips) : Scf.Loop 32 :=
  let c0_i32_250 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let v512 : BitVec 32 := Scalar.subi v26 c0_i32_250
  let c1_i32_251 : BitVec 32 := 1#32
  let v514 : BitVec 32 := Scalar.divsi v512 c1_i32_251
  let v515 : BitVec 32 := Scalar.muli v514 c1_i32_251
  let v516 : BitVec 32 := Scalar.addi c0_i32_250 v515
  let c1_i32_252 : BitVec 32 := 1#32
  ⟨c0_i32_250, v516, c1_i32_252⟩
def k0_mult6 (i : grid0.Coords) (k0_t1 : Fin k0_t1_loop.trips) (k0_t14 : Fin (k0_t14_loop i k0_t1).trips) : BitVec 32 :=
  let c0_i32_250 : BitVec 32 := 0#32
  let c1_i32_252 : BitVec 32 := 1#32
  let arg24 : BitVec 32 := Scf.iv c0_i32_250 c1_i32_252 k0_t14
  let c256_i32_259 : BitVec 32 := 256#32
  let v527 : BitVec 32 := Scalar.muli arg24 c256_i32_259
  v527
def k0_off22 (i : grid0.Coords) (k0_t1 : Fin k0_t1_loop.trips) (k0_t14 : Fin (k0_t14_loop i k0_t1).trips) : Fin 2 → Nat :=
  let c0_i32_250 : BitVec 32 := 0#32
  let c1_i32_252 : BitVec 32 := 1#32
  let arg24 : BitVec 32 := Scf.iv c0_i32_250 c1_i32_252 k0_t14
  let c256_i32_259 : BitVec 32 := 256#32
  let v527 : BitVec 32 := Scalar.muli arg24 c256_i32_259
  let v528 : BitVec 32 := v527
  let v529 : Index := Scalar.indexCast v528
  let c0_260 : Index := 0#32
  ![v529.toNat, 0]
@[reducible] def k0_t15_loop (i : grid0.Coords) (k0_t1 : Fin k0_t1_loop.trips) : Scf.Loop 32 :=
  let c0_i32_250 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let v512 : BitVec 32 := Scalar.subi v26 c0_i32_250
  let c1_i32_251 : BitVec 32 := 1#32
  let v514 : BitVec 32 := Scalar.divsi v512 c1_i32_251
  let v515 : BitVec 32 := Scalar.muli v514 c1_i32_251
  let v516 : BitVec 32 := Scalar.addi c0_i32_250 v515
  let v513 : BitVec 32 := Scalar.addi c0_i32_250 v512
  let c1_i32_253 : BitVec 32 := 1#32
  ⟨v516, v513, c1_i32_253⟩
def k0_mult7 (i : grid0.Coords) (k0_t1 : Fin k0_t1_loop.trips) (k0_t15 : Fin (k0_t15_loop i k0_t1).trips) : BitVec 32 :=
  let c0_i32_250 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let v512 : BitVec 32 := Scalar.subi v26 c0_i32_250
  let c1_i32_251 : BitVec 32 := 1#32
  let v514 : BitVec 32 := Scalar.divsi v512 c1_i32_251
  let v515 : BitVec 32 := Scalar.muli v514 c1_i32_251
  let v516 : BitVec 32 := Scalar.addi c0_i32_250 v515
  let c1_i32_253 : BitVec 32 := 1#32
  let arg24 : BitVec 32 := Scf.iv v516 c1_i32_253 k0_t15
  let c256_i32_259 : BitVec 32 := 256#32
  let v527 : BitVec 32 := Scalar.muli arg24 c256_i32_259
  v527
def k0_off23 (i : grid0.Coords) (k0_t1 : Fin k0_t1_loop.trips) (k0_t15 : Fin (k0_t15_loop i k0_t1).trips) : Fin 2 → Nat :=
  let c0_i32_250 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let v512 : BitVec 32 := Scalar.subi v26 c0_i32_250
  let c1_i32_251 : BitVec 32 := 1#32
  let v514 : BitVec 32 := Scalar.divsi v512 c1_i32_251
  let v515 : BitVec 32 := Scalar.muli v514 c1_i32_251
  let v516 : BitVec 32 := Scalar.addi c0_i32_250 v515
  let c1_i32_253 : BitVec 32 := 1#32
  let arg24 : BitVec 32 := Scf.iv v516 c1_i32_253 k0_t15
  let c256_i32_259 : BitVec 32 := 256#32
  let v527 : BitVec 32 := Scalar.muli arg24 c256_i32_259
  let v528 : BitVec 32 := v527
  let v529 : Index := Scalar.indexCast v528
  let c0_260 : Index := 0#32
  ![v529.toNat, 0]
@[reducible] def k0_t16_loop : Scf.Loop 32 :=
  let c0_i32_256 : BitVec 32 := 0#32
  let c12_i32 : BitVec 32 := 12#32
  let v524 : BitVec 32 := Scalar.addi c0_i32_256 c12_i32
  let c1_i32_257 : BitVec 32 := 1#32
  ⟨c0_i32_256, v524, c1_i32_257⟩
@[reducible] def k0_t17_loop (i : grid0.Coords) (k0_t1 : Fin k0_t1_loop.trips) : Scf.Loop 32 :=
  let c0_i32_261 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let v532 : BitVec 32 := Scalar.subi v26 c0_i32_261
  let c1_i32_262 : BitVec 32 := 1#32
  let v534 : BitVec 32 := Scalar.divsi v532 c1_i32_262
  let v535 : BitVec 32 := Scalar.muli v534 c1_i32_262
  let v536 : BitVec 32 := Scalar.addi c0_i32_261 v535
  let c1_i32_263 : BitVec 32 := 1#32
  ⟨c0_i32_261, v536, c1_i32_263⟩
def k0_mult8 (i : grid0.Coords) (k0_t1 : Fin k0_t1_loop.trips) (k0_t17 : Fin (k0_t17_loop i k0_t1).trips) : BitVec 32 :=
  let c0_i32_261 : BitVec 32 := 0#32
  let c1_i32_263 : BitVec 32 := 1#32
  let arg26 : BitVec 32 := Scf.iv c0_i32_261 c1_i32_263 k0_t17
  let c256_i32_266 : BitVec 32 := 256#32
  let v543 : BitVec 32 := Scalar.muli arg26 c256_i32_266
  v543
def k0_off24 (i : grid0.Coords) (k0_t1 : Fin k0_t1_loop.trips) (k0_t17 : Fin (k0_t17_loop i k0_t1).trips) : Fin 2 → Nat :=
  let c0_i32_261 : BitVec 32 := 0#32
  let c1_i32_263 : BitVec 32 := 1#32
  let arg26 : BitVec 32 := Scf.iv c0_i32_261 c1_i32_263 k0_t17
  let c256_i32_266 : BitVec 32 := 256#32
  let v543 : BitVec 32 := Scalar.muli arg26 c256_i32_266
  let v544 : BitVec 32 := v543
  let v545 : Index := Scalar.indexCast v544
  let c0_267 : Index := 0#32
  ![v545.toNat, 0]
@[reducible] def k0_t18_loop (i : grid0.Coords) (k0_t1 : Fin k0_t1_loop.trips) : Scf.Loop 32 :=
  let c0_i32_261 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let v532 : BitVec 32 := Scalar.subi v26 c0_i32_261
  let c1_i32_262 : BitVec 32 := 1#32
  let v534 : BitVec 32 := Scalar.divsi v532 c1_i32_262
  let v535 : BitVec 32 := Scalar.muli v534 c1_i32_262
  let v536 : BitVec 32 := Scalar.addi c0_i32_261 v535
  let v533 : BitVec 32 := Scalar.addi c0_i32_261 v532
  let c1_i32_264 : BitVec 32 := 1#32
  ⟨v536, v533, c1_i32_264⟩
def k0_mult9 (i : grid0.Coords) (k0_t1 : Fin k0_t1_loop.trips) (k0_t18 : Fin (k0_t18_loop i k0_t1).trips) : BitVec 32 :=
  let c0_i32_261 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let v532 : BitVec 32 := Scalar.subi v26 c0_i32_261
  let c1_i32_262 : BitVec 32 := 1#32
  let v534 : BitVec 32 := Scalar.divsi v532 c1_i32_262
  let v535 : BitVec 32 := Scalar.muli v534 c1_i32_262
  let v536 : BitVec 32 := Scalar.addi c0_i32_261 v535
  let c1_i32_264 : BitVec 32 := 1#32
  let arg26 : BitVec 32 := Scf.iv v536 c1_i32_264 k0_t18
  let c256_i32_266 : BitVec 32 := 256#32
  let v543 : BitVec 32 := Scalar.muli arg26 c256_i32_266
  v543
def k0_off25 (i : grid0.Coords) (k0_t1 : Fin k0_t1_loop.trips) (k0_t18 : Fin (k0_t18_loop i k0_t1).trips) : Fin 2 → Nat :=
  let c0_i32_261 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let v532 : BitVec 32 := Scalar.subi v26 c0_i32_261
  let c1_i32_262 : BitVec 32 := 1#32
  let v534 : BitVec 32 := Scalar.divsi v532 c1_i32_262
  let v535 : BitVec 32 := Scalar.muli v534 c1_i32_262
  let v536 : BitVec 32 := Scalar.addi c0_i32_261 v535
  let c1_i32_264 : BitVec 32 := 1#32
  let arg26 : BitVec 32 := Scf.iv v536 c1_i32_264 k0_t18
  let c256_i32_266 : BitVec 32 := 256#32
  let v543 : BitVec 32 := Scalar.muli arg26 c256_i32_266
  let v544 : BitVec 32 := v543
  let v545 : Index := Scalar.indexCast v544
  let c0_267 : Index := 0#32
  ![v545.toNat, 0]
def k0_off26 (k0_t1 : Fin k0_t1_loop.trips) : Fin 3 → Nat :=
  let c0_i32 : BitVec 32 := 0#32
  let c1_i32 : BitVec 32 := 1#32
  let arg23 : BitVec 32 := Scf.iv c0_i32 c1_i32 k0_t1
  let v136 : Index := Scalar.indexCast arg23
  let c0_62 : Index := 0#32
  let c0_63 : Index := 0#32
  ![v136.toNat, 0, 0]
def k0_off27 (k0_t1 : Fin k0_t1_loop.trips) : Fin 3 → Nat :=
  let c0_i32 : BitVec 32 := 0#32
  let c1_i32 : BitVec 32 := 1#32
  let arg23 : BitVec 32 := Scf.iv c0_i32 c1_i32 k0_t1
  let v139 : Index := Scalar.indexCast arg23
  let c64_64 : Index := 64#32
  let c0_65 : Index := 0#32
  ![v139.toNat, 64, 0]
def k0_off28 (k0_t1 : Fin k0_t1_loop.trips) : Fin 3 → Nat :=
  let c0_i32 : BitVec 32 := 0#32
  let c1_i32 : BitVec 32 := 1#32
  let arg23 : BitVec 32 := Scf.iv c0_i32 c1_i32 k0_t1
  let v142 : Index := Scalar.indexCast arg23
  let c128_66 : Index := 128#32
  let c0_67 : Index := 0#32
  ![v142.toNat, 128, 0]
def k0_off29 (k0_t1 : Fin k0_t1_loop.trips) : Fin 3 → Nat :=
  let c0_i32 : BitVec 32 := 0#32
  let c1_i32 : BitVec 32 := 1#32
  let arg23 : BitVec 32 := Scf.iv c0_i32 c1_i32 k0_t1
  let v145 : Index := Scalar.indexCast arg23
  let c192_68 : Index := 192#32
  let c0_69 : Index := 0#32
  ![v145.toNat, 192, 0]
def k0_off30 (k0_t1 : Fin k0_t1_loop.trips) : Fin 3 → Nat :=
  let c0_i32 : BitVec 32 := 0#32
  let c1_i32 : BitVec 32 := 1#32
  let arg23 : BitVec 32 := Scf.iv c0_i32 c1_i32 k0_t1
  let v149 : Index := Scalar.indexCast arg23
  let c256_70 : Index := 256#32
  let c0_71 : Index := 0#32
  ![v149.toNat, 256, 0]
def k0_off31 (k0_t1 : Fin k0_t1_loop.trips) : Fin 3 → Nat :=
  let c0_i32 : BitVec 32 := 0#32
  let c1_i32 : BitVec 32 := 1#32
  let arg23 : BitVec 32 := Scf.iv c0_i32 c1_i32 k0_t1
  let v152 : Index := Scalar.indexCast arg23
  let c320_72 : Index := 320#32
  let c0_73 : Index := 0#32
  ![v152.toNat, 320, 0]
def k0_off32 (k0_t1 : Fin k0_t1_loop.trips) : Fin 3 → Nat :=
  let c0_i32 : BitVec 32 := 0#32
  let c1_i32 : BitVec 32 := 1#32
  let arg23 : BitVec 32 := Scf.iv c0_i32 c1_i32 k0_t1
  let v155 : Index := Scalar.indexCast arg23
  let c384_74 : Index := 384#32
  let c0_75 : Index := 0#32
  ![v155.toNat, 384, 0]
def k0_off33 (k0_t1 : Fin k0_t1_loop.trips) : Fin 3 → Nat :=
  let c0_i32 : BitVec 32 := 0#32
  let c1_i32 : BitVec 32 := 1#32
  let arg23 : BitVec 32 := Scf.iv c0_i32 c1_i32 k0_t1
  let v158 : Index := Scalar.indexCast arg23
  let c448_76 : Index := 448#32
  let c0_77 : Index := 0#32
  ![v158.toNat, 448, 0]
def k0_off34 (k0_t1 : Fin k0_t1_loop.trips) : Fin 3 → Nat :=
  let c0_i32 : BitVec 32 := 0#32
  let c1_i32 : BitVec 32 := 1#32
  let arg23 : BitVec 32 := Scf.iv c0_i32 c1_i32 k0_t1
  let v162 : Index := Scalar.indexCast arg23
  let c512 : Index := 512#32
  let c0_78 : Index := 0#32
  ![v162.toNat, 512, 0]
def k0_off35 (k0_t1 : Fin k0_t1_loop.trips) : Fin 3 → Nat :=
  let c0_i32 : BitVec 32 := 0#32
  let c1_i32 : BitVec 32 := 1#32
  let arg23 : BitVec 32 := Scf.iv c0_i32 c1_i32 k0_t1
  let v165 : Index := Scalar.indexCast arg23
  let c576 : Index := 576#32
  let c0_79 : Index := 0#32
  ![v165.toNat, 576, 0]
def k0_off36 (k0_t1 : Fin k0_t1_loop.trips) : Fin 3 → Nat :=
  let c0_i32 : BitVec 32 := 0#32
  let c1_i32 : BitVec 32 := 1#32
  let arg23 : BitVec 32 := Scf.iv c0_i32 c1_i32 k0_t1
  let v168 : Index := Scalar.indexCast arg23
  let c640 : Index := 640#32
  let c0_80 : Index := 0#32
  ![v168.toNat, 640, 0]
def k0_off37 (k0_t1 : Fin k0_t1_loop.trips) : Fin 3 → Nat :=
  let c0_i32 : BitVec 32 := 0#32
  let c1_i32 : BitVec 32 := 1#32
  let arg23 : BitVec 32 := Scf.iv c0_i32 c1_i32 k0_t1
  let v171 : Index := Scalar.indexCast arg23
  let c704 : Index := 704#32
  let c0_81 : Index := 0#32
  ![v171.toNat, 704, 0]
def k0_off38 (k0_t1 : Fin k0_t1_loop.trips) : Fin 3 → Nat :=
  let c0_i32 : BitVec 32 := 0#32
  let c1_i32 : BitVec 32 := 1#32
  let arg23 : BitVec 32 := Scf.iv c0_i32 c1_i32 k0_t1
  let v175 : Index := Scalar.indexCast arg23
  let c768 : Index := 768#32
  let c0_82 : Index := 0#32
  ![v175.toNat, 768, 0]
def k0_off39 (k0_t1 : Fin k0_t1_loop.trips) : Fin 3 → Nat :=
  let c0_i32 : BitVec 32 := 0#32
  let c1_i32 : BitVec 32 := 1#32
  let arg23 : BitVec 32 := Scf.iv c0_i32 c1_i32 k0_t1
  let v178 : Index := Scalar.indexCast arg23
  let c832 : Index := 832#32
  let c0_83 : Index := 0#32
  ![v178.toNat, 832, 0]
def k0_off40 (k0_t1 : Fin k0_t1_loop.trips) : Fin 3 → Nat :=
  let c0_i32 : BitVec 32 := 0#32
  let c1_i32 : BitVec 32 := 1#32
  let arg23 : BitVec 32 := Scf.iv c0_i32 c1_i32 k0_t1
  let v181 : Index := Scalar.indexCast arg23
  let c896 : Index := 896#32
  let c0_84 : Index := 0#32
  ![v181.toNat, 896, 0]
def k0_off41 (k0_t1 : Fin k0_t1_loop.trips) : Fin 3 → Nat :=
  let c0_i32 : BitVec 32 := 0#32
  let c1_i32 : BitVec 32 := 1#32
  let arg23 : BitVec 32 := Scf.iv c0_i32 c1_i32 k0_t1
  let v184 : Index := Scalar.indexCast arg23
  let c960 : Index := 960#32
  let c0_85 : Index := 0#32
  ![v184.toNat, 960, 0]
@[reducible] def k0_t19_loop (i : grid0.Coords) (k0_t1 : Fin k0_t1_loop.trips) : Scf.Loop 32 :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_100 : BitVec 32 := 1#32
  ⟨c0_i32_98, v214, c1_i32_100⟩
def k0_mult10 (i : grid0.Coords) (k0_t1 : Fin k0_t1_loop.trips) (k0_t19 : Fin (k0_t19_loop i k0_t1).trips) : BitVec 32 :=
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  v511
def k0_off42 (i : grid0.Coords) (k0_t1 : Fin k0_t1_loop.trips) (k0_t19 : Fin (k0_t19_loop i k0_t1).trips) : Fin 2 → Nat :=
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let v514 : Index := Scalar.indexCast v512
  let c0_249 : Index := 0#32
  ![v514.toNat, 0]
def k0_off43 (i : grid0.Coords) (k0_t1 : Fin k0_t1_loop.trips) (k0_t19 : Fin (k0_t19_loop i k0_t1).trips) : Fin 3 → Nat :=
  let c0_250 : Index := 0#32
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let v526 : Index := Scalar.indexCast v512
  let c0_251 : Index := 0#32
  ![0, v526.toNat, 0]
def k0_off44 (i : grid0.Coords) (k0_t1 : Fin k0_t1_loop.trips) (k0_t19 : Fin (k0_t19_loop i k0_t1).trips) : Fin 2 → Nat :=
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let v543 : Index := Scalar.indexCast v512
  let c0_257 : Index := 0#32
  ![v543.toNat, 0]
def k0_off45 (i : grid0.Coords) (k0_t1 : Fin k0_t1_loop.trips) (k0_t19 : Fin (k0_t19_loop i k0_t1).trips) : Fin 3 → Nat :=
  let c1_259 : Index := 1#32
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let v550 : Index := Scalar.indexCast v512
  let c0_260 : Index := 0#32
  ![1, v550.toNat, 0]
def k0_off46 (i : grid0.Coords) (k0_t1 : Fin k0_t1_loop.trips) (k0_t19 : Fin (k0_t19_loop i k0_t1).trips) : Fin 2 → Nat :=
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let v567 : Index := Scalar.indexCast v512
  let c512_266 : Index := 512#32
  ![v567.toNat, 512]
def k0_off47 (i : grid0.Coords) (k0_t1 : Fin k0_t1_loop.trips) (k0_t19 : Fin (k0_t19_loop i k0_t1).trips) : Fin 3 → Nat :=
  let c2_268 : Index := 2#32
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let v574 : Index := Scalar.indexCast v512
  let c0_269 : Index := 0#32
  ![2, v574.toNat, 0]
def k0_off48 (i : grid0.Coords) (k0_t1 : Fin k0_t1_loop.trips) (k0_t19 : Fin (k0_t19_loop i k0_t1).trips) : Fin 2 → Nat :=
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let v591 : Index := Scalar.indexCast v512
  let c1024_275 : Index := 1024#32
  ![v591.toNat, 1024]
def k0_off49 (i : grid0.Coords) (k0_t1 : Fin k0_t1_loop.trips) (k0_t19 : Fin (k0_t19_loop i k0_t1).trips) : Fin 3 → Nat :=
  let c3_277 : Index := 3#32
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let v598 : Index := Scalar.indexCast v512
  let c0_278 : Index := 0#32
  ![3, v598.toNat, 0]
def k0_off50 (i : grid0.Coords) (k0_t1 : Fin k0_t1_loop.trips) (k0_t19 : Fin (k0_t19_loop i k0_t1).trips) : Fin 2 → Nat :=
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let v615 : Index := Scalar.indexCast v512
  let c1536_284 : Index := 1536#32
  ![v615.toNat, 1536]
def k0_off51 (i : grid0.Coords) (k0_t1 : Fin k0_t1_loop.trips) (k0_t19 : Fin (k0_t19_loop i k0_t1).trips) : Fin 2 → Nat :=
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v622 : Index := Scalar.indexCast v513
  let c0_286 : Index := 0#32
  ![v622.toNat, 0]
def k0_off52 (i : grid0.Coords) (k0_t1 : Fin k0_t1_loop.trips) (k0_t19 : Fin (k0_t19_loop i k0_t1).trips) : Fin 3 → Nat :=
  let c0_287 : Index := 0#32
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v634 : Index := Scalar.indexCast v513
  let c0_288 : Index := 0#32
  ![0, v634.toNat, 0]
def k0_off53 (i : grid0.Coords) (k0_t1 : Fin k0_t1_loop.trips) (k0_t19 : Fin (k0_t19_loop i k0_t1).trips) : Fin 2 → Nat :=
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v651 : Index := Scalar.indexCast v513
  let c0_294 : Index := 0#32
  ![v651.toNat, 0]
def k0_off54 (i : grid0.Coords) (k0_t1 : Fin k0_t1_loop.trips) (k0_t19 : Fin (k0_t19_loop i k0_t1).trips) : Fin 3 → Nat :=
  let c1_296 : Index := 1#32
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v658 : Index := Scalar.indexCast v513
  let c0_297 : Index := 0#32
  ![1, v658.toNat, 0]
def k0_off55 (i : grid0.Coords) (k0_t1 : Fin k0_t1_loop.trips) (k0_t19 : Fin (k0_t19_loop i k0_t1).trips) : Fin 2 → Nat :=
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v675 : Index := Scalar.indexCast v513
  let c512_303 : Index := 512#32
  ![v675.toNat, 512]
def k0_off56 (i : grid0.Coords) (k0_t1 : Fin k0_t1_loop.trips) (k0_t19 : Fin (k0_t19_loop i k0_t1).trips) : Fin 3 → Nat :=
  let c2_305 : Index := 2#32
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v682 : Index := Scalar.indexCast v513
  let c0_306 : Index := 0#32
  ![2, v682.toNat, 0]
def k0_off57 (i : grid0.Coords) (k0_t1 : Fin k0_t1_loop.trips) (k0_t19 : Fin (k0_t19_loop i k0_t1).trips) : Fin 2 → Nat :=
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v699 : Index := Scalar.indexCast v513
  let c1024_312 : Index := 1024#32
  ![v699.toNat, 1024]
def k0_off58 (i : grid0.Coords) (k0_t1 : Fin k0_t1_loop.trips) (k0_t19 : Fin (k0_t19_loop i k0_t1).trips) : Fin 3 → Nat :=
  let c3_314 : Index := 3#32
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v706 : Index := Scalar.indexCast v513
  let c0_315 : Index := 0#32
  ![3, v706.toNat, 0]
def k0_off59 (i : grid0.Coords) (k0_t1 : Fin k0_t1_loop.trips) (k0_t19 : Fin (k0_t19_loop i k0_t1).trips) : Fin 2 → Nat :=
  let c0_i32_98 : BitVec 32 := 0#32
  let c1_i32_100 : BitVec 32 := 1#32
  let arg24 : BitVec 32 := Scf.iv c0_i32_98 c1_i32_100 k0_t19
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v723 : Index := Scalar.indexCast v513
  let c1536_321 : Index := 1536#32
  ![v723.toNat, 1536]
@[reducible] def k0_t20_loop (i : grid0.Coords) (k0_t1 : Fin k0_t1_loop.trips) : Scf.Loop 32 :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let v211 : BitVec 32 := Scalar.addi c0_i32_98 v210
  let c1_i32_101 : BitVec 32 := 1#32
  ⟨v214, v211, c1_i32_101⟩
def k0_mult11 (i : grid0.Coords) (k0_t1 : Fin k0_t1_loop.trips) (k0_t20 : Fin (k0_t20_loop i k0_t1).trips) : BitVec 32 :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  v511
def k0_off60 (i : grid0.Coords) (k0_t1 : Fin k0_t1_loop.trips) (k0_t20 : Fin (k0_t20_loop i k0_t1).trips) : Fin 2 → Nat :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let v514 : Index := Scalar.indexCast v512
  let c0_249 : Index := 0#32
  ![v514.toNat, 0]
def k0_off61 (i : grid0.Coords) (k0_t1 : Fin k0_t1_loop.trips) (k0_t20 : Fin (k0_t20_loop i k0_t1).trips) : Fin 3 → Nat :=
  let c0_250 : Index := 0#32
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let v526 : Index := Scalar.indexCast v512
  let c0_251 : Index := 0#32
  ![0, v526.toNat, 0]
def k0_off62 (i : grid0.Coords) (k0_t1 : Fin k0_t1_loop.trips) (k0_t20 : Fin (k0_t20_loop i k0_t1).trips) : Fin 2 → Nat :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let v543 : Index := Scalar.indexCast v512
  let c0_257 : Index := 0#32
  ![v543.toNat, 0]
def k0_off63 (i : grid0.Coords) (k0_t1 : Fin k0_t1_loop.trips) (k0_t20 : Fin (k0_t20_loop i k0_t1).trips) : Fin 3 → Nat :=
  let c1_259 : Index := 1#32
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let v550 : Index := Scalar.indexCast v512
  let c0_260 : Index := 0#32
  ![1, v550.toNat, 0]
def k0_off64 (i : grid0.Coords) (k0_t1 : Fin k0_t1_loop.trips) (k0_t20 : Fin (k0_t20_loop i k0_t1).trips) : Fin 2 → Nat :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let v567 : Index := Scalar.indexCast v512
  let c512_266 : Index := 512#32
  ![v567.toNat, 512]
def k0_off65 (i : grid0.Coords) (k0_t1 : Fin k0_t1_loop.trips) (k0_t20 : Fin (k0_t20_loop i k0_t1).trips) : Fin 3 → Nat :=
  let c2_268 : Index := 2#32
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let v574 : Index := Scalar.indexCast v512
  let c0_269 : Index := 0#32
  ![2, v574.toNat, 0]
def k0_off66 (i : grid0.Coords) (k0_t1 : Fin k0_t1_loop.trips) (k0_t20 : Fin (k0_t20_loop i k0_t1).trips) : Fin 2 → Nat :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let v591 : Index := Scalar.indexCast v512
  let c1024_275 : Index := 1024#32
  ![v591.toNat, 1024]
def k0_off67 (i : grid0.Coords) (k0_t1 : Fin k0_t1_loop.trips) (k0_t20 : Fin (k0_t20_loop i k0_t1).trips) : Fin 3 → Nat :=
  let c3_277 : Index := 3#32
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let v598 : Index := Scalar.indexCast v512
  let c0_278 : Index := 0#32
  ![3, v598.toNat, 0]
def k0_off68 (i : grid0.Coords) (k0_t1 : Fin k0_t1_loop.trips) (k0_t20 : Fin (k0_t20_loop i k0_t1).trips) : Fin 2 → Nat :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let v615 : Index := Scalar.indexCast v512
  let c1536_284 : Index := 1536#32
  ![v615.toNat, 1536]
def k0_off69 (i : grid0.Coords) (k0_t1 : Fin k0_t1_loop.trips) (k0_t20 : Fin (k0_t20_loop i k0_t1).trips) : Fin 2 → Nat :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v622 : Index := Scalar.indexCast v513
  let c0_286 : Index := 0#32
  ![v622.toNat, 0]
def k0_off70 (i : grid0.Coords) (k0_t1 : Fin k0_t1_loop.trips) (k0_t20 : Fin (k0_t20_loop i k0_t1).trips) : Fin 3 → Nat :=
  let c0_287 : Index := 0#32
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v634 : Index := Scalar.indexCast v513
  let c0_288 : Index := 0#32
  ![0, v634.toNat, 0]
def k0_off71 (i : grid0.Coords) (k0_t1 : Fin k0_t1_loop.trips) (k0_t20 : Fin (k0_t20_loop i k0_t1).trips) : Fin 2 → Nat :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v651 : Index := Scalar.indexCast v513
  let c0_294 : Index := 0#32
  ![v651.toNat, 0]
def k0_off72 (i : grid0.Coords) (k0_t1 : Fin k0_t1_loop.trips) (k0_t20 : Fin (k0_t20_loop i k0_t1).trips) : Fin 3 → Nat :=
  let c1_296 : Index := 1#32
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v658 : Index := Scalar.indexCast v513
  let c0_297 : Index := 0#32
  ![1, v658.toNat, 0]
def k0_off73 (i : grid0.Coords) (k0_t1 : Fin k0_t1_loop.trips) (k0_t20 : Fin (k0_t20_loop i k0_t1).trips) : Fin 2 → Nat :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v675 : Index := Scalar.indexCast v513
  let c512_303 : Index := 512#32
  ![v675.toNat, 512]
def k0_off74 (i : grid0.Coords) (k0_t1 : Fin k0_t1_loop.trips) (k0_t20 : Fin (k0_t20_loop i k0_t1).trips) : Fin 3 → Nat :=
  let c2_305 : Index := 2#32
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v682 : Index := Scalar.indexCast v513
  let c0_306 : Index := 0#32
  ![2, v682.toNat, 0]
def k0_off75 (i : grid0.Coords) (k0_t1 : Fin k0_t1_loop.trips) (k0_t20 : Fin (k0_t20_loop i k0_t1).trips) : Fin 2 → Nat :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v699 : Index := Scalar.indexCast v513
  let c1024_312 : Index := 1024#32
  ![v699.toNat, 1024]
def k0_off76 (i : grid0.Coords) (k0_t1 : Fin k0_t1_loop.trips) (k0_t20 : Fin (k0_t20_loop i k0_t1).trips) : Fin 3 → Nat :=
  let c3_314 : Index := 3#32
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v706 : Index := Scalar.indexCast v513
  let c0_315 : Index := 0#32
  ![3, v706.toNat, 0]
def k0_off77 (i : grid0.Coords) (k0_t1 : Fin k0_t1_loop.trips) (k0_t20 : Fin (k0_t20_loop i k0_t1).trips) : Fin 2 → Nat :=
  let c0_i32_98 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_92 : BitVec 32 := 0#32
  let v194 : BitVec 1 := Scalar.cmpi .sgt v192 c0_i32_92
  let v195 : BitVec 32 := Scalar.extui v194
  let c0_i32_93 : BitVec 32 := 0#32
  let v196 : BitVec 1 := Scalar.cmpi .slt v192 c0_i32_93
  let v197 : BitVec 32 := Scalar.extui v196
  let v198 : BitVec 32 := Scalar.subi v195 v197
  let c4_i32_91 : BitVec 32 := 4#32
  let c0_i32_94 : BitVec 32 := 0#32
  let v199 : BitVec 1 := Scalar.cmpi .sgt c4_i32_91 c0_i32_94
  let v200 : BitVec 32 := Scalar.extui v199
  let c0_i32_95 : BitVec 32 := 0#32
  let v201 : BitVec 1 := Scalar.cmpi .slt c4_i32_91 c0_i32_95
  let v202 : BitVec 32 := Scalar.extui v201
  let v203 : BitVec 32 := Scalar.subi v200 v202
  let v204 : BitVec 1 := Scalar.cmpi .ne v198 v203
  let v205 : BitVec 32 := Scalar.remsi v192 c4_i32_91
  let c0_i32_96 : BitVec 32 := 0#32
  let v206 : BitVec 1 := Scalar.cmpi .ne v205 c0_i32_96
  let v207 : BitVec 1 := Scalar.andi v204 v206
  let v193 : BitVec 32 := Scalar.divsi v192 c4_i32_91
  let c1_i32_97 : BitVec 32 := 1#32
  let v208 : BitVec 32 := Scalar.subi v193 c1_i32_97
  let v209 : BitVec 32 := Scalar.select v207 v208 v193
  let v210 : BitVec 32 := Scalar.subi v209 c0_i32_98
  let c1_i32_99 : BitVec 32 := 1#32
  let v212 : BitVec 32 := Scalar.divsi v210 c1_i32_99
  let v213 : BitVec 32 := Scalar.muli v212 c1_i32_99
  let v214 : BitVec 32 := Scalar.addi c0_i32_98 v213
  let c1_i32_101 : BitVec 32 := 1#32
  let arg24 : BitVec 32 := Scf.iv v214 c1_i32_101 k0_t20
  let c512_i32 : BitVec 32 := 512#32
  let v511 : BitVec 32 := Scalar.muli arg24 c512_i32
  let v512 : BitVec 32 := v511
  let c256_i32 : BitVec 32 := 256#32
  let v513 : BitVec 32 := Scalar.addi v512 c256_i32
  let v723 : Index := Scalar.indexCast v513
  let c1536_321 : Index := 1536#32
  ![v723.toNat, 1536]
def k0_cond8 (i : grid0.Coords) (k0_t1 : Fin k0_t1_loop.trips) : BitVec 1 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c4_i32_102 : BitVec 32 := 4#32
  let c0_i32_103 : BitVec 32 := 0#32
  let v217 : BitVec 1 := Scalar.cmpi .eq c4_i32_102 c0_i32_103
  let c1_i32_104 : BitVec 32 := 1#32
  let v218 : BitVec 32 := Scalar.select v217 c1_i32_104 c4_i32_102
  let v219 : BitVec 32 := Scalar.remsi v192 v218
  let c0_i32_106 : BitVec 32 := 0#32
  let v221 : BitVec 1 := Scalar.cmpi .slt v219 c0_i32_106
  let c0_i32_107 : BitVec 32 := 0#32
  let v222 : BitVec 1 := Scalar.cmpi .slt v218 c0_i32_107
  let v223 : BitVec 1 := Scalar.xori v221 v222
  let c0_i32_105 : BitVec 32 := 0#32
  let v220 : BitVec 1 := Scalar.cmpi .ne v219 c0_i32_105
  let v224 : BitVec 1 := Scalar.andi v223 v220
  let v225 : BitVec 32 := Scalar.addi v219 v218
  let v226 : BitVec 32 := Scalar.select v224 v225 v219
  let c2_i32_108 : BitVec 32 := 2#32
  let v227 : BitVec 1 := Scalar.cmpi .sge v226 c2_i32_108
  let v228 : BitVec 32 := Scalar.extui v227
  let c0_i32_109 : BitVec 32 := 0#32
  let v229 : BitVec 1 := Scalar.cmpi .ne v228 c0_i32_109
  v229

def k0_mult12 (i : grid0.Coords) (k0_t1 : Fin k0_t1_loop.trips) : BitVec 32 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_250 : BitVec 32 := 0#32
  let v512 : BitVec 1 := Scalar.cmpi .sgt v192 c0_i32_250
  let v513 : BitVec 32 := Scalar.extui v512
  let c0_i32_251 : BitVec 32 := 0#32
  let v514 : BitVec 1 := Scalar.cmpi .slt v192 c0_i32_251
  let v515 : BitVec 32 := Scalar.extui v514
  let v516 : BitVec 32 := Scalar.subi v513 v515
  let c4_i32_249 : BitVec 32 := 4#32
  let c0_i32_252 : BitVec 32 := 0#32
  let v517 : BitVec 1 := Scalar.cmpi .sgt c4_i32_249 c0_i32_252
  let v518 : BitVec 32 := Scalar.extui v517
  let c0_i32_253 : BitVec 32 := 0#32
  let v519 : BitVec 1 := Scalar.cmpi .slt c4_i32_249 c0_i32_253
  let v520 : BitVec 32 := Scalar.extui v519
  let v521 : BitVec 32 := Scalar.subi v518 v520
  let v522 : BitVec 1 := Scalar.cmpi .ne v516 v521
  let v523 : BitVec 32 := Scalar.remsi v192 c4_i32_249
  let c0_i32_254 : BitVec 32 := 0#32
  let v524 : BitVec 1 := Scalar.cmpi .ne v523 c0_i32_254
  let v525 : BitVec 1 := Scalar.andi v522 v524
  let v511 : BitVec 32 := Scalar.divsi v192 c4_i32_249
  let c1_i32_255 : BitVec 32 := 1#32
  let v526 : BitVec 32 := Scalar.subi v511 c1_i32_255
  let v527 : BitVec 32 := Scalar.select v525 v526 v511
  let c2_i32_256 : BitVec 32 := 2#32
  let v528 : BitVec 32 := Scalar.muli v527 c2_i32_256
  let c256_i32 : BitVec 32 := 256#32
  let v529 : BitVec 32 := Scalar.muli v528 c256_i32
  v529
def k0_off78 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_250 : BitVec 32 := 0#32
  let v512 : BitVec 1 := Scalar.cmpi .sgt v192 c0_i32_250
  let v513 : BitVec 32 := Scalar.extui v512
  let c0_i32_251 : BitVec 32 := 0#32
  let v514 : BitVec 1 := Scalar.cmpi .slt v192 c0_i32_251
  let v515 : BitVec 32 := Scalar.extui v514
  let v516 : BitVec 32 := Scalar.subi v513 v515
  let c4_i32_249 : BitVec 32 := 4#32
  let c0_i32_252 : BitVec 32 := 0#32
  let v517 : BitVec 1 := Scalar.cmpi .sgt c4_i32_249 c0_i32_252
  let v518 : BitVec 32 := Scalar.extui v517
  let c0_i32_253 : BitVec 32 := 0#32
  let v519 : BitVec 1 := Scalar.cmpi .slt c4_i32_249 c0_i32_253
  let v520 : BitVec 32 := Scalar.extui v519
  let v521 : BitVec 32 := Scalar.subi v518 v520
  let v522 : BitVec 1 := Scalar.cmpi .ne v516 v521
  let v523 : BitVec 32 := Scalar.remsi v192 c4_i32_249
  let c0_i32_254 : BitVec 32 := 0#32
  let v524 : BitVec 1 := Scalar.cmpi .ne v523 c0_i32_254
  let v525 : BitVec 1 := Scalar.andi v522 v524
  let v511 : BitVec 32 := Scalar.divsi v192 c4_i32_249
  let c1_i32_255 : BitVec 32 := 1#32
  let v526 : BitVec 32 := Scalar.subi v511 c1_i32_255
  let v527 : BitVec 32 := Scalar.select v525 v526 v511
  let c2_i32_256 : BitVec 32 := 2#32
  let v528 : BitVec 32 := Scalar.muli v527 c2_i32_256
  let c256_i32 : BitVec 32 := 256#32
  let v529 : BitVec 32 := Scalar.muli v528 c256_i32
  let v530 : BitVec 32 := v529
  let v531 : Index := Scalar.indexCast v530
  let c0_257 : Index := 0#32
  ![v531.toNat, 0]
def k0_off79 (i : grid0.Coords) (k0_t1 : Fin k0_t1_loop.trips) : Fin 3 → Nat :=
  let c0_258 : Index := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_250 : BitVec 32 := 0#32
  let v512 : BitVec 1 := Scalar.cmpi .sgt v192 c0_i32_250
  let v513 : BitVec 32 := Scalar.extui v512
  let c0_i32_251 : BitVec 32 := 0#32
  let v514 : BitVec 1 := Scalar.cmpi .slt v192 c0_i32_251
  let v515 : BitVec 32 := Scalar.extui v514
  let v516 : BitVec 32 := Scalar.subi v513 v515
  let c4_i32_249 : BitVec 32 := 4#32
  let c0_i32_252 : BitVec 32 := 0#32
  let v517 : BitVec 1 := Scalar.cmpi .sgt c4_i32_249 c0_i32_252
  let v518 : BitVec 32 := Scalar.extui v517
  let c0_i32_253 : BitVec 32 := 0#32
  let v519 : BitVec 1 := Scalar.cmpi .slt c4_i32_249 c0_i32_253
  let v520 : BitVec 32 := Scalar.extui v519
  let v521 : BitVec 32 := Scalar.subi v518 v520
  let v522 : BitVec 1 := Scalar.cmpi .ne v516 v521
  let v523 : BitVec 32 := Scalar.remsi v192 c4_i32_249
  let c0_i32_254 : BitVec 32 := 0#32
  let v524 : BitVec 1 := Scalar.cmpi .ne v523 c0_i32_254
  let v525 : BitVec 1 := Scalar.andi v522 v524
  let v511 : BitVec 32 := Scalar.divsi v192 c4_i32_249
  let c1_i32_255 : BitVec 32 := 1#32
  let v526 : BitVec 32 := Scalar.subi v511 c1_i32_255
  let v527 : BitVec 32 := Scalar.select v525 v526 v511
  let c2_i32_256 : BitVec 32 := 2#32
  let v528 : BitVec 32 := Scalar.muli v527 c2_i32_256
  let c256_i32 : BitVec 32 := 256#32
  let v529 : BitVec 32 := Scalar.muli v528 c256_i32
  let v530 : BitVec 32 := v529
  let v543 : Index := Scalar.indexCast v530
  let c0_259 : Index := 0#32
  ![0, v543.toNat, 0]
def k0_off80 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_250 : BitVec 32 := 0#32
  let v512 : BitVec 1 := Scalar.cmpi .sgt v192 c0_i32_250
  let v513 : BitVec 32 := Scalar.extui v512
  let c0_i32_251 : BitVec 32 := 0#32
  let v514 : BitVec 1 := Scalar.cmpi .slt v192 c0_i32_251
  let v515 : BitVec 32 := Scalar.extui v514
  let v516 : BitVec 32 := Scalar.subi v513 v515
  let c4_i32_249 : BitVec 32 := 4#32
  let c0_i32_252 : BitVec 32 := 0#32
  let v517 : BitVec 1 := Scalar.cmpi .sgt c4_i32_249 c0_i32_252
  let v518 : BitVec 32 := Scalar.extui v517
  let c0_i32_253 : BitVec 32 := 0#32
  let v519 : BitVec 1 := Scalar.cmpi .slt c4_i32_249 c0_i32_253
  let v520 : BitVec 32 := Scalar.extui v519
  let v521 : BitVec 32 := Scalar.subi v518 v520
  let v522 : BitVec 1 := Scalar.cmpi .ne v516 v521
  let v523 : BitVec 32 := Scalar.remsi v192 c4_i32_249
  let c0_i32_254 : BitVec 32 := 0#32
  let v524 : BitVec 1 := Scalar.cmpi .ne v523 c0_i32_254
  let v525 : BitVec 1 := Scalar.andi v522 v524
  let v511 : BitVec 32 := Scalar.divsi v192 c4_i32_249
  let c1_i32_255 : BitVec 32 := 1#32
  let v526 : BitVec 32 := Scalar.subi v511 c1_i32_255
  let v527 : BitVec 32 := Scalar.select v525 v526 v511
  let c2_i32_256 : BitVec 32 := 2#32
  let v528 : BitVec 32 := Scalar.muli v527 c2_i32_256
  let c256_i32 : BitVec 32 := 256#32
  let v529 : BitVec 32 := Scalar.muli v528 c256_i32
  let v530 : BitVec 32 := v529
  let v560 : Index := Scalar.indexCast v530
  let c0_265 : Index := 0#32
  ![v560.toNat, 0]
def k0_off81 (i : grid0.Coords) (k0_t1 : Fin k0_t1_loop.trips) : Fin 3 → Nat :=
  let c1_267 : Index := 1#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_250 : BitVec 32 := 0#32
  let v512 : BitVec 1 := Scalar.cmpi .sgt v192 c0_i32_250
  let v513 : BitVec 32 := Scalar.extui v512
  let c0_i32_251 : BitVec 32 := 0#32
  let v514 : BitVec 1 := Scalar.cmpi .slt v192 c0_i32_251
  let v515 : BitVec 32 := Scalar.extui v514
  let v516 : BitVec 32 := Scalar.subi v513 v515
  let c4_i32_249 : BitVec 32 := 4#32
  let c0_i32_252 : BitVec 32 := 0#32
  let v517 : BitVec 1 := Scalar.cmpi .sgt c4_i32_249 c0_i32_252
  let v518 : BitVec 32 := Scalar.extui v517
  let c0_i32_253 : BitVec 32 := 0#32
  let v519 : BitVec 1 := Scalar.cmpi .slt c4_i32_249 c0_i32_253
  let v520 : BitVec 32 := Scalar.extui v519
  let v521 : BitVec 32 := Scalar.subi v518 v520
  let v522 : BitVec 1 := Scalar.cmpi .ne v516 v521
  let v523 : BitVec 32 := Scalar.remsi v192 c4_i32_249
  let c0_i32_254 : BitVec 32 := 0#32
  let v524 : BitVec 1 := Scalar.cmpi .ne v523 c0_i32_254
  let v525 : BitVec 1 := Scalar.andi v522 v524
  let v511 : BitVec 32 := Scalar.divsi v192 c4_i32_249
  let c1_i32_255 : BitVec 32 := 1#32
  let v526 : BitVec 32 := Scalar.subi v511 c1_i32_255
  let v527 : BitVec 32 := Scalar.select v525 v526 v511
  let c2_i32_256 : BitVec 32 := 2#32
  let v528 : BitVec 32 := Scalar.muli v527 c2_i32_256
  let c256_i32 : BitVec 32 := 256#32
  let v529 : BitVec 32 := Scalar.muli v528 c256_i32
  let v530 : BitVec 32 := v529
  let v567 : Index := Scalar.indexCast v530
  let c0_268 : Index := 0#32
  ![1, v567.toNat, 0]
def k0_off82 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_250 : BitVec 32 := 0#32
  let v512 : BitVec 1 := Scalar.cmpi .sgt v192 c0_i32_250
  let v513 : BitVec 32 := Scalar.extui v512
  let c0_i32_251 : BitVec 32 := 0#32
  let v514 : BitVec 1 := Scalar.cmpi .slt v192 c0_i32_251
  let v515 : BitVec 32 := Scalar.extui v514
  let v516 : BitVec 32 := Scalar.subi v513 v515
  let c4_i32_249 : BitVec 32 := 4#32
  let c0_i32_252 : BitVec 32 := 0#32
  let v517 : BitVec 1 := Scalar.cmpi .sgt c4_i32_249 c0_i32_252
  let v518 : BitVec 32 := Scalar.extui v517
  let c0_i32_253 : BitVec 32 := 0#32
  let v519 : BitVec 1 := Scalar.cmpi .slt c4_i32_249 c0_i32_253
  let v520 : BitVec 32 := Scalar.extui v519
  let v521 : BitVec 32 := Scalar.subi v518 v520
  let v522 : BitVec 1 := Scalar.cmpi .ne v516 v521
  let v523 : BitVec 32 := Scalar.remsi v192 c4_i32_249
  let c0_i32_254 : BitVec 32 := 0#32
  let v524 : BitVec 1 := Scalar.cmpi .ne v523 c0_i32_254
  let v525 : BitVec 1 := Scalar.andi v522 v524
  let v511 : BitVec 32 := Scalar.divsi v192 c4_i32_249
  let c1_i32_255 : BitVec 32 := 1#32
  let v526 : BitVec 32 := Scalar.subi v511 c1_i32_255
  let v527 : BitVec 32 := Scalar.select v525 v526 v511
  let c2_i32_256 : BitVec 32 := 2#32
  let v528 : BitVec 32 := Scalar.muli v527 c2_i32_256
  let c256_i32 : BitVec 32 := 256#32
  let v529 : BitVec 32 := Scalar.muli v528 c256_i32
  let v530 : BitVec 32 := v529
  let v584 : Index := Scalar.indexCast v530
  let c512_274 : Index := 512#32
  ![v584.toNat, 512]
def k0_off83 (i : grid0.Coords) (k0_t1 : Fin k0_t1_loop.trips) : Fin 3 → Nat :=
  let c2_276 : Index := 2#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_250 : BitVec 32 := 0#32
  let v512 : BitVec 1 := Scalar.cmpi .sgt v192 c0_i32_250
  let v513 : BitVec 32 := Scalar.extui v512
  let c0_i32_251 : BitVec 32 := 0#32
  let v514 : BitVec 1 := Scalar.cmpi .slt v192 c0_i32_251
  let v515 : BitVec 32 := Scalar.extui v514
  let v516 : BitVec 32 := Scalar.subi v513 v515
  let c4_i32_249 : BitVec 32 := 4#32
  let c0_i32_252 : BitVec 32 := 0#32
  let v517 : BitVec 1 := Scalar.cmpi .sgt c4_i32_249 c0_i32_252
  let v518 : BitVec 32 := Scalar.extui v517
  let c0_i32_253 : BitVec 32 := 0#32
  let v519 : BitVec 1 := Scalar.cmpi .slt c4_i32_249 c0_i32_253
  let v520 : BitVec 32 := Scalar.extui v519
  let v521 : BitVec 32 := Scalar.subi v518 v520
  let v522 : BitVec 1 := Scalar.cmpi .ne v516 v521
  let v523 : BitVec 32 := Scalar.remsi v192 c4_i32_249
  let c0_i32_254 : BitVec 32 := 0#32
  let v524 : BitVec 1 := Scalar.cmpi .ne v523 c0_i32_254
  let v525 : BitVec 1 := Scalar.andi v522 v524
  let v511 : BitVec 32 := Scalar.divsi v192 c4_i32_249
  let c1_i32_255 : BitVec 32 := 1#32
  let v526 : BitVec 32 := Scalar.subi v511 c1_i32_255
  let v527 : BitVec 32 := Scalar.select v525 v526 v511
  let c2_i32_256 : BitVec 32 := 2#32
  let v528 : BitVec 32 := Scalar.muli v527 c2_i32_256
  let c256_i32 : BitVec 32 := 256#32
  let v529 : BitVec 32 := Scalar.muli v528 c256_i32
  let v530 : BitVec 32 := v529
  let v591 : Index := Scalar.indexCast v530
  let c0_277 : Index := 0#32
  ![2, v591.toNat, 0]
def k0_off84 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_250 : BitVec 32 := 0#32
  let v512 : BitVec 1 := Scalar.cmpi .sgt v192 c0_i32_250
  let v513 : BitVec 32 := Scalar.extui v512
  let c0_i32_251 : BitVec 32 := 0#32
  let v514 : BitVec 1 := Scalar.cmpi .slt v192 c0_i32_251
  let v515 : BitVec 32 := Scalar.extui v514
  let v516 : BitVec 32 := Scalar.subi v513 v515
  let c4_i32_249 : BitVec 32 := 4#32
  let c0_i32_252 : BitVec 32 := 0#32
  let v517 : BitVec 1 := Scalar.cmpi .sgt c4_i32_249 c0_i32_252
  let v518 : BitVec 32 := Scalar.extui v517
  let c0_i32_253 : BitVec 32 := 0#32
  let v519 : BitVec 1 := Scalar.cmpi .slt c4_i32_249 c0_i32_253
  let v520 : BitVec 32 := Scalar.extui v519
  let v521 : BitVec 32 := Scalar.subi v518 v520
  let v522 : BitVec 1 := Scalar.cmpi .ne v516 v521
  let v523 : BitVec 32 := Scalar.remsi v192 c4_i32_249
  let c0_i32_254 : BitVec 32 := 0#32
  let v524 : BitVec 1 := Scalar.cmpi .ne v523 c0_i32_254
  let v525 : BitVec 1 := Scalar.andi v522 v524
  let v511 : BitVec 32 := Scalar.divsi v192 c4_i32_249
  let c1_i32_255 : BitVec 32 := 1#32
  let v526 : BitVec 32 := Scalar.subi v511 c1_i32_255
  let v527 : BitVec 32 := Scalar.select v525 v526 v511
  let c2_i32_256 : BitVec 32 := 2#32
  let v528 : BitVec 32 := Scalar.muli v527 c2_i32_256
  let c256_i32 : BitVec 32 := 256#32
  let v529 : BitVec 32 := Scalar.muli v528 c256_i32
  let v530 : BitVec 32 := v529
  let v608 : Index := Scalar.indexCast v530
  let c1024_283 : Index := 1024#32
  ![v608.toNat, 1024]
def k0_off85 (i : grid0.Coords) (k0_t1 : Fin k0_t1_loop.trips) : Fin 3 → Nat :=
  let c3_285 : Index := 3#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_250 : BitVec 32 := 0#32
  let v512 : BitVec 1 := Scalar.cmpi .sgt v192 c0_i32_250
  let v513 : BitVec 32 := Scalar.extui v512
  let c0_i32_251 : BitVec 32 := 0#32
  let v514 : BitVec 1 := Scalar.cmpi .slt v192 c0_i32_251
  let v515 : BitVec 32 := Scalar.extui v514
  let v516 : BitVec 32 := Scalar.subi v513 v515
  let c4_i32_249 : BitVec 32 := 4#32
  let c0_i32_252 : BitVec 32 := 0#32
  let v517 : BitVec 1 := Scalar.cmpi .sgt c4_i32_249 c0_i32_252
  let v518 : BitVec 32 := Scalar.extui v517
  let c0_i32_253 : BitVec 32 := 0#32
  let v519 : BitVec 1 := Scalar.cmpi .slt c4_i32_249 c0_i32_253
  let v520 : BitVec 32 := Scalar.extui v519
  let v521 : BitVec 32 := Scalar.subi v518 v520
  let v522 : BitVec 1 := Scalar.cmpi .ne v516 v521
  let v523 : BitVec 32 := Scalar.remsi v192 c4_i32_249
  let c0_i32_254 : BitVec 32 := 0#32
  let v524 : BitVec 1 := Scalar.cmpi .ne v523 c0_i32_254
  let v525 : BitVec 1 := Scalar.andi v522 v524
  let v511 : BitVec 32 := Scalar.divsi v192 c4_i32_249
  let c1_i32_255 : BitVec 32 := 1#32
  let v526 : BitVec 32 := Scalar.subi v511 c1_i32_255
  let v527 : BitVec 32 := Scalar.select v525 v526 v511
  let c2_i32_256 : BitVec 32 := 2#32
  let v528 : BitVec 32 := Scalar.muli v527 c2_i32_256
  let c256_i32 : BitVec 32 := 256#32
  let v529 : BitVec 32 := Scalar.muli v528 c256_i32
  let v530 : BitVec 32 := v529
  let v615 : Index := Scalar.indexCast v530
  let c0_286 : Index := 0#32
  ![3, v615.toNat, 0]
def k0_off86 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c0_i32_250 : BitVec 32 := 0#32
  let v512 : BitVec 1 := Scalar.cmpi .sgt v192 c0_i32_250
  let v513 : BitVec 32 := Scalar.extui v512
  let c0_i32_251 : BitVec 32 := 0#32
  let v514 : BitVec 1 := Scalar.cmpi .slt v192 c0_i32_251
  let v515 : BitVec 32 := Scalar.extui v514
  let v516 : BitVec 32 := Scalar.subi v513 v515
  let c4_i32_249 : BitVec 32 := 4#32
  let c0_i32_252 : BitVec 32 := 0#32
  let v517 : BitVec 1 := Scalar.cmpi .sgt c4_i32_249 c0_i32_252
  let v518 : BitVec 32 := Scalar.extui v517
  let c0_i32_253 : BitVec 32 := 0#32
  let v519 : BitVec 1 := Scalar.cmpi .slt c4_i32_249 c0_i32_253
  let v520 : BitVec 32 := Scalar.extui v519
  let v521 : BitVec 32 := Scalar.subi v518 v520
  let v522 : BitVec 1 := Scalar.cmpi .ne v516 v521
  let v523 : BitVec 32 := Scalar.remsi v192 c4_i32_249
  let c0_i32_254 : BitVec 32 := 0#32
  let v524 : BitVec 1 := Scalar.cmpi .ne v523 c0_i32_254
  let v525 : BitVec 1 := Scalar.andi v522 v524
  let v511 : BitVec 32 := Scalar.divsi v192 c4_i32_249
  let c1_i32_255 : BitVec 32 := 1#32
  let v526 : BitVec 32 := Scalar.subi v511 c1_i32_255
  let v527 : BitVec 32 := Scalar.select v525 v526 v511
  let c2_i32_256 : BitVec 32 := 2#32
  let v528 : BitVec 32 := Scalar.muli v527 c2_i32_256
  let c256_i32 : BitVec 32 := 256#32
  let v529 : BitVec 32 := Scalar.muli v528 c256_i32
  let v530 : BitVec 32 := v529
  let v632 : Index := Scalar.indexCast v530
  let c1536_292 : Index := 1536#32
  ![v632.toNat, 1536]
def k0_cond9 (i : grid0.Coords) (k0_t1 : Fin k0_t1_loop.trips) : BitVec 1 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c2_i32_110 : BitVec 32 := 2#32
  let c0_i32_111 : BitVec 32 := 0#32
  let v231 : BitVec 1 := Scalar.cmpi .eq c2_i32_110 c0_i32_111
  let c1_i32_112 : BitVec 32 := 1#32
  let v232 : BitVec 32 := Scalar.select v231 c1_i32_112 c2_i32_110
  let v233 : BitVec 32 := Scalar.remsi v192 v232
  let c0_i32_114 : BitVec 32 := 0#32
  let v235 : BitVec 1 := Scalar.cmpi .slt v233 c0_i32_114
  let c0_i32_115 : BitVec 32 := 0#32
  let v236 : BitVec 1 := Scalar.cmpi .slt v232 c0_i32_115
  let v237 : BitVec 1 := Scalar.xori v235 v236
  let c0_i32_113 : BitVec 32 := 0#32
  let v234 : BitVec 1 := Scalar.cmpi .ne v233 c0_i32_113
  let v238 : BitVec 1 := Scalar.andi v237 v234
  let v239 : BitVec 32 := Scalar.addi v233 v232
  let v240 : BitVec 32 := Scalar.select v238 v239 v233
  let c1_i32_116 : BitVec 32 := 1#32
  let v241 : BitVec 1 := Scalar.cmpi .eq v240 c1_i32_116
  let v242 : BitVec 32 := Scalar.extui v241
  let c0_i32_117 : BitVec 32 := 0#32
  let v243 : BitVec 1 := Scalar.cmpi .ne v242 c0_i32_117
  v243

def k0_mult13 (i : grid0.Coords) (k0_t1 : Fin k0_t1_loop.trips) : BitVec 32 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c1_i32_249 : BitVec 32 := 1#32
  let v511 : BitVec 32 := Scalar.subi v192 c1_i32_249
  let c128_i32_250 : BitVec 32 := 128#32
  let v512 : BitVec 32 := Scalar.muli v511 c128_i32_250
  v512
def k0_off87 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c1_i32_249 : BitVec 32 := 1#32
  let v511 : BitVec 32 := Scalar.subi v192 c1_i32_249
  let c128_i32_250 : BitVec 32 := 128#32
  let v512 : BitVec 32 := Scalar.muli v511 c128_i32_250
  let v513 : BitVec 32 := v512
  let v514 : Index := Scalar.indexCast v513
  let c0_251 : Index := 0#32
  ![v514.toNat, 0]
def k0_off88 (i : grid0.Coords) (k0_t1 : Fin k0_t1_loop.trips) : Fin 3 → Nat :=
  let c0_252 : Index := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c1_i32_249 : BitVec 32 := 1#32
  let v511 : BitVec 32 := Scalar.subi v192 c1_i32_249
  let c128_i32_250 : BitVec 32 := 128#32
  let v512 : BitVec 32 := Scalar.muli v511 c128_i32_250
  let v513 : BitVec 32 := v512
  let v527 : Index := Scalar.indexCast v513
  let c0_253 : Index := 0#32
  ![0, v527.toNat, 0]
def k0_off89 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c1_i32_249 : BitVec 32 := 1#32
  let v511 : BitVec 32 := Scalar.subi v192 c1_i32_249
  let c128_i32_250 : BitVec 32 := 128#32
  let v512 : BitVec 32 := Scalar.muli v511 c128_i32_250
  let v513 : BitVec 32 := v512
  let v544 : Index := Scalar.indexCast v513
  let c0_259 : Index := 0#32
  ![v544.toNat, 0]
def k0_off90 (i : grid0.Coords) (k0_t1 : Fin k0_t1_loop.trips) : Fin 3 → Nat :=
  let c1_261 : Index := 1#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c1_i32_249 : BitVec 32 := 1#32
  let v511 : BitVec 32 := Scalar.subi v192 c1_i32_249
  let c128_i32_250 : BitVec 32 := 128#32
  let v512 : BitVec 32 := Scalar.muli v511 c128_i32_250
  let v513 : BitVec 32 := v512
  let v551 : Index := Scalar.indexCast v513
  let c0_262 : Index := 0#32
  ![1, v551.toNat, 0]
def k0_off91 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c1_i32_249 : BitVec 32 := 1#32
  let v511 : BitVec 32 := Scalar.subi v192 c1_i32_249
  let c128_i32_250 : BitVec 32 := 128#32
  let v512 : BitVec 32 := Scalar.muli v511 c128_i32_250
  let v513 : BitVec 32 := v512
  let v568 : Index := Scalar.indexCast v513
  let c512_268 : Index := 512#32
  ![v568.toNat, 512]
def k0_off92 (i : grid0.Coords) (k0_t1 : Fin k0_t1_loop.trips) : Fin 3 → Nat :=
  let c2_270 : Index := 2#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c1_i32_249 : BitVec 32 := 1#32
  let v511 : BitVec 32 := Scalar.subi v192 c1_i32_249
  let c128_i32_250 : BitVec 32 := 128#32
  let v512 : BitVec 32 := Scalar.muli v511 c128_i32_250
  let v513 : BitVec 32 := v512
  let v575 : Index := Scalar.indexCast v513
  let c0_271 : Index := 0#32
  ![2, v575.toNat, 0]
def k0_off93 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c1_i32_249 : BitVec 32 := 1#32
  let v511 : BitVec 32 := Scalar.subi v192 c1_i32_249
  let c128_i32_250 : BitVec 32 := 128#32
  let v512 : BitVec 32 := Scalar.muli v511 c128_i32_250
  let v513 : BitVec 32 := v512
  let v592 : Index := Scalar.indexCast v513
  let c1024_277 : Index := 1024#32
  ![v592.toNat, 1024]
def k0_off94 (i : grid0.Coords) (k0_t1 : Fin k0_t1_loop.trips) : Fin 3 → Nat :=
  let c3_279 : Index := 3#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c1_i32_249 : BitVec 32 := 1#32
  let v511 : BitVec 32 := Scalar.subi v192 c1_i32_249
  let c128_i32_250 : BitVec 32 := 128#32
  let v512 : BitVec 32 := Scalar.muli v511 c128_i32_250
  let v513 : BitVec 32 := v512
  let v599 : Index := Scalar.indexCast v513
  let c0_280 : Index := 0#32
  ![3, v599.toNat, 0]
def k0_off95 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_90 : BitVec 32 := 1#32
  let v192 : BitVec 32 := Scalar.subi v6 c1_i32_90
  let c1_i32_249 : BitVec 32 := 1#32
  let v511 : BitVec 32 := Scalar.subi v192 c1_i32_249
  let c128_i32_250 : BitVec 32 := 128#32
  let v512 : BitVec 32 := Scalar.muli v511 c128_i32_250
  let v513 : BitVec 32 := v512
  let v616 : Index := Scalar.indexCast v513
  let c1536_286 : Index := 1536#32
  ![v616.toNat, 1536]
def k0_mult14 (i : grid0.Coords) (k0_t1 : Fin k0_t1_loop.trips) : BitVec 32 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_118 : BitVec 32 := 1#32
  let v245 : BitVec 32 := Scalar.subi v6 c1_i32_118
  let c128_i32 : BitVec 32 := 128#32
  let v246 : BitVec 32 := Scalar.muli v245 c128_i32
  v246
def k0_off96 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_118 : BitVec 32 := 1#32
  let v245 : BitVec 32 := Scalar.subi v6 c1_i32_118
  let c128_i32 : BitVec 32 := 128#32
  let v246 : BitVec 32 := Scalar.muli v245 c128_i32
  let v247 : BitVec 32 := v246
  let v248 : Index := Scalar.indexCast v247
  let c0_119 : Index := 0#32
  ![v248.toNat, 0]
def k0_off97 (i : grid0.Coords) (k0_t1 : Fin k0_t1_loop.trips) : Fin 3 → Nat :=
  let c0_120 : Index := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_118 : BitVec 32 := 1#32
  let v245 : BitVec 32 := Scalar.subi v6 c1_i32_118
  let c128_i32 : BitVec 32 := 128#32
  let v246 : BitVec 32 := Scalar.muli v245 c128_i32
  let v247 : BitVec 32 := v246
  let v260 : Index := Scalar.indexCast v247
  let c0_121 : Index := 0#32
  ![0, v260.toNat, 0]
def k0_off98 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_118 : BitVec 32 := 1#32
  let v245 : BitVec 32 := Scalar.subi v6 c1_i32_118
  let c128_i32 : BitVec 32 := 128#32
  let v246 : BitVec 32 := Scalar.muli v245 c128_i32
  let v247 : BitVec 32 := v246
  let v289 : Index := Scalar.indexCast v247
  let c0_136 : Index := 0#32
  ![v289.toNat, 0]
def k0_off99 (i : grid0.Coords) (k0_t1 : Fin k0_t1_loop.trips) : Fin 3 → Nat :=
  let c1_138 : Index := 1#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_118 : BitVec 32 := 1#32
  let v245 : BitVec 32 := Scalar.subi v6 c1_i32_118
  let c128_i32 : BitVec 32 := 128#32
  let v246 : BitVec 32 := Scalar.muli v245 c128_i32
  let v247 : BitVec 32 := v246
  let v296 : Index := Scalar.indexCast v247
  let c0_139 : Index := 0#32
  ![1, v296.toNat, 0]
def k0_off100 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_118 : BitVec 32 := 1#32
  let v245 : BitVec 32 := Scalar.subi v6 c1_i32_118
  let c128_i32 : BitVec 32 := 128#32
  let v246 : BitVec 32 := Scalar.muli v245 c128_i32
  let v247 : BitVec 32 := v246
  let v325 : Index := Scalar.indexCast v247
  let c512_153 : Index := 512#32
  ![v325.toNat, 512]
def k0_off101 (i : grid0.Coords) (k0_t1 : Fin k0_t1_loop.trips) : Fin 3 → Nat :=
  let c2_155 : Index := 2#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_118 : BitVec 32 := 1#32
  let v245 : BitVec 32 := Scalar.subi v6 c1_i32_118
  let c128_i32 : BitVec 32 := 128#32
  let v246 : BitVec 32 := Scalar.muli v245 c128_i32
  let v247 : BitVec 32 := v246
  let v332 : Index := Scalar.indexCast v247
  let c0_156 : Index := 0#32
  ![2, v332.toNat, 0]
def k0_off102 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_118 : BitVec 32 := 1#32
  let v245 : BitVec 32 := Scalar.subi v6 c1_i32_118
  let c128_i32 : BitVec 32 := 128#32
  let v246 : BitVec 32 := Scalar.muli v245 c128_i32
  let v247 : BitVec 32 := v246
  let v361 : Index := Scalar.indexCast v247
  let c1024 : Index := 1024#32
  ![v361.toNat, 1024]
def k0_off103 (i : grid0.Coords) (k0_t1 : Fin k0_t1_loop.trips) : Fin 3 → Nat :=
  let c3_171 : Index := 3#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_118 : BitVec 32 := 1#32
  let v245 : BitVec 32 := Scalar.subi v6 c1_i32_118
  let c128_i32 : BitVec 32 := 128#32
  let v246 : BitVec 32 := Scalar.muli v245 c128_i32
  let v247 : BitVec 32 := v246
  let v368 : Index := Scalar.indexCast v247
  let c0_172 : Index := 0#32
  ![3, v368.toNat, 0]
def k0_off104 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_118 : BitVec 32 := 1#32
  let v245 : BitVec 32 := Scalar.subi v6 c1_i32_118
  let c128_i32 : BitVec 32 := 128#32
  let v246 : BitVec 32 := Scalar.muli v245 c128_i32
  let v247 : BitVec 32 := v246
  let v397 : Index := Scalar.indexCast v247
  let c1536 : Index := 1536#32
  ![v397.toNat, 1536]
def k0_cond10 (i : grid0.Coords) (k0_t1 : Fin k0_t1_loop.trips) : BitVec 1 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32_191 : BitVec 32 := 2#32
  let c0_i32_192 : BitVec 32 := 0#32
  let v412 : BitVec 1 := Scalar.cmpi .eq c2_i32_191 c0_i32_192
  let c1_i32_193 : BitVec 32 := 1#32
  let v413 : BitVec 32 := Scalar.select v412 c1_i32_193 c2_i32_191
  let v414 : BitVec 32 := Scalar.remsi v7 v413
  let c0_i32_195 : BitVec 32 := 0#32
  let v416 : BitVec 1 := Scalar.cmpi .slt v414 c0_i32_195
  let c0_i32_196 : BitVec 32 := 0#32
  let v417 : BitVec 1 := Scalar.cmpi .slt v413 c0_i32_196
  let v418 : BitVec 1 := Scalar.xori v416 v417
  let c0_i32_194 : BitVec 32 := 0#32
  let v415 : BitVec 1 := Scalar.cmpi .ne v414 c0_i32_194
  let v419 : BitVec 1 := Scalar.andi v418 v415
  let v420 : BitVec 32 := Scalar.addi v414 v413
  let v421 : BitVec 32 := Scalar.select v419 v420 v414
  let c1_i32_197 : BitVec 32 := 1#32
  let v422 : BitVec 1 := Scalar.cmpi .eq v421 c1_i32_197
  let v423 : BitVec 32 := Scalar.extui v422
  let c0_i32_198 : BitVec 32 := 0#32
  let v424 : BitVec 1 := Scalar.cmpi .ne v423 c0_i32_198
  v424

def k0_mult15 (i : grid0.Coords) (k0_t1 : Fin k0_t1_loop.trips) : BitVec 32 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c128_i32_250 : BitVec 32 := 128#32
  let v512 : BitVec 32 := Scalar.muli v7 c128_i32_250
  v512
def k0_off105 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c128_i32_250 : BitVec 32 := 128#32
  let v512 : BitVec 32 := Scalar.muli v7 c128_i32_250
  let v513 : BitVec 32 := v512
  let v514 : Index := Scalar.indexCast v513
  let c0_251 : Index := 0#32
  ![v514.toNat, 0]
@[reducible] def k0_t21_loop (i : grid0.Coords) (k0_t1 : Fin k0_t1_loop.trips) : Scf.Loop 32 :=
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_213 : BitVec 32 := 1#32
  ⟨c0_i32_211, v450, c1_i32_213⟩
def k0_mult16 (i : grid0.Coords) (k0_t1 : Fin k0_t1_loop.trips) (k0_t21 : Fin (k0_t21_loop i k0_t1).trips) : BitVec 32 :=
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  v511
def k0_off106 (i : grid0.Coords) (k0_t1 : Fin k0_t1_loop.trips) (k0_t21 : Fin (k0_t21_loop i k0_t1).trips) : Fin 2 → Nat :=
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let v513 : Index := Scalar.indexCast v512
  let c0_249 : Index := 0#32
  ![v513.toNat, 0]
def k0_off107 (i : grid0.Coords) (k0_t1 : Fin k0_t1_loop.trips) (k0_t21 : Fin (k0_t21_loop i k0_t1).trips) : Fin 2 → Nat :=
  let c0_253 : Index := 0#32
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let v520 : Index := Scalar.indexCast v512
  ![0, v520.toNat]
def k0_off108 (i : grid0.Coords) (k0_t1 : Fin k0_t1_loop.trips) (k0_t21 : Fin (k0_t21_loop i k0_t1).trips) : Fin 2 → Nat :=
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let v528 : Index := Scalar.indexCast v512
  let c512_258 : Index := 512#32
  ![v528.toNat, 512]
def k0_off109 (i : grid0.Coords) (k0_t1 : Fin k0_t1_loop.trips) (k0_t21 : Fin (k0_t21_loop i k0_t1).trips) : Fin 2 → Nat :=
  let c80 : Index := 80#32
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let v535 : Index := Scalar.indexCast v512
  ![80, v535.toNat]
def k0_off110 (i : grid0.Coords) (k0_t1 : Fin k0_t1_loop.trips) (k0_t21 : Fin (k0_t21_loop i k0_t1).trips) : Fin 2 → Nat :=
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let v543 : Index := Scalar.indexCast v512
  let c1024_266 : Index := 1024#32
  ![v543.toNat, 1024]
def k0_off111 (i : grid0.Coords) (k0_t1 : Fin k0_t1_loop.trips) (k0_t21 : Fin (k0_t21_loop i k0_t1).trips) : Fin 2 → Nat :=
  let c160 : Index := 160#32
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let v550 : Index := Scalar.indexCast v512
  ![160, v550.toNat]
def k0_off112 (i : grid0.Coords) (k0_t1 : Fin k0_t1_loop.trips) (k0_t21 : Fin (k0_t21_loop i k0_t1).trips) : Fin 2 → Nat :=
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let v558 : Index := Scalar.indexCast v512
  let c1536_274 : Index := 1536#32
  ![v558.toNat, 1536]
def k0_off113 (i : grid0.Coords) (k0_t1 : Fin k0_t1_loop.trips) (k0_t21 : Fin (k0_t21_loop i k0_t1).trips) : Fin 2 → Nat :=
  let c240 : Index := 240#32
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let v565 : Index := Scalar.indexCast v512
  ![240, v565.toNat]
def k0_off114 (i : grid0.Coords) (k0_t1 : Fin k0_t1_loop.trips) (k0_t21 : Fin (k0_t21_loop i k0_t1).trips) : Fin 2 → Nat :=
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v574 : Index := Scalar.indexCast v573
  let c0_282 : Index := 0#32
  ![v574.toNat, 0]
def k0_off115 (i : grid0.Coords) (k0_t1 : Fin k0_t1_loop.trips) (k0_t21 : Fin (k0_t21_loop i k0_t1).trips) : Fin 2 → Nat :=
  let c0_286 : Index := 0#32
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v581 : Index := Scalar.indexCast v573
  ![0, v581.toNat]
def k0_off116 (i : grid0.Coords) (k0_t1 : Fin k0_t1_loop.trips) (k0_t21 : Fin (k0_t21_loop i k0_t1).trips) : Fin 2 → Nat :=
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v589 : Index := Scalar.indexCast v573
  let c512_291 : Index := 512#32
  ![v589.toNat, 512]
def k0_off117 (i : grid0.Coords) (k0_t1 : Fin k0_t1_loop.trips) (k0_t21 : Fin (k0_t21_loop i k0_t1).trips) : Fin 2 → Nat :=
  let c80_295 : Index := 80#32
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v596 : Index := Scalar.indexCast v573
  ![80, v596.toNat]
def k0_off118 (i : grid0.Coords) (k0_t1 : Fin k0_t1_loop.trips) (k0_t21 : Fin (k0_t21_loop i k0_t1).trips) : Fin 2 → Nat :=
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v604 : Index := Scalar.indexCast v573
  let c1024_300 : Index := 1024#32
  ![v604.toNat, 1024]
def k0_off119 (i : grid0.Coords) (k0_t1 : Fin k0_t1_loop.trips) (k0_t21 : Fin (k0_t21_loop i k0_t1).trips) : Fin 2 → Nat :=
  let c160_304 : Index := 160#32
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v611 : Index := Scalar.indexCast v573
  ![160, v611.toNat]
def k0_off120 (i : grid0.Coords) (k0_t1 : Fin k0_t1_loop.trips) (k0_t21 : Fin (k0_t21_loop i k0_t1).trips) : Fin 2 → Nat :=
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v619 : Index := Scalar.indexCast v573
  let c1536_309 : Index := 1536#32
  ![v619.toNat, 1536]
def k0_off121 (i : grid0.Coords) (k0_t1 : Fin k0_t1_loop.trips) (k0_t21 : Fin (k0_t21_loop i k0_t1).trips) : Fin 2 → Nat :=
  let c240_313 : Index := 240#32
  let c0_i32_211 : BitVec 32 := 0#32
  let c1_i32_213 : BitVec 32 := 1#32
  let arg24 : BitVec 32 := Scf.iv c0_i32_211 c1_i32_213 k0_t21
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v626 : Index := Scalar.indexCast v573
  ![240, v626.toNat]
@[reducible] def k0_t22_loop (i : grid0.Coords) (k0_t1 : Fin k0_t1_loop.trips) : Scf.Loop 32 :=
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let v447 : BitVec 32 := Scalar.addi c0_i32_211 v446
  let c1_i32_214 : BitVec 32 := 1#32
  ⟨v450, v447, c1_i32_214⟩
def k0_mult17 (i : grid0.Coords) (k0_t1 : Fin k0_t1_loop.trips) (k0_t22 : Fin (k0_t22_loop i k0_t1).trips) : BitVec 32 :=
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  v511
def k0_off122 (i : grid0.Coords) (k0_t1 : Fin k0_t1_loop.trips) (k0_t22 : Fin (k0_t22_loop i k0_t1).trips) : Fin 2 → Nat :=
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let v513 : Index := Scalar.indexCast v512
  let c0_249 : Index := 0#32
  ![v513.toNat, 0]
def k0_off123 (i : grid0.Coords) (k0_t1 : Fin k0_t1_loop.trips) (k0_t22 : Fin (k0_t22_loop i k0_t1).trips) : Fin 2 → Nat :=
  let c0_253 : Index := 0#32
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let v520 : Index := Scalar.indexCast v512
  ![0, v520.toNat]
def k0_off124 (i : grid0.Coords) (k0_t1 : Fin k0_t1_loop.trips) (k0_t22 : Fin (k0_t22_loop i k0_t1).trips) : Fin 2 → Nat :=
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let v528 : Index := Scalar.indexCast v512
  let c512_258 : Index := 512#32
  ![v528.toNat, 512]
def k0_off125 (i : grid0.Coords) (k0_t1 : Fin k0_t1_loop.trips) (k0_t22 : Fin (k0_t22_loop i k0_t1).trips) : Fin 2 → Nat :=
  let c80 : Index := 80#32
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let v535 : Index := Scalar.indexCast v512
  ![80, v535.toNat]
def k0_off126 (i : grid0.Coords) (k0_t1 : Fin k0_t1_loop.trips) (k0_t22 : Fin (k0_t22_loop i k0_t1).trips) : Fin 2 → Nat :=
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let v543 : Index := Scalar.indexCast v512
  let c1024_266 : Index := 1024#32
  ![v543.toNat, 1024]
def k0_off127 (i : grid0.Coords) (k0_t1 : Fin k0_t1_loop.trips) (k0_t22 : Fin (k0_t22_loop i k0_t1).trips) : Fin 2 → Nat :=
  let c160 : Index := 160#32
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let v550 : Index := Scalar.indexCast v512
  ![160, v550.toNat]
def k0_off128 (i : grid0.Coords) (k0_t1 : Fin k0_t1_loop.trips) (k0_t22 : Fin (k0_t22_loop i k0_t1).trips) : Fin 2 → Nat :=
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let v558 : Index := Scalar.indexCast v512
  let c1536_274 : Index := 1536#32
  ![v558.toNat, 1536]
def k0_off129 (i : grid0.Coords) (k0_t1 : Fin k0_t1_loop.trips) (k0_t22 : Fin (k0_t22_loop i k0_t1).trips) : Fin 2 → Nat :=
  let c240 : Index := 240#32
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let v565 : Index := Scalar.indexCast v512
  ![240, v565.toNat]
def k0_off130 (i : grid0.Coords) (k0_t1 : Fin k0_t1_loop.trips) (k0_t22 : Fin (k0_t22_loop i k0_t1).trips) : Fin 2 → Nat :=
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v574 : Index := Scalar.indexCast v573
  let c0_282 : Index := 0#32
  ![v574.toNat, 0]
def k0_off131 (i : grid0.Coords) (k0_t1 : Fin k0_t1_loop.trips) (k0_t22 : Fin (k0_t22_loop i k0_t1).trips) : Fin 2 → Nat :=
  let c0_286 : Index := 0#32
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v581 : Index := Scalar.indexCast v573
  ![0, v581.toNat]
def k0_off132 (i : grid0.Coords) (k0_t1 : Fin k0_t1_loop.trips) (k0_t22 : Fin (k0_t22_loop i k0_t1).trips) : Fin 2 → Nat :=
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v589 : Index := Scalar.indexCast v573
  let c512_291 : Index := 512#32
  ![v589.toNat, 512]
def k0_off133 (i : grid0.Coords) (k0_t1 : Fin k0_t1_loop.trips) (k0_t22 : Fin (k0_t22_loop i k0_t1).trips) : Fin 2 → Nat :=
  let c80_295 : Index := 80#32
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v596 : Index := Scalar.indexCast v573
  ![80, v596.toNat]
def k0_off134 (i : grid0.Coords) (k0_t1 : Fin k0_t1_loop.trips) (k0_t22 : Fin (k0_t22_loop i k0_t1).trips) : Fin 2 → Nat :=
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v604 : Index := Scalar.indexCast v573
  let c1024_300 : Index := 1024#32
  ![v604.toNat, 1024]
def k0_off135 (i : grid0.Coords) (k0_t1 : Fin k0_t1_loop.trips) (k0_t22 : Fin (k0_t22_loop i k0_t1).trips) : Fin 2 → Nat :=
  let c160_304 : Index := 160#32
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v611 : Index := Scalar.indexCast v573
  ![160, v611.toNat]
def k0_off136 (i : grid0.Coords) (k0_t1 : Fin k0_t1_loop.trips) (k0_t22 : Fin (k0_t22_loop i k0_t1).trips) : Fin 2 → Nat :=
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v619 : Index := Scalar.indexCast v573
  let c1536_309 : Index := 1536#32
  ![v619.toNat, 1536]
def k0_off137 (i : grid0.Coords) (k0_t1 : Fin k0_t1_loop.trips) (k0_t22 : Fin (k0_t22_loop i k0_t1).trips) : Fin 2 → Nat :=
  let c240_313 : Index := 240#32
  let c0_i32_211 : BitVec 32 := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c0_i32_204 : BitVec 32 := 0#32
  let v430 : BitVec 1 := Scalar.cmpi .sgt v26 c0_i32_204
  let v431 : BitVec 32 := Scalar.extui v430
  let c0_i32_205 : BitVec 32 := 0#32
  let v432 : BitVec 1 := Scalar.cmpi .slt v26 c0_i32_205
  let v433 : BitVec 32 := Scalar.extui v432
  let v434 : BitVec 32 := Scalar.subi v431 v433
  let c2_i32_203 : BitVec 32 := 2#32
  let c0_i32_206 : BitVec 32 := 0#32
  let v435 : BitVec 1 := Scalar.cmpi .sgt c2_i32_203 c0_i32_206
  let v436 : BitVec 32 := Scalar.extui v435
  let c0_i32_207 : BitVec 32 := 0#32
  let v437 : BitVec 1 := Scalar.cmpi .slt c2_i32_203 c0_i32_207
  let v438 : BitVec 32 := Scalar.extui v437
  let v439 : BitVec 32 := Scalar.subi v436 v438
  let v440 : BitVec 1 := Scalar.cmpi .ne v434 v439
  let v441 : BitVec 32 := Scalar.remsi v26 c2_i32_203
  let c0_i32_208 : BitVec 32 := 0#32
  let v442 : BitVec 1 := Scalar.cmpi .ne v441 c0_i32_208
  let v443 : BitVec 1 := Scalar.andi v440 v442
  let v429 : BitVec 32 := Scalar.divsi v26 c2_i32_203
  let c1_i32_209 : BitVec 32 := 1#32
  let v444 : BitVec 32 := Scalar.subi v429 c1_i32_209
  let v445 : BitVec 32 := Scalar.select v443 v444 v429
  let v446 : BitVec 32 := Scalar.subi v445 c0_i32_211
  let c1_i32_212 : BitVec 32 := 1#32
  let v448 : BitVec 32 := Scalar.divsi v446 c1_i32_212
  let v449 : BitVec 32 := Scalar.muli v448 c1_i32_212
  let v450 : BitVec 32 := Scalar.addi c0_i32_211 v449
  let c1_i32_214 : BitVec 32 := 1#32
  let arg24 : BitVec 32 := Scf.iv v450 c1_i32_214 k0_t22
  let c512_i32 : BitVec 32 := 512#32
  let v511 : BitVec 32 := Scalar.muli arg24 c512_i32
  let v512 : BitVec 32 := v511
  let c256_i32 : BitVec 32 := 256#32
  let v573 : BitVec 32 := Scalar.addi v512 c256_i32
  let v626 : Index := Scalar.indexCast v573
  ![240, v626.toNat]
def k0_cond11 (i : grid0.Coords) (k0_t1 : Fin k0_t1_loop.trips) : BitVec 1 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c2_i32_215 : BitVec 32 := 2#32
  let c0_i32_216 : BitVec 32 := 0#32
  let v451 : BitVec 1 := Scalar.cmpi .eq c2_i32_215 c0_i32_216
  let c1_i32_217 : BitVec 32 := 1#32
  let v452 : BitVec 32 := Scalar.select v451 c1_i32_217 c2_i32_215
  let v453 : BitVec 32 := Scalar.remsi v26 v452
  let c0_i32_219 : BitVec 32 := 0#32
  let v455 : BitVec 1 := Scalar.cmpi .slt v453 c0_i32_219
  let c0_i32_220 : BitVec 32 := 0#32
  let v456 : BitVec 1 := Scalar.cmpi .slt v452 c0_i32_220
  let v457 : BitVec 1 := Scalar.xori v455 v456
  let c0_i32_218 : BitVec 32 := 0#32
  let v454 : BitVec 1 := Scalar.cmpi .ne v453 c0_i32_218
  let v458 : BitVec 1 := Scalar.andi v457 v454
  let v459 : BitVec 32 := Scalar.addi v453 v452
  let v460 : BitVec 32 := Scalar.select v458 v459 v453
  let c1_i32_221 : BitVec 32 := 1#32
  let v461 : BitVec 1 := Scalar.cmpi .eq v460 c1_i32_221
  let v462 : BitVec 32 := Scalar.extui v461
  let c0_i32_222 : BitVec 32 := 0#32
  let v463 : BitVec 1 := Scalar.cmpi .ne v462 c0_i32_222
  v463

def k0_mult18 (i : grid0.Coords) (k0_t1 : Fin k0_t1_loop.trips) : BitVec 32 :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_249 : BitVec 32 := 1#32
  let v511 : BitVec 32 := Scalar.subi v26 c1_i32_249
  let c256_i32 : BitVec 32 := 256#32
  let v512 : BitVec 32 := Scalar.muli v511 c256_i32
  v512
def k0_off138 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_249 : BitVec 32 := 1#32
  let v511 : BitVec 32 := Scalar.subi v26 c1_i32_249
  let c256_i32 : BitVec 32 := 256#32
  let v512 : BitVec 32 := Scalar.muli v511 c256_i32
  let v513 : BitVec 32 := v512
  let v514 : Index := Scalar.indexCast v513
  let c0_250 : Index := 0#32
  ![v514.toNat, 0]
def k0_off139 (i : grid0.Coords) (k0_t1 : Fin k0_t1_loop.trips) : Fin 2 → Nat :=
  let c0_254 : Index := 0#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_249 : BitVec 32 := 1#32
  let v511 : BitVec 32 := Scalar.subi v26 c1_i32_249
  let c256_i32 : BitVec 32 := 256#32
  let v512 : BitVec 32 := Scalar.muli v511 c256_i32
  let v513 : BitVec 32 := v512
  let v521 : Index := Scalar.indexCast v513
  ![0, v521.toNat]
def k0_off140 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_249 : BitVec 32 := 1#32
  let v511 : BitVec 32 := Scalar.subi v26 c1_i32_249
  let c256_i32 : BitVec 32 := 256#32
  let v512 : BitVec 32 := Scalar.muli v511 c256_i32
  let v513 : BitVec 32 := v512
  let v529 : Index := Scalar.indexCast v513
  let c512_259 : Index := 512#32
  ![v529.toNat, 512]
def k0_off141 (i : grid0.Coords) (k0_t1 : Fin k0_t1_loop.trips) : Fin 2 → Nat :=
  let c80 : Index := 80#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_249 : BitVec 32 := 1#32
  let v511 : BitVec 32 := Scalar.subi v26 c1_i32_249
  let c256_i32 : BitVec 32 := 256#32
  let v512 : BitVec 32 := Scalar.muli v511 c256_i32
  let v513 : BitVec 32 := v512
  let v536 : Index := Scalar.indexCast v513
  ![80, v536.toNat]
def k0_off142 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_249 : BitVec 32 := 1#32
  let v511 : BitVec 32 := Scalar.subi v26 c1_i32_249
  let c256_i32 : BitVec 32 := 256#32
  let v512 : BitVec 32 := Scalar.muli v511 c256_i32
  let v513 : BitVec 32 := v512
  let v544 : Index := Scalar.indexCast v513
  let c1024_267 : Index := 1024#32
  ![v544.toNat, 1024]
def k0_off143 (i : grid0.Coords) (k0_t1 : Fin k0_t1_loop.trips) : Fin 2 → Nat :=
  let c160 : Index := 160#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_249 : BitVec 32 := 1#32
  let v511 : BitVec 32 := Scalar.subi v26 c1_i32_249
  let c256_i32 : BitVec 32 := 256#32
  let v512 : BitVec 32 := Scalar.muli v511 c256_i32
  let v513 : BitVec 32 := v512
  let v551 : Index := Scalar.indexCast v513
  ![160, v551.toNat]
def k0_off144 (i : grid0.Coords) (k0_t1 : Fin k0_t1_loop.trips) : Fin 2 → Nat :=
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_249 : BitVec 32 := 1#32
  let v511 : BitVec 32 := Scalar.subi v26 c1_i32_249
  let c256_i32 : BitVec 32 := 256#32
  let v512 : BitVec 32 := Scalar.muli v511 c256_i32
  let v513 : BitVec 32 := v512
  let v559 : Index := Scalar.indexCast v513
  let c1536_275 : Index := 1536#32
  ![v559.toNat, 1536]
def k0_off145 (i : grid0.Coords) (k0_t1 : Fin k0_t1_loop.trips) : Fin 2 → Nat :=
  let c240 : Index := 240#32
  let arg1 : BitVec 32 := BitVec.ofNat 32 (i 1).val
  let c4_i32_1 : BitVec 32 := 4#32
  let v1 : BitVec 32 := Scalar.muli arg1 c4_i32_1
  let c0_i32 : BitVec 32 := 0#32
  let c1_i32 : BitVec 32 := 1#32
  let arg23 : BitVec 32 := Scf.iv c0_i32 c1_i32 k0_t1
  let v2 : BitVec 32 := Scalar.addi v1 arg23
  let c1_i32_4 : BitVec 32 := 1#32
  let v6 : BitVec 32 := Scalar.addi v2 c1_i32_4
  let c1_i32_5 : BitVec 32 := 1#32
  let v7 : BitVec 32 := Scalar.addi v6 c1_i32_5
  let c2_i32 : BitVec 32 := 2#32
  let v8 : BitVec 32 := Scalar.addi v7 c2_i32
  let c1_i32_6 : BitVec 32 := 1#32
  let v9 : BitVec 32 := Scalar.subi v8 c1_i32_6
  let c0_i32_8 : BitVec 32 := 0#32
  let v11 : BitVec 1 := Scalar.cmpi .sgt v9 c0_i32_8
  let v12 : BitVec 32 := Scalar.extui v11
  let c0_i32_9 : BitVec 32 := 0#32
  let v13 : BitVec 1 := Scalar.cmpi .slt v9 c0_i32_9
  let v14 : BitVec 32 := Scalar.extui v13
  let v15 : BitVec 32 := Scalar.subi v12 v14
  let c2_i32_7 : BitVec 32 := 2#32
  let c0_i32_10 : BitVec 32 := 0#32
  let v16 : BitVec 1 := Scalar.cmpi .sgt c2_i32_7 c0_i32_10
  let v17 : BitVec 32 := Scalar.extui v16
  let c0_i32_11 : BitVec 32 := 0#32
  let v18 : BitVec 1 := Scalar.cmpi .slt c2_i32_7 c0_i32_11
  let v19 : BitVec 32 := Scalar.extui v18
  let v20 : BitVec 32 := Scalar.subi v17 v19
  let v21 : BitVec 1 := Scalar.cmpi .ne v15 v20
  let v22 : BitVec 32 := Scalar.remsi v9 c2_i32_7
  let c0_i32_12 : BitVec 32 := 0#32
  let v23 : BitVec 1 := Scalar.cmpi .ne v22 c0_i32_12
  let v24 : BitVec 1 := Scalar.andi v21 v23
  let v10 : BitVec 32 := Scalar.divsi v9 c2_i32_7
  let c1_i32_13 : BitVec 32 := 1#32
  let v25 : BitVec 32 := Scalar.subi v10 c1_i32_13
  let v26 : BitVec 32 := Scalar.select v24 v25 v10
  let c1_i32_249 : BitVec 32 := 1#32
  let v511 : BitVec 32 := Scalar.subi v26 c1_i32_249
  let c256_i32 : BitVec 32 := 256#32
  let v512 : BitVec 32 := Scalar.muli v511 c256_i32
  let v513 : BitVec 32 := v512
  let v566 : Index := Scalar.indexCast v513
  ![240, v566.toNat]
def k0_mult19 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32_247 : BitVec 32 := 128#32
  let v507 : BitVec 32 := Scalar.muli arg23 c128_i32_247
  v507
def k0_off146 (k0_t1 : Fin k0_t1_loop.trips) : Fin 2 → Nat :=
  let c0_i32 : BitVec 32 := 0#32
  let c1_i32 : BitVec 32 := 1#32
  let arg23 : BitVec 32 := Scf.iv c0_i32 c1_i32 k0_t1
  let c128_i32_247 : BitVec 32 := 128#32
  let v507 : BitVec 32 := Scalar.muli arg23 c128_i32_247
  let v508 : BitVec 32 := v507
  let v509 : Index := Scalar.indexCast v508
  let c0_248 : Index := 0#32
  ![v509.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Ffn.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 18
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S32768x1024, .bf16⟩
  | .hbm, ⟨9, _⟩ => ⟨S1024x1024, .bf16⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnIdeal.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 18
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S32768x1024, .bf16⟩
  | .hbm, ⟨9, _⟩ => ⟨S1024x1024, .bf16⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnReferenceIdeal.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Inner.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 18
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S32768x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InnerReferenceIdeal.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S32768x1024, .f32⟩
  | .hbm, ⟨10, _⟩ => ⟨S1x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x576 : Shape := ⟨2, ![1024, 576]⟩
abbrev S_ : Shape := ⟨0, ![]⟩
abbrev S512x1024 : Shape := ⟨2, ![512, 1024]⟩
abbrev S256x1024 : Shape := ⟨2, ![256, 1024]⟩
abbrev S8x1024 : Shape := ⟨2, ![8, 1024]⟩
abbrev S1808x1024 : Shape := ⟨2, ![1808, 1024]⟩
abbrev S1x1024 : Shape := ⟨2, ![1, 1024]⟩
abbrev S32768x256 : Shape := ⟨2, ![32768, 256]⟩
abbrev S32768x64 : Shape := ⟨2, ![32768, 64]⟩
abbrev S256x1024x128 : Shape := ⟨3, ![256, 1024, 128]⟩
abbrev S256x512x128 : Shape := ⟨3, ![256, 512, 128]⟩
abbrev S256x256x128 : Shape := ⟨3, ![256, 256, 128]⟩
abbrev S256x8x128 : Shape := ⟨3, ![256, 8, 128]⟩
abbrev S512x256 : Shape := ⟨2, ![512, 256]⟩
abbrev S512x64 : Shape := ⟨2, ![512, 64]⟩
abbrev S4x1024x128 : Shape := ⟨3, ![4, 1024, 128]⟩
abbrev S4x512x128 : Shape := ⟨3, ![4, 512, 128]⟩
abbrev S4x256x128 : Shape := ⟨3, ![4, 256, 128]⟩
abbrev S4x8x128 : Shape := ⟨3, ![4, 8, 128]⟩
abbrev S512 : Shape := ⟨1, ![512]⟩
abbrev S512x1 : Shape := ⟨2, ![512, 1]⟩
abbrev S512x576 : Shape := ⟨2, ![512, 576]⟩
abbrev S1808x512 : Shape := ⟨2, ![1808, 512]⟩
abbrev S1808x128 : Shape := ⟨2, ![1808, 128]⟩
abbrev S1024x128 : Shape := ⟨2, ![1024, 128]⟩
abbrev S1x1024x128 : Shape := ⟨3, ![1, 1024, 128]⟩
abbrev S512x128 : Shape := ⟨2, ![512, 128]⟩
abbrev S1x512x128 : Shape := ⟨3, ![1, 512, 128]⟩
abbrev S256x128 : Shape := ⟨2, ![256, 128]⟩
abbrev S1x256x128 : Shape := ⟨3, ![1, 256, 128]⟩
abbrev S8x128 : Shape := ⟨2, ![8, 128]⟩
abbrev S1x8x128 : Shape := ⟨3, ![1, 8, 128]⟩

abbrev nBuf : Space → Nat
  | .hbm => 34
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S1024x256, .f32⟩
  | .hbm, ⟨4, _⟩ => ⟨S1024x256, .f32⟩
  | .hbm, ⟨5, _⟩ => ⟨S1024x512, .f32⟩
  | .hbm, ⟨6, _⟩ => ⟨S1024x64, .f32⟩
  | .hbm, ⟨7, _⟩ => ⟨S1024x8, .f32⟩
  | .hbm, ⟨8, _⟩ => ⟨S1024x576, .f32⟩
  | .hbm, ⟨9, _⟩ => ⟨S1024x576, .bf16⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S256x1024, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S1808x1024, .f32⟩
  | .hbm, ⟨23, _⟩ => ⟨S1808x1024, .bf16⟩
  | .hbm, ⟨24, _⟩ => ⟨S1x1024, .f32⟩
  | .hbm, ⟨25, _⟩ => ⟨S32768x256, .f32⟩
  | .hbm, ⟨26, _⟩ => ⟨S32768x256, .f32⟩
  | .hbm, ⟨27, _⟩ => ⟨S32768x64, .f32⟩
  | .hbm, ⟨28, _⟩ => ⟨S32768x256, .bf16⟩
  | .hbm, ⟨29, _⟩ => ⟨S32768x64, .bf16⟩
  | .hbm, ⟨30, _⟩ => ⟨S256x1024x128, .bf16⟩
  | .hbm, ⟨31, _⟩ => ⟨S256x512x128, .bf16⟩
  | .hbm, ⟨32, _⟩ => ⟨S256x256x128, .bf16⟩
  | .hbm, ⟨33, _⟩ => ⟨S256x8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x576, .bf16⟩
  | .local _ .vmem, ⟨4, _⟩ => ⟨S1808x1024, .bf16⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x64, .f32⟩
  | .local _ .vmem, ⟨10, _⟩ => ⟨S512x64, .f32⟩
  | .local _ .vmem, ⟨11, _⟩ => ⟨S512x256, .bf16⟩
  | .local _ .vmem, ⟨12, _⟩ => ⟨S512x256, .bf16⟩
  | .local _ .vmem, ⟨13, _⟩ => ⟨S512x64, .bf16⟩
  | .local _ .vmem, ⟨14, _⟩ => ⟨S512x64, .bf16⟩
  | .local _ .vmem, ⟨15, _⟩ => ⟨S4x1024x128, .bf16⟩
  | .local _ .vmem, ⟨16, _⟩ => ⟨S4x1024x128, .bf16⟩
  | .local _ .vmem, ⟨17, _⟩ => ⟨S4x512x128, .bf16⟩
  | .local _ .vmem, ⟨18, _⟩ => ⟨S4x512x128, .bf16⟩
  | .local _ .vmem, ⟨19, _⟩ => ⟨S4x256x128, .bf16⟩
  | .local _ .vmem, ⟨20, _⟩ => ⟨S4x256x128, .bf16⟩
  | .local _ .vmem, ⟨21, _⟩ => ⟨S4x8x128, .f32⟩
  | .local _ .vmem, ⟨22, _⟩ => ⟨S4x8x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v14_6 : Ref sig .tc := ⟨.hbm, 31, rfl⟩
abbrev main_v14_7 : Ref sig .tc := ⟨.hbm, 32, rfl⟩
abbrev main_v14_8 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x576 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1808x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjIdeal.lean ====
abbrev S32768x1024 : Shape := ⟨2, ![32768, 1024]⟩
abbrev S1024 : Shape := ⟨1, ![1024]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x576 : Shape := ⟨2, ![1024, 576]⟩
abbrev S_ : Shape := ⟨0, ![]⟩
abbrev S512x1024 : Shape := ⟨2, ![512, 1024]⟩
abbrev S256x1024 : Shape := ⟨2, ![256, 1024]⟩
abbrev S8x1024 : Shape := ⟨2, ![8, 1024]⟩
abbrev S1808x1024 : Shape := ⟨2, ![1808, 1024]⟩
abbrev S1x1024 : Shape := ⟨2, ![1, 1024]⟩
abbrev S32768x256 : Shape := ⟨2, ![32768, 256]⟩
abbrev S32768x64 : Shape := ⟨2, ![32768, 64]⟩
abbrev S256x1024x128 : Shape := ⟨3, ![256, 1024, 128]⟩
abbrev S256x512x128 : Shape := ⟨3, ![256, 512, 128]⟩
abbrev S256x256x128 : Shape := ⟨3, ![256, 256, 128]⟩
abbrev S256x8x128 : Shape := ⟨3, ![256, 8, 128]⟩
abbrev S512x256 : Shape := ⟨2, ![512, 256]⟩
abbrev S512x64 : Shape := ⟨2, ![512, 64]⟩
abbrev S4x1024x128 : Shape := ⟨3, ![4, 1024, 128]⟩
abbrev S4x512x128 : Shape := ⟨3, ![4, 512, 128]⟩
abbrev S4x256x128 : Shape := ⟨3, ![4, 256, 128]⟩
abbrev S4x8x128 : Shape := ⟨3, ![4, 8, 128]⟩
abbrev S512 : Shape := ⟨1, ![512]⟩
abbrev S512x1 : Shape := ⟨2, ![512, 1]⟩
abbrev S512x576 : Shape := ⟨2, ![512, 576]⟩
abbrev S1808x512 : Shape := ⟨2, ![1808, 512]⟩
abbrev S1808x128 : Shape := ⟨2, ![1808, 128]⟩
abbrev S1024x128 : Shape := ⟨2, ![1024, 128]⟩
abbrev S1x1024x128 : Shape := ⟨3, ![1, 1024, 128]⟩
abbrev S512x128 : Shape := ⟨2, ![512, 128]⟩
abbrev S1x512x128 : Shape := ⟨3, ![1, 512, 128]⟩
abbrev S256x128 : Shape := ⟨2, ![256, 128]⟩
abbrev S1x256x128 : Shape := ⟨3, ![1, 256, 128]⟩
abbrev S8x128 : Shape := ⟨2, ![8, 128]⟩
abbrev S1x8x128 : Shape := ⟨3, ![1, 8, 128]⟩

abbrev nBuf : Space → Nat
  | .hbm => 34
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S1024x256, .f32⟩
  | .hbm, ⟨4, _⟩ => ⟨S1024x256, .f32⟩
  | .hbm, ⟨5, _⟩ => ⟨S1024x512, .f32⟩
  | .hbm, ⟨6, _⟩ => ⟨S1024x64, .f32⟩
  | .hbm, ⟨7, _⟩ => ⟨S1024x8, .f32⟩
  | .hbm, ⟨8, _⟩ => ⟨S1024x576, .f32⟩
  | .hbm, ⟨9, _⟩ => ⟨S1024x576, .bf16⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S256x1024, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S1808x1024, .f32⟩
  | .hbm, ⟨23, _⟩ => ⟨S1808x1024, .bf16⟩
  | .hbm, ⟨24, _⟩ => ⟨S1x1024, .f32⟩
  | .hbm, ⟨25, _⟩ => ⟨S32768x256, .f32⟩
  | .hbm, ⟨26, _⟩ => ⟨S32768x256, .f32⟩
  | .hbm, ⟨27, _⟩ => ⟨S32768x64, .f32⟩
  | .hbm, ⟨28, _⟩ => ⟨S32768x256, .bf16⟩
  | .hbm, ⟨29, _⟩ => ⟨S32768x64, .bf16⟩
  | .hbm, ⟨30, _⟩ => ⟨S256x1024x128, .bf16⟩
  | .hbm, ⟨31, _⟩ => ⟨S256x512x128, .bf16⟩
  | .hbm, ⟨32, _⟩ => ⟨S256x256x128, .bf16⟩
  | .hbm, ⟨33, _⟩ => ⟨S256x8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x576, .bf16⟩
  | .local _ .vmem, ⟨4, _⟩ => ⟨S1808x1024, .bf16⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x64, .f32⟩
  | .local _ .vmem, ⟨10, _⟩ => ⟨S512x64, .f32⟩
  | .local _ .vmem, ⟨11, _⟩ => ⟨S512x256, .bf16⟩
  | .local _ .vmem, ⟨12, _⟩ => ⟨S512x256, .bf16⟩
  | .local _ .vmem, ⟨13, _⟩ => ⟨S512x64, .bf16⟩
  | .local _ .vmem, ⟨14, _⟩ => ⟨S512x64, .bf16⟩
  | .local _ .vmem, ⟨15, _⟩ => ⟨S4x1024x128, .bf16⟩
  | .local _ .vmem, ⟨16, _⟩ => ⟨S4x1024x128, .bf16⟩
  | .local _ .vmem, ⟨17, _⟩ => ⟨S4x512x128, .bf16⟩
  | .local _ .vmem, ⟨18, _⟩ => ⟨S4x512x128, .bf16⟩
  | .local _ .vmem, ⟨19, _⟩ => ⟨S4x256x128, .bf16⟩
  | .local _ .vmem, ⟨20, _⟩ => ⟨S4x256x128, .bf16⟩
  | .local _ .vmem, ⟨21, _⟩ => ⟨S4x8x128, .f32⟩
  | .local _ .vmem, ⟨22, _⟩ => ⟨S4x8x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v14_6 : Ref sig .tc := ⟨.hbm, 31, rfl⟩
abbrev main_v14_7 : Ref sig .tc := ⟨.hbm, 32, rfl⟩
abbrev main_v14_8 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x576 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1808x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjReferenceIdeal.lean ====
abbrev S32768x1024 : Shape := ⟨2, ![32768, 1024]⟩
abbrev S1024 : Shape := ⟨1, ![1024]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x256 : Shape := ⟨2, ![32768, 256]⟩
abbrev S32768x64 : Shape := ⟨2, ![32768, 64]⟩
abbrev S32768x512 : Shape := ⟨2, ![32768, 512]⟩
abbrev S32768x8 : Shape := ⟨2, ![32768, 8]⟩
abbrev S256x128x1024 : Shape := ⟨3, ![256, 128, 1024]⟩
abbrev S256x1024x128 : Shape := ⟨3, ![256, 1024, 128]⟩
abbrev S256x128x512 : Shape := ⟨3, ![256, 128, 512]⟩
abbrev S256x512x128 : Shape := ⟨3, ![256, 512, 128]⟩
abbrev S256x128x256 : Shape := ⟨3, ![256, 128, 256]⟩
abbrev S256x256x128 : Shape := ⟨3, ![256, 256, 128]⟩
abbrev S256x128x8 : Shape := ⟨3, ![256, 128, 8]⟩
abbrev S256x8x128 : Shape := ⟨3, ![256, 8, 128]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S1024x256, .f32⟩
  | .hbm, ⟨4, _⟩ => ⟨S1024x256, .f32⟩
  | .hbm, ⟨5, _⟩ => ⟨S1024x512, .f32⟩
  | .hbm, ⟨6, _⟩ => ⟨S1024x64, .f32⟩
  | .hbm, ⟨7, _⟩ => ⟨S1024x8, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x256, .f32⟩
  | .hbm, ⟨25, _⟩ => ⟨S32768x256, .f32⟩
  | .hbm, ⟨26, _⟩ => ⟨S32768x64, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x512, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S32768x8, .f32⟩
  | .hbm, ⟨36, _⟩ => ⟨S_, .f32⟩
  | .hbm, ⟨37, _⟩ => ⟨S32768x8, .f32⟩
  | .hbm, ⟨38, _⟩ => ⟨S32768x8, .f32⟩
  | .hbm, ⟨39, _⟩ => ⟨S32768x256, .bf16⟩
  | .hbm, ⟨40, _⟩ => ⟨S32768x64, .bf16⟩
  | .hbm, ⟨41, _⟩ => ⟨S256x128x1024, .f32⟩
  | .hbm, ⟨42, _⟩ => ⟨S256x1024x128, .f32⟩
  | .hbm, ⟨43, _⟩ => ⟨S256x1024x128, .bf16⟩
  | .hbm, ⟨44, _⟩ => ⟨S256x128x512, .f32⟩
  | .hbm, ⟨45, _⟩ => ⟨S256x512x128, .f32⟩
  | .hbm, ⟨46, _⟩ => ⟨S256x512x128, .bf16⟩
  | .hbm, ⟨47, _⟩ => ⟨S256x128x256, .f32⟩
  | .hbm, ⟨48, _⟩ => ⟨S256x256x128, .f32⟩
  | .hbm, ⟨49, _⟩ => ⟨S256x256x128, .bf16⟩
  | .hbm, ⟨50, _⟩ => ⟨S256x128x8, .f32⟩
  | .hbm, ⟨51, _⟩ => ⟨S256x8x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Conv.lean ====
abbrev S32768x1024 : Shape := ⟨2, ![32768, 1024]⟩
abbrev S16x2x1024 : Shape := ⟨3, ![16, 2, 1024]⟩
abbrev S1024 : Shape := ⟨1, ![1024]⟩
abbrev S1024x3072 : Shape := ⟨2, ![1024, 3072]⟩
abbrev S3x1024 : Shape := ⟨2, ![3, 1024]⟩
abbrev S_ : Shape := ⟨0, ![]⟩
abbrev S16x8x1024 : Shape := ⟨3, ![16, 8, 1024]⟩
abbrev S1x1024 : Shape := ⟨2, ![1, 1024]⟩
abbrev S8x1024 : Shape := ⟨2, ![8, 1024]⟩
abbrev S512x1024 : Shape := ⟨2, ![512, 1024]⟩
abbrev S1x8x1024 : Shape := ⟨3, ![1, 8, 1024]⟩
abbrev S520x1024 : Shape := ⟨2, ![520, 1024]⟩
abbrev S512 : Shape := ⟨1, ![512]⟩
abbrev S512x1 : Shape := ⟨2, ![512, 1]⟩
abbrev S512x3072 : Shape := ⟨2, ![512, 3072]⟩

abbrev nBuf : Space → Nat
  | .hbm => 15
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S16x2x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S_, .i32⟩
  | .hbm, ⟨6, _⟩ => ⟨S_, .f32⟩
  | .hbm, ⟨7, _⟩ => ⟨S16x8x1024, .f32⟩
  | .hbm, ⟨8, _⟩ => ⟨S1x1024, .f32⟩
  | .hbm, ⟨9, _⟩ => ⟨S1024x3072, .bf16⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S32768x1024, .bf16⟩
  | .hbm, ⟨14, _⟩ => ⟨S16x8x1024, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x3072, .bf16⟩
  | .local _ .vmem, ⟨6, _⟩ => ⟨S8x1024, .f32⟩
  | .local _ .vmem, ⟨7, _⟩ => ⟨S512x1024, .bf16⟩
  | .local _ .vmem, ⟨8, _⟩ => ⟨S512x1024, .bf16⟩
  | .local _ .vmem, ⟨9, _⟩ => ⟨S1x8x1024, .f32⟩
  | .local _ .vmem, ⟨10, _⟩ => ⟨S1x8x1024, .f32⟩
  | .local _ .vmem, ⟨11, _⟩ => ⟨S520x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvReferenceIdeal.lean ====
abbrev S32768x1024 : Shape := ⟨2, ![32768, 1024]⟩
abbrev S16x2x1024 : Shape := ⟨3, ![16, 2, 1024]⟩
abbrev S1024 : Shape := ⟨1, ![1024]⟩
abbrev S1024x3072 : Shape := ⟨2, ![1024, 3072]⟩
abbrev S3x1024 : Shape := ⟨2, ![3, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩
abbrev S16x2048x1024 : Shape := ⟨3, ![16, 2048, 1024]⟩
abbrev S16x2050x1024 : Shape := ⟨3, ![16, 2050, 1024]⟩
abbrev S1x1x1024 : Shape := ⟨3, ![1, 1, 1024]⟩
abbrev S16x8x1024 : Shape := ⟨3, ![16, 8, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x2x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x3072, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S16x2048x1024, .f32⟩
  | .hbm, ⟨27, _⟩ => ⟨S16x2050x1024, .f32⟩
  | .hbm, ⟨28, _⟩ => ⟨S1x1024, .f32⟩
  | .hbm, ⟨29, _⟩ => ⟨S1024, .f32⟩
  | .hbm, ⟨30, _⟩ => ⟨S16x2048x1024, .f32⟩
  | .hbm, ⟨31, _⟩ => ⟨S1x1x1024, .f32⟩
  | .hbm, ⟨32, _⟩ => ⟨S16x2048x1024, .f32⟩
  | .hbm, ⟨33, _⟩ => ⟨S16x2048x1024, .f32⟩
  | .hbm, ⟨34, _⟩ => ⟨S1x1024, .f32⟩
  | .hbm, ⟨35, _⟩ => ⟨S1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S1x1024, .f32⟩
  | .hbm, ⟨42, _⟩ => ⟨S1024, .f32⟩
  | .hbm, ⟨43, _⟩ => ⟨S16x2048x1024, .f32⟩
  | .hbm, ⟨44, _⟩ => ⟨S1x1x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S32768x1024, .f32⟩
  | .hbm, ⟨49, _⟩ => ⟨S32768x1024, .f32⟩
  | .hbm, ⟨50, _⟩ => ⟨S32768x1024, .bf16⟩
  | .hbm, ⟨51, _⟩ => ⟨S16x8x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== FfnTail.lean ====
abbrev S256x1024 : Shape := ⟨2, ![256, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S256 : Shape := ⟨1, ![256]⟩
abbrev S256x1 : Shape := ⟨2, ![256, 1]⟩
abbrev S256x2816 : Shape := ⟨2, ![256, 2816]⟩

abbrev nBuf : Space → Nat
  | .hbm => 18
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S256x1024, .bf16⟩
  | .hbm, ⟨9, _⟩ => ⟨S1024x1024, .bf16⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S256x1024, .f32⟩
  | .local _ .vmem, ⟨0, _⟩ => ⟨S256x1024, .f32⟩
  | .local _ .vmem, ⟨1, _⟩ => ⟨S256x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FfnTailReferenceIdeal.lean ====
abbrev S256x1024 : Shape := ⟨2, ![256, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2816 : Shape := ⟨2, ![256, 2816]⟩

abbrev nBuf : Space → Nat
  | .hbm => 56
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S256x2816, .f32⟩
  | .hbm, ⟨27, _⟩ => ⟨S256x2816, .f32⟩
  | .hbm, ⟨28, _⟩ => ⟨S256x2816, .f32⟩
  | .hbm, ⟨29, _⟩ => ⟨S_, .f32⟩
  | .hbm, ⟨30, _⟩ => ⟨S256x2816, .f32⟩
  | .hbm, ⟨31, _⟩ => ⟨S256x2816, .f32⟩
  | .hbm, ⟨32, _⟩ => ⟨S_, .f32⟩
  | .hbm, ⟨33, _⟩ => ⟨S256x2816, .f32⟩
  | .hbm, ⟨34, _⟩ => ⟨S256x2816, .f32⟩
  | .hbm, ⟨35, _⟩ => ⟨S256x2816, .f32⟩
  | .hbm, ⟨36, _⟩ => ⟨S256x2816, .f32⟩
  | .hbm, ⟨37, _⟩ => ⟨S256x2816, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S256x1, .f32⟩
  | .hbm, ⟨51, _⟩ => ⟨S256x1024, .f32⟩
  | .hbm, ⟨52, _⟩ => ⟨S256x1024, .f32⟩
  | .hbm, ⟨53, _⟩ => ⟨S1x1024, .f32⟩
  | .hbm, ⟨54, _⟩ => ⟨S256x1024, .f32⟩
  | .hbm, ⟨55, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== ProjTail.lean ====
abbrev S256x1024 : Shape := ⟨2, ![256, 1024]⟩
abbrev S1024 : Shape := ⟨1, ![1024]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x576 : Shape := ⟨2, ![1024, 576]⟩
abbrev S_ : Shape := ⟨0, ![]⟩
abbrev S512x1024 : Shape := ⟨2, ![512, 1024]⟩
abbrev S8x1024 : Shape := ⟨2, ![8, 1024]⟩
abbrev S1808x1024 : Shape := ⟨2, ![1808, 1024]⟩
abbrev S1x1024 : Shape := ⟨2, ![1, 1024]⟩
abbrev S256x256 : Shape := ⟨2, ![256, 256]⟩
abbrev S256x64 : Shape := ⟨2, ![256, 64]⟩
abbrev S2x1024x128 : Shape := ⟨3, ![2, 1024, 128]⟩
abbrev S2x512x128 : Shape := ⟨3, ![2, 512, 128]⟩
abbrev S2x256x128 : Shape := ⟨3, ![2, 256, 128]⟩
abbrev S2x8x128 : Shape := ⟨3, ![2, 8, 128]⟩
abbrev S256 : Shape := ⟨1, ![256]⟩
abbrev S256x1 : Shape := ⟨2, ![256, 1]⟩
abbrev S256x576 : Shape := ⟨2, ![256, 576]⟩
abbrev S1808x256 : Shape := ⟨2, ![1808, 256]⟩
abbrev S1808x128 : Shape := ⟨2, ![1808, 128]⟩
abbrev S1024x128 : Shape := ⟨2, ![1024, 128]⟩
abbrev S1x1024x128 : Shape := ⟨3, ![1, 1024, 128]⟩
abbrev S512x128 : Shape := ⟨2, ![512, 128]⟩
abbrev S1x512x128 : Shape := ⟨3, ![1, 512, 128]⟩
abbrev S256x128 : Shape := ⟨2, ![256, 128]⟩
abbrev S1x256x128 : Shape := ⟨3, ![1, 256, 128]⟩
abbrev S8x128 : Shape := ⟨2, ![8, 128]⟩
abbrev S1x8x128 : Shape := ⟨3, ![1, 8, 128]⟩

abbrev nBuf : Space → Nat
  | .hbm => 34
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x256, .f32⟩
  | .hbm, ⟨4, _⟩ => ⟨S1024x256, .f32⟩
  | .hbm, ⟨5, _⟩ => ⟨S1024x512, .f32⟩
  | .hbm, ⟨6, _⟩ => ⟨S1024x64, .f32⟩
  | .hbm, ⟨7, _⟩ => ⟨S1024x8, .f32⟩
  | .hbm, ⟨8, _⟩ => ⟨S1024x576, .f32⟩
  | .hbm, ⟨9, _⟩ => ⟨S1024x576, .bf16⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S256x1024, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S1808x1024, .f32⟩
  | .hbm, ⟨23, _⟩ => ⟨S1808x1024, .bf16⟩
  | .hbm, ⟨24, _⟩ => ⟨S1x1024, .f32⟩
  | .hbm, ⟨25, _⟩ => ⟨S256x256, .f32⟩
  | .hbm, ⟨26, _⟩ => ⟨S256x256, .f32⟩
  | .hbm, ⟨27, _⟩ => ⟨S256x64, .f32⟩
  | .hbm, ⟨28, _⟩ => ⟨S256x256, .bf16⟩
  | .hbm, ⟨29, _⟩ => ⟨S256x64, .bf16⟩
  | .hbm, ⟨30, _⟩ => ⟨S2x1024x128, .bf16⟩
  | .hbm, ⟨31, _⟩ => ⟨S2x512x128, .bf16⟩
  | .hbm, ⟨32, _⟩ => ⟨S2x256x128, .bf16⟩
  | .hbm, ⟨33, _⟩ => ⟨S2x8x128, .f32⟩
  | .local _ .vmem, ⟨0, _⟩ => ⟨S256x1024, .f32⟩
  | .local _ .vmem, ⟨1, _⟩ => ⟨S1x1024, .f32⟩
  | .local _ .vmem, ⟨2, _⟩ => ⟨S1024x576, .bf16⟩
  | .local _ .vmem, ⟨3, _⟩ => ⟨S1808x1024, .bf16⟩
  | .local _ .vmem, ⟨4, _⟩ => ⟨S256x256, .f32⟩
  | .local _ .vmem, ⟨5, _⟩ => ⟨S256x256, .f32⟩
  | .local _ .vmem, ⟨6, _⟩ => ⟨S256x64, .f32⟩
  | .local _ .vmem, ⟨7, _⟩ => ⟨S256x256, .bf16⟩
  | .local _ .vmem, ⟨8, _⟩ => ⟨S256x64, .bf16⟩
  | .local _ .vmem, ⟨9, _⟩ => ⟨S2x1024x128, .bf16⟩
  | .local _ .vmem, ⟨10, _⟩ => ⟨S2x512x128, .bf16⟩
  | .local _ .vmem, ⟨11, _⟩ => ⟨S2x256x128, .bf16⟩
  | .local _ .vmem, ⟨12, _⟩ => ⟨S2x8x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v14_6 : Ref sig .tc := ⟨.hbm, 31, rfl⟩
abbrev main_v14_7 : Ref sig .tc := ⟨.hbm, 32, rfl⟩
abbrev main_v14_8 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x576 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1808x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S2x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S2x256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S2x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== ProjTailReferenceIdeal.lean ====
abbrev S256x1024 : Shape := ⟨2, ![256, 1024]⟩
abbrev S1024 : Shape := ⟨1, ![1024]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x256 : Shape := ⟨2, ![256, 256]⟩
abbrev S256x64 : Shape := ⟨2, ![256, 64]⟩
abbrev S256x512 : Shape := ⟨2, ![256, 512]⟩
abbrev S256x8 : Shape := ⟨2, ![256, 8]⟩
abbrev S2x128x1024 : Shape := ⟨3, ![2, 128, 1024]⟩
abbrev S2x1024x128 : Shape := ⟨3, ![2, 1024, 128]⟩
abbrev S2x128x512 : Shape := ⟨3, ![2, 128, 512]⟩
abbrev S2x512x128 : Shape := ⟨3, ![2, 512, 128]⟩
abbrev S2x128x256 : Shape := ⟨3, ![2, 128, 256]⟩
abbrev S2x256x128 : Shape := ⟨3, ![2, 256, 128]⟩
abbrev S2x128x8 : Shape := ⟨3, ![2, 128, 8]⟩
abbrev S2x8x128 : Shape := ⟨3, ![2, 8, 128]⟩

abbrev nBuf : Space → Nat
  | .hbm => 52
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x256, .f32⟩
  | .hbm, ⟨4, _⟩ => ⟨S1024x256, .f32⟩
  | .hbm, ⟨5, _⟩ => ⟨S1024x512, .f32⟩
  | .hbm, ⟨6, _⟩ => ⟨S1024x64, .f32⟩
  | .hbm, ⟨7, _⟩ => ⟨S1024x8, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x256, .f32⟩
  | .hbm, ⟨25, _⟩ => ⟨S256x256, .f32⟩
  | .hbm, ⟨26, _⟩ => ⟨S256x64, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x512, .f32⟩
  | .hbm, ⟨32, _⟩ => ⟨S_, .f32⟩
  | .hbm, ⟨33, _⟩ => ⟨S256x512, .f32⟩
  | .hbm, ⟨34, _⟩ => ⟨S256x512, .f32⟩
  | .hbm, ⟨35, _⟩ => ⟨S256x8, .f32⟩
  | .hbm, ⟨36, _⟩ => ⟨S_, .f32⟩
  | .hbm, ⟨37, _⟩ => ⟨S256x8, .f32⟩
  | .hbm, ⟨38, _⟩ => ⟨S256x8, .f32⟩
  | .hbm, ⟨39, _⟩ => ⟨S256x256, .bf16⟩
  | .hbm, ⟨40, _⟩ => ⟨S256x64, .bf16⟩
  | .hbm, ⟨41, _⟩ => ⟨S2x128x1024, .f32⟩
  | .hbm, ⟨42, _⟩ => ⟨S2x1024x128, .f32⟩
  | .hbm, ⟨43, _⟩ => ⟨S2x1024x128, .bf16⟩
  | .hbm, ⟨44, _⟩ => ⟨S2x128x512, .f32⟩
  | .hbm, ⟨45, _⟩ => ⟨S2x512x128, .f32⟩
  | .hbm, ⟨46, _⟩ => ⟨S2x512x128, .bf16⟩
  | .hbm, ⟨47, _⟩ => ⟨S2x128x256, .f32⟩
  | .hbm, ⟨48, _⟩ => ⟨S2x256x128, .f32⟩
  | .hbm, ⟨49, _⟩ => ⟨S2x256x128, .bf16⟩
  | .hbm, ⟨50, _⟩ => ⟨S2x128x8, .f32⟩
  | .hbm, ⟨51, _⟩ => ⟨S2x8x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== ConvSample.lean ====
abbrev S256x1024 : Shape := ⟨2, ![256, 1024]⟩
abbrev S8x2x1024 : Shape := ⟨3, ![8, 2, 1024]⟩
abbrev S1024 : Shape := ⟨1, ![1024]⟩
abbrev S1024x3072 : Shape := ⟨2, ![1024, 3072]⟩
abbrev S3x1024 : Shape := ⟨2, ![3, 1024]⟩
abbrev S_ : Shape := ⟨0, ![]⟩
abbrev S8x8x1024 : Shape := ⟨3, ![8, 8, 1024]⟩
abbrev S1x1024 : Shape := ⟨2, ![1, 1024]⟩
abbrev S8x1024 : Shape := ⟨2, ![8, 1024]⟩
abbrev S16x1024 : Shape := ⟨2, ![16, 1024]⟩
abbrev S1x8x1024 : Shape := ⟨3, ![1, 8, 1024]⟩
abbrev S24x1024 : Shape := ⟨2, ![24, 1024]⟩
abbrev S16 : Shape := ⟨1, ![16]⟩
abbrev S16x1 : Shape := ⟨2, ![16, 1]⟩
abbrev S16x3072 : Shape := ⟨2, ![16, 3072]⟩

abbrev nBuf : Space → Nat
  | .hbm => 16
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S8x2x1024, .f32⟩
  | .hbm, ⟨3, _⟩ => ⟨S1024, .f32⟩
  | .hbm, ⟨4, _⟩ => ⟨S1024x3072, .f32⟩
  | .hbm, ⟨5, _⟩ => ⟨S3x1024, .f32⟩
  | .hbm, ⟨6, _⟩ => ⟨S_, .i32⟩
  | .hbm, ⟨7, _⟩ => ⟨S_, .f32⟩
  | .hbm, ⟨8, _⟩ => ⟨S8x8x1024, .f32⟩
  | .hbm, ⟨9, _⟩ => ⟨S1x1024, .f32⟩
  | .hbm, ⟨10, _⟩ => ⟨S1024x3072, .bf16⟩
  | .hbm, ⟨11, _⟩ => ⟨S_, .i32⟩
  | .hbm, ⟨12, _⟩ => ⟨S_, .f32⟩
  | .hbm, ⟨13, _⟩ => ⟨S8x1024, .f32⟩
  | .hbm, ⟨14, _⟩ => ⟨S256x1024, .bf16⟩
  | .hbm, ⟨15, _⟩ => ⟨S8x8x1024, .f32⟩
  | .local _ .vmem, ⟨0, _⟩ => ⟨S16x1024, .f32⟩
  | .local _ .vmem, ⟨1, _⟩ => ⟨S16x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x3072, .bf16⟩
  | .local _ .vmem, ⟨6, _⟩ => ⟨S8x1024, .f32⟩
  | .local _ .vmem, ⟨7, _⟩ => ⟨S16x1024, .bf16⟩
  | .local _ .vmem, ⟨8, _⟩ => ⟨S16x1024, .bf16⟩
  | .local _ .vmem, ⟨9, _⟩ => ⟨S1x8x1024, .f32⟩
  | .local _ .vmem, ⟨10, _⟩ => ⟨S1x8x1024, .f32⟩
  | .local _ .vmem, ⟨11, _⟩ => ⟨S24x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvSampleReferenceIdeal.lean ====
abbrev S256x1024 : Shape := ⟨2, ![256, 1024]⟩
abbrev S8x2x1024 : Shape := ⟨3, ![8, 2, 1024]⟩
abbrev S1024 : Shape := ⟨1, ![1024]⟩
abbrev S1024x3072 : Shape := ⟨2, ![1024, 3072]⟩
abbrev S3x1024 : Shape := ⟨2, ![3, 1024]⟩
abbrev S128x1024 : Shape := ⟨2, ![128, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x3072 : Shape := ⟨2, ![128, 3072]⟩
abbrev S8x16x1024 : Shape := ⟨3, ![8, 16, 1024]⟩
abbrev S8x18x1024 : Shape := ⟨3, ![8, 18, 1024]⟩
abbrev S1x1x1024 : Shape := ⟨3, ![1, 1, 1024]⟩
abbrev S8x8x1024 : Shape := ⟨3, ![8, 8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S8x2x1024, .f32⟩
  | .hbm, ⟨3, _⟩ => ⟨S1024, .f32⟩
  | .hbm, ⟨4, _⟩ => ⟨S1024x3072, .f32⟩
  | .hbm, ⟨5, _⟩ => ⟨S3x1024, .f32⟩
  | .hbm, ⟨6, _⟩ => ⟨S128x1024, .f32⟩
  | .hbm, ⟨7, _⟩ => ⟨S128x1024, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x1024, .f32⟩
  | .hbm, ⟨19, _⟩ => ⟨S128x1024, .f32⟩
  | .hbm, ⟨20, _⟩ => ⟨S1x1024, .f32⟩
  | .hbm, ⟨21, _⟩ => ⟨S128x1024, .f32⟩
  | .hbm, ⟨22, _⟩ => ⟨S128x1024, .f32⟩
  | .hbm, ⟨23, _⟩ => ⟨S128x3072, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S8x16x1024, .f32⟩
  | .hbm, ⟨29, _⟩ => ⟨S8x18x1024, .f32⟩
  | .hbm, ⟨30, _⟩ => ⟨S1x1024, .f32⟩
  | .hbm, ⟨31, _⟩ => ⟨S1024, .f32⟩
  | .hbm, ⟨32, _⟩ => ⟨S8x16x1024, .f32⟩
  | .hbm, ⟨33, _⟩ => ⟨S1x1x1024, .f32⟩
  | .hbm, ⟨34, _⟩ => ⟨S8x16x1024, .f32⟩
  | .hbm, ⟨35, _⟩ => ⟨S8x16x1024, .f32⟩
  | .hbm, ⟨36, _⟩ => ⟨S1x1024, .f32⟩
  | .hbm, ⟨37, _⟩ => ⟨S1024, .f32⟩
  | .hbm, ⟨38, _⟩ => ⟨S8x16x1024, .f32⟩
  | .hbm, ⟨39, _⟩ => ⟨S1x1x1024, .f32⟩
  | .hbm, ⟨40, _⟩ => ⟨S8x16x1024, .f32⟩
  | .hbm, ⟨41, _⟩ => ⟨S8x16x1024, .f32⟩
  | .hbm, ⟨42, _⟩ => ⟨S8x16x1024, .f32⟩
  | .hbm, ⟨43, _⟩ => ⟨S1x1024, .f32⟩
  | .hbm, ⟨44, _⟩ => ⟨S1024, .f32⟩
  | .hbm, ⟨45, _⟩ => ⟨S8x16x1024, .f32⟩
  | .hbm, ⟨46, _⟩ => ⟨S1x1x1024, .f32⟩
  | .hbm, ⟨47, _⟩ => ⟨S8x16x1024, .f32⟩
  | .hbm, ⟨48, _⟩ => ⟨S8x16x1024, .f32⟩
  | .hbm, ⟨49, _⟩ => ⟨S8x16x1024, .f32⟩
  | .hbm, ⟨50, _⟩ => ⟨S128x1024, .f32⟩
  | .hbm, ⟨51, _⟩ => ⟨S128x1024, .f32⟩
  | .hbm, ⟨52, _⟩ => ⟨S128x1024, .bf16⟩
  | .hbm, ⟨53, _⟩ => ⟨S128x1024, .bf16⟩
  | .hbm, ⟨54, _⟩ => ⟨S256x1024, .bf16⟩
  | .hbm, ⟨55, _⟩ => ⟨S8x8x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== Recur.lean ====
abbrev S32768x1024 : Shape := ⟨2, ![32768, 1024]⟩
abbrev S16x1024 : Shape := ⟨2, ![16, 1024]⟩
abbrev S16x3x1024 : Shape := ⟨3, ![16, 3, 1024]⟩
abbrev S1024 : Shape := ⟨1, ![1024]⟩
abbrev S1024x1024 : Shape := ⟨2, ![1024, 1024]⟩
abbrev S4x1024 : Shape := ⟨2, ![4, 1024]⟩
abbrev S4x256x256 : Shape := ⟨3, ![4, 256, 256]⟩
abbrev S16x1x1024 : Shape := ⟨3, ![16, 1, 1024]⟩
abbrev S_ : Shape := ⟨0, ![]⟩
abbrev S16x8x1024 : Shape := ⟨3, ![16, 8, 1024]⟩
abbrev S1x1024 : Shape := ⟨2, ![1, 1024]⟩
abbrev S8x1024 : Shape := ⟨2, ![8, 1024]⟩
abbrev S256x1024 : Shape := ⟨2, ![256, 1024]⟩
abbrev S1x1x1024 : Shape := ⟨3, ![1, 1, 1024]⟩
abbrev S1x8x1024 : Shape := ⟨3, ![1, 8, 1024]⟩
abbrev S264x1024 : Shape := ⟨2, ![264, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S32x8x1024 : Shape := ⟨3, ![32, 8, 1024]⟩

abbrev nBuf : Space → Nat
  | .hbm => 36
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S16x1024, .f32⟩
  | .hbm, ⟨2, _⟩ => ⟨S16x3x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4x1024, .f32⟩
  | .hbm, ⟨9, _⟩ => ⟨S1024, .f32⟩
  | .hbm, ⟨10, _⟩ => ⟨S4x256x256, .f32⟩
  | .hbm, ⟨11, _⟩ => ⟨S1024, .f32⟩
  | .hbm, ⟨12, _⟩ => ⟨S4x256x256, .f32⟩
  | .hbm, ⟨13, _⟩ => ⟨S1024, .f32⟩
  | .hbm, ⟨14, _⟩ => ⟨S1024, .f32⟩
  | .hbm, ⟨15, _⟩ => ⟨S16x1x1024, .f32⟩
  | .hbm, ⟨16, _⟩ => ⟨S_, .i32⟩
  | .hbm, ⟨17, _⟩ => ⟨S_, .f32⟩
  | .hbm, ⟨18, _⟩ => ⟨S16x8x1024, .f32⟩
  | .hbm, ⟨19, _⟩ => ⟨S1x1024, .f32⟩
  | .hbm, ⟨20, _⟩ => ⟨S1024x1024, .bf16⟩
  | .hbm, ⟨21, _⟩ => ⟨S1x1024, .f32⟩
  | .hbm, ⟨22, _⟩ => ⟨S1024x1024, .bf16⟩
  | .hbm, ⟨23, _⟩ => ⟨S1x1024, .f32⟩
  | .hbm, ⟨24, _⟩ => ⟨S_, .i32⟩
  | .hbm, ⟨25, _⟩ => ⟨S_, .f32⟩
  | .hbm, ⟨26, _⟩ => ⟨S8x1024, .f32⟩
  | .hbm, ⟨27, _⟩ => ⟨S1x1024, .f32⟩
  | .hbm, ⟨28, _⟩ => ⟨S4x256x256, .bf16⟩
  | .hbm, ⟨29, _⟩ => ⟨S1x1024, .f32⟩
  | .hbm, ⟨30, _⟩ => ⟨S4x256x256, .bf16⟩
  | .hbm, ⟨31, _⟩ => ⟨S1x1024, .f32⟩
  | .hbm, ⟨32, _⟩ => ⟨S1x1024, .f32⟩
  | .hbm, ⟨33, _⟩ => ⟨S32768x1024, .bf16⟩
  | .hbm, ⟨34, _⟩ => ⟨S16x1x1024, .f32⟩
  | .hbm, ⟨35, _⟩ => ⟨S16x8x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S8x1024, .f32⟩
  | .local _ .vmem, ⟨12, _⟩ => ⟨S1x1024, .f32⟩
  | .local _ .vmem, ⟨13, _⟩ => ⟨S4x256x256, .bf16⟩
  | .local _ .vmem, ⟨14, _⟩ => ⟨S1x1024, .f32⟩
  | .local _ .vmem, ⟨15, _⟩ => ⟨S4x256x256, .bf16⟩
  | .local _ .vmem, ⟨16, _⟩ => ⟨S1x1024, .f32⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S1x1x1024, .f32⟩
  | .local _ .vmem, ⟨21, _⟩ => ⟨S1x1x1024, .f32⟩
  | .local _ .vmem, ⟨22, _⟩ => ⟨S1x8x1024, .f32⟩
  | .local _ .vmem, ⟨23, _⟩ => ⟨S1x8x1024, .f32⟩
  | .local _ .vmem, ⟨24, _⟩ => ⟨S264x1024, .f32⟩
  | .local _ .vmem, ⟨25, _⟩ => ⟨S1x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_call1_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev main_v14_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== RecurReferenceIdeal.lean ====
abbrev S32768x1024 : Shape := ⟨2, ![32768, 1024]⟩
abbrev S16x1024 : Shape := ⟨2, ![16, 1024]⟩
abbrev S16x3x1024 : Shape := ⟨3, ![16, 3, 1024]⟩
abbrev S1024 : Shape := ⟨1, ![1024]⟩
abbrev S1024x1024 : Shape := ⟨2, ![1024, 1024]⟩
abbrev S4x1024 : Shape := ⟨2, ![4, 1024]⟩
abbrev S4x256x256 : Shape := ⟨3, ![4, 256, 256]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S16x2048x1024 : Shape := ⟨3, ![16, 2048, 1024]⟩
abbrev S16x2051x1024 : Shape := ⟨3, ![16, 2051, 1024]⟩
abbrev S16x8x1024 : Shape := ⟨3, ![16, 8, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x1024, .f32⟩
  | .hbm, ⟨2, _⟩ => ⟨S16x3x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4x1024, .f32⟩
  | .hbm, ⟨9, _⟩ => ⟨S1024, .f32⟩
  | .hbm, ⟨10, _⟩ => ⟨S4x256x256, .f32⟩
  | .hbm, ⟨11, _⟩ => ⟨S1024, .f32⟩
  | .hbm, ⟨12, _⟩ => ⟨S4x256x256, .f32⟩
  | .hbm, ⟨13, _⟩ => ⟨S1024, .f32⟩
  | .hbm, ⟨14, _⟩ => ⟨S1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S1x1024, .f32⟩
  | .hbm, ⟨33, _⟩ => ⟨S32768x1024, .f32⟩
  | .hbm, ⟨34, _⟩ => ⟨S32768x1024, .f32⟩
  | .hbm, ⟨35, _⟩ => ⟨S16x2048x1024, .f32⟩
  | .hbm, ⟨36, _⟩ => ⟨S16x2051x1024, .f32⟩
  | .hbm, ⟨37, _⟩ => ⟨S16x8x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== RecurSample.lean ====
abbrev S256x1024 : Shape := ⟨2, ![256, 1024]⟩
abbrev S8x1024 : Shape := ⟨2, ![8, 1024]⟩
abbrev S8x3x1024 : Shape := ⟨3, ![8, 3, 1024]⟩
abbrev S1024 : Shape := ⟨1, ![1024]⟩
abbrev S1024x1024 : Shape := ⟨2, ![1024, 1024]⟩
abbrev S4x1024 : Shape := ⟨2, ![4, 1024]⟩
abbrev S4x256x256 : Shape := ⟨3, ![4, 256, 256]⟩
abbrev S8x1x1024 : Shape := ⟨3, ![8, 1, 1024]⟩
abbrev S_ : Shape := ⟨0, ![]⟩
abbrev S8x8x1024 : Shape := ⟨3, ![8, 8, 1024]⟩
abbrev S1x1024 : Shape := ⟨2, ![1, 1024]⟩
abbrev S16x1024 : Shape := ⟨2, ![16, 1024]⟩
abbrev S1x1x1024 : Shape := ⟨3, ![1, 1, 1024]⟩
abbrev S1x8x1024 : Shape := ⟨3, ![1, 8, 1024]⟩
abbrev S24x1024 : Shape := ⟨2, ![24, 1024]⟩
abbrev S16 : Shape := ⟨1, ![16]⟩
abbrev S16x1 : Shape := ⟨2, ![16, 1]⟩
abbrev S16x256 : Shape := ⟨2, ![16, 256]⟩
abbrev S1x256x256 : Shape := ⟨3, ![1, 256, 256]⟩
abbrev S256x256 : Shape := ⟨2, ![256, 256]⟩
abbrev S2x8x1024 : Shape := ⟨3, ![2, 8, 1024]⟩

abbrev nBuf : Space → Nat
  | .hbm => 37
  | .vmem => 26
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S8x1024, .f32⟩
  | .hbm, ⟨3, _⟩ => ⟨S8x3x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x1024, .f32⟩
  | .hbm, ⟨10, _⟩ => ⟨S1024, .f32⟩
  | .hbm, ⟨11, _⟩ => ⟨S4x256x256, .f32⟩
  | .hbm, ⟨12, _⟩ => ⟨S1024, .f32⟩
  | .hbm, ⟨13, _⟩ => ⟨S4x256x256, .f32⟩
  | .hbm, ⟨14, _⟩ => ⟨S1024, .f32⟩
  | .hbm, ⟨15, _⟩ => ⟨S1024, .f32⟩
  | .hbm, ⟨16, _⟩ => ⟨S8x1x1024, .f32⟩
  | .hbm, ⟨17, _⟩ => ⟨S_, .i32⟩
  | .hbm, ⟨18, _⟩ => ⟨S_, .f32⟩
  | .hbm, ⟨19, _⟩ => ⟨S8x8x1024, .f32⟩
  | .hbm, ⟨20, _⟩ => ⟨S1x1024, .f32⟩
  | .hbm, ⟨21, _⟩ => ⟨S1024x1024, .bf16⟩
  | .hbm, ⟨22, _⟩ => ⟨S1x1024, .f32⟩
  | .hbm, ⟨23, _⟩ => ⟨S1024x1024, .bf16⟩
  | .hbm, ⟨24, _⟩ => ⟨S1x1024, .f32⟩
  | .hbm, ⟨25, _⟩ => ⟨S_, .i32⟩
  | .hbm, ⟨26, _⟩ => ⟨S_, .f32⟩
  | .hbm, ⟨27, _⟩ => ⟨S8x1024, .f32⟩
  | .hbm, ⟨28, _⟩ => ⟨S1x1024, .f32⟩
  | .hbm, ⟨29, _⟩ => ⟨S4x256x256, .bf16⟩
  | .hbm, ⟨30, _⟩ => ⟨S1x1024, .f32⟩
  | .hbm, ⟨31, _⟩ => ⟨S4x256x256, .bf16⟩
  | .hbm, ⟨32, _⟩ => ⟨S1x1024, .f32⟩
  | .hbm, ⟨33, _⟩ => ⟨S1x1024, .f32⟩
  | .hbm, ⟨34, _⟩ => ⟨S256x1024, .bf16⟩
  | .hbm, ⟨35, _⟩ => ⟨S8x1x1024, .f32⟩
  | .hbm, ⟨36, _⟩ => ⟨S8x8x1024, .f32⟩
  | .local _ .vmem, ⟨0, _⟩ => ⟨S16x1024, .f32⟩
  | .local _ .vmem, ⟨1, _⟩ => ⟨S16x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S8x1024, .f32⟩
  | .local _ .vmem, ⟨12, _⟩ => ⟨S1x1024, .f32⟩
  | .local _ .vmem, ⟨13, _⟩ => ⟨S4x256x256, .bf16⟩
  | .local _ .vmem, ⟨14, _⟩ => ⟨S1x1024, .f32⟩
  | .local _ .vmem, ⟨15, _⟩ => ⟨S4x256x256, .bf16⟩
  | .local _ .vmem, ⟨16, _⟩ => ⟨S1x1024, .f32⟩
  | .local _ .vmem, ⟨17, _⟩ => ⟨S1x1024, .f32⟩
  | .local _ .vmem, ⟨18, _⟩ => ⟨S16x1024, .bf16⟩
  | .local _ .vmem, ⟨19, _⟩ => ⟨S16x1024, .bf16⟩
  | .local _ .vmem, ⟨20, _⟩ => ⟨S1x1x1024, .f32⟩
  | .local _ .vmem, ⟨21, _⟩ => ⟨S1x1x1024, .f32⟩
  | .local _ .vmem, ⟨22, _⟩ => ⟨S1x8x1024, .f32⟩
  | .local _ .vmem, ⟨23, _⟩ => ⟨S1x8x1024, .f32⟩
  | .local _ .vmem, ⟨24, _⟩ => ⟨S24x1024, .f32⟩
  | .local _ .vmem, ⟨25, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_call1_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_v14_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S16x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== RecurSampleReferenceIdeal.lean ====
abbrev S256x1024 : Shape := ⟨2, ![256, 1024]⟩
abbrev S8x1024 : Shape := ⟨2, ![8, 1024]⟩
abbrev S8x3x1024 : Shape := ⟨3, ![8, 3, 1024]⟩
abbrev S1024 : Shape := ⟨1, ![1024]⟩
abbrev S1024x1024 : Shape := ⟨2, ![1024, 1024]⟩
abbrev S4x1024 : Shape := ⟨2, ![4, 1024]⟩
abbrev S4x256x256 : Shape := ⟨3, ![4, 256, 256]⟩
abbrev S128x1024 : Shape := ⟨2, ![128, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S8x16x1024 : Shape := ⟨3, ![8, 16, 1024]⟩
abbrev S8x19x1024 : Shape := ⟨3, ![8, 19, 1024]⟩
abbrev S8x8x1024 : Shape := ⟨3, ![8, 8, 1024]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S8x1024, .f32⟩
  | .hbm, ⟨3, _⟩ => ⟨S8x3x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x1024, .f32⟩
  | .hbm, ⟨10, _⟩ => ⟨S1024, .f32⟩
  | .hbm, ⟨11, _⟩ => ⟨S4x256x256, .f32⟩
  | .hbm, ⟨12, _⟩ => ⟨S1024, .f32⟩
  | .hbm, ⟨13, _⟩ => ⟨S4x256x256, .f32⟩
  | .hbm, ⟨14, _⟩ => ⟨S1024, .f32⟩
  | .hbm, ⟨15, _⟩ => ⟨S1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128, .f32⟩
  | .hbm, ⟨20, _⟩ => ⟨S128x1, .f32⟩
  | .hbm, ⟨21, _⟩ => ⟨S_, .f32⟩
  | .hbm, ⟨22, _⟩ => ⟨S128x1, .f32⟩
  | .hbm, ⟨23, _⟩ => ⟨S128x1, .f32⟩
  | .hbm, ⟨24, _⟩ => ⟨S_, .f32⟩
  | .hbm, ⟨25, _⟩ => ⟨S128x1, .f32⟩
  | .hbm, ⟨26, _⟩ => ⟨S128x1, .f32⟩
  | .hbm, ⟨27, _⟩ => ⟨S128x1, .f32⟩
  | .hbm, ⟨28, _⟩ => ⟨S128x1024, .f32⟩
  | .hbm, ⟨29, _⟩ => ⟨S128x1024, .f32⟩
  | .hbm, ⟨30, _⟩ => ⟨S1x1024, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S1x1024, .f32⟩
  | .hbm, ⟨35, _⟩ => ⟨S128x1024, .f32⟩
  | .hbm, ⟨36, _⟩ => ⟨S128x1024, .f32⟩
  | .hbm, ⟨37, _⟩ => ⟨S8x16x1024, .f32⟩
  | .hbm, ⟨38, _⟩ => ⟨S8x19x1024, .f32⟩
  | .hbm, ⟨39, _⟩ => ⟨S8x8x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== ConvMeta.lean ====
abbrev S256x1024 : Shape := ⟨2, ![256, 1024]⟩
abbrev S1024 : Shape := ⟨1, ![1024]⟩
abbrev S1024x3072 : Shape := ⟨2, ![1024, 3072]⟩
abbrev S3x1024 : Shape := ⟨2, ![3, 1024]⟩
abbrev S_ : Shape := ⟨0, ![]⟩
abbrev S1x8x1024 : Shape := ⟨3, ![1, 8, 1024]⟩
abbrev S1x1024 : Shape := ⟨2, ![1, 1024]⟩
abbrev S8x1024 : Shape := ⟨2, ![8, 1024]⟩
abbrev S16x1024 : Shape := ⟨2, ![16, 1024]⟩
abbrev S24x1024 : Shape := ⟨2, ![24, 1024]⟩
abbrev S16 : Shape := ⟨1, ![16]⟩
abbrev S16x1 : Shape := ⟨2, ![16, 1]⟩
abbrev S16x3072 : Shape := ⟨2, ![16, 3072]⟩

abbrev nBuf : Space → Nat
  | .hbm => 14
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S_, .f32⟩
  | .hbm, ⟨6, _⟩ => ⟨S1x8x1024, .f32⟩
  | .hbm, ⟨7, _⟩ => ⟨S1x1024, .f32⟩
  | .hbm, ⟨8, _⟩ => ⟨S1024x3072, .bf16⟩
  | .hbm, ⟨9, _⟩ => ⟨S_, .i32⟩
  | .hbm, ⟨10, _⟩ => ⟨S_, .f32⟩
  | .hbm, ⟨11, _⟩ => ⟨S8x1024, .f32⟩
  | .hbm, ⟨12, _⟩ => ⟨S256x1024, .bf16⟩
  | .hbm, ⟨13, _⟩ => ⟨S1x8x1024, .f32⟩
  | .local _ .vmem, ⟨0, _⟩ => ⟨S16x1024, .f32⟩
  | .local _ .vmem, ⟨1, _⟩ => ⟨S1x8x1024, .f32⟩
  | .local _ .vmem, ⟨2, _⟩ => ⟨S1x1024, .f32⟩
  | .local _ .vmem, ⟨3, _⟩ => ⟨S1024x3072, .bf16⟩
  | .local _ .vmem, ⟨4, _⟩ => ⟨S8x1024, .f32⟩
  | .local _ .vmem, ⟨5, _⟩ => ⟨S16x1024, .bf16⟩
  | .local _ .vmem, ⟨6, _⟩ => ⟨S1x8x1024, .f32⟩
  | .local _ .vmem, ⟨7, _⟩ => ⟨S24x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c8_i32 : BitVec 32 := 8#32
  let v1 : BitVec 32 := Scalar.addi c8_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c8_i32 : BitVec 32 := 8#32
  let v1 : BitVec 32 := Scalar.addi c8_i32 v0
  let v2 : BitVec 32 := Scalar.addi v1 arg1
  let c0_i32 : BitVec 32 := 0#32
  let c0_i32_0 : BitVec 32 := 0#32
  ![v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== ConvMetaReferenceIdeal.lean ====
abbrev S256x1024 : Shape := ⟨2, ![256, 1024]⟩
abbrev S1024 : Shape := ⟨1, ![1024]⟩
abbrev S1024x3072 : Shape := ⟨2, ![1024, 3072]⟩
abbrev S3x1024 : Shape := ⟨2, ![3, 1024]⟩
abbrev S16x1024 : Shape := ⟨2, ![16, 1024]⟩
abbrev S_ : Shape := ⟨0, ![]⟩
abbrev S16 : Shape := ⟨1, ![16]⟩
abbrev S16x1 : Shape := ⟨2, ![16, 1]⟩
abbrev S1x1024 : Shape := ⟨2, ![1, 1024]⟩
abbrev S16x3072 : Shape := ⟨2, ![16, 3072]⟩
abbrev S2x1024 : Shape := ⟨2, ![2, 1024]⟩
abbrev S18x1024 : Shape := ⟨2, ![18, 1024]⟩
abbrev S128x1024 : Shape := ⟨2, ![128, 1024]⟩
abbrev S112x1024 : Shape := ⟨2, ![112, 1024]⟩
abbrev S8x1024 : Shape := ⟨2, ![8, 1024]⟩
abbrev S1x8x1024 : Shape := ⟨3, ![1, 8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16, .f32⟩
  | .hbm, ⟨9, _⟩ => ⟨S16x1, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S_, .f32⟩
  | .hbm, ⟨14, _⟩ => ⟨S16x1, .f32⟩
  | .hbm, ⟨15, _⟩ => ⟨S16x1, .f32⟩
  | .hbm, ⟨16, _⟩ => ⟨S16x1, .f32⟩
  | .hbm, ⟨17, _⟩ => ⟨S16x1024, .f32⟩
  | .hbm, ⟨18, _⟩ => ⟨S16x1024, .f32⟩
  | .hbm, ⟨19, _⟩ => ⟨S1x1024, .f32⟩
  | .hbm, ⟨20, _⟩ => ⟨S16x1024, .f32⟩
  | .hbm, ⟨21, _⟩ => ⟨S16x1024, .f32⟩
  | .hbm, ⟨22, _⟩ => ⟨S16x3072, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S2x1024, .f32⟩
  | .hbm, ⟨28, _⟩ => ⟨S16x1024, .f32⟩
  | .hbm, ⟨29, _⟩ => ⟨S18x1024, .f32⟩
  | .hbm, ⟨30, _⟩ => ⟨S1x1024, .f32⟩
  | .hbm, ⟨31, _⟩ => ⟨S1024, .f32⟩
  | .hbm, ⟨32, _⟩ => ⟨S16x1024, .f32⟩
  | .hbm, ⟨33, _⟩ => ⟨S1x1024, .f32⟩
  | .hbm, ⟨34, _⟩ => ⟨S16x1024, .f32⟩
  | .hbm, ⟨35, _⟩ => ⟨S16x1024, .f32⟩
  | .hbm, ⟨36, _⟩ => ⟨S1x1024, .f32⟩
  | .hbm, ⟨37, _⟩ => ⟨S1024, .f32⟩
  | .hbm, ⟨38, _⟩ => ⟨S16x1024, .f32⟩
  | .hbm, ⟨39, _⟩ => ⟨S1x1024, .f32⟩
  | .hbm, ⟨40, _⟩ => ⟨S16x1024, .f32⟩
  | .hbm, ⟨41, _⟩ => ⟨S16x1024, .f32⟩
  | .hbm, ⟨42, _⟩ => ⟨S16x1024, .f32⟩
  | .hbm, ⟨43, _⟩ => ⟨S1x1024, .f32⟩
  | .hbm, ⟨44, _⟩ => ⟨S1024, .f32⟩
  | .hbm, ⟨45, _⟩ => ⟨S16x1024, .f32⟩
  | .hbm, ⟨46, _⟩ => ⟨S1x1024, .f32⟩
  | .hbm, ⟨47, _⟩ => ⟨S16x1024, .f32⟩
  | .hbm, ⟨48, _⟩ => ⟨S16x1024, .f32⟩
  | .hbm, ⟨49, _⟩ => ⟨S16x1024, .f32⟩
  | .hbm, ⟨50, _⟩ => ⟨S128x1024, .bf16⟩
  | .hbm, ⟨51, _⟩ => ⟨S16x1024, .f32⟩
  | .hbm, ⟨52, _⟩ => ⟨S16x1024, .bf16⟩
  | .hbm, ⟨53, _⟩ => ⟨S112x1024, .bf16⟩
  | .hbm, ⟨54, _⟩ => ⟨S256x1024, .bf16⟩
  | .hbm, ⟨55, _⟩ => ⟨S8x1024, .f32⟩
  | .hbm, ⟨56, _⟩ => ⟨S1x8x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Proof.Safe.lean ====
/-
  A kernel body that only loads, stores, loops and branches leaves the buffers it names held, whatever they hold.

  `Held c m` says that core `c` holds the buffer elements under the memref `m`, at contents not named; `Keeps c I p` says
  that the program `p`, started while `I` is held, runs without a fault and ends with `I` held. The rules below take a
  program apart operation by operation. None of them speaks of the contents, so a loop needs no invariant of its own
  beside `I`, and no branch of a conditional has to be excluded.
-/
module

public import Idealize.ShloMosaic.Lib.Pipeline.Frame
public import Idealize.ShloMosaic.Lib.Scf

@[expose] public section

noncomputable section

namespace Cert.Proof.Safe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

variable (defs : Defs nD τ sig Val Λ) (c : Dev nD)

/-- A memref with its space, shape and element type, so that memrefs of different types can stand in one list. -/
structure Piece (sig : RefSig) where
  {sp : Space}
  {s : Shape}
  {e : EltTy}
  m : Memref sig .tc sp s e

/-- Core `c` holds the elements under the memref, at some contents. -/
def Held {sp : Space} {s : Shape} {e : EltTy} (m : Memref sig .tc sp s e) : sProp 𝕄 :=
  iprop(∃ f, (m.view.loc (c : Thread nD τ)) ↦[m.view.set]{fullShare} f)

/-- Core `c` holds every memref of the list. -/
def HeldAll : List (Piece sig) → sProp 𝕄
  | [] => BI.emp
  | p :: ps => iprop(Held (Val := Val) (τ := τ) c p.m ∗ HeldAll ps)

/-- `I` contains the memref `m`: it can be taken out, and put back with other contents. -/
def Has (I : sProp 𝕄) {sp : Space} {s : Shape} {e : EltTy} (m : Memref sig .tc sp s e) : Prop :=
  ∃ R : sProp 𝕄, (I ⊢ iprop(Held c m ∗ R)) ∧ (iprop(Held c m ∗ R) ⊢ I)

/-- A list of held memrefs contains each of its members. -/
theorem has_of_mem {ps : List (Piece sig)} {p : Piece sig} (h : p ∈ ps) :
    Has c (HeldAll (Val := Val) (τ := τ) c ps) p.m := by
  induction ps with
  | nil => exact absurd h List.not_mem_nil
  | cons q qs ih =>
    rcases List.mem_cons.mp h with rfl | h
    · exact ⟨HeldAll c qs, .rfl, .rfl⟩
    · obtain ⟨R, h1, h2⟩ := ih h
      refine ⟨iprop(Held c q.m ∗ R), ?_, ?_⟩
      · show iprop(Held c q.m ∗ HeldAll c qs) ⊢ _
        iintro ⟨Hq, Hs⟩
        ihave H := h1 $$ Hs
        icases H with ⟨Hp, HR⟩
        isplitl [Hp]; · iexact Hp
        isplitl [Hq]; · iexact Hq
        iexact HR
      · show _ ⊢ iprop(Held c q.m ∗ HeldAll c qs)
        iintro ⟨Hp, Hq, HR⟩
        isplitl [Hq]; · iexact Hq
        iapply h2
        isplitl [Hp]; · iexact Hp
        iexact HR

/-- The program, started while `I` is held, runs without a fault and ends with `I` held. -/
structure Keeps (I : sProp 𝕄) {α : Type} (p : Prog (TpuEff nD τ sig Val Λ .tc) α) : Prop where
  run : I ⊢ wp frame (wpE defs Variants.none (c : Thread nD τ) none) Set.univ p (fun _ => I)

section Rules

variable {D : Defs nD τ sig Val Λ} {d : Dev nD} {α β : Type}

/-- A program that only returns a value. -/
theorem keeps_pure {J : sProp 𝕄} (a : α) : Keeps D d J (pure a) := by
  refine ⟨?_⟩
  show J ⊢ wp _ _ _ (Prog.ret a) _
  rw [wp_ret]
  iintro H
  imodintro
  iexact H

/-- One program after another. -/
theorem keeps_bind {J : sProp 𝕄} {p : Prog (TpuEff nD τ sig Val Λ .tc) α} {k : α → Prog (TpuEff nD τ sig Val Λ .tc) β}
    (hp : Keeps D d J p) (hk : ∀ a, Keeps D d J (k a)) : Keeps D d J (p >>= k) := by
  refine ⟨?_⟩
  rw [wp_bind]
  iintro H
  iapply (wp_wand_r frame _ _)
  isplitl [H]
  · iapply hp.run; iexact H
  · iintro %a H
    iapply (hk a).run
    iexact H

/-- A load through a memref that is held. -/
theorem keeps_load {J : sProp 𝕄} {cs : CoreSpace} {s : Shape} {e : EltTy} {m : Memref sig .tc cs s e} {r : LoadRect s}
    {hl : m.view.LoadsAt r} (h : Has d J m) : Keeps D d J (Prog.lift (.load m r hl)) := by
  obtain ⟨R, h1, h2⟩ := h
  refine ⟨?_⟩
  unfold Prog.lift
  iintro HI
  ihave H := h1 $$ HI
  icases H with ⟨Hm, HR⟩
  unfold Held at h2 ⊢
  icases Hm with ⟨%f, Hm⟩
  iapply (wp_load Variants.none (d : Thread nD τ) none Set.univ (S := m.view.set) (View.setOn_subset_set _ _)) $$ Hm
  iintro Hm
  rw [wp_ret]
  imodintro
  iapply h2
  isplitl [Hm]
  · iexists f; iexact Hm
  · iexact HR

/-- A store through a memref that is held. -/
theorem keeps_store {J : sProp 𝕄} {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1} (h : Has d J m) :
    Keeps D d J (Prog.lift (.store m r w Mk hx hm)) := by
  obtain ⟨R, h1, h2⟩ := h
  refine ⟨?_⟩
  unfold Prog.lift
  iintro HI
  ihave H := h1 $$ HI
  icases H with ⟨Hm, HR⟩
  unfold Held at h2 ⊢
  icases Hm with ⟨%f, Hm⟩
  iapply (wp_store Variants.none (d : Thread nD τ) none Set.univ (m := m) (r := r) (f := f) (S := m.view.set)
    ((View.setOn_subset_set _ _).trans (View.set_slice_subset _ _))) $$ Hm
  iintro Hm
  rw [wp_ret]
  imodintro
  iapply h2
  isplitl [Hm]
  · iexists _; iexact Hm
  · iexact HR

/-- A counted loop whose every trip keeps what is held. -/
theorem keeps_for {J : sProp 𝕄} {w : Nat} {l : Scf.Loop w} {ok : l.OK} {init : α} {body : Fin l.trips → α → Prog (TpuEff nD τ sig Val Λ .tc) α}
    (hb : ∀ k a, Keeps D d J (body k a)) : Keeps D d J (Scf.Loop.for l ok init body) := by
  refine ⟨?_⟩
  show J ⊢ wp _ _ _ (Scf.for l.lb l.ub l.st ok init body) _
  iintro H
  iapply (Scf.wp_for frame _ Set.univ l.lb l.ub l.st ok init body (fun _ _ => J) (fun k a => (hb k a).run))
  isplitl [H]; · iexact H
  iintro %a H
  iexact H

/-- A conditional both of whose branches keep what is held. -/
theorem keeps_dite {J : sProp 𝕄} {P : Prop} [Decidable P] {p : P → Prog (TpuEff nD τ sig Val Λ .tc) α} {q : ¬P → Prog (TpuEff nD τ sig Val Λ .tc) α}
    (hp : ∀ h, Keeps D d J (p h)) (hq : ∀ h, Keeps D d J (q h)) : Keeps D d J (if h : P then p h else q h) := by
  by_cases h : P
  · rw [dif_pos h]; exact hp h
  · rw [dif_neg h]; exact hq h

/-- The same for a conditional whose branches do not use the condition's truth. -/
theorem keeps_ite {J : sProp 𝕄} {P : Prop} [Decidable P] {p q : Prog (TpuEff nD τ sig Val Λ .tc) α}
    (hp : Keeps D d J p) (hq : Keeps D d J q) : Keeps D d J (if P then p else q) := by
  by_cases h : P
  · rw [if_pos h]; exact hp
  · rw [if_neg h]; exact hq

end Rules

end Cert.Proof.Safe

end
-- ==== Proof.Attn.lean ====
/-
  The attention kernel's body keeps its buffers: whichever branch of its switch and of its conditionals it takes, every
  load, store and loop stays within the twelve staging buffers and the nine scratch buffers it is given.
-/
module

public import proofs.«01_k».proof.Proof.Safe
public import proofs.«01_k».proof.Proof.Gen.Kernel.Skeleton

@[expose] public section

set_option maxRecDepth 16384

noncomputable section

namespace Cert.Proof.Attn

open Cert.Kernel Cert.Kernel.Gen Cert.Proof.Safe
open Idealize.ShloMosaic Idealize.ShloMosaic.TcCoe
open Idealize.SL Idealize.SL.RA Idealize.SL.BI
open Idealize.SL.BI.BIBase Idealize.SL.ProofMode Idealize.SL.Sem

variable {F : FTy → Type} [BitOps F]

set_option maxHeartbeats 40000000 in
/-- While an assertion that contains the body's twenty-one buffers holds, the attention body runs without a fault and ends
    with that assertion. Taken apart operation by operation, each printed part and loop body opened where it is met. -/
theorem keeps_body {D : Defs nD τ sig (Elt F) Λ₀} {c : Dev nD} {I : sProp (MT nD τ sig Unit (Elt F) ℕ (UR sig nD τ) ℕ)}
    (i : grid0.Coords) (arg2 : Memref sig .tc .vmem S4x1x128 .i32) (harg2 : arg2.IsWhole)
    (arg3 : Memref sig .tc .vmem S4x1024x128 .bf16) (harg3 : arg3.IsWhole)
    (arg4 : Memref sig .tc .vmem S4x512x128 .bf16) (harg4 : arg4.IsWhole) (arg5 : Memref sig .tc .vmem S4x8x128 .f32)
    (harg5 : arg5.IsWhole) (arg6 : Memref sig .tc .vmem S2048x256 .bf16) (harg6 : arg6.IsWhole)
    (arg7 : Memref sig .tc .vmem S16x256x128 .bf16) (harg7 : arg7.IsWhole)
    (arg8 : Memref sig .tc .vmem S2048x64 .bf16) (harg8 : arg8.IsWhole) (arg9 : Memref sig .tc .vmem S128x256 .bf16)
    (harg9 : arg9.IsWhole) (arg10 : Memref sig .tc .vmem S256x128 .bf16) (harg10 : arg10.IsWhole)
    (arg11 : Memref sig .tc .vmem S128x64 .bf16) (harg11 : arg11.IsWhole)
    (arg12 : Memref sig .tc .vmem S16x256x128 .f32) (harg12 : arg12.IsWhole)
    (arg13 : Memref sig .tc .vmem S512x1024 .bf16) (harg13 : arg13.IsWhole)
    (arg14 : Memref sig .tc .vmem S2560x128 .i32) (harg14 : arg14.IsWhole)
    (arg15 : Memref sig .tc .vmem S2560x128 .i16) (harg15 : arg15.IsWhole)
    (arg16 : Memref sig .tc .vmem S2560x128 .i16) (harg16 : arg16.IsWhole)
    (arg17 : Memref sig .tc .vmem S2560x128 .i16) (harg17 : arg17.IsWhole)
    (arg18 : Memref sig .tc .vmem S2560x2048 .f32) (harg18 : arg18.IsWhole)
    (arg19 : Memref sig .tc .vmem S4x80x512 .f32) (harg19 : arg19.IsWhole)
    (arg20 : Memref sig .tc .vmem S4x2560x64 .bf16) (harg20 : arg20.IsWhole)
    (arg21 : Memref sig .tc .vmem S320x2560 .bf16) (harg21 : arg21.IsWhole)
    (arg22 : Memref sig .tc .vmem S2560x64 .bf16) (harg22 : arg22.IsWhole)
    (h2 : Has c I arg2) (h3 : Has c I arg3) (h4 : Has c I arg4) (h5 : Has c I arg5) (h6 : Has c I arg6)
    (h7 : Has c I arg7) (h8 : Has c I arg8) (h9 : Has c I arg9) (h10 : Has c I arg10) (h11 : Has c I arg11)
    (h12 : Has c I arg12) (h13 : Has c I arg13) (h14 : Has c I arg14) (h15 : Has c I arg15) (h16 : Has c I arg16)
    (h17 : Has c I arg17) (h18 : Has c I arg18) (h19 : Has c I arg19) (h20 : Has c I arg20) (h21 : Has c I arg21)
    (h22 : Has c I arg22) :
    Keeps D c I (cc0_dsa_attn_prompt (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  rw [cc0_dsa_attn_prompt_eq_skeleton]
  unfold cc0_dsa_attn_prompt_skel
  dsimp only
  repeat' first
    | assumption
    | intro _
    | with_reducible exact keeps_pure _
    | with_reducible refine keeps_load ?_
    | with_reducible refine keeps_store ?_
    | with_reducible refine keeps_for ?_
    | with_reducible refine keeps_bind ?_ ?_
    | with_reducible refine keeps_dite ?_ ?_
    | with_reducible refine keeps_ite ?_ ?_
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | (rw [k0_part40_eq_skeleton]; unfold k0_part40_skel)
    | (rw [k0_part41_eq_skeleton]; unfold k0_part41_skel)
    | (rw [k0_part42_eq_skeleton]; unfold k0_part42_skel)
    | (rw [k0_part43_eq_skeleton]; unfold k0_part43_skel)
    | (rw [k0_part44_eq_skeleton]; unfold k0_part44_skel)
    | (rw [k0_part45_eq_skeleton]; unfold k0_part45_skel)
    | (rw [k0_part46_eq_skeleton]; unfold k0_part46_skel)
    | (rw [k0_part47_eq_skeleton]; unfold k0_part47_skel)
    | (rw [k0_part48_eq_skeleton]; unfold k0_part48_skel)
    | (rw [k0_part49_eq_skeleton]; unfold k0_part49_skel)
    | (rw [k0_part50_eq_skeleton]; unfold k0_part50_skel)
    | (rw [k0_part51_eq_skeleton]; unfold k0_part51_skel)
    | (rw [k0_part52_eq_skeleton]; unfold k0_part52_skel)
    | (rw [k0_part53_eq_skeleton]; unfold k0_part53_skel)
    | (rw [k0_part54_eq_skeleton]; unfold k0_part54_skel)
    | (rw [k0_part55_eq_skeleton]; unfold k0_part55_skel)
    | (rw [k0_part56_eq_skeleton]; unfold k0_part56_skel)
    | (rw [k0_part57_eq_skeleton]; unfold k0_part57_skel)
    | (rw [k0_part58_eq_skeleton]; unfold k0_part58_skel)
    | (rw [k0_part59_eq_skeleton]; unfold k0_part59_skel)
    | (rw [k0_part60_eq_skeleton]; unfold k0_part60_skel)
    | (rw [k0_part61_eq_skeleton]; unfold k0_part61_skel)
    | (rw [k0_part62_eq_skeleton]; unfold k0_part62_skel)
    | (rw [k0_part63_eq_skeleton]; unfold k0_part63_skel)
    | (rw [k0_part64_eq_skeleton]; unfold k0_part64_skel)
    | (rw [k0_part65_eq_skeleton]; unfold k0_part65_skel)
    | (rw [k0_part66_eq_skeleton]; unfold k0_part66_skel)
    | (rw [k0_part67_eq_skeleton]; unfold k0_part67_skel)
    | (rw [k0_part68_eq_skeleton]; unfold k0_part68_skel)
    | (rw [k0_part69_eq_skeleton]; unfold k0_part69_skel)
    | (rw [k0_part70_eq_skeleton]; unfold k0_part70_skel)
    | (rw [k0_part71_eq_skeleton]; unfold k0_part71_skel)
    | (rw [k0_part72_eq_skeleton]; unfold k0_part72_skel)
    | (rw [k0_part73_eq_skeleton]; unfold k0_part73_skel)
    | (rw [k0_part74_eq_skeleton]; unfold k0_part74_skel)
    | (rw [k0_part75_eq_skeleton]; unfold k0_part75_skel)
    | (rw [k0_part76_eq_skeleton]; unfold k0_part76_skel)
    | (rw [k0_part77_eq_skeleton]; unfold k0_part77_skel)
    | (rw [k0_part78_eq_skeleton]; unfold k0_part78_skel)
    | (rw [k0_part79_eq_skeleton]; unfold k0_part79_skel)
    | (rw [k0_part80_eq_skeleton]; unfold k0_part80_skel)
    | (rw [k0_part81_eq_skeleton]; unfold k0_part81_skel)
    | (rw [k0_part82_eq_skeleton]; unfold k0_part82_skel)
    | (rw [k0_part83_eq_skeleton]; unfold k0_part83_skel)
    | (rw [k0_part84_eq_skeleton]; unfold k0_part84_skel)
    | (rw [k0_part85_eq_skeleton]; unfold k0_part85_skel)
    | (rw [k0_part86_eq_skeleton]; unfold k0_part86_skel)
    | (rw [k0_part87_eq_skeleton]; unfold k0_part87_skel)
    | (rw [k0_part88_eq_skeleton]; unfold k0_part88_skel)
    | (rw [k0_part89_eq_skeleton]; unfold k0_part89_skel)
    | (rw [k0_part90_eq_skeleton]; unfold k0_part90_skel)
    | (rw [k0_part91_eq_skeleton]; unfold k0_part91_skel)
    | (rw [k0_part92_eq_skeleton]; unfold k0_part92_skel)
    | (rw [k0_part93_eq_skeleton]; unfold k0_part93_skel)
    | (rw [k0_part94_eq_skeleton]; unfold k0_part94_skel)
    | (rw [k0_part95_eq_skeleton]; unfold k0_part95_skel)
    | (rw [k0_part96_eq_skeleton]; unfold k0_part96_skel)
    | (rw [k0_part97_eq_skeleton]; unfold k0_part97_skel)
    | (rw [k0_part98_eq_skeleton]; unfold k0_part98_skel)
    | (rw [k0_part99_eq_skeleton]; unfold k0_part99_skel)
    | (rw [k0_part100_eq_skeleton]; unfold k0_part100_skel)
    | (rw [k0_part101_eq_skeleton]; unfold k0_part101_skel)
    | (rw [k0_part102_eq_skeleton]; unfold k0_part102_skel)
    | (rw [k0_part103_eq_skeleton]; unfold k0_part103_skel)
    | (rw [k0_part104_eq_skeleton]; unfold k0_part104_skel)
    | (rw [k0_part105_eq_skeleton]; unfold k0_part105_skel)
    | (rw [k0_part106_eq_skeleton]; unfold k0_part106_skel)
    | (rw [k0_part107_eq_skeleton]; unfold k0_part107_skel)
    | (rw [k0_part108_eq_skeleton]; unfold k0_part108_skel)
    | (rw [k0_part109_eq_skeleton]; unfold k0_part109_skel)
    | (rw [k0_part110_eq_skeleton]; unfold k0_part110_skel)
    | (rw [k0_part111_eq_skeleton]; unfold k0_part111_skel)
    | (rw [k0_part112_eq_skeleton]; unfold k0_part112_skel)
    | (rw [k0_part113_eq_skeleton]; unfold k0_part113_skel)
    | (rw [k0_part114_eq_skeleton]; unfold k0_part114_skel)
    | (rw [k0_part115_eq_skeleton]; unfold k0_part115_skel)
    | (rw [k0_part116_eq_skeleton]; unfold k0_part116_skel)
    | (rw [k0_part117_eq_skeleton]; unfold k0_part117_skel)
    | (rw [k0_part118_eq_skeleton]; unfold k0_part118_skel)
    | (rw [k0_part119_eq_skeleton]; unfold k0_part119_skel)
    | (rw [k0_part120_eq_skeleton]; unfold k0_part120_skel)
    | (rw [k0_part121_eq_skeleton]; unfold k0_part121_skel)
    | (rw [k0_part122_eq_skeleton]; unfold k0_part122_skel)
    | (rw [k0_part123_eq_skeleton]; unfold k0_part123_skel)
    | (rw [k0_part124_eq_skeleton]; unfold k0_part124_skel)
    | (rw [k0_part125_eq_skeleton]; unfold k0_part125_skel)
    | (rw [k0_part126_eq_skeleton]; unfold k0_part126_skel)
    | (rw [k0_part127_eq_skeleton]; unfold k0_part127_skel)
    | (rw [k0_part128_eq_skeleton]; unfold k0_part128_skel)
    | (rw [k0_part129_eq_skeleton]; unfold k0_part129_skel)
    | (rw [k0_part130_eq_skeleton]; unfold k0_part130_skel)
    | (rw [k0_part131_eq_skeleton]; unfold k0_part131_skel)
    | (rw [k0_part132_eq_skeleton]; unfold k0_part132_skel)
    | (rw [k0_part133_eq_skeleton]; unfold k0_part133_skel)
    | (rw [k0_part134_eq_skeleton]; unfold k0_part134_skel)
    | (rw [k0_part135_eq_skeleton]; unfold k0_part135_skel)
    | (rw [k0_part136_eq_skeleton]; unfold k0_part136_skel)
    | (rw [k0_part137_eq_skeleton]; unfold k0_part137_skel)
    | (rw [k0_part138_eq_skeleton]; unfold k0_part138_skel)
    | (rw [k0_part139_eq_skeleton]; unfold k0_part139_skel)
    | (rw [k0_part140_eq_skeleton]; unfold k0_part140_skel)
    | (rw [k0_part141_eq_skeleton]; unfold k0_part141_skel)
    | (rw [k0_part142_eq_skeleton]; unfold k0_part142_skel)
    | (rw [k0_part143_eq_skeleton]; unfold k0_part143_skel)
    | (rw [k0_part144_eq_skeleton]; unfold k0_part144_skel)
    | (rw [k0_part145_eq_skeleton]; unfold k0_part145_skel)
    | (rw [k0_part146_eq_skeleton]; unfold k0_part146_skel)
    | (rw [k0_part147_eq_skeleton]; unfold k0_part147_skel)
    | (rw [k0_part148_eq_skeleton]; unfold k0_part148_skel)
    | (rw [k0_part149_eq_skeleton]; unfold k0_part149_skel)
    | (rw [k0_part150_eq_skeleton]; unfold k0_part150_skel)
    | (rw [k0_part151_eq_skeleton]; unfold k0_part151_skel)
    | (rw [k0_part152_eq_skeleton]; unfold k0_part152_skel)
    | (rw [k0_part153_eq_skeleton]; unfold k0_part153_skel)
    | (rw [k0_part154_eq_skeleton]; unfold k0_part154_skel)
    | unfold k0_t1_body
    | unfold k0_t2_body
    | unfold k0_t3_body
    | unfold k0_t4_body
    | unfold k0_t5_body
    | unfold k0_t6_body
    | unfold k0_t7_body
    | unfold k0_t8_body
    | unfold k0_t9_body
    | unfold k0_t10_body
    | unfold k0_t11_body
    | unfold k0_t12_body
    | unfold k0_t13_body
    | unfold k0_t14_body
    | unfold k0_t15_body
    | unfold k0_t16_body
    | unfold k0_t17_body
    | unfold k0_t18_body
    | unfold k0_t19_body
    | unfold k0_t20_body
    | unfold k0_t21_body
    | unfold k0_t22_body

end Cert.Proof.Attn

end
-- ==== Proof.AttnRun.lean ====
/-
  The attention call as a whole: from the body's safety (`Attn.keeps_body`) to the run of the program.

  At every grid point the pipeline hands the body its twelve staging buffers, its nine scratch buffers and the generator's
  register, and wants them back. No contents are named, so the same assertion stands before and after each point, and the
  run's post says of the arrays only that the eleven argument arrays, which the pipeline never writes back, end as launched.
-/
module

public import proofs.«01_k».proof.Proof.Attn
public import proofs.«01_k».proof.Proof.Gen.Kernel.Frame

@[expose] public section

set_option maxRecDepth 16384

noncomputable section

namespace Cert.Proof.Safe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {c : Dev nD}

local notation "𝕄" => MT nD τ sig Unit Val ℕ (UR sig nD τ) ℕ

/-- What the left half of an assertion contains, the whole contains. -/
theorem has_left {A B : sProp 𝕄} {sp : Space} {s : Shape} {e : EltTy} {m : Memref sig .tc sp s e} (h : Has c A m) :
    Has c iprop(A ∗ B) m := by
  obtain ⟨R, h1, h2⟩ := h
  refine ⟨iprop(R ∗ B), ?_, ?_⟩
  · iintro ⟨HA, HB⟩
    ihave H := h1 $$ HA
    icases H with ⟨Hm, HR⟩
    isplitl [Hm]; · iexact Hm
    isplitl [HR]; · iexact HR
    iexact HB
  · iintro ⟨Hm, HR, HB⟩
    isplitl [Hm HR]
    · iapply h2
      isplitl [Hm]; · iexact Hm
      iexact HR
    iexact HB

/-- What the right half of an assertion contains, the whole contains. -/
theorem has_right {A B : sProp 𝕄} {sp : Space} {s : Shape} {e : EltTy} {m : Memref sig .tc sp s e} (h : Has c B m) :
    Has c iprop(A ∗ B) m := by
  obtain ⟨R, h1, h2⟩ := h
  refine ⟨iprop(A ∗ R), ?_, ?_⟩
  · iintro ⟨HA, HB⟩
    ihave H := h1 $$ HB
    icases H with ⟨Hm, HR⟩
    isplitl [Hm]; · iexact Hm
    isplitl [HA]; · iexact HA
    iexact HR
  · iintro ⟨Hm, HA, HR⟩
    isplitl [HA]; · iexact HA
    iapply h2
    isplitl [Hm]; · iexact Hm
    iexact HR

/-- What one summand of a finite separating conjunction contains, the conjunction contains. -/
theorem has_bigSep {n : ℕ} (w : Fin n) {Φ : Fin n → sProp 𝕄} {sp : Space} {s : Shape} {e : EltTy}
    {m : Memref sig .tc sp s e} (h : Has c (Φ w) m) : Has c (bigSep Finset.univ Φ) m := by
  rw [bigSep_univ_split w]
  exact has_left h

/-- A memref owned whole at some contents is held. -/
theorem has_owns {sp : Space} {s : Shape} {e : EltTy} (m : Memref sig .tc sp s e) :
    Has (Val := Val) (τ := τ) c iprop(∃ X, owns (c : Thread nD τ) m fullShare X) m := by
  refine ⟨BI.emp, ?_, ?_⟩
  · iintro ⟨%X, H⟩
    unfold owns
    icases H with ⟨%f, -, H⟩
    isplitl [H]
    · unfold Held; iexists f; iexact H
    · iempintro
  · unfold Held
    iintro ⟨⟨%f, H⟩, -⟩
    iexists (m.view.read Val f)
    iapply owns_intro
    iexact H

/-- A buffer held whole is held under the memref that is all of it. -/
theorem has_whole (b : Ref sig .tc) :
    Has (Val := Val) c iprop(∃ f : Buf Val ((c : Thread nD τ).loc b), ((c : Thread nD τ).loc b) ↦{fullShare} f)
      (Memref.whole b) := by
  refine ⟨BI.emp, ?_, ?_⟩
  · iintro ⟨%f, H⟩
    isplitl [H]
    · unfold Held; iexists f; simp only [Memref.view_whole, View.set_whole]; iexact H
    · iempintro
  · unfold Held
    simp only [Memref.view_whole, View.set_whole]
    iintro ⟨⟨%f, H⟩, -⟩
    iexists f
    iexact H

end Cert.Proof.Safe

namespace Cert.Proof.Attn

open Cert.Kernel Cert.Kernel.Gen Cert.Proof.Safe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The pipeline's data: the arrays as launched, nothing named of what the body leaves. -/
def dats (p : Fin 1) (c : Dev nD) : Dat τ (Elt F) Unit ℕ (UR sig nD τ) ℕ (cfgs p) c :=
  match p with
  | 0 => { A := fun w => V m c (Pipeline.arrRef spec0 w)
           after := Dat.unnamed
           Φ := fun _ => Pipeline.ΦA spec0 c
           q := fun _ => fullShare
           owed := fun _ => 0 }

/-- What the body is given at a grid point, and gives back: the scratch buffers and the generator's register, what is owed
    (nothing), and the twelve staging buffers at some contents. -/
def given (c : Dev nD) (t : Fin cfg0.N) : sProp 𝕄 :=
  iprop(Pipeline.ΦA spec0 c ∗ (dats m 0 c).owesAt () t.castSucc
    ∗ bigSep Finset.univ fun w : Fin cfg0.W => iprop(∃ X, owns (c : Thread nD τ) ((cfg0.win w).stage (cfg0.slots t w)) fullShare X))

/-- A window's staging buffer is part of what the body is given. -/
theorem has_stage (c : Dev nD) (t : Fin cfg0.N) (w : Fin cfg0.W) :
    Has c (given m c t) ((cfg0.win w).stage (cfg0.slots t w)) :=
  has_right (has_right (has_bigSep w (has_owns _)))

/-- Whatever the scratch buffers contain, what the body is given contains. -/
theorem has_scratch (c : Dev nD) (t : Fin cfg0.N) {sp : Space} {s : Shape} {e : EltTy} {r : Memref sig .tc sp s e}
    (h : Has c (Pipeline.scopedRest (Ix := Unit) (Name := ℕ) (U := UR sig nD τ) (Lvl := ℕ) (Val := Elt F) spec0 c) r) :
    Has c (given m c t) r :=
  has_left (has_left h)

/-- At every grid point the body gives back what it is given. -/
theorem body (c : Dev nD) : BodyObligationLoose (dats m 0 c) (defs₀ (F := F)) Variants.none () Set.univ (fun _ => true) := by
  intro t
  have h : ∀ {sp : Space} {s : Shape} {e : EltTy} {r : Memref sig .tc sp s e},
      Has c (Pipeline.scopedRest (Ix := Unit) (Name := ℕ) (U := UR sig nD τ) (Lvl := ℕ) (Val := Elt F) spec0 c) r →
      Has c (given m c t) r := has_scratch m c t
  rw [scopedRest0_eq c] at h
  have k : Keeps (defs₀ (F := F)) c (given m c t) (bodyAt0 t) :=
    keeps_body _ _ _ _ _ _ _ _ _ _ _ _ _ _ _ _ _ _ _ _ _ _ _ _ _ _ _ _ _ _ _ _ _ _ _ _ _ _ _ _ _ _ _
      (has_stage m c t 0) (has_stage m c t 1) (has_stage m c t 2) (has_stage m c t 3) (has_stage m c t 4)
      (has_stage m c t 5) (has_stage m c t 6) (has_stage m c t 7) (has_stage m c t 8) (has_stage m c t 9)
      (has_stage m c t 10) (has_stage m c t 11)
      (h (has_left (has_whole _)))
      (h (has_right (has_left (has_whole _))))
      (h (has_right (has_right (has_left (has_whole _)))))
      (h (has_right (has_right (has_right (has_left (has_whole _))))))
      (h (has_right (has_right (has_right (has_right (has_left (has_whole _)))))))
      (h (has_right (has_right (has_right (has_right (has_right (has_left (has_whole _))))))))
      (h (has_right (has_right (has_right (has_right (has_right (has_right (has_left (has_whole _)))))))))
      (h (has_right (has_right (has_right (has_right (has_right (has_right (has_right (has_left (has_whole _))))))))))
      (h (has_right (has_right (has_right (has_right (has_right (has_right (has_right (has_right (has_whole _))))))))))
  exact k.run

/-- The run of the attention call: it terminates, nothing faults, the eleven arguments end as launched, and every
    counter ends at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  have kept : ∀ {r}, Pipeline.RDat.FramePost cfg0 (fun c => (dats m 0 c).toRForget fun _ => true) (V m) r →
      ∀ (c : Dev nD) (w : Fin cfg0.W), (cfg0.win w).isOut = false →
        r.2.mem ((cfg0.win w).arr.view.loc (c.tc : Thread nD τ)) = V m c (Pipeline.arrRef spec0 w) :=
    fun h c w hin => Pipeline.RDat.FramePost.arr_in h c w hin
  refine Pipeline.θ_run_frame_forget cfgs (dats m) 0 launch0 defs₀ Variants.none (fun _ => true) m ρ main (body m)
    (fun _ _ => by unfold Dat.share; split <;> rfl) (fun _ _ => rfl) (V m) (hmain m Variants.none) (fun _ _ => rfl) (fun _ _ => rfl) (Q' := _)
    fun r h => ⟨fun c => ?_, h.2⟩
  have k := kept h.1 c
  exact ⟨k 0 rfl, k 1 rfl, k 2 rfl, k 3 rfl, k 4 rfl, k 5 rfl, k 6 rfl, k 7 rfl, k 8 rfl, k 9 rfl, k 10 rfl⟩

end Cert.Proof.Attn

end
-- ==== Proof.Spec.lean ====
/-
  One row of the layer's feed-forward part, in the extended reals, and nothing about any program.

  The kernel works on blocks of rows and the reference on all rows at once; both compute each row of the result from the
  same row of the two activations and from the weights, and that computation is written here once.
-/
module

public import Idealize.ShloMosaic.Lib.Pointwise

@[expose] public section

noncomputable section

namespace Cert.Proof.Layer

open Idealize.ShloMosaic

variable {n k : ℕ}

/-- A row times a matrix. -/
def rowMul (a : Fin k → EReal) (w : Fin k → Fin n → EReal) (c : Fin n) : EReal := ∑ x, a x * w x c

/-- A row of length 1024 over the root of its mean square (plus the small constant), times the gain. -/
def rowNorm (h g : Fin n → EReal) (c : Fin n) : EReal :=
  h c * Ideal.rsqrt (Ideal.div (∑ x, h x * h x) (Ideal.ofBits .f32 0x44800000#32) + Ideal.ofBits .f32 0x358637BD#32) * g c

/-- The gated product `u · logistic u · v`. -/
def gated (u v : Fin n → EReal) (c : Fin n) : EReal := u c * Ideal.logistic (u c) * v c

/-- A row plus a row times a matrix. -/
def plusMul (h : Fin n → EReal) (a : Fin k → EReal) (w : Fin k → Fin n → EReal) (c : Fin n) : EReal := h c + rowMul a w c

/-- The gated feed-forward's hidden row. -/
def hidden {d : ℕ} (h g : Fin k → EReal) (wg wu : Fin k → Fin d → EReal) : Fin d → EReal :=
  gated (rowMul (rowNorm h g) wg) (rowMul (rowNorm h g) wu)

/-- The feed-forward part of a row: the attention's output projected and added to the stream, the gated feed-forward of
    its norm added to that, and the last norm. -/
def ffnRow {d : ℕ} (x o : Fin n → EReal) (wo : Fin n → Fin n → EReal) (g : Fin n → EReal) (wg wu : Fin n → Fin d → EReal)
    (wd : Fin d → Fin n → EReal) (gf : Fin n → EReal) : Fin n → EReal :=
  rowNorm (plusMul (plusMul x o wo) (hidden (plusMul x o wo) g wg wu) wd) gf

/-- The stream after a projection with a bias. -/
def biased (x o : Fin n → EReal) (wo : Fin n → Fin n → EReal) (bo : Fin n → EReal) (c : Fin n) : EReal :=
  x c + (rowMul o wo c + bo c)

/-- The feed-forward part of a row of an earlier layer: the mixer's output projected with a bias and added to the stream, and
    the gated feed-forward of its norm added to that. -/
def innerRow {d : ℕ} (x o : Fin n → EReal) (wo : Fin n → Fin n → EReal) (bo g : Fin n → EReal) (wg wu : Fin n → Fin d → EReal)
    (wd : Fin d → Fin n → EReal) : Fin n → EReal :=
  plusMul (biased x o wo bo) (hidden (biased x o wo bo) g wg wu) wd

/-- A nonnegative finite factor goes out of a sum of extended reals. -/
theorem sum_scaled {s : EReal} (h0 : 0 ≤ s) (ht : s ≠ ⊤) (f : Fin n → EReal) : ∑ x, f x * s = (∑ x, f x) * s := by
  classical
  induction (Finset.univ : Finset (Fin n)) using Finset.induction_on with
  | empty => simp
  | insert a A ha ih => rw [Finset.sum_insert ha, Finset.sum_insert ha, ih, EReal.right_distrib_of_nonneg_of_ne_top h0 ht]

/-- The scale of the queries, one eighth, is a real number that is not negative. -/
theorem scale_eq : Ideal.ofBits .f32 0x3E000000#32 = ((1 / 8 : ℝ) : EReal) := by
  simp [Ideal.ofBits, Ideal.ieee, -EReal.coe_mul]; norm_num

/-- A row times a matrix whose transpose was scaled by one eighth beforehand is the row times the matrix, over eight. -/
theorem scaled_rowMul (a : Fin k → EReal) (w : Fin k → Fin n → EReal) (c : Fin n) :
    ∑ x, w x c * Ideal.ofBits .f32 0x3E000000#32 * a x = rowMul a w c * Ideal.ofBits .f32 0x3E000000#32 := by
  rw [rowMul, ← sum_scaled (by rw [scale_eq]; exact EReal.coe_nonneg.mpr (by norm_num)) (by rw [scale_eq]; exact EReal.coe_ne_top _)]
  exact Finset.sum_congr rfl fun x _ => by rw [mul_right_comm, mul_comm (w x c)]

end Cert.Proof.Layer

end
-- ==== Proof.FfnKernel.lean ====
/-
  The feed-forward call read at an index: row `i` of its result is `Layer.ffnRow` of row `i` of the two activations.
-/
module

public import proofs.«01_k».proof.Proof.Gen.FfnIdeal.Value
public import proofs.«01_k».proof.Proof.Spec
public import Idealize.ShloMosaic.Lib.Pipeline.ValueKit

@[expose] public section

set_option maxRecDepth 16384

noncomputable section

namespace Cert.Proof.FfnKernel

open Cert.FfnIdeal Cert.FfnIdeal.Gen Cert.Proof.Layer Idealize.ShloMosaic Idealize.ShloMosaic.TcCoe Idealize.SL.Sem

/-- The stream after the attention's projection, at an index; the call adds a row `v7` that is zero here. -/
theorem stream_apply (v0 : Vec Ideal S512x1024 .f32) (v1 : Vec Ideal S512x1024 .bf16) (v3 : Vec Ideal S1024x1024 .bf16)
    (v7 : Vec Ideal S1x1024 .f32) (h7 : ∀ c : Fin 1024, v7 (ix2 0 c) = (0 : EReal)) (r : Fin 512) (c : Fin 1024) :
    k0_pay2 v0 v1 v3 v7 (ix2 r c)
      = plusMul (fun c => v0 (ix2 r c)) (fun c => v1 (ix2 r c)) (fun k c => v3 (ix2 k c)) c := by
  pointwise [k0_pay2]
  rw [h7, add_zero]
  rfl

/-- The hidden row of the gated feed-forward, at an index. -/
theorem hidden_apply (v0 : Vec Ideal S512x1024 .f32) (v1 : Vec Ideal S512x1024 .bf16) (v3 : Vec Ideal S1024x1024 .bf16)
    (v7 v11 : Vec Ideal S1x1024 .f32) (v26 v31 : Vec Ideal S1024x2816 .bf16) (r : Fin 512) (c : Fin 2816) :
    k0_pay3 v0 v1 v3 v7 v11 v26 v31 (ix2 r c)
      = hidden (fun c => k0_pay2 v0 v1 v3 v7 (ix2 r c)) (fun c => v11 (ix2 0 c)) (fun k c => v26 (ix2 k c))
          (fun k c => v31 (ix2 k c)) c := by
  pointwise [k0_pay3]
  rfl

/-- The stored block, at an index. -/
theorem stored_apply (v10 : Vec Ideal S512x1024 .f32) (v35 : Vec Ideal S512x2816 .bf16) (v36 : Vec Ideal S2816x1024 .bf16)
    (v40 : Vec Ideal S1x1024 .f32) (r : Fin 512) (c : Fin 1024) :
    k0_pay1 v10 v35 v36 v40 (ix2 r c)
      = rowNorm (plusMul (fun c => v10 (ix2 r c)) (fun c => v35 (ix2 r c)) (fun k c => v36 (ix2 k c)))
          (fun c => v40 (ix2 0 c)) c := by
  pointwise [k0_pay1]
  rfl

/-- What a grid point leaves, at an index: the feed-forward part of that row of its blocks. -/
theorem block_apply (v0 : Vec Ideal S512x1024 .f32) (v1 : Vec Ideal S512x1024 .bf16) (v3 : Vec Ideal S1024x1024 .bf16)
    (v7 v11 : Vec Ideal S1x1024 .f32) (v26 v31 : Vec Ideal S1024x2816 .bf16) (v36 : Vec Ideal S2816x1024 .bf16)
    (v40 : Vec Ideal S1x1024 .f32) (h7 : ∀ c : Fin 1024, v7 (ix2 0 c) = (0 : EReal)) (r : Fin 512) (c : Fin 1024) :
    k0_pay1 (k0_pay2 v0 v1 v3 v7) (k0_pay3 v0 v1 v3 v7 v11 v26 v31) v36 v40 (ix2 r c)
      = ffnRow (fun c => v0 (ix2 r c)) (fun c => v1 (ix2 r c)) (fun k c => v3 (ix2 k c)) (fun c => v11 (ix2 0 c))
          (fun k c => v26 (ix2 k c)) (fun k c => v31 (ix2 k c)) (fun k c => v36 (ix2 k c)) (fun c => v40 (ix2 0 c)) c := by
  rw [stored_apply]
  simp only [hidden_apply, stream_apply v0 v1 v3 v7 h7]
  rfl

variable (m : (ℓ : Loc nD τ sig) → Buf (Elt Ideal) ℓ)

/-- The result the feed-forward call computes, from the arrays it is launched on. -/
def result (c : Dev nD) : Buf (Elt Ideal) ((c : Thread nD τ).loc main_v8) := fun i =>
  ffnRow (fun k => m ((c : Thread nD τ).loc main_arg0) (ix2 (i 0) k)) (fun k => m ((c : Thread nD τ).loc main_arg1) (ix2 (i 0) k))
    (fun k j => m ((c : Thread nD τ).loc main_arg2) (ix2 k j)) (fun k => m ((c : Thread nD τ).loc main_arg3) (ix1 k))
    (fun k j => m ((c : Thread nD τ).loc main_arg4) (ix2 k j)) (fun k j => m ((c : Thread nD τ).loc main_arg5) (ix2 k j))
    (fun k j => m ((c : Thread nD τ).loc main_arg6) (ix2 k j)) (fun k => m ((c : Thread nD τ).loc main_arg7) (ix1 k)) (i 1)

/-- The printed index maps: the activations move with the result by a block of rows; the weights stay. -/
theorem idx (t : Fin cfg0.N) : win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0]) t

/-- The host lines before the call leave each prepared array at its argument, cast or reshaped. -/
theorem entry (c : Dev nD) :
    V m c main_v0 = truncf (F := Ideal) .bf16 (m ((c : Thread nD τ).loc main_arg1)) bitsLt_bf16_f32
    ∧ V m c main_v1 = truncf (F := Ideal) .bf16 (m ((c : Thread nD τ).loc main_arg2)) bitsLt_bf16_f32
    ∧ V m c main_v2 = broadcastInDim S1x1024 ![] bcast_S_S1x1024 (constant (F := Ideal) S_ .f32 0x00000000#32)
    ∧ V m c main_v3 = shapeCast S1x1024 (m ((c : Thread nD τ).loc main_arg3)) shapeCasts_S1024_S1x1024
    ∧ V m c main_v4 = truncf (F := Ideal) .bf16 (m ((c : Thread nD τ).loc main_arg4)) bitsLt_bf16_f32
    ∧ V m c main_v5 = truncf (F := Ideal) .bf16 (m ((c : Thread nD τ).loc main_arg5)) bitsLt_bf16_f32
    ∧ V m c main_v6 = truncf (F := Ideal) .bf16 (m ((c : Thread nD τ).loc main_arg6)) bitsLt_bf16_f32
    ∧ V m c main_v7 = shapeCast S1x1024 (m ((c : Thread nD τ).loc main_arg7)) shapeCasts_S1024_S1x1024 := by
  dsimp only [V, hostOps0]
  refine ⟨?_, ?_, ?_, ?_, ?_, ?_, ?_, ?_⟩ <;> after_results <;> rfl

set_option maxHeartbeats 2000000 in
/-- The blocks at a grid point, read off the arrays the call is launched on. -/
theorem blocks (c : Dev nD) (t : Fin cfg0.N) (r : Fin 512) (i : Fin 32768) (hi : i.val = t.val * 512 + r.val) :
    (∀ k : Fin 1024, iblk m c 0 t (ix2 r k) = m ((c : Thread nD τ).loc main_arg0) (ix2 i k))
    ∧ (∀ k : Fin 1024, iblk m c 1 t (ix2 r k) = m ((c : Thread nD τ).loc main_arg1) (ix2 i k))
    ∧ (∀ (k : Fin 1024) (j : Fin 1024), iblk m c 2 t (ix2 k j) = m ((c : Thread nD τ).loc main_arg2) (ix2 k j))
    ∧ (∀ k : Fin 1024, iblk m c 3 t (ix2 0 k) = (0 : EReal))
    ∧ (∀ k : Fin 1024, iblk m c 4 t (ix2 0 k) = m ((c : Thread nD τ).loc main_arg3) (ix1 k))
    ∧ (∀ (k : Fin 1024) (j : Fin 2816), iblk m c 5 t (ix2 k j) = m ((c : Thread nD τ).loc main_arg4) (ix2 k j))
    ∧ (∀ (k : Fin 1024) (j : Fin 2816), iblk m c 6 t (ix2 k j) = m ((c : Thread nD τ).loc main_arg5) (ix2 k j))
    ∧ (∀ (k : Fin 2816) (j : Fin 1024), iblk m c 7 t (ix2 k j) = m ((c : Thread nD τ).loc main_arg6) (ix2 k j))
    ∧ (∀ k : Fin 1024, iblk m c 8 t (ix2 0 k) = m ((c : Thread nD τ).loc main_arg7) (ix1 k)) := by
  obtain ⟨e0, e1, e2, e3, e4, e5, e6, e7⟩ := entry m c
  refine ⟨fun k => ?_, fun k => ?_, fun k j => ?_, fun k => ?_, fun k => ?_, fun k j => ?_, fun k j => ?_, fun k j => ?_,
    fun k => ?_⟩
  · show V m c main_arg0 _ = _
    rw [V_main_arg0]
    blk_ext [iblk, idx t]
  · show V m c main_v0 _ = _
    rw [e0]
    show m ((c : Thread nD τ).loc main_arg1) _ = _
    blk_ext [iblk, idx t]
  · show V m c main_v1 _ = _
    rw [e1]
    show m ((c : Thread nD τ).loc main_arg2) _ = _
    blk_ext [iblk, idx t]
  · show V m c main_v2 _ = _
    rw [e2]
    exact Ideal.ofBits_zero_f32
  · show V m c main_v3 _ = _
    rw [e3, show (win0_4.blk t).view.emb (ix2 0 k) = ix2 0 k from by blk_ext [idx t]]
    pointwise
  · show V m c main_v4 _ = _
    rw [e4]
    show m ((c : Thread nD τ).loc main_arg4) _ = _
    blk_ext [iblk, idx t]
  · show V m c main_v5 _ = _
    rw [e5]
    show m ((c : Thread nD τ).loc main_arg5) _ = _
    blk_ext [iblk, idx t]
  · show V m c main_v6 _ = _
    rw [e6]
    show m ((c : Thread nD τ).loc main_arg6) _ = _
    blk_ext [iblk, idx t]
  · show V m c main_v7 _ = _
    rw [e7, show (win0_8.blk t).view.emb (ix2 0 k) = ix2 0 k from by blk_ext [idx t]]
    pointwise

/-- After the run the call's result array is `result`. -/
theorem final (c : Dev nD) : (dats m 0 c).arrAt 9 cfg0.N = result m c := by
  refine (dats m 0 c).arrAt_eq_of_covers 9 _ (by decide +kernel) fun t hf y => ?_
  blk_simp
  rw [after0_9]
  frame_out
  obtain ⟨r, q, rfl⟩ : ∃ (r : Fin 512) (q : Fin 1024), y = ix2 r q := ⟨y 0, y 1, eq_ix2 y⟩
  obtain ⟨i, hi⟩ : ∃ i : Fin 32768, i.val = t.val * 512 + r.val :=
    ⟨⟨t.val * 512 + r.val, by have := t.isLt; have h : cfg0.grid.N = 64 := rfl; omega⟩, rfl⟩
  have hemb : (((View.whole main_v8).slice (win0_9.rect t)).emb (ix2 r q)) = ix2 i q := by
    blk_ext [idx t]
  obtain ⟨b0, b1, b2, b3, b4, b5, b6, b7, b8⟩ := blocks m c t r i hi
  rw [hemb, block_apply _ _ _ _ _ _ _ _ _ b3]
  simp only [b0, b1, b2, b4, b5, b6, b7, b8]
  rfl

end Cert.Proof.FfnKernel

end
-- ==== Proof.FfnReference.lean ====
/-
  The feed-forward reference read at an index: row `i` of its result is `Layer.ffnRow` of row `i` of the two activations.
-/
module

public import proofs.«01_k».proof.Proof.Gen.FfnReferenceIdeal.Run
public import proofs.«01_k».proof.Proof.Spec

@[expose] public section

set_option maxRecDepth 16384

noncomputable section

namespace Cert.Proof.FfnReference

open Cert.FfnReferenceIdeal Cert.FfnReferenceIdeal.Gen Cert.FfnReferenceIdeal.Value Cert.Proof.Layer
open Idealize.ShloMosaic Idealize.ShloMosaic.TcCoe Idealize.SL.Sem

variable (m : (ℓ : Loc nD τ sig) → Buf (Elt Ideal) ℓ)

/-- The reference's result, at an index. -/
theorem final (c : Dev nD) (i : Fin 32768) (q : Fin 1024) : res_main_v33 m c (ix2 i q) =
  ffnRow (fun k => m ((c : Thread nD τ).loc main_arg0) (ix2 i k)) (fun k => m ((c : Thread nD τ).loc main_arg1) (ix2 i k))
    (fun k j => m ((c : Thread nD τ).loc main_arg2) (ix2 k j)) (fun k => m ((c : Thread nD τ).loc main_arg3) (ix1 k))
    (fun k j => m ((c : Thread nD τ).loc main_arg4) (ix2 k j)) (fun k j => m ((c : Thread nD τ).loc main_arg5) (ix2 k j))
    (fun k j => m ((c : Thread nD τ).loc main_arg6) (ix2 k j)) (fun k => m ((c : Thread nD τ).loc main_arg7) (ix1 k)) q := by
  pointwise [res_main_v33]
  rfl
end Cert.Proof.FfnReference

end
-- ==== Proof.InnerKernel.lean ====
/-
  The feed-forward call of an earlier layer, read at an index: row `i` of its result is `Layer.innerRow` of row `i` of the two activations.
-/
module

public import proofs.«01_k».proof.Proof.Gen.InnerIdeal.Value
public import proofs.«01_k».proof.Proof.Spec
public import Idealize.ShloMosaic.Lib.Pipeline.ValueKit

@[expose] public section

set_option maxRecDepth 16384

noncomputable section

namespace Cert.Proof.InnerKernel

open Cert.InnerIdeal Cert.InnerIdeal.Gen Cert.Proof.Layer Idealize.ShloMosaic Idealize.ShloMosaic.TcCoe Idealize.SL.Sem

/-- The stream after the mixer's projection with its bias, at an index. -/
theorem stream_apply (v0 : Vec Ideal S512x1024 .f32) (v1 : Vec Ideal S512x1024 .bf16) (v3 : Vec Ideal S1024x1024 .bf16)
    (v7 : Vec Ideal S1x1024 .f32) (r : Fin 512) (c : Fin 1024) :
    k0_pay2 v0 v1 v3 v7 (ix2 r c)
      = biased (fun c => v0 (ix2 r c)) (fun c => v1 (ix2 r c)) (fun k c => v3 (ix2 k c)) (fun c => v7 (ix2 0 c)) c := by
  pointwise [k0_pay2]
  exact add_assoc _ _ _

/-- The hidden row of the gated feed-forward, at an index. -/
theorem hidden_apply (v0 : Vec Ideal S512x1024 .f32) (v1 : Vec Ideal S512x1024 .bf16) (v3 : Vec Ideal S1024x1024 .bf16)
    (v7 v11 : Vec Ideal S1x1024 .f32) (v26 v31 : Vec Ideal S1024x2816 .bf16) (r : Fin 512) (c : Fin 2816) :
    k0_pay3 v0 v1 v3 v7 v11 v26 v31 (ix2 r c)
      = hidden (fun c => k0_pay2 v0 v1 v3 v7 (ix2 r c)) (fun c => v11 (ix2 0 c)) (fun k c => v26 (ix2 k c))
          (fun k c => v31 (ix2 k c)) c := by
  pointwise [k0_pay3]
  rfl

/-- What a grid point leaves, at an index: the feed-forward part of that row of its blocks. -/
theorem block_apply (v0 : Vec Ideal S512x1024 .f32) (v1 : Vec Ideal S512x1024 .bf16) (v3 : Vec Ideal S1024x1024 .bf16)
    (v7 v11 : Vec Ideal S1x1024 .f32) (v26 v31 : Vec Ideal S1024x2816 .bf16) (v36 : Vec Ideal S2816x1024 .bf16)
    (r : Fin 512) (c : Fin 1024) :
    k0_pay1 (k0_pay2 v0 v1 v3 v7) (k0_pay3 v0 v1 v3 v7 v11 v26 v31) v36 (ix2 r c)
      = innerRow (fun c => v0 (ix2 r c)) (fun c => v1 (ix2 r c)) (fun k c => v3 (ix2 k c)) (fun c => v7 (ix2 0 c))
          (fun c => v11 (ix2 0 c)) (fun k c => v26 (ix2 k c)) (fun k c => v31 (ix2 k c)) (fun k c => v36 (ix2 k c)) c := by
  pointwise [k0_pay1]
  simp only [hidden_apply, stream_apply]
  rfl

variable (m : (ℓ : Loc nD τ sig) → Buf (Elt Ideal) ℓ)

/-- The result the call computes, from the arrays it is launched on. -/
def result (c : Dev nD) : Buf (Elt Ideal) ((c : Thread nD τ).loc main_v8) := fun i =>
  innerRow (fun k => m ((c : Thread nD τ).loc main_arg0) (ix2 (i 0) k)) (fun k => m ((c : Thread nD τ).loc main_arg1) (ix2 (i 0) k))
    (fun k j => m ((c : Thread nD τ).loc main_arg2) (ix2 k j)) (fun k => m ((c : Thread nD τ).loc main_arg3) (ix1 k))
    (fun k => m ((c : Thread nD τ).loc main_arg4) (ix1 k)) (fun k j => m ((c : Thread nD τ).loc main_arg5) (ix2 k j))
    (fun k j => m ((c : Thread nD τ).loc main_arg6) (ix2 k j)) (fun k j => m ((c : Thread nD τ).loc main_arg7) (ix2 k j)) (i 1)

/-- The printed index maps: the activations move with the result by a block of rows; the weights stay. -/
theorem idx (t : Fin cfg0.N) : win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0]) t

/-- The host lines before the call leave each prepared array at its argument, cast or reshaped. -/
theorem entry (c : Dev nD) :
    V m c main_v0 = truncf (F := Ideal) .bf16 (m ((c : Thread nD τ).loc main_arg1)) bitsLt_bf16_f32
    ∧ V m c main_v1 = truncf (F := Ideal) .bf16 (m ((c : Thread nD τ).loc main_arg2)) bitsLt_bf16_f32
    ∧ V m c main_v2 = shapeCast S1x1024 (m ((c : Thread nD τ).loc main_arg3)) shapeCasts_S1024_S1x1024
    ∧ V m c main_v3 = shapeCast S1x1024 (m ((c : Thread nD τ).loc main_arg4)) shapeCasts_S1024_S1x1024
    ∧ V m c main_v4 = truncf (F := Ideal) .bf16 (m ((c : Thread nD τ).loc main_arg5)) bitsLt_bf16_f32
    ∧ V m c main_v5 = truncf (F := Ideal) .bf16 (m ((c : Thread nD τ).loc main_arg6)) bitsLt_bf16_f32
    ∧ V m c main_v6 = truncf (F := Ideal) .bf16 (m ((c : Thread nD τ).loc main_arg7)) bitsLt_bf16_f32 := by
  dsimp only [V, hostOps0]
  refine ⟨?_, ?_, ?_, ?_, ?_, ?_, ?_⟩ <;> after_results <;> rfl

set_option maxHeartbeats 2000000 in
/-- The blocks at a grid point, read off the arrays the call is launched on. -/
theorem blocks (c : Dev nD) (t : Fin cfg0.N) (r : Fin 512) (i : Fin 32768) (hi : i.val = t.val * 512 + r.val) :
    (∀ k : Fin 1024, iblk m c 0 t (ix2 r k) = m ((c : Thread nD τ).loc main_arg0) (ix2 i k))
    ∧ (∀ k : Fin 1024, iblk m c 1 t (ix2 r k) = m ((c : Thread nD τ).loc main_arg1) (ix2 i k))
    ∧ (∀ (k : Fin 1024) (j : Fin 1024), iblk m c 2 t (ix2 k j) = m ((c : Thread nD τ).loc main_arg2) (ix2 k j))
    ∧ (∀ k : Fin 1024, iblk m c 3 t (ix2 0 k) = m ((c : Thread nD τ).loc main_arg3) (ix1 k))
    ∧ (∀ k : Fin 1024, iblk m c 4 t (ix2 0 k) = m ((c : Thread nD τ).loc main_arg4) (ix1 k))
    ∧ (∀ (k : Fin 1024) (j : Fin 2816), iblk m c 5 t (ix2 k j) = m ((c : Thread nD τ).loc main_arg5) (ix2 k j))
    ∧ (∀ (k : Fin 1024) (j : Fin 2816), iblk m c 6 t (ix2 k j) = m ((c : Thread nD τ).loc main_arg6) (ix2 k j))
    ∧ (∀ (k : Fin 2816) (j : Fin 1024), iblk m c 7 t (ix2 k j) = m ((c : Thread nD τ).loc main_arg7) (ix2 k j)) := by
  obtain ⟨e0, e1, e2, e3, e4, e5, e6⟩ := entry m c
  refine ⟨fun k => ?_, fun k => ?_, fun k j => ?_, fun k => ?_, fun k => ?_, fun k j => ?_, fun k j => ?_, fun k j => ?_⟩
  · show V m c main_arg0 _ = _
    rw [V_main_arg0]
    blk_ext [iblk, idx t]
  · show V m c main_v0 _ = _
    rw [e0]
    show m ((c : Thread nD τ).loc main_arg1) _ = _
    blk_ext [iblk, idx t]
  · show V m c main_v1 _ = _
    rw [e1]
    show m ((c : Thread nD τ).loc main_arg2) _ = _
    blk_ext [iblk, idx t]
  · show V m c main_v2 _ = _
    rw [e2, show (win0_3.blk t).view.emb (ix2 0 k) = ix2 0 k from by blk_ext [idx t]]
    pointwise
  · show V m c main_v3 _ = _
    rw [e3, show (win0_4.blk t).view.emb (ix2 0 k) = ix2 0 k from by blk_ext [idx t]]
    pointwise
  · show V m c main_v4 _ = _
    rw [e4]
    show m ((c : Thread nD τ).loc main_arg5) _ = _
    blk_ext [iblk, idx t]
  · show V m c main_v5 _ = _
    rw [e5]
    show m ((c : Thread nD τ).loc main_arg6) _ = _
    blk_ext [iblk, idx t]
  · show V m c main_v6 _ = _
    rw [e6]
    show m ((c : Thread nD τ).loc main_arg7) _ = _
    blk_ext [iblk, idx t]

/-- After the run the call's result array is `result`. -/
theorem final (c : Dev nD) : (dats m 0 c).arrAt 9 cfg0.N = result m c := by
  refine (dats m 0 c).arrAt_eq_of_covers 9 _ (by decide +kernel) fun t hf y => ?_
  blk_simp
  rw [after0_9]
  frame_out
  obtain ⟨r, q, rfl⟩ : ∃ (r : Fin 512) (q : Fin 1024), y = ix2 r q := ⟨y 0, y 1, eq_ix2 y⟩
  obtain ⟨i, hi⟩ : ∃ i : Fin 32768, i.val = t.val * 512 + r.val :=
    ⟨⟨t.val * 512 + r.val, by have := t.isLt; have h : cfg0.grid.N = 64 := rfl; omega⟩, rfl⟩
  have hemb : (((View.whole main_v8).slice (win0_9.rect t)).emb (ix2 r q)) = ix2 i q := by
    blk_ext [idx t]
  obtain ⟨b0, b1, b2, b3, b4, b5, b6, b7⟩ := blocks m c t r i hi
  rw [hemb, block_apply]
  simp only [b0, b1, b2, b3, b4, b5, b6, b7]
  rfl

end Cert.Proof.InnerKernel

end
-- ==== Proof.InnerReference.lean ====
/-
  The feed-forward reference of an earlier layer, read at an index: row `i` of its result is `Layer.innerRow` of row `i` of the two activations.
-/
module

public import proofs.«01_k».proof.Proof.Gen.InnerReferenceIdeal.Run
public import proofs.«01_k».proof.Proof.Spec

@[expose] public section

set_option maxRecDepth 16384

noncomputable section

namespace Cert.Proof.InnerReference

open Cert.InnerReferenceIdeal Cert.InnerReferenceIdeal.Gen Cert.InnerReferenceIdeal.Value Cert.Proof.Layer
open Idealize.ShloMosaic Idealize.ShloMosaic.TcCoe Idealize.SL.Sem

variable (m : (ℓ : Loc nD τ sig) → Buf (Elt Ideal) ℓ)

/-- The reference's result, at an index. -/
theorem final (c : Dev nD) (i : Fin 32768) (q : Fin 1024) : res_main_v23 m c (ix2 i q) =
  innerRow (fun k => m ((c : Thread nD τ).loc main_arg0) (ix2 i k)) (fun k => m ((c : Thread nD τ).loc main_arg1) (ix2 i k))
    (fun k j => m ((c : Thread nD τ).loc main_arg2) (ix2 k j)) (fun k => m ((c : Thread nD τ).loc main_arg3) (ix1 k))
    (fun k => m ((c : Thread nD τ).loc main_arg4) (ix1 k)) (fun k j => m ((c : Thread nD τ).loc main_arg5) (ix2 k j))
    (fun k j => m ((c : Thread nD τ).loc main_arg6) (ix2 k j)) (fun k j => m ((c : Thread nD τ).loc main_arg7) (ix2 k j)) q := by
  pointwise [res_main_v23]
  rfl

end Cert.Proof.InnerReference

end
-- ==== Proof.ProjKernel.lean ====
/-
  The projection call read at an index: each row of its results is the layer's normed row times one of the weights; the
  transposed results are laid out in blocks of 128 tokens.
-/
module

public import proofs.«01_k».proof.Proof.Gen.ProjIdeal.Frame
public import proofs.«01_k».proof.Proof.Spec
public import Idealize.ShloMosaic.Lib.Pipeline.ValueKit

@[expose] public section

set_option maxRecDepth 16384

noncomputable section

namespace Cert.Proof.ProjKernel

open Cert.ProjIdeal Cert.ProjIdeal.Gen Cert.Proof.Layer Idealize.ShloMosaic Idealize.ShloMosaic.TcCoe Idealize.SL.Sem

/-- The normed rows of a block, at an index. -/
theorem norm_apply (v0 : Vec Ideal S512x1024 .f32) (v1 : Vec Ideal S1x1024 .f32) (r : Fin 512) (c : Fin 1024) :
    k0_pay6 v0 v1 (ix2 r c) = rowNorm (fun c => v0 (ix2 r c)) (fun c => v1 (ix2 0 c)) c := by
  pointwise [k0_pay6]
  rfl

/-- The normed rows times the weights kept in rows, at an index. -/
theorem row_apply (v0 : Vec Ideal S512x1024 .f32) (v1 : Vec Ideal S1x1024 .f32) (v16 : Vec Ideal S1024x576 .bf16)
    (r : Fin 512) (c : Fin 576) :
    k0_pay7 v0 v1 v16 (ix2 r c)
      = ∑ k, rowNorm (fun c => v0 (ix2 r c)) (fun c => v1 (ix2 0 c)) k * v16 (ix2 k c) := by
  pointwise [k0_pay7]
  simp only [norm_apply]

/-- The weights kept in columns times the normed rows, at an index. -/
theorem col_apply (v0 : Vec Ideal S512x1024 .f32) (v1 : Vec Ideal S1x1024 .f32) (v31 : Vec Ideal S1808x1024 .bf16)
    (f : Fin 1808) (r : Fin 512) :
    k0_pay13 (k0_pay6 v0 v1) v31 (ix2 f r)
      = ∑ k, v31 (ix2 f k) * rowNorm (fun c => v0 (ix2 r c)) (fun c => v1 (ix2 0 c)) k := by
  pointwise [k0_pay13]
  simp only [norm_apply]

/-- The block of the transposed queries: a row of the product, 128 tokens to a tile. -/
theorem tile9 (x0 : Vec Ideal S512x1024 .f32) (x1 : Vec Ideal S1x1024 .f32) (x2 : Vec Ideal S1024x576 .bf16)
    (x3 : Vec Ideal S1808x1024 .bf16) (b : Fin 4) (f : Fin 1024) (l : Fin 128) (f' : Fin 1808) (r : Fin 512)
    (hf : f'.val = 0 + f.val) (hr : r.val = b.val * 128 + l.val) :
    out0_9 x0 x1 x2 x3 (ix3 b f l) = k0_pay13 (k0_pay6 x0 x1) x3 (ix2 f' r) := by
  unfold out0_9
  simp (discharger := decide) only [k0_pay29, k0_pay30, k0_pay31, View.ld_unit_lit']
  canon_tiles x h
  all_goals
    change b.val = _ at h0
    change f.val = _ at h1
    change l.val = _ at h2
    pointwise [k0_pay1, k0_pay2, k0_pay25, k0_pay24, k0_pay20, k0_pay19, k0_pay15, k0_pay14]
    refine congrArg _ (congrArg₂ ix2 (Fin.ext ?_) (Fin.ext ?_)) <;> dsimp only <;> omega

/-- The block of the transposed index queries: a row of the product, 128 tokens to a tile. -/
theorem tile10 (x0 : Vec Ideal S512x1024 .f32) (x1 : Vec Ideal S1x1024 .f32) (x2 : Vec Ideal S1024x576 .bf16)
    (x3 : Vec Ideal S1808x1024 .bf16) (b : Fin 4) (f : Fin 512) (l : Fin 128) (f' : Fin 1808) (r : Fin 512)
    (hf : f'.val = 1024 + f.val) (hr : r.val = b.val * 128 + l.val) :
    out0_10 x0 x1 x2 x3 (ix3 b f l) = k0_pay13 (k0_pay6 x0 x1) x3 (ix2 f' r) := by
  unfold out0_10
  simp (discharger := decide) only [k0_pay29, k0_pay30, k0_pay31, View.ld_unit_lit']
  canon_tiles x h
  all_goals
    change b.val = _ at h0
    change f.val = _ at h1
    change l.val = _ at h2
    pointwise [k0_pay1, k0_pay3, k0_pay26, k0_pay24, k0_pay21, k0_pay19, k0_pay16, k0_pay14]
    refine congrArg _ (congrArg₂ ix2 (Fin.ext ?_) (Fin.ext ?_)) <;> dsimp only <;> omega

/-- The block of the transposed values: a row of the product, 128 tokens to a tile. -/
theorem tile11 (x0 : Vec Ideal S512x1024 .f32) (x1 : Vec Ideal S1x1024 .f32) (x2 : Vec Ideal S1024x576 .bf16)
    (x3 : Vec Ideal S1808x1024 .bf16) (b : Fin 4) (f : Fin 256) (l : Fin 128) (f' : Fin 1808) (r : Fin 512)
    (hf : f'.val = 1536 + f.val) (hr : r.val = b.val * 128 + l.val) :
    out0_11 x0 x1 x2 x3 (ix3 b f l) = k0_pay13 (k0_pay6 x0 x1) x3 (ix2 f' r) := by
  unfold out0_11
  simp (discharger := decide) only [k0_pay29, k0_pay30, k0_pay31, View.ld_unit_lit']
  canon_tiles x h
  all_goals
    change b.val = _ at h0
    change f.val = _ at h1
    change l.val = _ at h2
    pointwise [k0_pay1, k0_pay4, k0_pay27, k0_pay24, k0_pay22, k0_pay19, k0_pay17, k0_pay14]
    refine congrArg _ (congrArg₂ ix2 (Fin.ext ?_) (Fin.ext ?_)) <;> dsimp only <;> omega

/-- The block of the transposed index weights: a row of the product, 128 tokens to a tile. -/
theorem tile12 (x0 : Vec Ideal S512x1024 .f32) (x1 : Vec Ideal S1x1024 .f32) (x2 : Vec Ideal S1024x576 .bf16)
    (x3 : Vec Ideal S1808x1024 .bf16) (b : Fin 4) (f : Fin 8) (l : Fin 128) (f' : Fin 1808) (r : Fin 512)
    (hf : f'.val = 1792 + f.val) (hr : r.val = b.val * 128 + l.val) :
    out0_12 x0 x1 x2 x3 (ix3 b f l) = k0_pay13 (k0_pay6 x0 x1) x3 (ix2 f' r) * Ideal.ofBits .f32 0x3EB504F3#32 := by
  unfold out0_12
  simp (discharger := decide) only [k0_pay29, k0_pay30, k0_pay31, View.ld_unit_lit']
  canon_tiles x h
  all_goals
    change b.val = _ at h0
    change f.val = _ at h1
    change l.val = _ at h2
    pointwise [k0_pay1, k0_pay5, k0_pay28, k0_pay24, k0_pay23, k0_pay19, k0_pay18, k0_pay14]
    refine congrArg (· * _) <| congrArg _ (congrArg₂ ix2 (Fin.ext ?_) (Fin.ext ?_)) <;> dsimp only <;> omega

variable (m : (ℓ : Loc nD τ sig) → Buf (Elt Ideal) ℓ)

/-- The host lines before the call: the weights side by side, the transposed weights one below another, and the gain as a row. -/
theorem entry (c : Dev nD) :
    V m c main_v1 = truncf (F := Ideal) .bf16 (concatenate S1024x576 1
      [⟨S1024x256, m ((c : Thread nD τ).loc main_arg3)⟩, ⟨S1024x256, m ((c : Thread nD τ).loc main_arg4)⟩,
        ⟨S1024x64, m ((c : Thread nD τ).loc main_arg6)⟩] concatenates_S1024x256_S1024x256_S1024x64_S1024x576_d1) bitsLt_bf16_f32
    ∧ V m c main_v12 = truncf (F := Ideal) .bf16 (concatenate S1808x1024 0
      [⟨S1024x1024, mulf (F := Ideal) (transpose S1024x1024 [1, 0] (m ((c : Thread nD τ).loc main_arg2)) transposes_S1024x1024_S1024x1024_1_0)
          (broadcastInDim S1024x1024 ![] bcast_S_S1024x1024 (constant (F := Ideal) S_ .f32 0x3E000000#32))⟩,
        ⟨S512x1024, mulf (F := Ideal) (transpose S512x1024 [1, 0] (m ((c : Thread nD τ).loc main_arg5)) transposes_S1024x512_S512x1024_1_0)
          (broadcastInDim S512x1024 ![] bcast_S_S512x1024 (constant (F := Ideal) S_ .f32 0x3E000000#32))⟩,
        ⟨S256x1024, transpose S256x1024 [1, 0] (m ((c : Thread nD τ).loc main_arg4)) transposes_S1024x256_S256x1024_1_0⟩,
        ⟨S8x1024, transpose S8x1024 [1, 0] (m ((c : Thread nD τ).loc main_arg7)) transposes_S1024x8_S8x1024_1_0⟩,
        ⟨S8x1024, broadcastInDim S8x1024 ![] bcast_S_S8x1024 (constant (F := Ideal) S_ .f32 0x00000000#32)⟩]
      concatenates_S1024x1024_S512x1024_S256x1024_S8x1024_S8x1024_S1808x1024_d0) bitsLt_bf16_f32
    ∧ V m c main_v13 = shapeCast S1x1024 (m ((c : Thread nD τ).loc main_arg1)) shapeCasts_S1024_S1x1024 := by
  dsimp only [V, hostOps0]
  refine ⟨?_, ?_, ?_⟩ <;> after_results <;> rfl

/-- The layer's normed row `i`. -/
def normed (c : Dev nD) (i : Fin 32768) : Fin 1024 → EReal :=
  rowNorm (fun k => m ((c : Thread nD τ).loc main_arg0) (ix2 i k)) fun k => m ((c : Thread nD τ).loc main_arg1) (ix1 k)

/-- The weights of the queries. -/
def wq (c : Dev nD) (k : Fin 1024) (f : Fin 1024) : EReal := m ((c : Thread nD τ).loc main_arg2) (ix2 k f)
/-- The weights of the keys. -/
def wk (c : Dev nD) (k : Fin 1024) (f : Fin 256) : EReal := m ((c : Thread nD τ).loc main_arg3) (ix2 k f)
/-- The weights of the values. -/
def wv (c : Dev nD) (k : Fin 1024) (f : Fin 256) : EReal := m ((c : Thread nD τ).loc main_arg4) (ix2 k f)
/-- The weights of the index queries. -/
def wiq (c : Dev nD) (k : Fin 1024) (f : Fin 512) : EReal := m ((c : Thread nD τ).loc main_arg5) (ix2 k f)
/-- The weights of the index keys. -/
def wik (c : Dev nD) (k : Fin 1024) (f : Fin 64) : EReal := m ((c : Thread nD τ).loc main_arg6) (ix2 k f)
/-- The weights of the index weights. -/
def wiw (c : Dev nD) (k : Fin 1024) (f : Fin 8) : EReal := m ((c : Thread nD τ).loc main_arg7) (ix2 k f)

/-- The weights side by side, at an index: the keys', the values' and the index keys'. -/
theorem rows_apply (c : Dev nD) (k : Fin 1024) (j : Fin 576) :
    (∀ f : Fin 256, j.val = f.val → V m c main_v1 (ix2 k j) = wk m c k f)
    ∧ (∀ f : Fin 256, j.val = 256 + f.val → V m c main_v1 (ix2 k j) = wv m c k f)
    ∧ (∀ f : Fin 64, j.val = 512 + f.val → V m c main_v1 (ix2 k j) = wik m c k f) := by
  rw [(entry m c).1]
  pointwise
  refine ⟨fun f h => ?_, fun f h => ?_, fun f h => ?_⟩ <;> split_ifs <;>
    first | omega | exact congrArg _ (congrArg (ix2 k) (Fin.ext (by dsimp only; omega)))

/-- The transposed weights one below another, at an index: the queries' and the index queries' scaled, the values' and the index
    weights' as they are. -/
theorem cols_apply (c : Dev nD) (k : Fin 1024) (j : Fin 1808) :
    (∀ f : Fin 1024, j.val = 0 + f.val → V m c main_v12 (ix2 j k) = wq m c k f * Ideal.ofBits .f32 0x3E000000#32)
    ∧ (∀ f : Fin 512, j.val = 1024 + f.val → V m c main_v12 (ix2 j k) = wiq m c k f * Ideal.ofBits .f32 0x3E000000#32)
    ∧ (∀ f : Fin 256, j.val = 1536 + f.val → V m c main_v12 (ix2 j k) = wv m c k f)
    ∧ (∀ f : Fin 8, j.val = 1792 + f.val → V m c main_v12 (ix2 j k) = wiw m c k f) := by
  rw [(entry m c).2.1]
  pointwise
  refine ⟨fun f h => ?_, fun f h => ?_, fun f h => ?_, fun f h => ?_⟩ <;> split_ifs <;>
    first
    | omega
    | exact congrArg _ (congrArg (ix2 k) (Fin.ext (by dsimp only; omega)))
    | exact congrArg (· * _) (congrArg (m _) (congrArg (ix2 k) (Fin.ext (by dsimp only; omega))))

/-- The printed index maps: the activations and the results move by a block of 512 tokens; the weights stay. -/
theorem idx (t : Fin cfg0.N) : win0_0.index t = ![t.val, 0] ∧ win0_1.index t = ![0, 0] ∧ win0_2.index t = ![0, 0] ∧ win0_3.index t = ![0, 0] ∧
    win0_4.index t = ![t.val, 0] ∧ win0_5.index t = ![t.val, 0] ∧ win0_6.index t = ![t.val, 0] ∧ win0_7.index t = ![t.val,
    0] ∧ win0_8.index t = ![t.val, 0] ∧ win0_9.index t = ![t.val, 0, 0] ∧ win0_10.index t = ![t.val, 0, 0] ∧ win0_11.index
    t = ![t.val, 0, 0] ∧ win0_12.index t = ![t.val, 0, 0] :=
  (by decide +kernel : ∀ t : Fin grid0.N, win0_0.index t = ![t.val, 0] ∧ win0_1.index t = ![0, 0] ∧ win0_2.index t = ![0, 0] ∧ win0_3.index t = ![0, 0] ∧
    win0_4.index t = ![t.val, 0] ∧ win0_5.index t = ![t.val, 0] ∧ win0_6.index t = ![t.val, 0] ∧ win0_7.index t = ![t.val,
    0] ∧ win0_8.index t = ![t.val, 0] ∧ win0_9.index t = ![t.val, 0, 0] ∧ win0_10.index t = ![t.val, 0, 0] ∧ win0_11.index
    t = ![t.val, 0, 0] ∧ win0_12.index t = ![t.val, 0, 0]) t

set_option maxHeartbeats 2000000 in
/-- The blocks at a grid point, read off the arrays the call is launched on. -/
theorem blocks (c : Dev nD) (t : Fin cfg0.N) (r : Fin 512) (i : Fin 32768) (hi : i.val = t.val * 512 + r.val) :
    rowNorm (fun k => iblk m c 0 t (ix2 r k)) (fun k => iblk m c 1 t (ix2 0 k)) = normed m c i
    ∧ (∀ (k : Fin 1024) (j : Fin 576), iblk m c 2 t (ix2 k j) = V m c main_v1 (ix2 k j))
    ∧ (∀ (j : Fin 1808) (k : Fin 1024), iblk m c 3 t (ix2 j k) = V m c main_v12 (ix2 j k)) := by
  refine ⟨?_, fun k j => ?_, fun j k => ?_⟩
  · refine congrArg₂ rowNorm (funext fun k => ?_) (funext fun k => ?_)
    · show V m c main_arg0 _ = _
      rw [V_main_arg0]
      blk_ext [iblk, idx t]
    · show V m c main_v13 _ = _
      rw [(entry m c).2.2, show (win0_1.blk t).view.emb (ix2 0 k) = ix2 0 k from by blk_ext [idx t]]
      pointwise
  · show V m c main_v1 _ = _
    blk_ext [iblk, idx t]
  · show V m c main_v12 _ = _
    blk_ext [iblk, idx t]

/-- The token of a place in a block of rows. -/
theorem token (t : Fin cfg0.N) (r : Fin 512) : ∃ i : Fin 32768, i.val = t.val * 512 + r.val :=
  ⟨⟨t.val * 512 + r.val, by have h : t.val < 64 := t.isLt; omega⟩, rfl⟩

/-- A row of a block's product with the weights in columns, for scaled weights. -/
theorem col_scaled (c : Dev nD) (t : Fin cfg0.N) (r : Fin 512) (i : Fin 32768) (hi : i.val = t.val * 512 + r.val) {n : ℕ}
    (w : Fin 1024 → Fin n → EReal) (j : Fin 1808) (f : Fin n)
    (h : ∀ k, V m c main_v12 (ix2 j k) = w k f * Ideal.ofBits .f32 0x3E000000#32) :
    k0_pay13 (k0_pay6 (iblk m c 0 t) (iblk m c 1 t)) (iblk m c 3 t) (ix2 j r)
      = rowMul (normed m c i) w f * Ideal.ofBits .f32 0x3E000000#32 := by
  obtain ⟨b0, -, b3⟩ := blocks m c t r i hi
  rw [col_apply, b0]
  simp only [b3, h]
  exact scaled_rowMul _ _ _

/-- A row of a block's product with the weights in columns, for weights kept as they are. -/
theorem col_plain (c : Dev nD) (t : Fin cfg0.N) (r : Fin 512) (i : Fin 32768) (hi : i.val = t.val * 512 + r.val) {n : ℕ}
    (w : Fin 1024 → Fin n → EReal) (j : Fin 1808) (f : Fin n) (h : ∀ k, V m c main_v12 (ix2 j k) = w k f) :
    k0_pay13 (k0_pay6 (iblk m c 0 t) (iblk m c 1 t)) (iblk m c 3 t) (ix2 j r) = rowMul (normed m c i) w f := by
  obtain ⟨b0, -, b3⟩ := blocks m c t r i hi
  rw [col_apply, b0]
  simp only [b3, h]
  exact Finset.sum_congr rfl fun k _ => mul_comm _ _

/-- A row of a block's product with the weights in rows. -/
theorem row_plain (c : Dev nD) (t : Fin cfg0.N) (r : Fin 512) (i : Fin 32768) (hi : i.val = t.val * 512 + r.val) {n : ℕ}
    (w : Fin 1024 → Fin n → EReal) (j : Fin 576) (f : Fin n) (h : ∀ k, V m c main_v1 (ix2 k j) = w k f) :
    k0_pay7 (iblk m c 0 t) (iblk m c 1 t) (iblk m c 2 t) (ix2 r j) = rowMul (normed m c i) w f := by
  obtain ⟨b0, b2, -⟩ := blocks m c t r i hi
  rw [row_apply, b0]
  simp only [b2, h]
  rfl

/-- Token `l` of the 128-token block `b`. -/
def tokenAt (b : Fin 256) (l : Fin 128) : Fin 32768 := ⟨b.val * 128 + l.val, by omega⟩

/-- The keys after the run. -/
def result4 (c : Dev nD) : Buf (Elt Ideal) ((c : Thread nD τ).loc main_v14_0) := fun i => rowMul (normed m c (i 0)) (wk m c) (i 1)

/-- After the run the array of the keys is `result4`. -/
theorem final4 (c : Dev nD) : (dats m 0 c).arrAt 4 cfg0.N = result4 m c := by
  refine (dats m 0 c).arrAt_eq_of_covers 4 _ (by decide +kernel) fun t hf y => ?_
  blk_simp
  rw [after0_4]
  frame_out
  obtain ⟨r, q, rfl⟩ : ∃ (r : Fin 512) (q : Fin 256), y = ix2 r q := ⟨y 0, y 1, eq_ix2 y⟩
  obtain ⟨i, hi⟩ := token t r
  have hemb : (((View.whole main_v14_0).slice (win0_4.rect t)).emb (ix2 r q)) = ix2 i q := by
    blk_ext [idx t]
  rw [hemb]
  pointwise [k0_pay8]
  exact row_plain m c t r i hi (wk m c) _ q fun k => (rows_apply m c k _).1 q rfl

/-- The values after the run. -/
def result5 (c : Dev nD) : Buf (Elt Ideal) ((c : Thread nD τ).loc main_v14_1) := fun i => rowMul (normed m c (i 0)) (wv m c) (i 1)

/-- After the run the array of the values is `result5`. -/
theorem final5 (c : Dev nD) : (dats m 0 c).arrAt 5 cfg0.N = result5 m c := by
  refine (dats m 0 c).arrAt_eq_of_covers 5 _ (by decide +kernel) fun t hf y => ?_
  blk_simp
  rw [after0_5]
  frame_out
  obtain ⟨r, q, rfl⟩ : ∃ (r : Fin 512) (q : Fin 256), y = ix2 r q := ⟨y 0, y 1, eq_ix2 y⟩
  obtain ⟨i, hi⟩ := token t r
  have hemb : (((View.whole main_v14_1).slice (win0_5.rect t)).emb (ix2 r q)) = ix2 i q := by
    blk_ext [idx t]
  rw [hemb]
  pointwise [k0_pay9]
  exact row_plain m c t r i hi (wv m c) _ q fun k => (rows_apply m c k _).2.1 q rfl

/-- The index keys after the run. -/
def result6 (c : Dev nD) : Buf (Elt Ideal) ((c : Thread nD τ).loc main_v14_2) := fun i => rowMul (normed m c (i 0)) (wik m c) (i 1)

/-- After the run the array of the index keys is `result6`. -/
theorem final6 (c : Dev nD) : (dats m 0 c).arrAt 6 cfg0.N = result6 m c := by
  refine (dats m 0 c).arrAt_eq_of_covers 6 _ (by decide +kernel) fun t hf y => ?_
  blk_simp
  rw [after0_6]
  frame_out
  obtain ⟨r, q, rfl⟩ : ∃ (r : Fin 512) (q : Fin 64), y = ix2 r q := ⟨y 0, y 1, eq_ix2 y⟩
  obtain ⟨i, hi⟩ := token t r
  have hemb : (((View.whole main_v14_2).slice (win0_6.rect t)).emb (ix2 r q)) = ix2 i q := by
    blk_ext [idx t]
  rw [hemb]
  pointwise [k0_pay10]
  exact row_plain m c t r i hi (wik m c) _ q fun k => (rows_apply m c k _).2.2 q rfl

/-- The keys in the short format after the run. -/
def result7 (c : Dev nD) : Buf (Elt Ideal) ((c : Thread nD τ).loc main_v14_3) := fun i => rowMul (normed m c (i 0)) (wk m c) (i 1)

/-- After the run the array of the keys in the short format is `result7`. -/
theorem final7 (c : Dev nD) : (dats m 0 c).arrAt 7 cfg0.N = result7 m c := by
  refine (dats m 0 c).arrAt_eq_of_covers 7 _ (by decide +kernel) fun t hf y => ?_
  blk_simp
  rw [after0_7]
  frame_out
  obtain ⟨r, q, rfl⟩ : ∃ (r : Fin 512) (q : Fin 256), y = ix2 r q := ⟨y 0, y 1, eq_ix2 y⟩
  obtain ⟨i, hi⟩ := token t r
  have hemb : (((View.whole main_v14_3).slice (win0_7.rect t)).emb (ix2 r q)) = ix2 i q := by
    blk_ext [idx t]
  rw [hemb]
  pointwise [k0_pay11, k0_pay8]
  exact row_plain m c t r i hi (wk m c) _ q fun k => (rows_apply m c k _).1 q rfl

/-- The index keys in the short format after the run. -/
def result8 (c : Dev nD) : Buf (Elt Ideal) ((c : Thread nD τ).loc main_v14_4) := fun i => rowMul (normed m c (i 0)) (wik m c) (i 1)

/-- After the run the array of the index keys in the short format is `result8`. -/
theorem final8 (c : Dev nD) : (dats m 0 c).arrAt 8 cfg0.N = result8 m c := by
  refine (dats m 0 c).arrAt_eq_of_covers 8 _ (by decide +kernel) fun t hf y => ?_
  blk_simp
  rw [after0_8]
  frame_out
  obtain ⟨r, q, rfl⟩ : ∃ (r : Fin 512) (q : Fin 64), y = ix2 r q := ⟨y 0, y 1, eq_ix2 y⟩
  obtain ⟨i, hi⟩ := token t r
  have hemb : (((View.whole main_v14_4).slice (win0_8.rect t)).emb (ix2 r q)) = ix2 i q := by
    blk_ext [idx t]
  rw [hemb]
  pointwise [k0_pay12, k0_pay10]
  exact row_plain m c t r i hi (wik m c) _ q fun k => (rows_apply m c k _).2.2 q rfl

/-- The transposed queries after the run. -/
def result9 (c : Dev nD) : Buf (Elt Ideal) ((c : Thread nD τ).loc main_v14_5) := fun i =>
  rowMul (normed m c (tokenAt (i 0) (i 2))) (wq m c) (i 1) * Ideal.ofBits .f32 0x3E000000#32

/-- After the run the array of the transposed queries is `result9`. -/
theorem final9 (c : Dev nD) : (dats m 0 c).arrAt 9 cfg0.N = result9 m c := by
  refine (dats m 0 c).arrAt_eq_of_covers 9 _ (by decide +kernel) fun t hf y => ?_
  blk_simp
  rw [after0_9]
  obtain ⟨b, f, l, rfl⟩ : ∃ (b : Fin 4) (f : Fin 1024) (l : Fin 128), y = ix3 b f l := ⟨y 0, y 1, y 2, eq_ix3 y⟩
  have ht : t.val < 64 := t.isLt
  have hemb : (((View.whole main_v14_5).slice (win0_9.rect t)).emb (ix3 b f l)) = ix3 ⟨t.val * 4 + b.val, by omega⟩ f l := by
    blk_ext [idx t]
  rw [hemb, tile9 _ _ _ _ b f l ⟨0 + f.val, by omega⟩ ⟨b.val * 128 + l.val, by omega⟩ rfl rfl]
  exact col_scaled m c t _ (tokenAt ⟨t.val * 4 + b.val, by omega⟩ l) (by simp only [tokenAt]; omega) (wq m c) _ f
    fun k => (cols_apply m c k _).1 f rfl

/-- The transposed index queries after the run. -/
def result10 (c : Dev nD) : Buf (Elt Ideal) ((c : Thread nD τ).loc main_v14_6) := fun i =>
  rowMul (normed m c (tokenAt (i 0) (i 2))) (wiq m c) (i 1) * Ideal.ofBits .f32 0x3E000000#32

/-- After the run the array of the transposed index queries is `result10`. -/
theorem final10 (c : Dev nD) : (dats m 0 c).arrAt 10 cfg0.N = result10 m c := by
  refine (dats m 0 c).arrAt_eq_of_covers 10 _ (by decide +kernel) fun t hf y => ?_
  blk_simp
  rw [after0_10]
  obtain ⟨b, f, l, rfl⟩ : ∃ (b : Fin 4) (f : Fin 512) (l : Fin 128), y = ix3 b f l := ⟨y 0, y 1, y 2, eq_ix3 y⟩
  have ht : t.val < 64 := t.isLt
  have hemb : (((View.whole main_v14_6).slice (win0_10.rect t)).emb (ix3 b f l)) = ix3 ⟨t.val * 4 + b.val, by omega⟩ f l := by
    blk_ext [idx t]
  rw [hemb, tile10 _ _ _ _ b f l ⟨1024 + f.val, by omega⟩ ⟨b.val * 128 + l.val, by omega⟩ rfl rfl]
  exact col_scaled m c t _ (tokenAt ⟨t.val * 4 + b.val, by omega⟩ l) (by simp only [tokenAt]; omega) (wiq m c) _ f
    fun k => (cols_apply m c k _).2.1 f rfl

/-- The transposed values after the run. -/
def result11 (c : Dev nD) : Buf (Elt Ideal) ((c : Thread nD τ).loc main_v14_7) := fun i =>
  rowMul (normed m c (tokenAt (i 0) (i 2))) (wv m c) (i 1)

/-- After the run the array of the transposed values is `result11`. -/
theorem final11 (c : Dev nD) : (dats m 0 c).arrAt 11 cfg0.N = result11 m c := by
  refine (dats m 0 c).arrAt_eq_of_covers 11 _ (by decide +kernel) fun t hf y => ?_
  blk_simp
  rw [after0_11]
  obtain ⟨b, f, l, rfl⟩ : ∃ (b : Fin 4) (f : Fin 256) (l : Fin 128), y = ix3 b f l := ⟨y 0, y 1, y 2, eq_ix3 y⟩
  have ht : t.val < 64 := t.isLt
  have hemb : (((View.whole main_v14_7).slice (win0_11.rect t)).emb (ix3 b f l)) = ix3 ⟨t.val * 4 + b.val, by omega⟩ f l := by
    blk_ext [idx t]
  rw [hemb, tile11 _ _ _ _ b f l ⟨1536 + f.val, by omega⟩ ⟨b.val * 128 + l.val, by omega⟩ rfl rfl]
  exact col_plain m c t _ (tokenAt ⟨t.val * 4 + b.val, by omega⟩ l) (by simp only [tokenAt]; omega) (wv m c) _ f
    fun k => (cols_apply m c k _).2.2.1 f rfl

/-- The transposed index weights after the run. -/
def result12 (c : Dev nD) : Buf (Elt Ideal) ((c : Thread nD τ).loc main_v14_8) := fun i =>
  rowMul (normed m c (tokenAt (i 0) (i 2))) (wiw m c) (i 1) * Ideal.ofBits .f32 0x3EB504F3#32

/-- After the run the array of the transposed index weights is `result12`. -/
theorem final12 (c : Dev nD) : (dats m 0 c).arrAt 12 cfg0.N = result12 m c := by
  refine (dats m 0 c).arrAt_eq_of_covers 12 _ (by decide +kernel) fun t hf y => ?_
  blk_simp
  rw [after0_12]
  obtain ⟨b, f, l, rfl⟩ : ∃ (b : Fin 4) (f : Fin 8) (l : Fin 128), y = ix3 b f l := ⟨y 0, y 1, y 2, eq_ix3 y⟩
  have ht : t.val < 64 := t.isLt
  have hemb : (((View.whole main_v14_8).slice (win0_12.rect t)).emb (ix3 b f l)) = ix3 ⟨t.val * 4 + b.val, by omega⟩ f l := by
    blk_ext [idx t]
  rw [hemb, tile12 _ _ _ _ b f l ⟨1792 + f.val, by omega⟩ ⟨b.val * 128 + l.val, by omega⟩ rfl rfl]
  exact congrArg (· * _) <| col_plain m c t _ (tokenAt ⟨t.val * 4 + b.val, by omega⟩ l) (by simp only [tokenAt]; omega) (wiw m c) _ f
    fun k => (cols_apply m c k _).2.2.2 f rfl

end Cert.Proof.ProjKernel

end
-- ==== Proof.ProjReference.lean ====
/-
  The projections' reference read at an index: each row of its results is the layer's normed row times one of the weights; the
  transposed results are laid out in blocks of 128 tokens.
-/
module

public import proofs.«01_k».proof.Proof.Gen.ProjReferenceIdeal.Run
public import proofs.«01_k».proof.Proof.Spec

@[expose] public section

set_option maxRecDepth 16384

noncomputable section

namespace Cert.Proof.ProjReference

open Cert.ProjReferenceIdeal Cert.ProjReferenceIdeal.Gen Cert.ProjReferenceIdeal.Value Cert.Proof.Layer
open Idealize.ShloMosaic Idealize.ShloMosaic.TcCoe Idealize.SL.Sem

/-- The normed stream as the reference's lines compute it. -/
def xn (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf
    (broadcastInDim S32768x1 ![0] bcast_S32768_S32768x1_0
      (Host.reduceAdd (mulf x x) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The normed stream, at an index. -/
theorem xn_apply (x : FVec Ideal S32768x1024 .f32) (g : FVec Ideal S1024 .f32) (i : Fin 32768) (k : Fin 1024) :
    xn x g (ix2 i k) = rowNorm (fun k => x (ix2 i k)) (fun k => g (ix1 k)) k := by
  pointwise [xn]
  rfl

/-- The keys or the values, at an index. -/
theorem rows256_apply (x : FVec Ideal S32768x1024 .f32) (g : FVec Ideal S1024 .f32) (w : FVec Ideal S1024x256 .f32)
    (i : Fin 32768) (f : Fin 256) :
    Host.dotGeneral dot_S32768x1024_S1024x256_S32768x256_1_0_0_1_n_n none (xn x g) w (ix2 i f)
      = rowMul (rowNorm (fun k => x (ix2 i k)) fun k => g (ix1 k)) (fun k f => w (ix2 k f)) f := by
  pointwise
  simp only [xn_apply]
  rfl

/-- The index keys, at an index. -/
theorem rows64_apply (x : FVec Ideal S32768x1024 .f32) (g : FVec Ideal S1024 .f32) (w : FVec Ideal S1024x64 .f32)
    (i : Fin 32768) (f : Fin 64) :
    Host.dotGeneral dot_S32768x1024_S1024x64_S32768x64_1_0_0_1_n_n none (xn x g) w (ix2 i f)
      = rowMul (rowNorm (fun k => x (ix2 i k)) fun k => g (ix1 k)) (fun k f => w (ix2 k f)) f := by
  pointwise
  simp only [xn_apply]
  rfl

/-- The transposed queries, at an index. -/
theorem cols1024_apply (x : FVec Ideal S32768x1024 .f32) (g : FVec Ideal S1024 .f32) (w : FVec Ideal S1024x1024 .f32)
    (b : Fin 256) (f : Fin 1024) (l : Fin 128) :
    transpose S256x1024x128 [0, 2, 1] (shapeCast S256x128x1024 (mulf (Host.dotGeneral dot_S32768x1024_S1024x1024_S32768x1024_1_0_0_1_n_n none (xn x g) w)
        (broadcastInDim S32768x1024 ![] bcast_S_S32768x1024 (constant S_ .f32 0x3E000000#32)))
        shapeCasts_S32768x1024_S256x128x1024) transposes_S256x128x1024_S256x1024x128_0_2_1 (ix3 b f l)
      = rowMul (rowNorm (fun k => x (ix2 ⟨b.val * 128 + l.val, by omega⟩ k)) fun k => g (ix1 k)) (fun k f => w (ix2 k f)) f * Ideal.ofBits .f32 0x3E000000#32 := by
  pointwise
  simp only [xn_apply]
  rfl

/-- The transposed index queries, at an index. -/
theorem cols512_apply (x : FVec Ideal S32768x1024 .f32) (g : FVec Ideal S1024 .f32) (w : FVec Ideal S1024x512 .f32)
    (b : Fin 256) (f : Fin 512) (l : Fin 128) :
    transpose S256x512x128 [0, 2, 1] (shapeCast S256x128x512 (mulf (Host.dotGeneral dot_S32768x1024_S1024x512_S32768x512_1_0_0_1_n_n none (xn x g) w)
        (broadcastInDim S32768x512 ![] bcast_S_S32768x512 (constant S_ .f32 0x3E000000#32)))
        shapeCasts_S32768x512_S256x128x512) transposes_S256x128x512_S256x512x128_0_2_1 (ix3 b f l)
      = rowMul (rowNorm (fun k => x (ix2 ⟨b.val * 128 + l.val, by omega⟩ k)) fun k => g (ix1 k)) (fun k f => w (ix2 k f)) f * Ideal.ofBits .f32 0x3E000000#32 := by
  pointwise
  simp only [xn_apply]
  rfl

/-- The transposed values, at an index. -/
theorem cols256_apply (x : FVec Ideal S32768x1024 .f32) (g : FVec Ideal S1024 .f32) (w : FVec Ideal S1024x256 .f32)
    (b : Fin 256) (f : Fin 256) (l : Fin 128) :
    transpose S256x256x128 [0, 2, 1] (shapeCast S256x128x256 (Host.dotGeneral dot_S32768x1024_S1024x256_S32768x256_1_0_0_1_n_n none (xn x g) w)
        shapeCasts_S32768x256_S256x128x256) transposes_S256x128x256_S256x256x128_0_2_1 (ix3 b f l)
      = rowMul (rowNorm (fun k => x (ix2 ⟨b.val * 128 + l.val, by omega⟩ k)) fun k => g (ix1 k)) (fun k f => w (ix2 k f)) f := by
  pointwise
  simp only [xn_apply]
  rfl

/-- The transposed index weights, at an index. -/
theorem cols8_apply (x : FVec Ideal S32768x1024 .f32) (g : FVec Ideal S1024 .f32) (w : FVec Ideal S1024x8 .f32)
    (b : Fin 256) (f : Fin 8) (l : Fin 128) :
    transpose S256x8x128 [0, 2, 1] (shapeCast S256x128x8 (mulf (Host.dotGeneral dot_S32768x1024_S1024x8_S32768x8_1_0_0_1_n_n none (xn x g) w)
        (broadcastInDim S32768x8 ![] bcast_S_S32768x8 (constant S_ .f32 0x3EB504F3#32)))
        shapeCasts_S32768x8_S256x128x8) transposes_S256x128x8_S256x8x128_0_2_1 (ix3 b f l)
      = rowMul (rowNorm (fun k => x (ix2 ⟨b.val * 128 + l.val, by omega⟩ k)) fun k => g (ix1 k)) (fun k f => w (ix2 k f)) f * Ideal.ofBits .f32 0x3EB504F3#32 := by
  pointwise
  simp only [xn_apply]
  rfl

end Cert.Proof.ProjReference

end
-- ==== Proof.ConvSpec.lean ====
/-
  One row of the gated short convolution, in the extended reals, and nothing about any program.
-/
module

public import proofs.«01_k».proof.Proof.Spec

@[expose] public section

noncomputable section

namespace Cert.Proof.Layer

open Idealize.ShloMosaic

/-- The product of the second and the third part of a projected row: what the convolution runs over. -/
def gate (z : Fin 3072 → EReal) (k : Fin 1024) : EReal :=
  z ⟨1024 + k.val, by have := k.isLt; omega⟩ * z ⟨2048 + k.val, by have := k.isLt; omega⟩

/-- The gates of one sequence with its two earlier ones in front, at position `s`. -/
def lagged (buf : Fin 16 → Fin 2 → Fin 1024 → EReal) (z : Fin 32768 → Fin 3072 → EReal) (b : Fin 16) (s : ℕ) (hs : s < 2050)
    (k : Fin 1024) : EReal :=
  if h : s < 2 then buf b ⟨s, h⟩ k else gate (z ⟨b.val * 2048 + (s - 2), by have := b.isLt; omega⟩) k

/-- Row `R` of the result: the first part of its projected row times three taps over the gates up to its own. -/
def convRow (buf : Fin 16 → Fin 2 → Fin 1024 → EReal) (z : Fin 32768 → Fin 3072 → EReal) (w : Fin 3 → Fin 1024 → EReal)
    (R : Fin 32768) (q : Fin 1024) : EReal :=
  z R ⟨q.val, by have := q.isLt; omega⟩
    * (w 0 q * lagged buf z ⟨R.val / 2048, by have := R.isLt; omega⟩ (R.val % 2048) (by omega) q
      + w 1 q * lagged buf z ⟨R.val / 2048, by have := R.isLt; omega⟩ (1 + R.val % 2048) (by omega) q
      + w 2 q * gate (z R) q)

/-- Past the two earlier ones, position `s` holds the gate of token `s - 2` of its sequence. -/
theorem lagged_gate (buf : Fin 16 → Fin 2 → Fin 1024 → EReal) (z : Fin 32768 → Fin 3072 → EReal) (b : Fin 16) (s : ℕ)
    (hs : s < 2050) (k : Fin 1024) (h : 2 ≤ s) (R : Fin 32768) (hR : R.val = b.val * 2048 + (s - 2)) :
    lagged buf z b s hs k = gate (z R) k := by
  rw [lagged, dif_neg (by omega)]
  exact congrArg (fun R => gate (z R) k) (Fin.ext hR.symm)

/-- The gates of one sample, 16 tokens, with its two earlier ones in front, at position `s`. -/
def laggedSample (buf : Fin 8 → Fin 2 → Fin 1024 → EReal) (z : Fin 128 → Fin 3072 → EReal) (b : Fin 8) (s : ℕ) (hs : s < 18)
    (k : Fin 1024) : EReal :=
  if h : s < 2 then buf b ⟨s, h⟩ k else gate (z ⟨b.val * 16 + (s - 2), by have := b.isLt; omega⟩) k

/-- Row `R` of the samples' result. -/
def sampleRow (buf : Fin 8 → Fin 2 → Fin 1024 → EReal) (z : Fin 128 → Fin 3072 → EReal) (w : Fin 3 → Fin 1024 → EReal)
    (R : Fin 128) (q : Fin 1024) : EReal :=
  z R ⟨q.val, by have := q.isLt; omega⟩
    * (w 0 q * laggedSample buf z ⟨R.val / 16, by have := R.isLt; omega⟩ (R.val % 16) (by omega) q
      + w 1 q * laggedSample buf z ⟨R.val / 16, by have := R.isLt; omega⟩ (1 + R.val % 16) (by omega) q
      + w 2 q * gate (z R) q)

/-- Past the two earlier ones, position `s` holds the gate of token `s - 2` of its sample. -/
theorem laggedSample_gate (buf : Fin 8 → Fin 2 → Fin 1024 → EReal) (z : Fin 128 → Fin 3072 → EReal) (b : Fin 8) (s : ℕ)
    (hs : s < 18) (k : Fin 1024) (h : 2 ≤ s) (R : Fin 128) (hR : R.val = b.val * 16 + (s - 2)) :
    laggedSample buf z b s hs k = gate (z R) k := by
  rw [laggedSample, dif_neg (by omega)]
  exact congrArg (fun R => gate (z R) k) (Fin.ext hR.symm)

/-- The gates of the 16 meta tokens with zeros for the two before them, at position `s`. -/
def laggedMeta (z : Fin 16 → Fin 3072 → EReal) (s : ℕ) (hs : s < 18) (k : Fin 1024) : EReal :=
  if _ : s < 2 then 0 else gate (z ⟨s - 2, by omega⟩) k

/-- Row `R` of the meta tokens' result. -/
def metaRow (z : Fin 16 → Fin 3072 → EReal) (w : Fin 3 → Fin 1024 → EReal) (R : Fin 16) (q : Fin 1024) : EReal :=
  z R ⟨q.val, by have := q.isLt; omega⟩
    * (w 0 q * laggedMeta z R.val (by omega) q + w 1 q * laggedMeta z (1 + R.val) (by omega) q + w 2 q * gate (z R) q)

/-- Past the two zeros, position `s` holds the gate of token `s - 2`. -/
theorem laggedMeta_gate (z : Fin 16 → Fin 3072 → EReal) (s : ℕ) (hs : s < 18) (k : Fin 1024) (h : 2 ≤ s) (R : Fin 16)
    (hR : R.val = s - 2) : laggedMeta z s hs k = gate (z R) k := by
  rw [laggedMeta, dif_neg (by omega)]
  exact congrArg (fun R => gate (z R) k) (Fin.ext hR.symm)

end Cert.Proof.Layer

end
-- ==== Proof.ConvKernel.lean ====
/-
  The gated short convolution read at an index.

  The call walks each sequence tile by tile and carries the last eight gates of a tile to the next one in its scratch, whose
  other rows are the tile's own gates: so at a tile the scratch from row 6 on is the sequence's gates (`Layer.lagged`) from the
  tile's first row less two on.
-/
module

public import proofs.«01_k».proof.Proof.Gen.ConvIdeal.Frame
public import proofs.«01_k».proof.Proof.ConvSpec
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.ConvKernel

open Cert.ConvIdeal Cert.ConvIdeal.Gen Cert.Proof.Layer Idealize.ShloMosaic Idealize.ShloMosaic.TcCoe Idealize.SL.Sem

/-- A row of the block's projection. -/
def brow (x : Vec Ideal S512x1024 .f32) (g : Vec Ideal S1x1024 .f32) (w : Vec Ideal S1024x3072 .bf16) (r : Fin 512) :
    Fin 3072 → EReal :=
  rowMul (rowNorm (fun k => x (ix2 r k)) fun k => g (ix2 0 k)) fun k f => w (ix2 k f)

/-- The block's projection, at an index. -/
theorem proj_apply (x : Vec Ideal S512x1024 .f32) (g : Vec Ideal S1x1024 .f32) (w : Vec Ideal S1024x3072 .bf16) (r : Fin 512)
    (f : Fin 3072) : k0_pay5 x g w (ix2 r f) = brow x g w r f := by
  pointwise [k0_pay5]
  rfl

/-- The block's gates, at an index. -/
theorem gate_apply (x : Vec Ideal S512x1024 .f32) (g : Vec Ideal S1x1024 .f32) (w : Vec Ideal S1024x3072 .bf16) (r : Fin 512)
    (k : Fin 1024) : k0_pay6 x g w (ix2 r k) = gate (brow x g w r) k := by
  pointwise [k0_pay6]
  simp only [proj_apply]
  rfl

/-- A block of the result, at an index, from the taps and the three stretches of the scratch. -/
theorem out_apply (x : Vec Ideal S512x1024 .f32) (g : Vec Ideal S1x1024 .f32) (w : Vec Ideal S1024x3072 .bf16)
    (w0 w1 w2 : Vec Ideal S1x1024 .f32) (s0 s1 s2 : Vec Ideal S512x1024 .f32) (r : Fin 512) (q : Fin 1024) :
    k0_pay1 (k0_pay5 x g w) (k0_pay7 w0 s0) (k0_pay8 w1) s1 w2 s2 (ix2 r q)
      = brow x g w r ⟨q.val, by have := q.isLt; omega⟩
        * (w0 (ix2 0 q) * s0 (ix2 r q) + w1 (ix2 0 q) * s1 (ix2 r q) + w2 (ix2 0 q) * s2 (ix2 r q)) := by
  pointwise [k0_pay1, k0_pay7, k0_pay8]
  simp only [proj_apply]

/-- After a store of `W` whole rows from row `o` on, the scratch at one of them. -/
theorem stored_in {o W : ℕ} (inb : ∀ a : Fin 2, (![o, 0] : Fin 2 → ℕ) a + (![W, 1024] : Fin 2 → ℕ) a ≤ (![520, 1024] : Fin 2 → ℕ) a)
    (w : (Rect.unit (s := S520x1024) ![o, 0] ![W, 1024] inb).shape.Idx → Elt Ideal .f32) (L : List (View.Piece (Elt Ideal) S520x1024 .f32))
    (f) (i : Fin 520) (k : Fin 1024) (x : Fin W) (hx : i.val = o + x.val) :
    View.read (Elt Ideal) (View.whole cc0_scratch0) ((View.whole cc0_scratch0).writes (Elt Ideal) f
      (⟨Rect.unit ![o, 0] ![W, 1024] inb, w⟩ :: L)) (ix2 i k) = w (ix2 x k) :=
  View.read_writes_cons_rows_of_mem _ _ inb w L (ix2 i k) (ix2 x k) rfl hx rfl

/-- After a store of `W` whole rows from row `o` on, the scratch at another row. -/
theorem stored_off {o W : ℕ} (inb : ∀ a : Fin 2, (![o, 0] : Fin 2 → ℕ) a + (![W, 1024] : Fin 2 → ℕ) a ≤ (![520, 1024] : Fin 2 → ℕ) a)
    (w : (Rect.unit (s := S520x1024) ![o, 0] ![W, 1024] inb).shape.Idx → Elt Ideal .f32) (L : List (View.Piece (Elt Ideal) S520x1024 .f32))
    (f) (i : Fin 520) (k : Fin 1024) (h : i.val < o ∨ o + W ≤ i.val) :
    View.read (Elt Ideal) (View.whole cc0_scratch0) ((View.whole cc0_scratch0).writes (Elt Ideal) f
      (⟨Rect.unit ![o, 0] ![W, 1024] inb, w⟩ :: L)) (ix2 i k)
      = View.read (Elt Ideal) (View.whole cc0_scratch0) ((View.whole cc0_scratch0).writes (Elt Ideal) f L) (ix2 i k) :=
  View.read_writes_cons_rows_of_not_mem _ _ inb w L (ix2 i k) rfl rfl h

/-- A load of `W` rows of the scratch from row `o` on, at an index. -/
theorem loaded {o W : ℕ} (inb : ∀ a : Fin 2, (![o, 0] : Fin 2 → ℕ) a + (![W, 1024] : Fin 2 → ℕ) a ≤ (![520, 1024] : Fin 2 → ℕ) a)
    (X : Vec Ideal S520x1024 .f32) (r : Fin W) (k : Fin 1024) (i : Fin 520) (hi : i.val = o + r.val) :
    View.ld X (Rect.unit (s := S520x1024) ![o, 0] ![W, 1024] inb) (ix2 r k) = X (ix2 i k) :=
  View.ld_unit_apply_of X _ _ inb (ix2 r k) (ix2 i k) (Fin.forall_fin_two.mpr ⟨hi, (Nat.zero_add _).symm⟩)

/-- The same of a load that reads what earlier stores of the same point left. -/
theorem loadedCov {o W : ℕ} (inb : ∀ a : Fin 2, (![o, 0] : Fin 2 → ℕ) a + (![W, 1024] : Fin 2 → ℕ) a ≤ (![520, 1024] : Fin 2 → ℕ) a)
    (L : List (View.Piece (Elt Ideal) S520x1024 .f32)) (r : Fin W) (k : Fin 1024) (i : Fin 520) (hi : i.val = o + r.val) :
    (View.whole cc0_scratch0).readCov L (Rect.unit (s := S520x1024) ![o, 0] ![W, 1024] inb).toLoadRect (ix2 r k)
      = View.read (Elt Ideal) (View.whole cc0_scratch0)
          ((View.whole cc0_scratch0).writes (Elt Ideal) (View.whole cc0_scratch0).junk L) (ix2 i k) :=
  loaded inb (View.read (Elt Ideal) (View.whole cc0_scratch0)
    ((View.whole cc0_scratch0).writes (Elt Ideal) (View.whole cc0_scratch0).junk L)) r k i hi

variable (m : (ℓ : Loc nD τ sig) → Buf (Elt Ideal) ℓ)

/-- The host lines before the call. -/
theorem entry (c : Dev nD) :
    V m c main_v0 = pad S16x8x1024 ![0, 6, 0] ![0, 0, 0] ![0, 0, 0] (m ((c : Thread nD τ).loc main_arg1))
        (sitofp (F := Ideal) .f32 (constantI S_ 32 0#32)) pads_S16x2x1024_S16x8x1024_000_600_000 h_S_
    ∧ V m c main_v1 = shapeCast S1x1024 (m ((c : Thread nD τ).loc main_arg2)) shapeCasts_S1024_S1x1024
    ∧ V m c main_v2 = truncf (F := Ideal) .bf16 (m ((c : Thread nD τ).loc main_arg3)) bitsLt_bf16_f32
    ∧ V m c main_v3 = pad S8x1024 ![0, 0] ![5, 0] ![0, 0] (m ((c : Thread nD τ).loc main_arg4))
        (sitofp (F := Ideal) .f32 (constantI S_ 32 0#32)) pads_S3x1024_S8x1024_050_000 h_S_ := by
  dsimp only [V, hostOps0, hostOps0_1, hostOps0_2, hostOps0_3, List.flatten_cons, List.flatten_nil, List.append_nil,
    List.cons_append, List.nil_append]
  refine ⟨?_, ?_, ?_, ?_⟩ <;> after_results <;> rfl

/-- The printed index maps: the stream moves with the result by a tile of rows; the earlier gates with the last ones by a
    sequence; the weights stay. -/
theorem idx (t : Fin cfg0.N) : win0_0.index t = ![t.val, 0] ∧ win0_1.index t = ![t.val / 4, 0, 0] ∧ win0_2.index t = ![0, 0]
    ∧ win0_3.index t = ![0, 0] ∧ win0_4.index t = ![0, 0] ∧ win0_5.index t = ![t.val, 0]
    ∧ win0_6.index t = ![t.val / 4, 0, 0] :=
  (by decide +kernel : ∀ t : Fin grid0.N, win0_0.index t = ![t.val, 0] ∧ win0_1.index t = ![t.val / 4, 0, 0]
    ∧ win0_2.index t = ![0, 0] ∧ win0_3.index t = ![0, 0] ∧ win0_4.index t = ![0, 0] ∧ win0_5.index t = ![t.val, 0]
    ∧ win0_6.index t = ![t.val / 4, 0, 0]) t

/-- The projected row of the normed stream. -/
def row (c : Dev nD) (R : Fin 32768) : Fin 3072 → EReal :=
  rowMul (rowNorm (fun k => m ((c : Thread nD τ).loc main_arg0) (ix2 R k)) fun k => m ((c : Thread nD τ).loc main_arg2) (ix1 k))
    fun k f => m ((c : Thread nD τ).loc main_arg3) (ix2 k f)

/-- The earlier gates. -/
def early (c : Dev nD) (b : Fin 16) (s : Fin 2) (k : Fin 1024) : EReal := m ((c : Thread nD τ).loc main_arg1) (ix3 b s k)

/-- The taps. -/
def taps (c : Dev nD) (s : Fin 3) (k : Fin 1024) : EReal := m ((c : Thread nD τ).loc main_arg4) (ix2 s k)

set_option maxHeartbeats 2000000 in
/-- The blocks at a grid point, read off the arrays the call is launched on. -/
theorem blocks (c : Dev nD) (t : Fin cfg0.N) :
    (∀ (r : Fin 512) (R : Fin 32768), R.val = t.val * 512 + r.val →
      brow (iblk m c 0 t) (iblk m c 2 t) (iblk m c 3 t) r = row m c R)
    ∧ (∀ (b : Fin 16) (i : Fin 8) (s : Fin 2) (k : Fin 1024), b.val = t.val / 4 → i.val = 6 + s.val →
      iblk m c 1 t (ix3 0 i k) = early m c b s k)
    ∧ (∀ (i : Fin 8) (s : Fin 3) (k : Fin 1024), i.val = s.val → iblk m c 4 t (ix2 i k) = taps m c s k) := by
  obtain ⟨e0, e1, e2, e3⟩ := entry m c
  have b0 : ∀ (r : Fin 512) (R : Fin 32768) (k : Fin 1024), R.val = t.val * 512 + r.val →
      iblk m c 0 t (ix2 r k) = m ((c : Thread nD τ).loc main_arg0) (ix2 R k) := fun r R k h => by
    show V m c main_arg0 _ = _
    rw [V_main_arg0]
    blk_ext [iblk, idx t]
  have b2 : ∀ k : Fin 1024, iblk m c 2 t (ix2 0 k) = m ((c : Thread nD τ).loc main_arg2) (ix1 k) := fun k => by
    show V m c main_v1 _ = _
    rw [e1, show (win0_2.blk t).view.emb (ix2 0 k) = ix2 0 k from by blk_ext [idx t]]
    pointwise
  have b3 : ∀ (k : Fin 1024) (f : Fin 3072), iblk m c 3 t (ix2 k f) = m ((c : Thread nD τ).loc main_arg3) (ix2 k f) :=
    fun k f => by
    show V m c main_v2 _ = _
    rw [e2]
    show m ((c : Thread nD τ).loc main_arg3) _ = _
    blk_ext [iblk, idx t]
  refine ⟨fun r R h => ?_, fun b i s k hb hi => ?_, fun i s k hi => ?_⟩
  · unfold brow row
    simp only [b0 r R _ h, b2, b3]
  · show V m c main_v0 _ = _
    rw [e0, show (win0_1.blk t).view.emb (ix3 0 i k) = ix3 b i k from by blk_ext [idx t]]
    pointwise
    have hp : ∀ a : Fin 3, (![0, 6, 0] : Fin 3 → ℕ) a ≤ (ix3 b i k a).val
        ∧ ((ix3 b i k a).val - (![0, 6, 0] : Fin 3 → ℕ) a) % ((![0, 0, 0] : Fin 3 → ℕ) a + 1) = 0
        ∧ ((ix3 b i k a).val - (![0, 6, 0] : Fin 3 → ℕ) a) / ((![0, 0, 0] : Fin 3 → ℕ) a + 1) < S16x2x1024.size a := fun a =>
      match a with
      | 0 => ⟨Nat.zero_le _, Nat.mod_one _, by show (b.val - 0) / 1 < 16; omega⟩
      | 1 => ⟨by show 6 ≤ i.val; omega, Nat.mod_one _, by show (i.val - 6) / 1 < 2; omega⟩
      | 2 => ⟨Nat.zero_le _, Nat.mod_one _, by show (k.val - 0) / 1 < 1024; omega⟩
    refine (dif_pos hp).trans ?_
    exact congrArg (m ((c : Thread nD τ).loc main_arg1)) (congrArg (fun s => ix3 b s k) (Fin.ext (by dsimp only; omega)))
  · show V m c main_v3 _ = _
    rw [e3, show (win0_4.blk t).view.emb (ix2 i k) = ix2 i k from by blk_ext [idx t]]
    pointwise
    have hp : ∀ a : Fin 2, (![0, 0] : Fin 2 → ℕ) a ≤ (ix2 i k a).val
        ∧ ((ix2 i k a).val - (![0, 0] : Fin 2 → ℕ) a) % ((![0, 0] : Fin 2 → ℕ) a + 1) = 0
        ∧ ((ix2 i k a).val - (![0, 0] : Fin 2 → ℕ) a) / ((![0, 0] : Fin 2 → ℕ) a + 1) < S3x1024.size a := fun a =>
      match a with
      | 0 => ⟨Nat.zero_le _, Nat.mod_one _, by show (i.val - 0) / 1 < 3; omega⟩
      | 1 => ⟨Nat.zero_le _, Nat.mod_one _, by show (k.val - 0) / 1 < 1024; omega⟩
    refine (dif_pos hp).trans ?_
    exact congrArg (m ((c : Thread nD τ).loc main_arg4)) (congrArg (fun s => ix2 s k) (Fin.ext hi))

/-- Once a tile's gates are stored, the scratch from row 8 on is them. -/
theorem own (c : Dev nD) (t : Fin cfg0.N) (L : List (View.Piece (Elt Ideal) S520x1024 .f32)) (f) (i : Fin 520) (k : Fin 1024)
    (hi : 8 ≤ i.val) (R : Fin 32768) (hR : R.val = t.val * 512 + (i.val - 8)) :
    View.read (Elt Ideal) (View.whole cc0_scratch0) ((View.whole cc0_scratch0).writes (Elt Ideal) f
      (⟨Rect.unit ![8, 0] ![512, 1024] inb_S520x1024_S512x1024_8_0, k0_pay6 (iblk m c 0 t) (iblk m c 2 t) (iblk m c 3 t)⟩ :: L))
      (ix2 i k) = gate (row m c R) k := by
  rw [stored_in _ _ _ _ i k ⟨i.val - 8, by omega⟩ (by dsimp only; omega), gate_apply, (blocks m c t).1 _ R hR]

/-- After a point the first eight rows of the scratch are the last gates of its tile. -/
theorem tail (c : Dev nD) (t : Fin cfg0.N) (i : Fin 520) (k : Fin 1024) (hi : i.val < 8) (R : Fin 32768)
    (hR : R.val = t.val * 512 + (504 + i.val)) : (outsAt0 m c t.val t.isLt).2.2 (ix2 i k) = gate (row m c R) k := by
  have h : ∀ L L' : List (View.Piece (Elt Ideal) S520x1024 .f32),
      View.canon (⟨Rect.unit ![0, 0] ![8, 1024] inb_S520x1024_S8x1024_0_0, k0_pay2 ((View.whole cc0_scratch0).readCov
        (⟨Rect.unit ![8, 0] ![512, 1024] inb_S520x1024_S512x1024_8_0, k0_pay6 (iblk m c 0 t) (iblk m c 2 t) (iblk m c 3 t)⟩ :: L)
        (Rect.unit ![512, 0] ![8, 1024] inb_S520x1024_S8x1024_512_0).toLoadRect)⟩ :: L') (ix2 i k) = gate (row m c R) k :=
    fun L L' => by
      rw [← View.read_writes_junk_apply_eq_canon (View.whole cc0_scratch0), stored_in _ _ _ _ i k ⟨i.val, hi⟩ (by dsimp only; omega)]
      pointwise [k0_pay2]
      rw [loadedCov _ _ (⟨i.val, hi⟩ : Fin 8) k ⟨512 + i.val, by omega⟩ rfl,
        own m c t _ _ _ k (by dsimp only; omega) R (by dsimp only; omega)]
  by_cases h0 : t.val % 4 = 0
  · rw [outsAt0_A m c t h0]
    frame_out
    exact h _ _
  · rw [outsAt0_B m c t h0]
    frame_out
    exact h _ _

/-- What the scratch holds at a tile while its result is computed, from row 6 on. -/
def Held (c : Dev nD) (t : Fin cfg0.N) (X : Vec Ideal S520x1024 .f32) : Prop :=
  ∀ (i : Fin 520) (k : Fin 1024) (b : Fin 16) (s : ℕ) (hs : s < 2050), 6 ≤ i.val → b.val = t.val / 4 →
    s = t.val % 4 * 512 + (i.val - 6) → X (ix2 i k) = lagged (early m c) (row m c) b s hs k

/-- At a later tile: the tile's gates below the last ones of the tile before. -/
theorem held_later (c : Dev nD) (t : Fin cfg0.N) (h0 : ¬t.val % 4 = 0) (hp : t.val - 1 < cfg0.N) (hw : (Memref.whole cc0_scratch0).IsWhole) :
    Held m c t (View.read (Elt Ideal) (View.whole cc0_scratch0) ((View.whole cc0_scratch0).writes (Elt Ideal)
      (hw.unread (outsAt0 m c (t.val - 1) hp).2.2)
      [⟨Rect.unit ![8, 0] ![512, 1024] inb_S520x1024_S512x1024_8_0, k0_pay6 (iblk m c 0 t) (iblk m c 2 t) (iblk m c 3 t)⟩])) := by
  intro i k b s hs hi hb hsi
  have ht : t.val < 64 := t.isLt
  rw [lagged_gate _ _ _ _ _ _ (by omega) ⟨t.val * 512 + i.val - 8, by omega⟩ (by dsimp only; omega)]
  by_cases h8 : 8 ≤ i.val
  · exact own m c t _ _ i k h8 _ (by dsimp only; omega)
  · rw [stored_off _ _ _ _ i k (by omega), View.writes_nil, read_unread_whole]
    exact tail m c ⟨t.val - 1, hp⟩ i k (by omega) _ (by dsimp only; omega)

/-- At a sequence's first tile: the tile's gates below the two earlier ones. -/
theorem held_first (c : Dev nD) (t : Fin cfg0.N) (h0 : t.val % 4 = 0) (f) :
    Held m c t (View.read (Elt Ideal) (View.whole cc0_scratch0) ((View.whole cc0_scratch0).writes (Elt Ideal) f
      [⟨Rect.unit ![8, 0] ![512, 1024] inb_S520x1024_S512x1024_8_0, k0_pay6 (iblk m c 0 t) (iblk m c 2 t) (iblk m c 3 t)⟩,
        ⟨Rect.unit ![0, 0] ![8, 1024] inb_S520x1024_S8x1024_0_0, k0_pay4 (iblk m c 1 t)⟩])) := by
  intro i k b s hs hi hb hsi
  have ht : t.val < 64 := t.isLt
  by_cases h8 : 8 ≤ i.val
  · rw [lagged_gate _ _ _ _ _ _ (by omega) ⟨t.val * 512 + i.val - 8, by omega⟩ (by dsimp only; omega)]
    exact own m c t _ _ i k h8 _ (by dsimp only; omega)
  · rw [stored_off _ _ _ _ i k (by omega), stored_in _ _ _ _ i k ⟨i.val, by omega⟩ (by dsimp only; omega), lagged, dif_pos (by omega)]
    pointwise [k0_pay4]
    exact (blocks m c t).2.1 b _ _ k hb (by dsimp only; omega)

/-- A row loaded from the taps' block. -/
theorem loadedRow {o : ℕ} (inb : ∀ a : Fin 2, (![o, 0] : Fin 2 → ℕ) a + (![1, 1024] : Fin 2 → ℕ) a ≤ (![8, 1024] : Fin 2 → ℕ) a)
    (X : Vec Ideal S8x1024 .f32) (k : Fin 1024) (i : Fin 8) (hi : i.val = o + 0) :
    View.ld X (Rect.unit (s := S8x1024) ![o, 0] ![1, 1024] inb) (ix2 0 k) = X (ix2 i k) :=
  View.ld_unit_apply_of X _ _ inb (ix2 0 k) (ix2 i k) (Fin.forall_fin_two.mpr ⟨hi, (Nat.zero_add _).symm⟩)

/-- A tap loaded from its block. -/
theorem tap (c : Dev nD) (t : Fin cfg0.N) {o : ℕ} (inb : ∀ a : Fin 2, (![o, 0] : Fin 2 → ℕ) a + (![1, 1024] : Fin 2 → ℕ) a ≤ (![8, 1024] : Fin 2 → ℕ) a)
    (s : Fin 3) (hs : s.val = o) (k : Fin 1024) :
    View.ld (iblk m c 4 t) (Rect.unit (s := S8x1024) ![o, 0] ![1, 1024] inb) (ix2 0 k) = taps m c s k :=
  (loadedRow inb (iblk m c 4 t) k ⟨s.val, by omega⟩ hs).trans ((blocks m c t).2.2 _ s k rfl)

/-- What a point leaves in the first result's block, at an index. -/
theorem out5 (c : Dev nD) (t : Fin cfg0.N) (r : Fin 512) (q : Fin 1024) (R : Fin 32768) (hR : R.val = t.val * 512 + r.val) :
    (outsAt0 m c t.val t.isLt).1 (ix2 r q) = convRow (early m c) (row m c) (taps m c) R q := by
  have ht : t.val < 64 := t.isLt
  have s2 := fun L f => own m c t L f ⟨8 + r.val, by omega⟩ q (by dsimp only; omega) R (by dsimp only; omega)
  have s0 := fun X (H : Held m c t X) => H ⟨6 + r.val, by omega⟩ q ⟨R.val / 2048, by omega⟩ (R.val % 2048) (by omega)
    (by dsimp only; omega) (by dsimp only; omega) (by dsimp only; omega)
  have s1 := fun X (H : Held m c t X) => H ⟨7 + r.val, by omega⟩ q ⟨R.val / 2048, by omega⟩ (1 + R.val % 2048) (by omega)
    (by dsimp only; omega) (by dsimp only; omega) (by dsimp only; omega)
  by_cases h0 : t.val % 4 = 0
  · have H := held_first m c t h0 (View.whole cc0_scratch0).junk
    rw [outsAt0_A m c t h0]
    frame_out
    rw [out_apply, loadedCov _ _ r q ⟨6 + r.val, by omega⟩ rfl, loadedCov _ _ r q ⟨7 + r.val, by omega⟩ rfl,
      loadedCov _ _ r q ⟨8 + r.val, by omega⟩ rfl, s0 _ H, s1 _ H, s2,
      tap m c t (o := 0) _ 0 rfl, tap m c t (o := 1) _ 1 rfl, tap m c t (o := 2) _ 2 rfl, (blocks m c t).1 r R hR]
    rfl
  · have H := held_later m c t h0 (by have := t.isLt; omega) (Memref.isWhole_whole _)
    rw [outsAt0_B m c t h0]
    frame_out
    rw [out_apply, loaded _ _ r q ⟨6 + r.val, by omega⟩ rfl, loaded _ _ r q ⟨7 + r.val, by omega⟩ rfl,
      loadedCov _ _ r q ⟨8 + r.val, by omega⟩ rfl, s0 _ H, s1 _ H, s2,
      tap m c t (o := 0) _ 0 rfl, tap m c t (o := 1) _ 1 rfl, tap m c t (o := 2) _ 2 rfl, (blocks m c t).1 r R hR]
    rfl

/-- What a point leaves in the second result's block, at an index: the last gates of its tile. -/
theorem out6 (c : Dev nD) (t : Fin cfg0.N) (i : Fin 8) (k : Fin 1024) (R : Fin 32768) (hR : R.val = t.val * 512 + (504 + i.val)) :
    (outsAt0 m c t.val t.isLt).2.1 (ix3 0 i k) = gate (row m c R) k := by
  by_cases h0 : t.val % 4 = 0
  · rw [outsAt0_A m c t h0]
    frame_out
    pointwise [k0_pay3]
    rw [loadedCov _ _ _ k ⟨512 + i.val, by omega⟩ rfl, own m c t _ _ _ k (by dsimp only; omega) R (by dsimp only; omega)]
  · rw [outsAt0_B m c t h0]
    frame_out
    pointwise [k0_pay3]
    rw [loadedCov _ _ _ k ⟨512 + i.val, by omega⟩ rfl, own m c t _ _ _ k (by dsimp only; omega) R (by dsimp only; omega)]

/-- The first result after the run. -/
def result5 (c : Dev nD) : Buf (Elt Ideal) ((c : Thread nD τ).loc main_v4_0) := fun i =>
  convRow (early m c) (row m c) (taps m c) (i 0) (i 1)

/-- After the run the first result's array is `result5`. -/
theorem final5 (c : Dev nD) : (dats m 0 c).arrAt 5 cfg0.N = result5 m c := by
  refine (dats m 0 c).arrAt_eq_of_covers 5 _ (by decide +kernel) fun t hf y => ?_
  blk_simp
  rw [after0_5]
  obtain ⟨r, q, rfl⟩ : ∃ (r : Fin 512) (q : Fin 1024), y = ix2 r q := ⟨y 0, y 1, eq_ix2 y⟩
  obtain ⟨R, hR⟩ : ∃ R : Fin 32768, R.val = t.val * 512 + r.val :=
    ⟨⟨t.val * 512 + r.val, by have h : t.val < 64 := t.isLt; omega⟩, rfl⟩
  have hemb : (((View.whole main_v4_0).slice (win0_5.rect t)).emb (ix2 r q)) = ix2 R q := by
    blk_ext [idx t]
  rw [hemb, out5 m c t r q R hR]
  rfl

/-- The last eight rows of a sequence. -/
def lastRow (b : Fin 16) (i : Fin 8) : Fin 32768 := ⟨b.val * 2048 + (2040 + i.val), by omega⟩

/-- The second result after the run. -/
def result6 (c : Dev nD) : Buf (Elt Ideal) ((c : Thread nD τ).loc main_v4_1) := fun i =>
  gate (row m c (lastRow (i 0) (i 1))) (i 2)

/-- After the run the second result's array is `result6`. -/
theorem final6 (c : Dev nD) : (dats m 0 c).arrAt 6 cfg0.N = result6 m c := by
  refine (dats m 0 c).arrAt_eq_of_covers 6 _ (by decide +kernel) fun t hf y => ?_
  have h3 : t.val % 4 = 3 := (by decide +kernel : ∀ t : Fin grid0.N, win0_6.flush t = true → t.val % 4 = 3) t hf
  blk_simp
  rw [after0_6]
  obtain ⟨z, i, k, rfl⟩ : ∃ (z : Fin 1) (i : Fin 8) (k : Fin 1024), y = ix3 z i k := ⟨y 0, y 1, y 2, eq_ix3 y⟩
  obtain rfl : z = 0 := Subsingleton.elim _ _
  obtain ⟨b, hb⟩ : ∃ b : Fin 16, b.val = t.val / 4 := ⟨⟨t.val / 4, by have h : t.val < 64 := t.isLt; omega⟩, rfl⟩
  have hemb : (((View.whole main_v4_1).slice (win0_6.rect t)).emb (ix3 0 i k)) = ix3 b i k := by
    blk_ext [idx t]
  rw [hemb, out6 m c t i k (lastRow b i) (by dsimp only [lastRow]; omega)]
  rfl

end Cert.Proof.ConvKernel

end
-- ==== Proof.ConvReference.lean ====
/-
  The short convolution's reference read at an index: row `R` of its first result is `Layer.convRow`, and its second result
  is the end of each sequence's gates.
-/
module

public import proofs.«01_k».proof.Proof.Gen.ConvReferenceIdeal.Run
public import proofs.«01_k».proof.Proof.ConvSpec

@[expose] public section

set_option maxRecDepth 16384

noncomputable section

namespace Cert.Proof.ConvReference

open Cert.ConvReferenceIdeal Cert.ConvReferenceIdeal.Gen Cert.ConvReferenceIdeal.Value Cert.Proof.Layer
open Idealize.ShloMosaic Idealize.ShloMosaic.TcCoe Idealize.SL.Sem

/-- The projected row of the normed stream. -/
def row (x : FVec Ideal S32768x1024 .f32) (g : FVec Ideal S1024 .f32) (w : FVec Ideal S1024x3072 .f32) (R : Fin 32768) :
    Fin 3072 → EReal :=
  rowMul (rowNorm (fun k => x (ix2 R k)) fun k => g (ix1 k)) fun k f => w (ix2 k f)

variable (m : (ℓ : Loc nD τ sig) → Buf (Elt Ideal) ℓ)

/-- The first result, at an index. -/
theorem final (c : Dev nD) (R : Fin 32768) (q : Fin 1024) : res_main_v42 m c (ix2 R q) =
    convRow (fun b s k => m ((c : Thread nD τ).loc main_arg1) (ix3 b s k))
      (row (m ((c : Thread nD τ).loc main_arg0)) (m ((c : Thread nD τ).loc main_arg2)) (m ((c : Thread nD τ).loc main_arg3)))
      (fun s k => m ((c : Thread nD τ).loc main_arg4) (ix2 s k)) R q := by
  pointwise [res_main_v42]
  rfl

/-- The gates with the earlier ones in front, as the reference's lines compute them. -/
def gates (x : FVec Ideal S32768x1024 .f32) (buf : FVec Ideal S16x2x1024 .f32) (g : FVec Ideal S1024 .f32)
    (w : FVec Ideal S1024x3072 .f32) : FVec Ideal S16x8x1024 .f32 :=
  extractStridedSlice S16x8x1024 ![0, 2042, 0] (concatenate S16x2050x1024 1 [⟨S16x2x1024, buf⟩, ⟨S16x2048x1024,
    (shapeCast S16x2048x1024 (mulf (extractStridedSlice S32768x1024 ![0, 1024] (Host.dotGeneral
    dot_S32768x1024_S1024x3072_S32768x3072_1_0_0_1_n_n none (mulf (mulf x (broadcastInDim S32768x1024 ![0, 1]
    bcast_S32768x1_S32768x1024_0_1 (Host.rsqrt (addf (Host.divf (broadcastInDim S32768x1 ![0] bcast_S32768_S32768x1_0
    (Host.reduceAdd (mulf x x) (constant S_ .f32 0x00000000#32) reducesTo_S32768x1024_S32768_d1 h_S_)) (broadcastInDim
    S32768x1 ![] bcast_S_S32768x1 (constant S_ .f32 0x44800000#32))) (broadcastInDim S32768x1 ![] bcast_S_S32768x1
    (constant S_ .f32 0x358637BD#32)))))) (broadcastInDim S32768x1024 ![0, 1] bcast_S1x1024_S32768x1024_0_1
    (broadcastInDim S1x1024 ![1] bcast_S1024_S1x1024_1 g))) w) slices_S32768x3072_S32768x1024_0_1024)
    (extractStridedSlice S32768x1024 ![0, 2048] (Host.dotGeneral dot_S32768x1024_S1024x3072_S32768x3072_1_0_0_1_n_n none
    (mulf (mulf x (broadcastInDim S32768x1024 ![0, 1] bcast_S32768x1_S32768x1024_0_1 (Host.rsqrt (addf (Host.divf
    (broadcastInDim S32768x1 ![0] bcast_S32768_S32768x1_0 (Host.reduceAdd (mulf x x) (constant S_ .f32 0x00000000#32)
    reducesTo_S32768x1024_S32768_d1 h_S_)) (broadcastInDim S32768x1 ![] bcast_S_S32768x1 (constant S_ .f32
    0x44800000#32))) (broadcastInDim S32768x1 ![] bcast_S_S32768x1 (constant S_ .f32 0x358637BD#32)))))) (broadcastInDim
    S32768x1024 ![0, 1] bcast_S1x1024_S32768x1024_0_1 (broadcastInDim S1x1024 ![1] bcast_S1024_S1x1024_1 g))) w)
    slices_S32768x3072_S32768x1024_0_2048)) shapeCasts_S32768x1024_S16x2048x1024)⟩]
    concatenates_S16x2x1024_S16x2048x1024_S16x2050x1024_d1) slices_S16x2050x1024_S16x8x1024_0_2042_0

/-- The second result, at an index. -/
theorem gates_apply (x : FVec Ideal S32768x1024 .f32) (buf : FVec Ideal S16x2x1024 .f32) (g : FVec Ideal S1024 .f32)
    (w : FVec Ideal S1024x3072 .f32) (b : Fin 16) (i : Fin 8) (k : Fin 1024) (R : Fin 32768)
    (hR : R.val = b.val * 2048 + (2040 + i.val)) : gates x buf g w (ix3 b i k) = gate (row x g w R) k := by
  have h : b.val * 2048 + (2042 + i.val - 2) < 32768 := by clear hR; omega
  obtain rfl : R = ⟨b.val * 2048 + (2042 + i.val - 2), h⟩ := Fin.ext (by dsimp only; omega)
  pointwise [gates]
  rw [dif_neg (by omega)]
  rfl

end Cert.Proof.ConvReference

end
-- ==== Proof.FfnTailKernel.lean ====
/-
  The feed-forward call on the samples' and meta tokens' rows, read at an index: row `i` of its result is
  `Layer.ffnRow` of row `i` of the two activations.
-/
module

public import proofs.«01_k».proof.Proof.Gen.FfnTailIdeal.Value
public import proofs.«01_k».proof.Proof.Spec
public import Idealize.ShloMosaic.Lib.Pipeline.ValueKit

@[expose] public section

set_option maxRecDepth 16384

noncomputable section

namespace Cert.Proof.FfnTailKernel

open Cert.FfnTailIdeal Cert.FfnTailIdeal.Gen Cert.Proof.Layer Idealize.ShloMosaic Idealize.ShloMosaic.TcCoe Idealize.SL.Sem

/-- The stream after the attention's projection, at an index; the call adds a row `v7` that is zero here. -/
theorem stream_apply (v0 : Vec Ideal S256x1024 .f32) (v1 : Vec Ideal S256x1024 .bf16) (v3 : Vec Ideal S1024x1024 .bf16)
    (v7 : Vec Ideal S1x1024 .f32) (h7 : ∀ c : Fin 1024, v7 (ix2 0 c) = (0 : EReal)) (r : Fin 256) (c : Fin 1024) :
    k0_pay2 v0 v1 v3 v7 (ix2 r c)
      = plusMul (fun c => v0 (ix2 r c)) (fun c => v1 (ix2 r c)) (fun k c => v3 (ix2 k c)) c := by
  pointwise [k0_pay2]
  rw [h7, add_zero]
  rfl

/-- The hidden row of the gated feed-forward, at an index. -/
theorem hidden_apply (v0 : Vec Ideal S256x1024 .f32) (v1 : Vec Ideal S256x1024 .bf16) (v3 : Vec Ideal S1024x1024 .bf16)
    (v7 v11 : Vec Ideal S1x1024 .f32) (v26 v31 : Vec Ideal S1024x2816 .bf16) (r : Fin 256) (c : Fin 2816) :
    k0_pay3 v0 v1 v3 v7 v11 v26 v31 (ix2 r c)
      = hidden (fun c => k0_pay2 v0 v1 v3 v7 (ix2 r c)) (fun c => v11 (ix2 0 c)) (fun k c => v26 (ix2 k c))
          (fun k c => v31 (ix2 k c)) c := by
  pointwise [k0_pay3]
  rfl

/-- The stored block, at an index. -/
theorem stored_apply (v10 : Vec Ideal S256x1024 .f32) (v35 : Vec Ideal S256x2816 .bf16) (v36 : Vec Ideal S2816x1024 .bf16)
    (v40 : Vec Ideal S1x1024 .f32) (r : Fin 256) (c : Fin 1024) :
    k0_pay1 v10 v35 v36 v40 (ix2 r c)
      = rowNorm (plusMul (fun c => v10 (ix2 r c)) (fun c => v35 (ix2 r c)) (fun k c => v36 (ix2 k c)))
          (fun c => v40 (ix2 0 c)) c := by
  pointwise [k0_pay1]
  rfl

/-- What a grid point leaves, at an index: the feed-forward part of that row of its blocks. -/
theorem block_apply (v0 : Vec Ideal S256x1024 .f32) (v1 : Vec Ideal S256x1024 .bf16) (v3 : Vec Ideal S1024x1024 .bf16)
    (v7 v11 : Vec Ideal S1x1024 .f32) (v26 v31 : Vec Ideal S1024x2816 .bf16) (v36 : Vec Ideal S2816x1024 .bf16)
    (v40 : Vec Ideal S1x1024 .f32) (h7 : ∀ c : Fin 1024, v7 (ix2 0 c) = (0 : EReal)) (r : Fin 256) (c : Fin 1024) :
    k0_pay1 (k0_pay2 v0 v1 v3 v7) (k0_pay3 v0 v1 v3 v7 v11 v26 v31) v36 v40 (ix2 r c)
      = ffnRow (fun c => v0 (ix2 r c)) (fun c => v1 (ix2 r c)) (fun k c => v3 (ix2 k c)) (fun c => v11 (ix2 0 c))
          (fun k c => v26 (ix2 k c)) (fun k c => v31 (ix2 k c)) (fun k c => v36 (ix2 k c)) (fun c => v40 (ix2 0 c)) c := by
  rw [stored_apply]
  simp only [hidden_apply, stream_apply v0 v1 v3 v7 h7]
  rfl

variable (m : (ℓ : Loc nD τ sig) → Buf (Elt Ideal) ℓ)

/-- The result the feed-forward call computes, from the arrays it is launched on. -/
def result (c : Dev nD) : Buf (Elt Ideal) ((c : Thread nD τ).loc main_v8) := fun i =>
  ffnRow (fun k => m ((c : Thread nD τ).loc main_arg0) (ix2 (i 0) k)) (fun k => m ((c : Thread nD τ).loc main_arg1) (ix2 (i 0) k))
    (fun k j => m ((c : Thread nD τ).loc main_arg2) (ix2 k j)) (fun k => m ((c : Thread nD τ).loc main_arg3) (ix1 k))
    (fun k j => m ((c : Thread nD τ).loc main_arg4) (ix2 k j)) (fun k j => m ((c : Thread nD τ).loc main_arg5) (ix2 k j))
    (fun k j => m ((c : Thread nD τ).loc main_arg6) (ix2 k j)) (fun k => m ((c : Thread nD τ).loc main_arg7) (ix1 k)) (i 1)

/-- The printed index maps: the activations move with the result by a block of rows; the weights stay. -/
theorem idx (t : Fin cfg0.N) : win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0]) t

/-- The host lines before the call leave each prepared array at its argument, cast or reshaped. -/
theorem entry (c : Dev nD) :
    V m c main_v0 = truncf (F := Ideal) .bf16 (m ((c : Thread nD τ).loc main_arg1)) bitsLt_bf16_f32
    ∧ V m c main_v1 = truncf (F := Ideal) .bf16 (m ((c : Thread nD τ).loc main_arg2)) bitsLt_bf16_f32
    ∧ V m c main_v2 = broadcastInDim S1x1024 ![] bcast_S_S1x1024 (constant (F := Ideal) S_ .f32 0x00000000#32)
    ∧ V m c main_v3 = shapeCast S1x1024 (m ((c : Thread nD τ).loc main_arg3)) shapeCasts_S1024_S1x1024
    ∧ V m c main_v4 = truncf (F := Ideal) .bf16 (m ((c : Thread nD τ).loc main_arg4)) bitsLt_bf16_f32
    ∧ V m c main_v5 = truncf (F := Ideal) .bf16 (m ((c : Thread nD τ).loc main_arg5)) bitsLt_bf16_f32
    ∧ V m c main_v6 = truncf (F := Ideal) .bf16 (m ((c : Thread nD τ).loc main_arg6)) bitsLt_bf16_f32
    ∧ V m c main_v7 = shapeCast S1x1024 (m ((c : Thread nD τ).loc main_arg7)) shapeCasts_S1024_S1x1024 := by
  dsimp only [V, hostOps0]
  refine ⟨?_, ?_, ?_, ?_, ?_, ?_, ?_, ?_⟩ <;> after_results <;> rfl

set_option maxHeartbeats 2000000 in
/-- The blocks at a grid point, read off the arrays the call is launched on. -/
theorem blocks (c : Dev nD) (t : Fin cfg0.N) (r : Fin 256) (i : Fin 256) (hi : i.val = t.val * 256 + r.val) :
    (∀ k : Fin 1024, iblk m c 0 t (ix2 r k) = m ((c : Thread nD τ).loc main_arg0) (ix2 i k))
    ∧ (∀ k : Fin 1024, iblk m c 1 t (ix2 r k) = m ((c : Thread nD τ).loc main_arg1) (ix2 i k))
    ∧ (∀ (k : Fin 1024) (j : Fin 1024), iblk m c 2 t (ix2 k j) = m ((c : Thread nD τ).loc main_arg2) (ix2 k j))
    ∧ (∀ k : Fin 1024, iblk m c 3 t (ix2 0 k) = (0 : EReal))
    ∧ (∀ k : Fin 1024, iblk m c 4 t (ix2 0 k) = m ((c : Thread nD τ).loc main_arg3) (ix1 k))
    ∧ (∀ (k : Fin 1024) (j : Fin 2816), iblk m c 5 t (ix2 k j) = m ((c : Thread nD τ).loc main_arg4) (ix2 k j))
    ∧ (∀ (k : Fin 1024) (j : Fin 2816), iblk m c 6 t (ix2 k j) = m ((c : Thread nD τ).loc main_arg5) (ix2 k j))
    ∧ (∀ (k : Fin 2816) (j : Fin 1024), iblk m c 7 t (ix2 k j) = m ((c : Thread nD τ).loc main_arg6) (ix2 k j))
    ∧ (∀ k : Fin 1024, iblk m c 8 t (ix2 0 k) = m ((c : Thread nD τ).loc main_arg7) (ix1 k)) := by
  obtain ⟨e0, e1, e2, e3, e4, e5, e6, e7⟩ := entry m c
  refine ⟨fun k => ?_, fun k => ?_, fun k j => ?_, fun k => ?_, fun k => ?_, fun k j => ?_, fun k j => ?_, fun k j => ?_,
    fun k => ?_⟩
  · show V m c main_arg0 _ = _
    rw [V_main_arg0]
    blk_ext [iblk, idx t]
  · show V m c main_v0 _ = _
    rw [e0]
    show m ((c : Thread nD τ).loc main_arg1) _ = _
    blk_ext [iblk, idx t]
  · show V m c main_v1 _ = _
    rw [e1]
    show m ((c : Thread nD τ).loc main_arg2) _ = _
    blk_ext [iblk, idx t]
  · show V m c main_v2 _ = _
    rw [e2]
    exact Ideal.ofBits_zero_f32
  · show V m c main_v3 _ = _
    rw [e3, show (win0_4.blk t).view.emb (ix2 0 k) = ix2 0 k from by blk_ext [idx t]]
    pointwise
  · show V m c main_v4 _ = _
    rw [e4]
    show m ((c : Thread nD τ).loc main_arg4) _ = _
    blk_ext [iblk, idx t]
  · show V m c main_v5 _ = _
    rw [e5]
    show m ((c : Thread nD τ).loc main_arg5) _ = _
    blk_ext [iblk, idx t]
  · show V m c main_v6 _ = _
    rw [e6]
    show m ((c : Thread nD τ).loc main_arg6) _ = _
    blk_ext [iblk, idx t]
  · show V m c main_v7 _ = _
    rw [e7, show (win0_8.blk t).view.emb (ix2 0 k) = ix2 0 k from by blk_ext [idx t]]
    pointwise

/-- After the run the call's result array is `result`. -/
theorem final (c : Dev nD) : (dats m 0 c).arrAt 9 cfg0.N = result m c := by
  refine (dats m 0 c).arrAt_eq_of_covers 9 _ (by decide +kernel) fun t hf y => ?_
  blk_simp
  rw [after0_9]
  frame_out
  obtain ⟨r, q, rfl⟩ : ∃ (r : Fin 256) (q : Fin 1024), y = ix2 r q := ⟨y 0, y 1, eq_ix2 y⟩
  obtain ⟨i, hi⟩ : ∃ i : Fin 256, i.val = t.val * 256 + r.val :=
    ⟨⟨t.val * 256 + r.val, by have := t.isLt; have h : cfg0.grid.N = 1 := rfl; omega⟩, rfl⟩
  have hemb : (((View.whole main_v8).slice (win0_9.rect t)).emb (ix2 r q)) = ix2 i q := by
    blk_ext [idx t]
  obtain ⟨b0, b1, b2, b3, b4, b5, b6, b7, b8⟩ := blocks m c t r i hi
  rw [hemb, block_apply _ _ _ _ _ _ _ _ _ b3]
  simp only [b0, b1, b2, b4, b5, b6, b7, b8]
  rfl

end Cert.Proof.FfnTailKernel

end
-- ==== Proof.FfnTailReference.lean ====
/-
  The feed-forward reference on the samples' and meta tokens' rows, read at an index: row `i` of its result is
  `Layer.ffnRow` of row `i` of the two activations.
-/
module

public import proofs.«01_k».proof.Proof.Gen.FfnTailReferenceIdeal.Run
public import proofs.«01_k».proof.Proof.Spec

@[expose] public section

set_option maxRecDepth 16384

noncomputable section

namespace Cert.Proof.FfnTailReference

open Cert.FfnTailReferenceIdeal Cert.FfnTailReferenceIdeal.Gen Cert.FfnTailReferenceIdeal.Value Cert.Proof.Layer
open Idealize.ShloMosaic Idealize.ShloMosaic.TcCoe Idealize.SL.Sem

variable (m : (ℓ : Loc nD τ sig) → Buf (Elt Ideal) ℓ)

/-- The reference's result, at an index. -/
theorem final (c : Dev nD) (i : Fin 256) (q : Fin 1024) : res_main_v33 m c (ix2 i q) =
  ffnRow (fun k => m ((c : Thread nD τ).loc main_arg0) (ix2 i k)) (fun k => m ((c : Thread nD τ).loc main_arg1) (ix2 i k))
    (fun k j => m ((c : Thread nD τ).loc main_arg2) (ix2 k j)) (fun k => m ((c : Thread nD τ).loc main_arg3) (ix1 k))
    (fun k j => m ((c : Thread nD τ).loc main_arg4) (ix2 k j)) (fun k j => m ((c : Thread nD τ).loc main_arg5) (ix2 k j))
    (fun k j => m ((c : Thread nD τ).loc main_arg6) (ix2 k j)) (fun k => m ((c : Thread nD τ).loc main_arg7) (ix1 k)) q := by
  pointwise [res_main_v33]
  rfl
end Cert.Proof.FfnTailReference

end
-- ==== Proof.ProjTailKernel.lean ====
/-
  The projection call on the samples' and meta tokens' rows, read at an index: each row of its results is the layer's normed row
  times one of the weights; the transposed results are laid out in blocks of 128 tokens.
-/
module

public import proofs.«01_k».proof.Proof.Gen.ProjTailIdeal.Frame
public import proofs.«01_k».proof.Proof.Spec
public import Idealize.ShloMosaic.Lib.Pipeline.ValueKit

@[expose] public section

set_option maxRecDepth 16384

noncomputable section

namespace Cert.Proof.ProjTailKernel

open Cert.ProjTailIdeal Cert.ProjTailIdeal.Gen Cert.Proof.Layer Idealize.ShloMosaic Idealize.ShloMosaic.TcCoe Idealize.SL.Sem

/-- The normed rows of a block, at an index. -/
theorem norm_apply (v0 : Vec Ideal S256x1024 .f32) (v1 : Vec Ideal S1x1024 .f32) (r : Fin 256) (c : Fin 1024) :
    k0_pay3 v0 v1 (ix2 r c) = rowNorm (fun c => v0 (ix2 r c)) (fun c => v1 (ix2 0 c)) c := by
  pointwise [k0_pay3]
  rfl

/-- The normed rows times the weights kept in rows, at an index. -/
theorem row_apply (v0 : Vec Ideal S256x1024 .f32) (v1 : Vec Ideal S1x1024 .f32) (v16 : Vec Ideal S1024x576 .bf16)
    (r : Fin 256) (c : Fin 576) :
    k0_pay4 v0 v1 v16 (ix2 r c)
      = ∑ k, rowNorm (fun c => v0 (ix2 r c)) (fun c => v1 (ix2 0 c)) k * v16 (ix2 k c) := by
  pointwise [k0_pay4]
  simp only [norm_apply]

/-- The weights kept in columns times the normed rows, at an index. -/
theorem col_apply (v0 : Vec Ideal S256x1024 .f32) (v1 : Vec Ideal S1x1024 .f32) (v31 : Vec Ideal S1808x1024 .bf16)
    (f : Fin 1808) (r : Fin 256) :
    k0_pay10 (k0_pay3 v0 v1) v31 (ix2 f r)
      = ∑ k, v31 (ix2 f k) * rowNorm (fun c => v0 (ix2 r c)) (fun c => v1 (ix2 0 c)) k := by
  pointwise [k0_pay10]
  simp only [norm_apply]

/-- The block of the transposed queries: a row of the product, 128 tokens to a tile. -/
theorem tile9 (x0 : Vec Ideal S256x1024 .f32) (x1 : Vec Ideal S1x1024 .f32) (x2 : Vec Ideal S1024x576 .bf16)
    (x3 : Vec Ideal S1808x1024 .bf16) (b : Fin 2) (f : Fin 1024) (l : Fin 128) (f' : Fin 1808) (r : Fin 256)
    (hf : f'.val = 0 + f.val) (hr : r.val = b.val * 128 + l.val) :
    out0_9 x0 x1 x2 x3 (ix3 b f l) = k0_pay10 (k0_pay3 x0 x1) x3 (ix2 f' r) := by
  unfold out0_9
  simp (discharger := decide) only [k0_pay19, k0_pay20, View.ld_unit_lit']
  canon_tiles x h
  all_goals
    change b.val = _ at h0
    change f.val = _ at h1
    change l.val = _ at h2
    pointwise [k0_pay17, k0_pay16, k0_pay12, k0_pay11]
    refine congrArg _ (congrArg₂ ix2 (Fin.ext ?_) (Fin.ext ?_)) <;> dsimp only <;> omega

/-- The block of the transposed index queries: a row of the product, 128 tokens to a tile. -/
theorem tile10 (x0 : Vec Ideal S256x1024 .f32) (x1 : Vec Ideal S1x1024 .f32) (x2 : Vec Ideal S1024x576 .bf16)
    (x3 : Vec Ideal S1808x1024 .bf16) (b : Fin 2) (f : Fin 512) (l : Fin 128) (f' : Fin 1808) (r : Fin 256)
    (hf : f'.val = 1024 + f.val) (hr : r.val = b.val * 128 + l.val) :
    out0_10 x0 x1 x2 x3 (ix3 b f l) = k0_pay10 (k0_pay3 x0 x1) x3 (ix2 f' r) := by
  unfold out0_10
  simp (discharger := decide) only [k0_pay19, k0_pay20, View.ld_unit_lit']
  canon_tiles x h
  all_goals
    change b.val = _ at h0
    change f.val = _ at h1
    change l.val = _ at h2
    pointwise [k0_pay18, k0_pay16, k0_pay13, k0_pay11]
    refine congrArg _ (congrArg₂ ix2 (Fin.ext ?_) (Fin.ext ?_)) <;> dsimp only <;> omega

/-- The block of the transposed values: a row of the product, 128 tokens to a tile. -/
theorem tile11 (x0 : Vec Ideal S256x1024 .f32) (x1 : Vec Ideal S1x1024 .f32) (x2 : Vec Ideal S1024x576 .bf16)
    (x3 : Vec Ideal S1808x1024 .bf16) (b : Fin 2) (f : Fin 256) (l : Fin 128) (f' : Fin 1808) (r : Fin 256)
    (hf : f'.val = 1536 + f.val) (hr : r.val = b.val * 128 + l.val) :
    out0_11 x0 x1 x2 x3 (ix3 b f l) = k0_pay10 (k0_pay3 x0 x1) x3 (ix2 f' r) := by
  unfold out0_11
  simp (discharger := decide) only [k0_pay19, k0_pay20, View.ld_unit_lit']
  canon_tiles x h
  all_goals
    change b.val = _ at h0
    change f.val = _ at h1
    change l.val = _ at h2
    pointwise [k0_pay1, k0_pay16, k0_pay14, k0_pay11]
    refine congrArg _ (congrArg₂ ix2 (Fin.ext ?_) (Fin.ext ?_)) <;> dsimp only <;> omega

/-- The block of the transposed index weights: a row of the product, 128 tokens to a tile. -/
theorem tile12 (x0 : Vec Ideal S256x1024 .f32) (x1 : Vec Ideal S1x1024 .f32) (x2 : Vec Ideal S1024x576 .bf16)
    (x3 : Vec Ideal S1808x1024 .bf16) (b : Fin 2) (f : Fin 8) (l : Fin 128) (f' : Fin 1808) (r : Fin 256)
    (hf : f'.val = 1792 + f.val) (hr : r.val = b.val * 128 + l.val) :
    out0_12 x0 x1 x2 x3 (ix3 b f l) = k0_pay10 (k0_pay3 x0 x1) x3 (ix2 f' r) * Ideal.ofBits .f32 0x3EB504F3#32 := by
  unfold out0_12
  simp (discharger := decide) only [k0_pay19, k0_pay20, View.ld_unit_lit']
  canon_tiles x h
  all_goals
    change b.val = _ at h0
    change f.val = _ at h1
    change l.val = _ at h2
    pointwise [k0_pay2, k0_pay16, k0_pay15, k0_pay11]
    refine congrArg (· * _) <| congrArg _ (congrArg₂ ix2 (Fin.ext ?_) (Fin.ext ?_)) <;> dsimp only <;> omega

variable (m : (ℓ : Loc nD τ sig) → Buf (Elt Ideal) ℓ)

/-- The host lines before the call: the weights side by side, the transposed weights one below another, and the gain as a row. -/
theorem entry (c : Dev nD) :
    V m c main_v1 = truncf (F := Ideal) .bf16 (concatenate S1024x576 1
      [⟨S1024x256, m ((c : Thread nD τ).loc main_arg3)⟩, ⟨S1024x256, m ((c : Thread nD τ).loc main_arg4)⟩,
        ⟨S1024x64, m ((c : Thread nD τ).loc main_arg6)⟩] concatenates_S1024x256_S1024x256_S1024x64_S1024x576_d1) bitsLt_bf16_f32
    ∧ V m c main_v12 = truncf (F := Ideal) .bf16 (concatenate S1808x1024 0
      [⟨S1024x1024, mulf (F := Ideal) (transpose S1024x1024 [1, 0] (m ((c : Thread nD τ).loc main_arg2)) transposes_S1024x1024_S1024x1024_1_0)
          (broadcastInDim S1024x1024 ![] bcast_S_S1024x1024 (constant (F := Ideal) S_ .f32 0x3E000000#32))⟩,
        ⟨S512x1024, mulf (F := Ideal) (transpose S512x1024 [1, 0] (m ((c : Thread nD τ).loc main_arg5)) transposes_S1024x512_S512x1024_1_0)
          (broadcastInDim S512x1024 ![] bcast_S_S512x1024 (constant (F := Ideal) S_ .f32 0x3E000000#32))⟩,
        ⟨S256x1024, transpose S256x1024 [1, 0] (m ((c : Thread nD τ).loc main_arg4)) transposes_S1024x256_S256x1024_1_0⟩,
        ⟨S8x1024, transpose S8x1024 [1, 0] (m ((c : Thread nD τ).loc main_arg7)) transposes_S1024x8_S8x1024_1_0⟩,
        ⟨S8x1024, broadcastInDim S8x1024 ![] bcast_S_S8x1024 (constant (F := Ideal) S_ .f32 0x00000000#32)⟩]
      concatenates_S1024x1024_S512x1024_S256x1024_S8x1024_S8x1024_S1808x1024_d0) bitsLt_bf16_f32
    ∧ V m c main_v13 = shapeCast S1x1024 (m ((c : Thread nD τ).loc main_arg1)) shapeCasts_S1024_S1x1024 := by
  dsimp only [V, hostOps0]
  refine ⟨?_, ?_, ?_⟩ <;> after_results <;> rfl

/-- The layer's normed row `i`. -/
def normed (c : Dev nD) (i : Fin 256) : Fin 1024 → EReal :=
  rowNorm (fun k => m ((c : Thread nD τ).loc main_arg0) (ix2 i k)) fun k => m ((c : Thread nD τ).loc main_arg1) (ix1 k)

/-- The weights of the queries. -/
def wq (c : Dev nD) (k : Fin 1024) (f : Fin 1024) : EReal := m ((c : Thread nD τ).loc main_arg2) (ix2 k f)
/-- The weights of the keys. -/
def wk (c : Dev nD) (k : Fin 1024) (f : Fin 256) : EReal := m ((c : Thread nD τ).loc main_arg3) (ix2 k f)
/-- The weights of the values. -/
def wv (c : Dev nD) (k : Fin 1024) (f : Fin 256) : EReal := m ((c : Thread nD τ).loc main_arg4) (ix2 k f)
/-- The weights of the index queries. -/
def wiq (c : Dev nD) (k : Fin 1024) (f : Fin 512) : EReal := m ((c : Thread nD τ).loc main_arg5) (ix2 k f)
/-- The weights of the index keys. -/
def wik (c : Dev nD) (k : Fin 1024) (f : Fin 64) : EReal := m ((c : Thread nD τ).loc main_arg6) (ix2 k f)
/-- The weights of the index weights. -/
def wiw (c : Dev nD) (k : Fin 1024) (f : Fin 8) : EReal := m ((c : Thread nD τ).loc main_arg7) (ix2 k f)

/-- The weights side by side, at an index: the keys', the values' and the index keys'. -/
theorem rows_apply (c : Dev nD) (k : Fin 1024) (j : Fin 576) :
    (∀ f : Fin 256, j.val = f.val → V m c main_v1 (ix2 k j) = wk m c k f)
    ∧ (∀ f : Fin 256, j.val = 256 + f.val → V m c main_v1 (ix2 k j) = wv m c k f)
    ∧ (∀ f : Fin 64, j.val = 512 + f.val → V m c main_v1 (ix2 k j) = wik m c k f) := by
  rw [(entry m c).1]
  pointwise
  refine ⟨fun f h => ?_, fun f h => ?_, fun f h => ?_⟩ <;> split_ifs <;>
    first | omega | exact congrArg _ (congrArg (ix2 k) (Fin.ext (by dsimp only; omega)))

/-- The transposed weights one below another, at an index: the queries' and the index queries' scaled, the values' and the index
    weights' as they are. -/
theorem cols_apply (c : Dev nD) (k : Fin 1024) (j : Fin 1808) :
    (∀ f : Fin 1024, j.val = 0 + f.val → V m c main_v12 (ix2 j k) = wq m c k f * Ideal.ofBits .f32 0x3E000000#32)
    ∧ (∀ f : Fin 512, j.val = 1024 + f.val → V m c main_v12 (ix2 j k) = wiq m c k f * Ideal.ofBits .f32 0x3E000000#32)
    ∧ (∀ f : Fin 256, j.val = 1536 + f.val → V m c main_v12 (ix2 j k) = wv m c k f)
    ∧ (∀ f : Fin 8, j.val = 1792 + f.val → V m c main_v12 (ix2 j k) = wiw m c k f) := by
  rw [(entry m c).2.1]
  pointwise
  refine ⟨fun f h => ?_, fun f h => ?_, fun f h => ?_, fun f h => ?_⟩ <;> split_ifs <;>
    first
    | omega
    | exact congrArg _ (congrArg (ix2 k) (Fin.ext (by dsimp only; omega)))
    | exact congrArg (· * _) (congrArg (m _) (congrArg (ix2 k) (Fin.ext (by dsimp only; omega))))

/-- The printed index maps: the activations and the results move by a block of 256 tokens; the weights stay. -/
theorem idx (t : Fin cfg0.N) : win0_0.index t = ![t.val, 0] ∧ win0_1.index t = ![0, 0] ∧ win0_2.index t = ![0, 0] ∧ win0_3.index t = ![0, 0] ∧
    win0_4.index t = ![t.val, 0] ∧ win0_5.index t = ![t.val, 0] ∧ win0_6.index t = ![t.val, 0] ∧ win0_7.index t = ![t.val,
    0] ∧ win0_8.index t = ![t.val, 0] ∧ win0_9.index t = ![t.val, 0, 0] ∧ win0_10.index t = ![t.val, 0, 0] ∧ win0_11.index
    t = ![t.val, 0, 0] ∧ win0_12.index t = ![t.val, 0, 0] :=
  (by decide +kernel : ∀ t : Fin grid0.N, win0_0.index t = ![t.val, 0] ∧ win0_1.index t = ![0, 0] ∧ win0_2.index t = ![0, 0] ∧ win0_3.index t = ![0, 0] ∧
    win0_4.index t = ![t.val, 0] ∧ win0_5.index t = ![t.val, 0] ∧ win0_6.index t = ![t.val, 0] ∧ win0_7.index t = ![t.val,
    0] ∧ win0_8.index t = ![t.val, 0] ∧ win0_9.index t = ![t.val, 0, 0] ∧ win0_10.index t = ![t.val, 0, 0] ∧ win0_11.index
    t = ![t.val, 0, 0] ∧ win0_12.index t = ![t.val, 0, 0]) t

set_option maxHeartbeats 2000000 in
/-- The blocks at a grid point, read off the arrays the call is launched on. -/
theorem blocks (c : Dev nD) (t : Fin cfg0.N) (r : Fin 256) (i : Fin 256) (hi : i.val = t.val * 256 + r.val) :
    rowNorm (fun k => iblk m c 0 t (ix2 r k)) (fun k => iblk m c 1 t (ix2 0 k)) = normed m c i
    ∧ (∀ (k : Fin 1024) (j : Fin 576), iblk m c 2 t (ix2 k j) = V m c main_v1 (ix2 k j))
    ∧ (∀ (j : Fin 1808) (k : Fin 1024), iblk m c 3 t (ix2 j k) = V m c main_v12 (ix2 j k)) := by
  refine ⟨?_, fun k j => ?_, fun j k => ?_⟩
  · refine congrArg₂ rowNorm (funext fun k => ?_) (funext fun k => ?_)
    · show V m c main_arg0 _ = _
      rw [V_main_arg0]
      blk_ext [iblk, idx t]
    · show V m c main_v13 _ = _
      rw [(entry m c).2.2, show (win0_1.blk t).view.emb (ix2 0 k) = ix2 0 k from by blk_ext [idx t]]
      pointwise
  · show V m c main_v1 _ = _
    blk_ext [iblk, idx t]
  · show V m c main_v12 _ = _
    blk_ext [iblk, idx t]

/-- The token of a place in a block of rows. -/
theorem token (t : Fin cfg0.N) (r : Fin 256) : ∃ i : Fin 256, i.val = t.val * 256 + r.val :=
  ⟨⟨t.val * 256 + r.val, by have h : t.val < 1 := t.isLt; omega⟩, rfl⟩

/-- A row of a block's product with the weights in columns, for scaled weights. -/
theorem col_scaled (c : Dev nD) (t : Fin cfg0.N) (r : Fin 256) (i : Fin 256) (hi : i.val = t.val * 256 + r.val) {n : ℕ}
    (w : Fin 1024 → Fin n → EReal) (j : Fin 1808) (f : Fin n)
    (h : ∀ k, V m c main_v12 (ix2 j k) = w k f * Ideal.ofBits .f32 0x3E000000#32) :
    k0_pay10 (k0_pay3 (iblk m c 0 t) (iblk m c 1 t)) (iblk m c 3 t) (ix2 j r)
      = rowMul (normed m c i) w f * Ideal.ofBits .f32 0x3E000000#32 := by
  obtain ⟨b0, -, b3⟩ := blocks m c t r i hi
  rw [col_apply, b0]
  simp only [b3, h]
  exact scaled_rowMul _ _ _

/-- A row of a block's product with the weights in columns, for weights kept as they are. -/
theorem col_plain (c : Dev nD) (t : Fin cfg0.N) (r : Fin 256) (i : Fin 256) (hi : i.val = t.val * 256 + r.val) {n : ℕ}
    (w : Fin 1024 → Fin n → EReal) (j : Fin 1808) (f : Fin n) (h : ∀ k, V m c main_v12 (ix2 j k) = w k f) :
    k0_pay10 (k0_pay3 (iblk m c 0 t) (iblk m c 1 t)) (iblk m c 3 t) (ix2 j r) = rowMul (normed m c i) w f := by
  obtain ⟨b0, -, b3⟩ := blocks m c t r i hi
  rw [col_apply, b0]
  simp only [b3, h]
  exact Finset.sum_congr rfl fun k _ => mul_comm _ _

/-- A row of a block's product with the weights in rows. -/
theorem row_plain (c : Dev nD) (t : Fin cfg0.N) (r : Fin 256) (i : Fin 256) (hi : i.val = t.val * 256 + r.val) {n : ℕ}
    (w : Fin 1024 → Fin n → EReal) (j : Fin 576) (f : Fin n) (h : ∀ k, V m c main_v1 (ix2 k j) = w k f) :
    k0_pay4 (iblk m c 0 t) (iblk m c 1 t) (iblk m c 2 t) (ix2 r j) = rowMul (normed m c i) w f := by
  obtain ⟨b0, b2, -⟩ := blocks m c t r i hi
  rw [row_apply, b0]
  simp only [b2, h]
  rfl

/-- Token `l` of the 128-token block `b`. -/
def tokenAt (b : Fin 2) (l : Fin 128) : Fin 256 := ⟨b.val * 128 + l.val, by omega⟩

/-- The keys after the run. -/
def result4 (c : Dev nD) : Buf (Elt Ideal) ((c : Thread nD τ).loc main_v14_0) := fun i => rowMul (normed m c (i 0)) (wk m c) (i 1)

/-- After the run the array of the keys is `result4`. -/
theorem final4 (c : Dev nD) : (dats m 0 c).arrAt 4 cfg0.N = result4 m c := by
  refine (dats m 0 c).arrAt_eq_of_covers 4 _ (by decide +kernel) fun t hf y => ?_
  blk_simp
  rw [after0_4]
  frame_out
  obtain ⟨r, q, rfl⟩ : ∃ (r : Fin 256) (q : Fin 256), y = ix2 r q := ⟨y 0, y 1, eq_ix2 y⟩
  obtain ⟨i, hi⟩ := token t r
  have hemb : (((View.whole main_v14_0).slice (win0_4.rect t)).emb (ix2 r q)) = ix2 i q := by
    blk_ext [idx t]
  rw [hemb]
  pointwise [k0_pay5]
  exact row_plain m c t r i hi (wk m c) _ q fun k => (rows_apply m c k _).1 q rfl

/-- The values after the run. -/
def result5 (c : Dev nD) : Buf (Elt Ideal) ((c : Thread nD τ).loc main_v14_1) := fun i => rowMul (normed m c (i 0)) (wv m c) (i 1)

/-- After the run the array of the values is `result5`. -/
theorem final5 (c : Dev nD) : (dats m 0 c).arrAt 5 cfg0.N = result5 m c := by
  refine (dats m 0 c).arrAt_eq_of_covers 5 _ (by decide +kernel) fun t hf y => ?_
  blk_simp
  rw [after0_5]
  frame_out
  obtain ⟨r, q, rfl⟩ : ∃ (r : Fin 256) (q : Fin 256), y = ix2 r q := ⟨y 0, y 1, eq_ix2 y⟩
  obtain ⟨i, hi⟩ := token t r
  have hemb : (((View.whole main_v14_1).slice (win0_5.rect t)).emb (ix2 r q)) = ix2 i q := by
    blk_ext [idx t]
  rw [hemb]
  pointwise [k0_pay6]
  exact row_plain m c t r i hi (wv m c) _ q fun k => (rows_apply m c k _).2.1 q rfl

/-- The index keys after the run. -/
def result6 (c : Dev nD) : Buf (Elt Ideal) ((c : Thread nD τ).loc main_v14_2) := fun i => rowMul (normed m c (i 0)) (wik m c) (i 1)

/-- After the run the array of the index keys is `result6`. -/
theorem final6 (c : Dev nD) : (dats m 0 c).arrAt 6 cfg0.N = result6 m c := by
  refine (dats m 0 c).arrAt_eq_of_covers 6 _ (by decide +kernel) fun t hf y => ?_
  blk_simp
  rw [after0_6]
  frame_out
  obtain ⟨r, q, rfl⟩ : ∃ (r : Fin 256) (q : Fin 64), y = ix2 r q := ⟨y 0, y 1, eq_ix2 y⟩
  obtain ⟨i, hi⟩ := token t r
  have hemb : (((View.whole main_v14_2).slice (win0_6.rect t)).emb (ix2 r q)) = ix2 i q := by
    blk_ext [idx t]
  rw [hemb]
  pointwise [k0_pay7]
  exact row_plain m c t r i hi (wik m c) _ q fun k => (rows_apply m c k _).2.2 q rfl

/-- The keys in the short format after the run. -/
def result7 (c : Dev nD) : Buf (Elt Ideal) ((c : Thread nD τ).loc main_v14_3) := fun i => rowMul (normed m c (i 0)) (wk m c) (i 1)

/-- After the run the array of the keys in the short format is `result7`. -/
theorem final7 (c : Dev nD) : (dats m 0 c).arrAt 7 cfg0.N = result7 m c := by
  refine (dats m 0 c).arrAt_eq_of_covers 7 _ (by decide +kernel) fun t hf y => ?_
  blk_simp
  rw [after0_7]
  frame_out
  obtain ⟨r, q, rfl⟩ : ∃ (r : Fin 256) (q : Fin 256), y = ix2 r q := ⟨y 0, y 1, eq_ix2 y⟩
  obtain ⟨i, hi⟩ := token t r
  have hemb : (((View.whole main_v14_3).slice (win0_7.rect t)).emb (ix2 r q)) = ix2 i q := by
    blk_ext [idx t]
  rw [hemb]
  pointwise [k0_pay8, k0_pay5]
  exact row_plain m c t r i hi (wk m c) _ q fun k => (rows_apply m c k _).1 q rfl

/-- The index keys in the short format after the run. -/
def result8 (c : Dev nD) : Buf (Elt Ideal) ((c : Thread nD τ).loc main_v14_4) := fun i => rowMul (normed m c (i 0)) (wik m c) (i 1)

/-- After the run the array of the index keys in the short format is `result8`. -/
theorem final8 (c : Dev nD) : (dats m 0 c).arrAt 8 cfg0.N = result8 m c := by
  refine (dats m 0 c).arrAt_eq_of_covers 8 _ (by decide +kernel) fun t hf y => ?_
  blk_simp
  rw [after0_8]
  frame_out
  obtain ⟨r, q, rfl⟩ : ∃ (r : Fin 256) (q : Fin 64), y = ix2 r q := ⟨y 0, y 1, eq_ix2 y⟩
  obtain ⟨i, hi⟩ := token t r
  have hemb : (((View.whole main_v14_4).slice (win0_8.rect t)).emb (ix2 r q)) = ix2 i q := by
    blk_ext [idx t]
  rw [hemb]
  pointwise [k0_pay9, k0_pay7]
  exact row_plain m c t r i hi (wik m c) _ q fun k => (rows_apply m c k _).2.2 q rfl

/-- The transposed queries after the run. -/
def result9 (c : Dev nD) : Buf (Elt Ideal) ((c : Thread nD τ).loc main_v14_5) := fun i =>
  rowMul (normed m c (tokenAt (i 0) (i 2))) (wq m c) (i 1) * Ideal.ofBits .f32 0x3E000000#32

/-- After the run the array of the transposed queries is `result9`. -/
theorem final9 (c : Dev nD) : (dats m 0 c).arrAt 9 cfg0.N = result9 m c := by
  refine (dats m 0 c).arrAt_eq_of_covers 9 _ (by decide +kernel) fun t hf y => ?_
  blk_simp
  rw [after0_9]
  obtain ⟨b, f, l, rfl⟩ : ∃ (b : Fin 2) (f : Fin 1024) (l : Fin 128), y = ix3 b f l := ⟨y 0, y 1, y 2, eq_ix3 y⟩
  have ht : t.val < 1 := t.isLt
  have hemb : (((View.whole main_v14_5).slice (win0_9.rect t)).emb (ix3 b f l)) = ix3 ⟨t.val * 2 + b.val, by omega⟩ f l := by
    blk_ext [idx t]
  rw [hemb, tile9 _ _ _ _ b f l ⟨0 + f.val, by omega⟩ ⟨b.val * 128 + l.val, by omega⟩ rfl rfl]
  exact col_scaled m c t _ (tokenAt ⟨t.val * 2 + b.val, by omega⟩ l) (by simp only [tokenAt]; omega) (wq m c) _ f
    fun k => (cols_apply m c k _).1 f rfl

/-- The transposed index queries after the run. -/
def result10 (c : Dev nD) : Buf (Elt Ideal) ((c : Thread nD τ).loc main_v14_6) := fun i =>
  rowMul (normed m c (tokenAt (i 0) (i 2))) (wiq m c) (i 1) * Ideal.ofBits .f32 0x3E000000#32

/-- After the run the array of the transposed index queries is `result10`. -/
theorem final10 (c : Dev nD) : (dats m 0 c).arrAt 10 cfg0.N = result10 m c := by
  refine (dats m 0 c).arrAt_eq_of_covers 10 _ (by decide +kernel) fun t hf y => ?_
  blk_simp
  rw [after0_10]
  obtain ⟨b, f, l, rfl⟩ : ∃ (b : Fin 2) (f : Fin 512) (l : Fin 128), y = ix3 b f l := ⟨y 0, y 1, y 2, eq_ix3 y⟩
  have ht : t.val < 1 := t.isLt
  have hemb : (((View.whole main_v14_6).slice (win0_10.rect t)).emb (ix3 b f l)) = ix3 ⟨t.val * 2 + b.val, by omega⟩ f l := by
    blk_ext [idx t]
  rw [hemb, tile10 _ _ _ _ b f l ⟨1024 + f.val, by omega⟩ ⟨b.val * 128 + l.val, by omega⟩ rfl rfl]
  exact col_scaled m c t _ (tokenAt ⟨t.val * 2 + b.val, by omega⟩ l) (by simp only [tokenAt]; omega) (wiq m c) _ f
    fun k => (cols_apply m c k _).2.1 f rfl

/-- The transposed values after the run. -/
def result11 (c : Dev nD) : Buf (Elt Ideal) ((c : Thread nD τ).loc main_v14_7) := fun i =>
  rowMul (normed m c (tokenAt (i 0) (i 2))) (wv m c) (i 1)

/-- After the run the array of the transposed values is `result11`. -/
theorem final11 (c : Dev nD) : (dats m 0 c).arrAt 11 cfg0.N = result11 m c := by
  refine (dats m 0 c).arrAt_eq_of_covers 11 _ (by decide +kernel) fun t hf y => ?_
  blk_simp
  rw [after0_11]
  obtain ⟨b, f, l, rfl⟩ : ∃ (b : Fin 2) (f : Fin 256) (l : Fin 128), y = ix3 b f l := ⟨y 0, y 1, y 2, eq_ix3 y⟩
  have ht : t.val < 1 := t.isLt
  have hemb : (((View.whole main_v14_7).slice (win0_11.rect t)).emb (ix3 b f l)) = ix3 ⟨t.val * 2 + b.val, by omega⟩ f l := by
    blk_ext [idx t]
  rw [hemb, tile11 _ _ _ _ b f l ⟨1536 + f.val, by omega⟩ ⟨b.val * 128 + l.val, by omega⟩ rfl rfl]
  exact col_plain m c t _ (tokenAt ⟨t.val * 2 + b.val, by omega⟩ l) (by simp only [tokenAt]; omega) (wv m c) _ f
    fun k => (cols_apply m c k _).2.2.1 f rfl

/-- The transposed index weights after the run. -/
def result12 (c : Dev nD) : Buf (Elt Ideal) ((c : Thread nD τ).loc main_v14_8) := fun i =>
  rowMul (normed m c (tokenAt (i 0) (i 2))) (wiw m c) (i 1) * Ideal.ofBits .f32 0x3EB504F3#32

/-- After the run the array of the transposed index weights is `result12`. -/
theorem final12 (c : Dev nD) : (dats m 0 c).arrAt 12 cfg0.N = result12 m c := by
  refine (dats m 0 c).arrAt_eq_of_covers 12 _ (by decide +kernel) fun t hf y => ?_
  blk_simp
  rw [after0_12]
  obtain ⟨b, f, l, rfl⟩ : ∃ (b : Fin 2) (f : Fin 8) (l : Fin 128), y = ix3 b f l := ⟨y 0, y 1, y 2, eq_ix3 y⟩
  have ht : t.val < 1 := t.isLt
  have hemb : (((View.whole main_v14_8).slice (win0_12.rect t)).emb (ix3 b f l)) = ix3 ⟨t.val * 2 + b.val, by omega⟩ f l := by
    blk_ext [idx t]
  rw [hemb, tile12 _ _ _ _ b f l ⟨1792 + f.val, by omega⟩ ⟨b.val * 128 + l.val, by omega⟩ rfl rfl]
  exact congrArg (· * _) <| col_plain m c t _ (tokenAt ⟨t.val * 2 + b.val, by omega⟩ l) (by simp only [tokenAt]; omega) (wiw m c) _ f
    fun k => (cols_apply m c k _).2.2.2 f rfl

end Cert.Proof.ProjTailKernel

end
-- ==== Proof.ProjTailReference.lean ====
/-
  The projections' reference on the samples' and meta tokens' rows, read at an index: each row of its results
  is the layer's normed row times one of the weights; the transposed results are laid out in blocks of 128 tokens.
-/
module

public import proofs.«01_k».proof.Proof.Gen.ProjTailReferenceIdeal.Run
public import proofs.«01_k».proof.Proof.Spec

@[expose] public section

set_option maxRecDepth 16384

noncomputable section

namespace Cert.Proof.ProjTailReference

open Cert.ProjTailReferenceIdeal Cert.ProjTailReferenceIdeal.Gen Cert.ProjTailReferenceIdeal.Value Cert.Proof.Layer
open Idealize.ShloMosaic Idealize.ShloMosaic.TcCoe Idealize.SL.Sem

/-- The normed stream as the reference's lines compute it. -/
def xn (x : FVec Ideal S256x1024 .f32) (g : FVec Ideal S1024 .f32) : FVec Ideal S256x1024 .f32 :=
  mulf (mulf x (broadcastInDim S256x1024 ![0, 1] bcast_S256x1_S256x1024_0_1 (Host.rsqrt (addf (Host.divf
    (broadcastInDim S256x1 ![0] bcast_S256_S256x1_0
      (Host.reduceAdd (mulf x x) (constant S_ .f32 0x00000000#32) reducesTo_S256x1024_S256_d1 h_S_))
    (broadcastInDim S256x1 ![] bcast_S_S256x1 (constant S_ .f32 0x44800000#32)))
    (broadcastInDim S256x1 ![] bcast_S_S256x1 (constant S_ .f32 0x358637BD#32))))))
    (broadcastInDim S256x1024 ![0, 1] bcast_S1x1024_S256x1024_0_1 (broadcastInDim S1x1024 ![1] bcast_S1024_S1x1024_1 g))

/-- The normed stream, at an index. -/
theorem xn_apply (x : FVec Ideal S256x1024 .f32) (g : FVec Ideal S1024 .f32) (i : Fin 256) (k : Fin 1024) :
    xn x g (ix2 i k) = rowNorm (fun k => x (ix2 i k)) (fun k => g (ix1 k)) k := by
  pointwise [xn]
  rfl

/-- The keys or the values, at an index. -/
theorem rows256_apply (x : FVec Ideal S256x1024 .f32) (g : FVec Ideal S1024 .f32) (w : FVec Ideal S1024x256 .f32)
    (i : Fin 256) (f : Fin 256) :
    Host.dotGeneral dot_S256x1024_S1024x256_S256x256_1_0_0_1_n_n none (xn x g) w (ix2 i f)
      = rowMul (rowNorm (fun k => x (ix2 i k)) fun k => g (ix1 k)) (fun k f => w (ix2 k f)) f := by
  pointwise
  simp only [xn_apply]
  rfl

/-- The index keys, at an index. -/
theorem rows64_apply (x : FVec Ideal S256x1024 .f32) (g : FVec Ideal S1024 .f32) (w : FVec Ideal S1024x64 .f32)
    (i : Fin 256) (f : Fin 64) :
    Host.dotGeneral dot_S256x1024_S1024x64_S256x64_1_0_0_1_n_n none (xn x g) w (ix2 i f)
      = rowMul (rowNorm (fun k => x (ix2 i k)) fun k => g (ix1 k)) (fun k f => w (ix2 k f)) f := by
  pointwise
  simp only [xn_apply]
  rfl

/-- The transposed queries, at an index. -/
theorem cols1024_apply (x : FVec Ideal S256x1024 .f32) (g : FVec Ideal S1024 .f32) (w : FVec Ideal S1024x1024 .f32)
    (b : Fin 2) (f : Fin 1024) (l : Fin 128) :
    transpose S2x1024x128 [0, 2, 1] (shapeCast S2x128x1024 (mulf (Host.dotGeneral dot_S256x1024_S1024x1024_S256x1024_1_0_0_1_n_n none (xn x g) w)
        (broadcastInDim S256x1024 ![] bcast_S_S256x1024 (constant S_ .f32 0x3E000000#32)))
        shapeCasts_S256x1024_S2x128x1024) transposes_S2x128x1024_S2x1024x128_0_2_1 (ix3 b f l)
      = rowMul (rowNorm (fun k => x (ix2 ⟨b.val * 128 + l.val, by omega⟩ k)) fun k => g (ix1 k)) (fun k f => w (ix2 k f)) f * Ideal.ofBits .f32 0x3E000000#32 := by
  pointwise
  simp only [xn_apply]
  rfl

/-- The transposed index queries, at an index. -/
theorem cols512_apply (x : FVec Ideal S256x1024 .f32) (g : FVec Ideal S1024 .f32) (w : FVec Ideal S1024x512 .f32)
    (b : Fin 2) (f : Fin 512) (l : Fin 128) :
    transpose S2x512x128 [0, 2, 1] (shapeCast S2x128x512 (mulf (Host.dotGeneral dot_S256x1024_S1024x512_S256x512_1_0_0_1_n_n none (xn x g) w)
        (broadcastInDim S256x512 ![] bcast_S_S256x512 (constant S_ .f32 0x3E000000#32)))
        shapeCasts_S256x512_S2x128x512) transposes_S2x128x512_S2x512x128_0_2_1 (ix3 b f l)
      = rowMul (rowNorm (fun k => x (ix2 ⟨b.val * 128 + l.val, by omega⟩ k)) fun k => g (ix1 k)) (fun k f => w (ix2 k f)) f * Ideal.ofBits .f32 0x3E000000#32 := by
  pointwise
  simp only [xn_apply]
  rfl

/-- The transposed values, at an index. -/
theorem cols256_apply (x : FVec Ideal S256x1024 .f32) (g : FVec Ideal S1024 .f32) (w : FVec Ideal S1024x256 .f32)
    (b : Fin 2) (f : Fin 256) (l : Fin 128) :
    transpose S2x256x128 [0, 2, 1] (shapeCast S2x128x256 (Host.dotGeneral dot_S256x1024_S1024x256_S256x256_1_0_0_1_n_n none (xn x g) w)
        shapeCasts_S256x256_S2x128x256) transposes_S2x128x256_S2x256x128_0_2_1 (ix3 b f l)
      = rowMul (rowNorm (fun k => x (ix2 ⟨b.val * 128 + l.val, by omega⟩ k)) fun k => g (ix1 k)) (fun k f => w (ix2 k f)) f := by
  pointwise
  simp only [xn_apply]
  rfl

/-- The transposed index weights, at an index. -/
theorem cols8_apply (x : FVec Ideal S256x1024 .f32) (g : FVec Ideal S1024 .f32) (w : FVec Ideal S1024x8 .f32)
    (b : Fin 2) (f : Fin 8) (l : Fin 128) :
    transpose S2x8x128 [0, 2, 1] (shapeCast S2x128x8 (mulf (Host.dotGeneral dot_S256x1024_S1024x8_S256x8_1_0_0_1_n_n none (xn x g) w)
        (broadcastInDim S256x8 ![] bcast_S_S256x8 (constant S_ .f32 0x3EB504F3#32)))
        shapeCasts_S256x8_S2x128x8) transposes_S2x128x8_S2x8x128_0_2_1 (ix3 b f l)
      = rowMul (rowNorm (fun k => x (ix2 ⟨b.val * 128 + l.val, by omega⟩ k)) fun k => g (ix1 k)) (fun k f => w (ix2 k f)) f * Ideal.ofBits .f32 0x3EB504F3#32 := by
  pointwise
  simp only [xn_apply]
  rfl

end Cert.Proof.ProjTailReference

end
-- ==== Proof.ConvSampleKernel.lean ====
/-
  The samples' gated short convolution read at an index.

  A grid point is one sample of 16 tokens: its scratch holds the earlier gates in rows 6 and 7 and the sample's own from row 8
  on, so from row 6 on it is the sample's gates (`Layer.laggedSample`). The call writes the samples' rows over a copy of the
  other calls' rows and leaves the rest as it was.
-/
module

public import proofs.«01_k».proof.Proof.Gen.ConvSampleIdeal.Frame
public import proofs.«01_k».proof.Proof.ConvSpec
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.ConvSampleKernel

open Cert.ConvSampleIdeal Cert.ConvSampleIdeal.Gen Cert.Proof.Layer Idealize.ShloMosaic Idealize.ShloMosaic.TcCoe Idealize.SL.Sem

/-- A row of the block's projection. -/
def brow (x : Vec Ideal S16x1024 .f32) (g : Vec Ideal S1x1024 .f32) (w : Vec Ideal S1024x3072 .bf16) (r : Fin 16) :
    Fin 3072 → EReal :=
  rowMul (rowNorm (fun k => x (ix2 r k)) fun k => g (ix2 0 k)) fun k f => w (ix2 k f)

/-- The block's projection, at an index. -/
theorem proj_apply (x : Vec Ideal S16x1024 .f32) (g : Vec Ideal S1x1024 .f32) (w : Vec Ideal S1024x3072 .bf16) (r : Fin 16)
    (f : Fin 3072) : k0_pay5 x g w (ix2 r f) = brow x g w r f := by
  pointwise [k0_pay5]
  rfl

/-- The block's gates, at an index. -/
theorem gate_apply (x : Vec Ideal S16x1024 .f32) (g : Vec Ideal S1x1024 .f32) (w : Vec Ideal S1024x3072 .bf16) (r : Fin 16)
    (k : Fin 1024) : k0_pay6 x g w (ix2 r k) = gate (brow x g w r) k := by
  pointwise [k0_pay6]
  simp only [proj_apply]
  rfl

/-- A block of the result, at an index, from the taps and the three stretches of the scratch. -/
theorem out_apply (x : Vec Ideal S16x1024 .f32) (g : Vec Ideal S1x1024 .f32) (w : Vec Ideal S1024x3072 .bf16)
    (w0 w1 w2 : Vec Ideal S1x1024 .f32) (s0 s1 s2 : Vec Ideal S16x1024 .f32) (r : Fin 16) (q : Fin 1024) :
    k0_pay1 (k0_pay5 x g w) (k0_pay7 w0 s0) (k0_pay8 w1) s1 w2 s2 (ix2 r q)
      = brow x g w r ⟨q.val, by have := q.isLt; omega⟩
        * (w0 (ix2 0 q) * s0 (ix2 r q) + w1 (ix2 0 q) * s1 (ix2 r q) + w2 (ix2 0 q) * s2 (ix2 r q)) := by
  pointwise [k0_pay1, k0_pay7, k0_pay8]
  simp only [proj_apply]

/-- After a store of `W` whole rows from row `o` on, the scratch at one of them. -/
theorem stored_in {o W : ℕ} (inb : ∀ a : Fin 2, (![o, 0] : Fin 2 → ℕ) a + (![W, 1024] : Fin 2 → ℕ) a ≤ (![24, 1024] : Fin 2 → ℕ) a)
    (w : (Rect.unit (s := S24x1024) ![o, 0] ![W, 1024] inb).shape.Idx → Elt Ideal .f32) (L : List (View.Piece (Elt Ideal) S24x1024 .f32))
    (f) (i : Fin 24) (k : Fin 1024) (x : Fin W) (hx : i.val = o + x.val) :
    View.read (Elt Ideal) (View.whole cc0_scratch0) ((View.whole cc0_scratch0).writes (Elt Ideal) f
      (⟨Rect.unit ![o, 0] ![W, 1024] inb, w⟩ :: L)) (ix2 i k) = w (ix2 x k) :=
  View.read_writes_cons_rows_of_mem _ _ inb w L (ix2 i k) (ix2 x k) rfl hx rfl

/-- After a store of `W` whole rows from row `o` on, the scratch at another row. -/
theorem stored_off {o W : ℕ} (inb : ∀ a : Fin 2, (![o, 0] : Fin 2 → ℕ) a + (![W, 1024] : Fin 2 → ℕ) a ≤ (![24, 1024] : Fin 2 → ℕ) a)
    (w : (Rect.unit (s := S24x1024) ![o, 0] ![W, 1024] inb).shape.Idx → Elt Ideal .f32) (L : List (View.Piece (Elt Ideal) S24x1024 .f32))
    (f) (i : Fin 24) (k : Fin 1024) (h : i.val < o ∨ o + W ≤ i.val) :
    View.read (Elt Ideal) (View.whole cc0_scratch0) ((View.whole cc0_scratch0).writes (Elt Ideal) f
      (⟨Rect.unit ![o, 0] ![W, 1024] inb, w⟩ :: L)) (ix2 i k)
      = View.read (Elt Ideal) (View.whole cc0_scratch0) ((View.whole cc0_scratch0).writes (Elt Ideal) f L) (ix2 i k) :=
  View.read_writes_cons_rows_of_not_mem _ _ inb w L (ix2 i k) rfl rfl h

/-- A load of `W` rows of the scratch from row `o` on, at an index. -/
theorem loaded {o W : ℕ} (inb : ∀ a : Fin 2, (![o, 0] : Fin 2 → ℕ) a + (![W, 1024] : Fin 2 → ℕ) a ≤ (![24, 1024] : Fin 2 → ℕ) a)
    (X : Vec Ideal S24x1024 .f32) (r : Fin W) (k : Fin 1024) (i : Fin 24) (hi : i.val = o + r.val) :
    View.ld X (Rect.unit (s := S24x1024) ![o, 0] ![W, 1024] inb) (ix2 r k) = X (ix2 i k) :=
  View.ld_unit_apply_of X _ _ inb (ix2 r k) (ix2 i k) (Fin.forall_fin_two.mpr ⟨hi, (Nat.zero_add _).symm⟩)

/-- The same of a load that reads what earlier stores of the same point left. -/
theorem loadedCov {o W : ℕ} (inb : ∀ a : Fin 2, (![o, 0] : Fin 2 → ℕ) a + (![W, 1024] : Fin 2 → ℕ) a ≤ (![24, 1024] : Fin 2 → ℕ) a)
    (L : List (View.Piece (Elt Ideal) S24x1024 .f32)) (r : Fin W) (k : Fin 1024) (i : Fin 24) (hi : i.val = o + r.val) :
    (View.whole cc0_scratch0).readCov L (Rect.unit (s := S24x1024) ![o, 0] ![W, 1024] inb).toLoadRect (ix2 r k)
      = View.read (Elt Ideal) (View.whole cc0_scratch0)
          ((View.whole cc0_scratch0).writes (Elt Ideal) (View.whole cc0_scratch0).junk L) (ix2 i k) :=
  loaded inb (View.read (Elt Ideal) (View.whole cc0_scratch0)
    ((View.whole cc0_scratch0).writes (Elt Ideal) (View.whole cc0_scratch0).junk L)) r k i hi

variable (m : (ℓ : Loc nD τ sig) → Buf (Elt Ideal) ℓ)

/-- The host lines before the call. -/
theorem entry (c : Dev nD) :
    V m c main_v0 = pad S8x8x1024 ![0, 6, 0] ![0, 0, 0] ![0, 0, 0] (m ((c : Thread nD τ).loc main_arg2))
        (sitofp (F := Ideal) .f32 (constantI S_ 32 0#32)) pads_S8x2x1024_S8x8x1024_000_600_000 h_S_
    ∧ V m c main_v1 = shapeCast S1x1024 (m ((c : Thread nD τ).loc main_arg3)) shapeCasts_S1024_S1x1024
    ∧ V m c main_v2 = truncf (F := Ideal) .bf16 (m ((c : Thread nD τ).loc main_arg4)) bitsLt_bf16_f32
    ∧ V m c main_v3 = pad S8x1024 ![0, 0] ![5, 0] ![0, 0] (m ((c : Thread nD τ).loc main_arg5))
        (sitofp (F := Ideal) .f32 (constantI S_ 32 0#32)) pads_S3x1024_S8x1024_050_000 h_S_ := by
  dsimp only [V, hostOps0, hostOps0_1, hostOps0_2, hostOps0_3, hostOps0_4, List.flatten_cons, List.flatten_nil, List.append_nil,
    List.cons_append, List.nil_append]
  refine ⟨?_, ?_, ?_, ?_⟩ <;> after_results <;> rfl

/-- The printed index maps: the stream moves with the result by a tile of rows; the earlier gates with the last ones by a
    sequence; the weights stay. -/
theorem idx (t : Fin cfg0.N) : win0_0.index t = ![t.val, 0] ∧ win0_1.index t = ![t.val, 0, 0] ∧ win0_2.index t = ![0, 0]
    ∧ win0_3.index t = ![0, 0] ∧ win0_4.index t = ![0, 0] ∧ win0_5.index t = ![t.val, 0]
    ∧ win0_6.index t = ![t.val, 0, 0] :=
  (by decide +kernel : ∀ t : Fin grid0.N, win0_0.index t = ![t.val, 0] ∧ win0_1.index t = ![t.val, 0, 0]
    ∧ win0_2.index t = ![0, 0] ∧ win0_3.index t = ![0, 0] ∧ win0_4.index t = ![0, 0] ∧ win0_5.index t = ![t.val, 0]
    ∧ win0_6.index t = ![t.val, 0, 0]) t

/-- The projected row of the normed stream. -/
def row (c : Dev nD) (R : Fin 128) : Fin 3072 → EReal :=
  rowMul (rowNorm (fun k => m ((c : Thread nD τ).loc main_arg0) (ix2 (Fin.castLE (by decide) R) k))
    fun k => m ((c : Thread nD τ).loc main_arg3) (ix1 k))
  fun k f => m ((c : Thread nD τ).loc main_arg4) (ix2 k f)

/-- The earlier gates. -/
def early (c : Dev nD) (b : Fin 8) (s : Fin 2) (k : Fin 1024) : EReal := m ((c : Thread nD τ).loc main_arg2) (ix3 b s k)

/-- The taps. -/
def taps (c : Dev nD) (s : Fin 3) (k : Fin 1024) : EReal := m ((c : Thread nD τ).loc main_arg5) (ix2 s k)

set_option maxHeartbeats 2000000 in
/-- The blocks at a grid point, read off the arrays the call is launched on. -/
theorem blocks (c : Dev nD) (t : Fin cfg0.N) :
    (∀ (r : Fin 16) (R : Fin 128), R.val = t.val * 16 + r.val →
      brow (iblk m c 0 t) (iblk m c 2 t) (iblk m c 3 t) r = row m c R)
    ∧ (∀ (b : Fin 8) (i : Fin 8) (s : Fin 2) (k : Fin 1024), b.val = t.val → i.val = 6 + s.val →
      iblk m c 1 t (ix3 0 i k) = early m c b s k)
    ∧ (∀ (i : Fin 8) (s : Fin 3) (k : Fin 1024), i.val = s.val → iblk m c 4 t (ix2 i k) = taps m c s k) := by
  obtain ⟨e0, e1, e2, e3⟩ := entry m c
  have b0 : ∀ (r : Fin 16) (R : Fin 256) (k : Fin 1024), R.val = t.val * 16 + r.val →
      iblk m c 0 t (ix2 r k) = m ((c : Thread nD τ).loc main_arg0) (ix2 R k) := fun r R k h => by
    show V m c main_arg0 _ = _
    rw [V_main_arg0]
    blk_ext [iblk, idx t]
  have b2 : ∀ k : Fin 1024, iblk m c 2 t (ix2 0 k) = m ((c : Thread nD τ).loc main_arg3) (ix1 k) := fun k => by
    show V m c main_v1 _ = _
    rw [e1, show (win0_2.blk t).view.emb (ix2 0 k) = ix2 0 k from by blk_ext [idx t]]
    pointwise
  have b3 : ∀ (k : Fin 1024) (f : Fin 3072), iblk m c 3 t (ix2 k f) = m ((c : Thread nD τ).loc main_arg4) (ix2 k f) :=
    fun k f => by
    show V m c main_v2 _ = _
    rw [e2]
    show m ((c : Thread nD τ).loc main_arg4) _ = _
    blk_ext [iblk, idx t]
  refine ⟨fun r R h => ?_, fun b i s k hb hi => ?_, fun i s k hi => ?_⟩
  · unfold brow row
    simp only [b0 r (Fin.castLE (by decide) R) _ h, b2, b3]
  · show V m c main_v0 _ = _
    rw [e0, show (win0_1.blk t).view.emb (ix3 0 i k) = ix3 b i k from by blk_ext [idx t]]
    pointwise
    have hp : ∀ a : Fin 3, (![0, 6, 0] : Fin 3 → ℕ) a ≤ (ix3 b i k a).val
        ∧ ((ix3 b i k a).val - (![0, 6, 0] : Fin 3 → ℕ) a) % ((![0, 0, 0] : Fin 3 → ℕ) a + 1) = 0
        ∧ ((ix3 b i k a).val - (![0, 6, 0] : Fin 3 → ℕ) a) / ((![0, 0, 0] : Fin 3 → ℕ) a + 1) < S8x2x1024.size a := fun a =>
      match a with
      | 0 => ⟨Nat.zero_le _, Nat.mod_one _, by show (b.val - 0) / 1 < 8; omega⟩
      | 1 => ⟨by show 6 ≤ i.val; omega, Nat.mod_one _, by show (i.val - 6) / 1 < 2; omega⟩
      | 2 => ⟨Nat.zero_le _, Nat.mod_one _, by show (k.val - 0) / 1 < 1024; omega⟩
    refine (dif_pos hp).trans ?_
    exact congrArg (m ((c : Thread nD τ).loc main_arg2)) (congrArg (fun s => ix3 b s k) (Fin.ext (by dsimp only; omega)))
  · show V m c main_v3 _ = _
    rw [e3, show (win0_4.blk t).view.emb (ix2 i k) = ix2 i k from by blk_ext [idx t]]
    pointwise
    have hp : ∀ a : Fin 2, (![0, 0] : Fin 2 → ℕ) a ≤ (ix2 i k a).val
        ∧ ((ix2 i k a).val - (![0, 0] : Fin 2 → ℕ) a) % ((![0, 0] : Fin 2 → ℕ) a + 1) = 0
        ∧ ((ix2 i k a).val - (![0, 0] : Fin 2 → ℕ) a) / ((![0, 0] : Fin 2 → ℕ) a + 1) < S3x1024.size a := fun a =>
      match a with
      | 0 => ⟨Nat.zero_le _, Nat.mod_one _, by show (i.val - 0) / 1 < 3; omega⟩
      | 1 => ⟨Nat.zero_le _, Nat.mod_one _, by show (k.val - 0) / 1 < 1024; omega⟩
    refine (dif_pos hp).trans ?_
    exact congrArg (m ((c : Thread nD τ).loc main_arg5)) (congrArg (fun s => ix2 s k) (Fin.ext hi))

/-- Once a tile's gates are stored, the scratch from row 8 on is them. -/
theorem own (c : Dev nD) (t : Fin cfg0.N) (L : List (View.Piece (Elt Ideal) S24x1024 .f32)) (f) (i : Fin 24) (k : Fin 1024)
    (hi : 8 ≤ i.val) (R : Fin 128) (hR : R.val = t.val * 16 + (i.val - 8)) :
    View.read (Elt Ideal) (View.whole cc0_scratch0) ((View.whole cc0_scratch0).writes (Elt Ideal) f
      (⟨Rect.unit ![8, 0] ![16, 1024] inb_S24x1024_S16x1024_8_0, k0_pay6 (iblk m c 0 t) (iblk m c 2 t) (iblk m c 3 t)⟩ :: L))
      (ix2 i k) = gate (row m c R) k := by
  rw [stored_in _ _ _ _ i k ⟨i.val - 8, by omega⟩ (by dsimp only; omega), gate_apply, (blocks m c t).1 _ R hR]

/-- What the scratch holds at a sample while its result is computed, from row 6 on: its gates below the two earlier ones. -/
theorem held (c : Dev nD) (t : Fin cfg0.N) (f) (i : Fin 24) (k : Fin 1024) (b : Fin 8) (s : ℕ) (hs : s < 18) (hi : 6 ≤ i.val)
    (hb : b.val = t.val) (hsi : s = i.val - 6) :
    View.read (Elt Ideal) (View.whole cc0_scratch0) ((View.whole cc0_scratch0).writes (Elt Ideal) f
      [⟨Rect.unit ![8, 0] ![16, 1024] inb_S24x1024_S16x1024_8_0, k0_pay6 (iblk m c 0 t) (iblk m c 2 t) (iblk m c 3 t)⟩,
        ⟨Rect.unit ![0, 0] ![8, 1024] inb_S24x1024_S8x1024_0_0, k0_pay4 (iblk m c 1 t)⟩]) (ix2 i k)
      = laggedSample (early m c) (row m c) b s hs k := by
  have ht : t.val < 8 := t.isLt
  by_cases h8 : 8 ≤ i.val
  · rw [laggedSample_gate _ _ _ _ _ _ (by omega) ⟨t.val * 16 + i.val - 8, by omega⟩ (by dsimp only; omega)]
    exact own m c t _ _ i k h8 _ (by dsimp only; omega)
  · rw [stored_off _ _ _ _ i k (by omega), stored_in _ _ _ _ i k ⟨i.val, by omega⟩ (by dsimp only; omega), laggedSample,
      dif_pos (by omega)]
    pointwise [k0_pay4]
    exact (blocks m c t).2.1 b _ _ k hb (by dsimp only; omega)

/-- A row loaded from the taps' block. -/
theorem loadedRow {o : ℕ} (inb : ∀ a : Fin 2, (![o, 0] : Fin 2 → ℕ) a + (![1, 1024] : Fin 2 → ℕ) a ≤ (![8, 1024] : Fin 2 → ℕ) a)
    (X : Vec Ideal S8x1024 .f32) (k : Fin 1024) (i : Fin 8) (hi : i.val = o + 0) :
    View.ld X (Rect.unit (s := S8x1024) ![o, 0] ![1, 1024] inb) (ix2 0 k) = X (ix2 i k) :=
  View.ld_unit_apply_of X _ _ inb (ix2 0 k) (ix2 i k) (Fin.forall_fin_two.mpr ⟨hi, (Nat.zero_add _).symm⟩)

/-- A tap loaded from its block. -/
theorem tap (c : Dev nD) (t : Fin cfg0.N) {o : ℕ} (inb : ∀ a : Fin 2, (![o, 0] : Fin 2 → ℕ) a + (![1, 1024] : Fin 2 → ℕ) a ≤ (![8, 1024] : Fin 2 → ℕ) a)
    (s : Fin 3) (hs : s.val = o) (k : Fin 1024) :
    View.ld (iblk m c 4 t) (Rect.unit (s := S8x1024) ![o, 0] ![1, 1024] inb) (ix2 0 k) = taps m c s k :=
  (loadedRow inb (iblk m c 4 t) k ⟨s.val, by omega⟩ hs).trans ((blocks m c t).2.2 _ s k rfl)

/-- What a point leaves in the first result's block, at an index. -/
theorem out5 (c : Dev nD) (t : Fin cfg0.N) (r : Fin 16) (q : Fin 1024) (R : Fin 128) (hR : R.val = t.val * 16 + r.val) :
    (outsAt0 m c t).1 (ix2 r q) = sampleRow (early m c) (row m c) (taps m c) R q := by
  have ht : t.val < 8 := t.isLt
  have s2 := fun L f => own m c t L f ⟨8 + r.val, by omega⟩ q (by dsimp only; omega) R (by dsimp only; omega)
  have s0 := fun f => held m c t f ⟨6 + r.val, by omega⟩ q ⟨R.val / 16, by omega⟩ (R.val % 16) (by omega)
    (by dsimp only; omega) (by dsimp only; omega) (by dsimp only; omega)
  have s1 := fun f => held m c t f ⟨7 + r.val, by omega⟩ q ⟨R.val / 16, by omega⟩ (1 + R.val % 16) (by omega)
    (by dsimp only; omega) (by dsimp only; omega) (by dsimp only; omega)
  dsimp only [outsAt0]
  frame_out
  rw [out_apply, loadedCov _ _ r q ⟨6 + r.val, by omega⟩ rfl, loadedCov _ _ r q ⟨7 + r.val, by omega⟩ rfl,
    loadedCov _ _ r q ⟨8 + r.val, by omega⟩ rfl, s0, s1, s2,
    tap m c t (o := 0) _ 0 rfl, tap m c t (o := 1) _ 1 rfl, tap m c t (o := 2) _ 2 rfl, (blocks m c t).1 r R hR]
  rfl

/-- What a point leaves in the second result's block, at an index: the sample's last gates. -/
theorem out6 (c : Dev nD) (t : Fin cfg0.N) (i : Fin 8) (k : Fin 1024) (R : Fin 128) (hR : R.val = t.val * 16 + (8 + i.val)) :
    (outsAt0 m c t).2 (ix3 0 i k) = gate (row m c R) k := by
  dsimp only [outsAt0]
  frame_out
  pointwise [k0_pay3]
  rw [loadedCov _ _ _ k ⟨16 + i.val, by omega⟩ rfl, own m c t _ _ _ k (by dsimp only; omega) R (by dsimp only; omega)]

/-- The first result after the run: the samples' rows over the rows it is given. -/
def result5 (c : Dev nD) : Buf (Elt Ideal) ((c : Thread nD τ).loc main_v4_0) := fun i =>
  if h : (i 0).val < 128 then sampleRow (early m c) (row m c) (taps m c) ⟨(i 0).val, h⟩ (i 1)
  else m ((c : Thread nD τ).loc main_arg1) i

/-- `result5` at a row of the samples. -/
theorem result5_sample (c : Dev nD) (R : Fin 256) (q : Fin 1024) (h : R.val < 128) :
    result5 m c (ix2 R q) = sampleRow (early m c) (row m c) (taps m c) ⟨R.val, h⟩ q := by
  show (if h : R.val < 128 then sampleRow (early m c) (row m c) (taps m c) ⟨R.val, h⟩ q
    else m ((c : Thread nD τ).loc main_arg1) (ix2 R q)) = _
  exact dif_pos h

/-- `result5` at another row. -/
theorem result5_kept (c : Dev nD) (i : S256x1024.Idx) (h : ¬(i 0).val < 128) :
    result5 m c i = m ((c : Thread nD τ).loc main_arg1) i := by
  show (if h : (i 0).val < 128 then sampleRow (early m c) (row m c) (taps m c) ⟨(i 0).val, h⟩ (i 1)
    else m ((c : Thread nD τ).loc main_arg1) i) = _
  exact dif_neg h

/-- The first result's array before the call. -/
theorem entry5 (c : Dev nD) : V m c main_v4_0 = m ((c : Thread nD τ).loc main_arg1) := by
  dsimp only [V, hostOps0, hostOps0_1, hostOps0_2, hostOps0_3, hostOps0_4, List.flatten_cons, List.flatten_nil, List.append_nil,
    List.cons_append, List.nil_append]
  after_results
  rfl

/-- After the run the first result's array is `result5`. -/
theorem final5 (c : Dev nD) : (dats m 0 c).arrAt 5 cfg0.N = result5 m c := by
  refine (dats m 0 c).arrAt_eq_of_coversWhere_of_agree 5 _ (fun β => β (0 : Fin _) < 8) (by decide +kernel)
    (fun t hf y => ?_) fun j hj => ?_
  · blk_simp
    rw [after0_5]
    obtain ⟨r, q, rfl⟩ : ∃ (r : Fin 16) (q : Fin 1024), y = ix2 r q := ⟨y 0, y 1, eq_ix2 y⟩
    have ht : t.val < 8 := t.isLt
    obtain ⟨R, hR⟩ : ∃ R : Fin 256, R.val = t.val * 16 + r.val := ⟨⟨t.val * 16 + r.val, by omega⟩, rfl⟩
    have hemb : (((View.whole main_v4_0).slice (win0_5.rect t)).emb (ix2 r q)) = ix2 R q := by
      blk_ext [idx t]
    rw [hemb, out5 m c t r q ⟨R.val, by omega⟩ hR]
    exact (result5_sample m c R q (by omega)).symm
  · rw [A_eq]
    have h : ¬(j 0).val < 128 := fun h => hj (by show (j 0).val / 16 < 8; omega)
    refine (congrFun (entry5 m c) _).trans ?_
    exact (result5_kept m c j h).symm

/-- The last eight rows of a sample. -/
def lastRow (b : Fin 8) (i : Fin 8) : Fin 128 := ⟨b.val * 16 + (8 + i.val), by omega⟩

/-- The second result after the run. -/
def result6 (c : Dev nD) : Buf (Elt Ideal) ((c : Thread nD τ).loc main_v4_1) := fun i =>
  gate (row m c (lastRow (i 0) (i 1))) (i 2)

/-- After the run the second result's array is `result6`. -/
theorem final6 (c : Dev nD) : (dats m 0 c).arrAt 6 cfg0.N = result6 m c := by
  refine (dats m 0 c).arrAt_eq_of_covers 6 _ (by decide +kernel) fun t hf y => ?_
  blk_simp
  rw [after0_6]
  obtain ⟨z, i, k, rfl⟩ : ∃ (z : Fin 1) (i : Fin 8) (k : Fin 1024), y = ix3 z i k := ⟨y 0, y 1, y 2, eq_ix3 y⟩
  obtain rfl : z = 0 := Subsingleton.elim _ _
  obtain ⟨b, hb⟩ : ∃ b : Fin 8, b.val = t.val := ⟨⟨t.val, t.isLt⟩, rfl⟩
  have hemb : (((View.whole main_v4_1).slice (win0_6.rect t)).emb (ix3 0 i k)) = ix3 b i k := by
    blk_ext [idx t]
  rw [hemb, out6 m c t i k (lastRow b i) (by dsimp only [lastRow]; omega)]
  rfl

end Cert.Proof.ConvSampleKernel

end
-- ==== Proof.ConvSampleReference.lean ====
/-
  The reference of the samples' short convolution read at an index: row `R` of its first result is `Layer.sampleRow` for the
  128 rows of the samples and the given row below them, and its second result is the end of each sample's gates.
-/
module

public import proofs.«01_k».proof.Proof.Gen.ConvSampleReferenceIdeal.Run
public import proofs.«01_k».proof.Proof.ConvSpec

@[expose] public section

set_option maxRecDepth 16384

noncomputable section

namespace Cert.Proof.ConvSampleReference

open Cert.ConvSampleReferenceIdeal Cert.ConvSampleReferenceIdeal.Gen Cert.ConvSampleReferenceIdeal.Value Cert.Proof.Layer
open Idealize.ShloMosaic Idealize.ShloMosaic.TcCoe Idealize.SL.Sem

/-- The projected row of the normed stream, of one of the samples' rows. -/
def row (x : FVec Ideal S256x1024 .f32) (g : FVec Ideal S1024 .f32) (w : FVec Ideal S1024x3072 .f32) (R : Fin 128) :
    Fin 3072 → EReal :=
  rowMul (rowNorm (fun k => x (ix2 (Fin.castLE (by decide) R) k)) fun k => g (ix1 k)) fun k f => w (ix2 k f)

variable (m : (ℓ : Loc nD τ sig) → Buf (Elt Ideal) ℓ)

/-- The first result at a row of the samples. -/
theorem final (c : Dev nD) (R : Fin 256) (q : Fin 1024) (h : R.val < 128) : res_main_v45 m c (ix2 R q) =
    sampleRow (fun b s k => m ((c : Thread nD τ).loc main_arg2) (ix3 b s k))
      (row (m ((c : Thread nD τ).loc main_arg0)) (m ((c : Thread nD τ).loc main_arg3)) (m ((c : Thread nD τ).loc main_arg4)))
      (fun s k => m ((c : Thread nD τ).loc main_arg5) (ix2 s k)) ⟨R.val, h⟩ q := by
  pointwise [res_main_v45]
  rw [dif_pos h]
  have e : ∀ p, (⟨R.val / 16 * 16 + R.val % 16, p⟩ : Fin 256) = R := fun _ => Fin.ext (by dsimp only; omega)
  simp only [e]
  rfl

/-- The first result at another row. -/
theorem kept (c : Dev nD) (R : Fin 256) (q : Fin 1024) (h : ¬R.val < 128) :
    res_main_v45 m c (ix2 R q) = m ((c : Thread nD τ).loc main_arg1) (ix2 R q) := by
  pointwise [res_main_v45]
  rw [dif_neg h]
  refine congrArg (m ((c : Thread nD τ).loc main_arg1)) (congrArg (fun R => ix2 R q) (Fin.ext ?_))
  dsimp only
  omega

/-- The gates with the earlier ones in front, as the reference's lines compute them. -/
def gates (x : FVec Ideal S256x1024 .f32) (buf : FVec Ideal S8x2x1024 .f32) (g : FVec Ideal S1024 .f32)
    (w : FVec Ideal S1024x3072 .f32) : FVec Ideal S8x8x1024 .f32 :=
  extractStridedSlice S8x8x1024 ![0, 10, 0] (concatenate S8x18x1024 1 [⟨S8x2x1024, buf⟩, ⟨S8x16x1024, (shapeCast
    S8x16x1024 (mulf (extractStridedSlice S128x1024 ![0, 1024] (Host.dotGeneral
    dot_S128x1024_S1024x3072_S128x3072_1_0_0_1_n_n none (mulf (mulf (extractStridedSlice S128x1024 ![0, 0] x
    slices_S256x1024_S128x1024_0_0) (broadcastInDim S128x1024 ![0, 1] bcast_S128x1_S128x1024_0_1 (Host.rsqrt (addf
    (Host.divf (broadcastInDim S128x1 ![0] bcast_S128_S128x1_0 (Host.reduceAdd (mulf (extractStridedSlice S128x1024 ![0,
    0] x slices_S256x1024_S128x1024_0_0) (extractStridedSlice S128x1024 ![0, 0] x slices_S256x1024_S128x1024_0_0))
    (constant S_ .f32 0x00000000#32) reducesTo_S128x1024_S128_d1 h_S_)) (broadcastInDim S128x1 ![] bcast_S_S128x1
    (constant S_ .f32 0x44800000#32))) (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g)))
    w) slices_S128x3072_S128x1024_0_1024) (extractStridedSlice S128x1024 ![0, 2048] (Host.dotGeneral
    dot_S128x1024_S1024x3072_S128x3072_1_0_0_1_n_n none (mulf (mulf (extractStridedSlice S128x1024 ![0, 0] x
    slices_S256x1024_S128x1024_0_0) (broadcastInDim S128x1024 ![0, 1] bcast_S128x1_S128x1024_0_1 (Host.rsqrt (addf
    (Host.divf (broadcastInDim S128x1 ![0] bcast_S128_S128x1_0 (Host.reduceAdd (mulf (extractStridedSlice S128x1024 ![0,
    0] x slices_S256x1024_S128x1024_0_0) (extractStridedSlice S128x1024 ![0, 0] x slices_S256x1024_S128x1024_0_0))
    (constant S_ .f32 0x00000000#32) reducesTo_S128x1024_S128_d1 h_S_)) (broadcastInDim S128x1 ![] bcast_S_S128x1
    (constant S_ .f32 0x44800000#32))) (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g)))
    w) slices_S128x3072_S128x1024_0_2048)) shapeCasts_S128x1024_S8x16x1024)⟩]
    concatenates_S8x2x1024_S8x16x1024_S8x18x1024_d1) slices_S8x18x1024_S8x8x1024_0_10_0

/-- The second result, at an index. -/
theorem gates_apply (x : FVec Ideal S256x1024 .f32) (buf : FVec Ideal S8x2x1024 .f32) (g : FVec Ideal S1024 .f32)
    (w : FVec Ideal S1024x3072 .f32) (b : Fin 8) (i : Fin 8) (k : Fin 1024) (R : Fin 128)
    (hR : R.val = b.val * 16 + (8 + i.val)) : gates x buf g w (ix3 b i k) = gate (row x g w R) k := by
  have h : b.val * 16 + (10 + i.val - 2) < 128 := by clear hR; omega
  obtain rfl : R = ⟨b.val * 16 + (10 + i.val - 2), h⟩ := Fin.ext (by dsimp only; omega)
  pointwise [gates]
  rw [dif_neg (by omega)]
  rfl

end Cert.Proof.ConvSampleReference

end
-- ==== Proof.RecurSpec.lean ====
/-
  One row of the recurrent mixer's second branch, which its convolution runs over, in the extended reals, and nothing about
  any program.
-/
module

public import proofs.«01_k».proof.Proof.Spec

@[expose] public section

noncomputable section

namespace Cert.Proof.Layer

open Idealize.ShloMosaic

/-- The normed row, projected, and the bias added. -/
def branch (x g : Fin 1024 → EReal) (w : Fin 1024 → Fin 1024 → EReal) (b : Fin 1024 → EReal) (k : Fin 1024) : EReal :=
  rowMul (rowNorm x g) w k + b k

end Cert.Proof.Layer

end
-- ==== Proof.RecurKernel.lean ====
/-
  The last rows that the recurrent mixer's call keeps for the prompts' next convolution.

  A grid point is 256 tokens of a sequence: the body stores the tokens' rows of the branch from row 8 of its scratch on, and the
  last eight of them are the point's block of the result, of which the one at a sequence's last point stays.
-/
module

public import proofs.«01_k».proof.Proof.Gen.RecurIdeal.Frame
public import proofs.«01_k».proof.Proof.RecurSpec
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.RecurKernel

open Cert.RecurIdeal Cert.RecurIdeal.Gen Cert.Proof.Layer Idealize.ShloMosaic Idealize.ShloMosaic.TcCoe Idealize.SL.Sem

/-- The stored block of the branch, at an index. -/
theorem branch_apply (x : Vec Ideal S256x1024 .f32) (g : Vec Ideal S1x1024 .f32) (w : Vec Ideal S1024x1024 .bf16)
    (b : Vec Ideal S1x1024 .f32) (r : Fin 256) (k : Fin 1024) : k0_pay7 (k0_pay5 x g) w b (ix2 r k)
      = branch (fun k => x (ix2 r k)) (fun k => g (ix2 0 k)) (fun k f => w (ix2 k f)) (fun k => b (ix2 0 k)) k := by
  pointwise [k0_pay7, k0_pay5]
  rfl

variable (m : (ℓ : Loc nD τ sig) → Buf (Elt Ideal) ℓ)

/-- The host lines before the call, of the arrays that the branch needs. -/
theorem entry (c : Dev nD) :
    V m c main_v2 = shapeCast S1x1024 (m ((c : Thread nD τ).loc main_arg3)) shapeCasts_S1024_S1x1024
    ∧ V m c main_v5 = truncf (F := Ideal) .bf16 (m ((c : Thread nD τ).loc main_arg6)) bitsLt_bf16_f32
    ∧ V m c main_v6 = shapeCast S1x1024 (m ((c : Thread nD τ).loc main_arg7)) shapeCasts_S1024_S1x1024 := by
  dsimp only [V, hostOps0, hostOps0_1, hostOps0_2, hostOps0_3, hostOps0_4, List.flatten_cons, List.flatten_nil, List.append_nil,
    List.cons_append, List.nil_append]
  refine ⟨?_, ?_, ?_⟩ <;> after_results <;> rfl

/-- The printed index maps of the windows that the branch needs. -/
theorem idx (t : Fin cfg0.N) : win0_0.index t = ![t.val, 0] ∧ win0_3.index t = ![0, 0] ∧ win0_6.index t = ![0, 0]
    ∧ win0_7.index t = ![0, 0] ∧ win0_17.index t = ![t.val / 8, 0, 0] :=
  (by decide +kernel : ∀ t : Fin grid0.N, win0_0.index t = ![t.val, 0] ∧ win0_3.index t = ![0, 0] ∧ win0_6.index t = ![0, 0]
    ∧ win0_7.index t = ![0, 0] ∧ win0_17.index t = ![t.val / 8, 0, 0]) t

/-- The branch at a row. -/
def row (c : Dev nD) (R : Fin 32768) : Fin 1024 → EReal :=
  branch (fun k => m ((c : Thread nD τ).loc main_arg0) (ix2 R k))
    (fun k => m ((c : Thread nD τ).loc main_arg3) (ix1 k)) (fun k f => m ((c : Thread nD τ).loc main_arg6) (ix2 k f))
    fun k => m ((c : Thread nD τ).loc main_arg7) (ix1 k)

set_option maxHeartbeats 2000000 in
/-- What a point stores of the branch, read off the arrays the call is launched on. -/
theorem stored (c : Dev nD) (t : Fin cfg0.N) (r : Fin 256) (R : Fin 32768) (hR : R.val = t.val * 256 + r.val) (k : Fin 1024) :
    k0_pay7 (k0_pay5 (iblk m c 0 t) (iblk m c 3 t)) (iblk m c 6 t) (iblk m c 7 t) (ix2 r k) = row m c R k := by
  obtain ⟨e0, e1, e2⟩ := entry m c
  have b0 : ∀ (r : Fin 256) (R : Fin 32768) (k : Fin 1024), R.val = t.val * 256 + r.val →
      iblk m c 0 t (ix2 r k) = m ((c : Thread nD τ).loc main_arg0) (ix2 R k) := fun r R k h => by
    show V m c main_arg0 _ = _
    rw [V_main_arg0]
    blk_ext [iblk, idx t]
  have b3 : ∀ k : Fin 1024, iblk m c 3 t (ix2 0 k) = m ((c : Thread nD τ).loc main_arg3) (ix1 k) := fun k => by
    show V m c main_v2 _ = _
    rw [e0, show (win0_3.blk t).view.emb (ix2 0 k) = ix2 0 k from by blk_ext [idx t]]
    pointwise
  have b6 : ∀ k f : Fin 1024, iblk m c 6 t (ix2 k f) = m ((c : Thread nD τ).loc main_arg6) (ix2 k f) := fun k f => by
    show V m c main_v5 _ = _
    rw [e1]
    show m ((c : Thread nD τ).loc main_arg6) _ = _
    blk_ext [iblk, idx t]
  have b7 : ∀ k : Fin 1024, iblk m c 7 t (ix2 0 k) = m ((c : Thread nD τ).loc main_arg7) (ix1 k) := fun k => by
    show V m c main_v6 _ = _
    rw [e2, show (win0_7.blk t).view.emb (ix2 0 k) = ix2 0 k from by blk_ext [idx t]]
    pointwise
  rw [branch_apply]
  unfold row
  simp only [b0 r R _ hR, b3, b6, b7]

/-- Once a point's rows are stored, the scratch at one of them. -/
theorem own (c : Dev nD) (t : Fin cfg0.N) (L : List (View.Piece (Elt Ideal) S264x1024 .f32)) (f) (i : Fin 264) (k : Fin 1024)
    (hi : 8 ≤ i.val) (R : Fin 32768) (hR : R.val = t.val * 256 + (i.val - 8)) :
    View.read (Elt Ideal) (View.whole cc0_scratch0) ((View.whole cc0_scratch0).writes (Elt Ideal) f
      (⟨Rect.unit ![8, 0] ![256, 1024] inb_S264x1024_S256x1024_8_0,
        k0_pay7 (k0_pay5 (iblk m c 0 t) (iblk m c 3 t)) (iblk m c 6 t) (iblk m c 7 t)⟩ :: L)) (ix2 i k) = row m c R k :=
  (View.read_writes_cons_rows_of_mem _ _ inb_S264x1024_S256x1024_8_0 _ L (ix2 i k) (ix2 ⟨i.val - 8, by omega⟩ k) rfl
    (by show i.val = 8 + (i.val - 8); omega) rfl).trans (stored m c t _ R hR k)

/-- A load of the last eight rows of the scratch, after stores of the same point, at an index. -/
theorem loadedCov (inb : ∀ a : Fin 2, (![256, 0] : Fin 2 → ℕ) a + (![8, 1024] : Fin 2 → ℕ) a ≤ (![264, 1024] : Fin 2 → ℕ) a)
    (L : List (View.Piece (Elt Ideal) S264x1024 .f32)) (r : Fin 8) (k : Fin 1024) (i : Fin 264) (hi : i.val = 256 + r.val) :
    (View.whole cc0_scratch0).readCov L (Rect.unit (s := S264x1024) ![256, 0] ![8, 1024] inb).toLoadRect (ix2 r k)
      = View.read (Elt Ideal) (View.whole cc0_scratch0)
          ((View.whole cc0_scratch0).writes (Elt Ideal) (View.whole cc0_scratch0).junk L) (ix2 i k) :=
  View.ld_unit_apply_of (View.read (Elt Ideal) (View.whole cc0_scratch0)
    ((View.whole cc0_scratch0).writes (Elt Ideal) (View.whole cc0_scratch0).junk L)) _ _ inb (ix2 r k) (ix2 i k)
    (Fin.forall_fin_two.mpr ⟨hi, (Nat.zero_add _).symm⟩)

/-- What a point leaves in the result's block, at an index: the last rows of its tile. -/
theorem out17 (c : Dev nD) (t : Fin cfg0.N) (i : Fin 8) (k : Fin 1024) (R : Fin 32768)
    (hR : R.val = t.val * 256 + (248 + i.val)) : (outsAt0 m c t.val t.isLt).2.2.1 (ix3 0 i k) = row m c R k := by
  by_cases h0 : t.val % 8 = 0
  · rw [outsAt0_A m c t h0]
    frame_out
    pointwise [k0_pay2]
    rw [loadedCov _ _ _ k ⟨256 + i.val, by omega⟩ rfl, own m c t _ _ _ k (by dsimp only; omega) R (by dsimp only; omega)]
  · rw [outsAt0_B m c t h0]
    frame_out
    pointwise [k0_pay2]
    rw [loadedCov _ _ _ k ⟨256 + i.val, by omega⟩ rfl, own m c t _ _ _ k (by dsimp only; omega) R (by dsimp only; omega)]

/-- The last eight rows of a sequence. -/
def lastRow (b : Fin 16) (i : Fin 8) : Fin 32768 := ⟨b.val * 2048 + (2040 + i.val), by omega⟩

/-- The result after the run. -/
def result (c : Dev nD) : Buf (Elt Ideal) ((c : Thread nD τ).loc main_v14_2) := fun i => row m c (lastRow (i 0) (i 1)) (i 2)

/-- After the run the result's array is `result`. -/
theorem final (c : Dev nD) : (dats m 0 c).arrAt 17 cfg0.N = result m c := by
  refine (dats m 0 c).arrAt_eq_of_covers 17 _ (by decide +kernel) fun t hf y => ?_
  have h7 : t.val % 8 = 7 := (by decide +kernel : ∀ t : Fin grid0.N, win0_17.flush t = true → t.val % 8 = 7) t hf
  blk_simp
  rw [after0_17]
  obtain ⟨z, i, k, rfl⟩ : ∃ (z : Fin 1) (i : Fin 8) (k : Fin 1024), y = ix3 z i k := ⟨y 0, y 1, y 2, eq_ix3 y⟩
  obtain rfl : z = 0 := Subsingleton.elim _ _
  obtain ⟨b, hb⟩ : ∃ b : Fin 16, b.val = t.val / 8 := ⟨⟨t.val / 8, by have h : t.val < 128 := t.isLt; omega⟩, rfl⟩
  have hemb : (((View.whole main_v14_2).slice (win0_17.rect t)).emb (ix3 0 i k)) = ix3 b i k := by
    blk_ext [idx t]
  rw [hemb, out17 m c t i k (lastRow b i) (by dsimp only [lastRow]; omega)]
  rfl

/-- Every run of the call ends with `result`. -/
theorem run (g : Dev nD → PrngReg) : θ_run defs (onTc (τ := τ) (main (F := Ideal))) (s₀ m g)
    (fun r => ∀ c : Dev nD, r.2.mem ((c.tc : Thread nD τ).loc main_v14_2) = result m c) :=
  (θ_run _ _ _).mono (fun _ h c => ((h c).1 17).trans (final m c)) (run_main m g)

end Cert.Proof.RecurKernel

end
-- ==== Proof.RecurReference.lean ====
/-
  The reference of the rows that the prompts' recurrent mixer keeps, read at an index.
-/
module

public import proofs.«01_k».proof.Proof.Gen.RecurReferenceIdeal.Run
public import proofs.«01_k».proof.Proof.RecurSpec

@[expose] public section

set_option maxRecDepth 16384

noncomputable section

namespace Cert.Proof.RecurReference

open Cert.RecurReferenceIdeal Cert.RecurReferenceIdeal.Gen Cert.RecurReferenceIdeal.Value Cert.Proof.Layer
open Idealize.ShloMosaic Idealize.ShloMosaic.TcCoe Idealize.SL.Sem

/-- The branch at a row. -/
def row (x : FVec Ideal S32768x1024 .f32) (g : FVec Ideal S1024 .f32) (w : FVec Ideal S1024x1024 .f32) (b : FVec Ideal S1024 .f32)
    (R : Fin 32768) : Fin 1024 → EReal :=
  branch (fun k => x (ix2 R k)) (fun k => g (ix1 k)) (fun k f => w (ix2 k f)) fun k => b (ix1 k)

/-- The end of the branch with the earlier rows in front, as the reference's lines compute it. -/
def last (x : FVec Ideal S32768x1024 .f32) (buf : FVec Ideal S16x3x1024 .f32) (g : FVec Ideal S1024 .f32)
    (w : FVec Ideal S1024x1024 .f32) (b : FVec Ideal S1024 .f32) : FVec Ideal S16x8x1024 .f32 :=
  extractStridedSlice S16x8x1024 ![0, 2043, 0] (concatenate S16x2051x1024 1 [⟨S16x3x1024, buf⟩, ⟨S16x2048x1024, (shapeCast
    S16x2048x1024 (addf (Host.dotGeneral dot_S32768x1024_S1024x1024_S32768x1024_1_0_0_1_n_n none (mulf (mulf x
    (broadcastInDim S32768x1024 ![0, 1] bcast_S32768x1_S32768x1024_0_1 (Host.rsqrt (addf (Host.divf (broadcastInDim
    S32768x1 ![0] bcast_S32768_S32768x1_0 (Host.reduceAdd (mulf x x) (constant S_ .f32 0x00000000#32)
    reducesTo_S32768x1024_S32768_d1 h_S_)) (broadcastInDim S32768x1 ![] bcast_S_S32768x1 (constant S_ .f32
    0x44800000#32))) (broadcastInDim S32768x1 ![] bcast_S_S32768x1 (constant S_ .f32 0x358637BD#32)))))) (broadcastInDim
    S32768x1024 ![0, 1] bcast_S1x1024_S32768x1024_0_1 (broadcastInDim S1x1024 ![1] bcast_S1024_S1x1024_1 g))) w)
    (broadcastInDim S32768x1024 ![0, 1] bcast_S1x1024_S32768x1024_0_1 (broadcastInDim S1x1024 ![1] bcast_S1024_S1x1024_1
    b))) shapeCasts_S32768x1024_S16x2048x1024)⟩] concatenates_S16x3x1024_S16x2048x1024_S16x2051x1024_d1)
    slices_S16x2051x1024_S16x8x1024_0_2043_0

/-- The same, at an index. -/
theorem last_apply (x : FVec Ideal S32768x1024 .f32) (buf : FVec Ideal S16x3x1024 .f32) (g : FVec Ideal S1024 .f32)
    (w : FVec Ideal S1024x1024 .f32) (b : FVec Ideal S1024 .f32) (n : Fin 16) (i : Fin 8) (k : Fin 1024) (R : Fin 32768)
    (hR : R.val = n.val * 2048 + (2040 + i.val)) : last x buf g w b (ix3 n i k) = row x g w b R k := by
  have h : n.val * 2048 + (2043 + i.val - 3) < 32768 := by clear hR; omega
  obtain rfl : R = ⟨n.val * 2048 + (2043 + i.val - 3), h⟩ := Fin.ext (by dsimp only; omega)
  pointwise [last]
  rw [dif_neg (by omega)]
  rfl

end Cert.Proof.RecurReference

end
-- ==== Proof.RecurSampleKernel.lean ====
/-
  The last rows that the recurrent mixer's call keeps for the samples' next convolution.

  A grid point is one sample of 16 tokens: the body stores the tokens' rows of the branch from row 8 of its scratch on, and the
  last eight of them are the point's block of the result.
-/
module

public import proofs.«01_k».proof.Proof.Gen.RecurSampleIdeal.Frame
public import proofs.«01_k».proof.Proof.RecurSpec
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.RecurSampleKernel

open Cert.RecurSampleIdeal Cert.RecurSampleIdeal.Gen Cert.Proof.Layer Idealize.ShloMosaic Idealize.ShloMosaic.TcCoe Idealize.SL.Sem

/-- The stored block of the branch, at an index. -/
theorem branch_apply (x : Vec Ideal S16x1024 .f32) (g : Vec Ideal S1x1024 .f32) (w : Vec Ideal S1024x1024 .bf16)
    (b : Vec Ideal S1x1024 .f32) (r : Fin 16) (k : Fin 1024) : k0_pay7 (k0_pay5 x g) w b (ix2 r k)
      = branch (fun k => x (ix2 r k)) (fun k => g (ix2 0 k)) (fun k f => w (ix2 k f)) (fun k => b (ix2 0 k)) k := by
  pointwise [k0_pay7, k0_pay5]
  rfl

variable (m : (ℓ : Loc nD τ sig) → Buf (Elt Ideal) ℓ)

/-- The host lines before the call, of the arrays that the branch needs. -/
theorem entry (c : Dev nD) :
    V m c main_v2 = shapeCast S1x1024 (m ((c : Thread nD τ).loc main_arg4)) shapeCasts_S1024_S1x1024
    ∧ V m c main_v5 = truncf (F := Ideal) .bf16 (m ((c : Thread nD τ).loc main_arg7)) bitsLt_bf16_f32
    ∧ V m c main_v6 = shapeCast S1x1024 (m ((c : Thread nD τ).loc main_arg8)) shapeCasts_S1024_S1x1024 := by
  dsimp only [V, hostOps0, hostOps0_1, hostOps0_2, hostOps0_3, hostOps0_4, List.flatten_cons, List.flatten_nil, List.append_nil,
    List.cons_append, List.nil_append]
  refine ⟨?_, ?_, ?_⟩ <;> after_results <;> rfl

/-- The printed index maps of the windows that the branch needs. -/
theorem idx (t : Fin cfg0.N) : win0_0.index t = ![t.val, 0] ∧ win0_3.index t = ![0, 0] ∧ win0_6.index t = ![0, 0]
    ∧ win0_7.index t = ![0, 0] ∧ win0_17.index t = ![t.val, 0, 0] :=
  (by decide +kernel : ∀ t : Fin grid0.N, win0_0.index t = ![t.val, 0] ∧ win0_3.index t = ![0, 0] ∧ win0_6.index t = ![0, 0]
    ∧ win0_7.index t = ![0, 0] ∧ win0_17.index t = ![t.val, 0, 0]) t

/-- The branch at a row of the samples. -/
def row (c : Dev nD) (R : Fin 128) : Fin 1024 → EReal :=
  branch (fun k => m ((c : Thread nD τ).loc main_arg0) (ix2 (Fin.castLE (by decide) R) k))
    (fun k => m ((c : Thread nD τ).loc main_arg4) (ix1 k)) (fun k f => m ((c : Thread nD τ).loc main_arg7) (ix2 k f))
    fun k => m ((c : Thread nD τ).loc main_arg8) (ix1 k)

set_option maxHeartbeats 2000000 in
/-- What a point stores of the branch, read off the arrays the call is launched on. -/
theorem stored (c : Dev nD) (t : Fin cfg0.N) (r : Fin 16) (R : Fin 128) (hR : R.val = t.val * 16 + r.val) (k : Fin 1024) :
    k0_pay7 (k0_pay5 (iblk m c 0 t) (iblk m c 3 t)) (iblk m c 6 t) (iblk m c 7 t) (ix2 r k) = row m c R k := by
  obtain ⟨e0, e1, e2⟩ := entry m c
  have b0 : ∀ (r : Fin 16) (R : Fin 256) (k : Fin 1024), R.val = t.val * 16 + r.val →
      iblk m c 0 t (ix2 r k) = m ((c : Thread nD τ).loc main_arg0) (ix2 R k) := fun r R k h => by
    show V m c main_arg0 _ = _
    rw [V_main_arg0]
    blk_ext [iblk, idx t]
  have b3 : ∀ k : Fin 1024, iblk m c 3 t (ix2 0 k) = m ((c : Thread nD τ).loc main_arg4) (ix1 k) := fun k => by
    show V m c main_v2 _ = _
    rw [e0, show (win0_3.blk t).view.emb (ix2 0 k) = ix2 0 k from by blk_ext [idx t]]
    pointwise
  have b6 : ∀ k f : Fin 1024, iblk m c 6 t (ix2 k f) = m ((c : Thread nD τ).loc main_arg7) (ix2 k f) := fun k f => by
    show V m c main_v5 _ = _
    rw [e1]
    show m ((c : Thread nD τ).loc main_arg7) _ = _
    blk_ext [iblk, idx t]
  have b7 : ∀ k : Fin 1024, iblk m c 7 t (ix2 0 k) = m ((c : Thread nD τ).loc main_arg8) (ix1 k) := fun k => by
    show V m c main_v6 _ = _
    rw [e2, show (win0_7.blk t).view.emb (ix2 0 k) = ix2 0 k from by blk_ext [idx t]]
    pointwise
  rw [branch_apply]
  unfold row
  simp only [b0 r (Fin.castLE (by decide) R) _ hR, b3, b6, b7]

/-- Once a point's rows are stored, the scratch at one of them. -/
theorem own (c : Dev nD) (t : Fin cfg0.N) (L : List (View.Piece (Elt Ideal) S24x1024 .f32)) (f) (i : Fin 24) (k : Fin 1024)
    (hi : 8 ≤ i.val) (R : Fin 128) (hR : R.val = t.val * 16 + (i.val - 8)) :
    View.read (Elt Ideal) (View.whole cc0_scratch0) ((View.whole cc0_scratch0).writes (Elt Ideal) f
      (⟨Rect.unit ![8, 0] ![16, 1024] inb_S24x1024_S16x1024_8_0,
        k0_pay7 (k0_pay5 (iblk m c 0 t) (iblk m c 3 t)) (iblk m c 6 t) (iblk m c 7 t)⟩ :: L)) (ix2 i k) = row m c R k :=
  (View.read_writes_cons_rows_of_mem _ _ inb_S24x1024_S16x1024_8_0 _ L (ix2 i k) (ix2 ⟨i.val - 8, by omega⟩ k) rfl
    (by show i.val = 8 + (i.val - 8); omega) rfl).trans (stored m c t _ R hR k)

/-- A load of the last eight rows of the scratch, after stores of the same point, at an index. -/
theorem loadedCov (inb : ∀ a : Fin 2, (![16, 0] : Fin 2 → ℕ) a + (![8, 1024] : Fin 2 → ℕ) a ≤ (![24, 1024] : Fin 2 → ℕ) a)
    (L : List (View.Piece (Elt Ideal) S24x1024 .f32)) (r : Fin 8) (k : Fin 1024) (i : Fin 24) (hi : i.val = 16 + r.val) :
    (View.whole cc0_scratch0).readCov L (Rect.unit (s := S24x1024) ![16, 0] ![8, 1024] inb).toLoadRect (ix2 r k)
      = View.read (Elt Ideal) (View.whole cc0_scratch0)
          ((View.whole cc0_scratch0).writes (Elt Ideal) (View.whole cc0_scratch0).junk L) (ix2 i k) :=
  View.ld_unit_apply_of (View.read (Elt Ideal) (View.whole cc0_scratch0)
    ((View.whole cc0_scratch0).writes (Elt Ideal) (View.whole cc0_scratch0).junk L)) _ _ inb (ix2 r k) (ix2 i k)
    (Fin.forall_fin_two.mpr ⟨hi, (Nat.zero_add _).symm⟩)

/-- What a point leaves in the result's block, at an index: the last rows of its tile. -/
theorem out17 (c : Dev nD) (t : Fin cfg0.N) (i : Fin 8) (k : Fin 1024) (R : Fin 128)
    (hR : R.val = t.val * 16 + (8 + i.val)) : (outsAt0 m c t).2.2 (ix3 0 i k) = row m c R k := by
  dsimp only [outsAt0]
  frame_out
  pointwise [k0_pay2]
  rw [loadedCov _ _ _ k ⟨16 + i.val, by omega⟩ rfl, own m c t _ _ _ k (by dsimp only; omega) R (by dsimp only; omega)]

/-- The last eight rows of a sample. -/
def lastRow (b : Fin 8) (i : Fin 8) : Fin 128 := ⟨b.val * 16 + (8 + i.val), by omega⟩

/-- The result after the run. -/
def result (c : Dev nD) : Buf (Elt Ideal) ((c : Thread nD τ).loc main_v14_2) := fun i => row m c (lastRow (i 0) (i 1)) (i 2)

/-- After the run the result's array is `result`. -/
theorem final (c : Dev nD) : (dats m 0 c).arrAt 17 cfg0.N = result m c := by
  refine (dats m 0 c).arrAt_eq_of_covers 17 _ (by decide +kernel) fun t hf y => ?_
  blk_simp
  rw [after0_17]
  obtain ⟨z, i, k, rfl⟩ : ∃ (z : Fin 1) (i : Fin 8) (k : Fin 1024), y = ix3 z i k := ⟨y 0, y 1, y 2, eq_ix3 y⟩
  obtain rfl : z = 0 := Subsingleton.elim _ _
  obtain ⟨b, hb⟩ : ∃ b : Fin 8, b.val = t.val := ⟨⟨t.val, by have h : t.val < 8 := t.isLt; omega⟩, rfl⟩
  have hemb : (((View.whole main_v14_2).slice (win0_17.rect t)).emb (ix3 0 i k)) = ix3 b i k := by
    blk_ext [idx t]
  rw [hemb, out17 m c t i k (lastRow b i) (by dsimp only [lastRow]; omega)]
  rfl

/-- Every run of the call ends with `result`. -/
theorem run (g : Dev nD → PrngReg) : θ_run defs (onTc (τ := τ) (main (F := Ideal))) (s₀ m g)
    (fun r => ∀ c : Dev nD, r.2.mem ((c.tc : Thread nD τ).loc main_v14_2) = result m c) :=
  (θ_run _ _ _).mono (fun _ h c => ((h c).1 17).trans (final m c)) (run_main m g)

end Cert.Proof.RecurSampleKernel

end
-- ==== Proof.RecurSampleReference.lean ====
/-
  The reference of the rows that the samples' recurrent mixer keeps, read at an index.
-/
module

public import proofs.«01_k».proof.Proof.Gen.RecurSampleReferenceIdeal.Run
public import proofs.«01_k».proof.Proof.RecurSpec

@[expose] public section

set_option maxRecDepth 16384

noncomputable section

namespace Cert.Proof.RecurSampleReference

open Cert.RecurSampleReferenceIdeal Cert.RecurSampleReferenceIdeal.Gen Cert.RecurSampleReferenceIdeal.Value Cert.Proof.Layer
open Idealize.ShloMosaic Idealize.ShloMosaic.TcCoe Idealize.SL.Sem

/-- The branch at a row of the samples. -/
def row (x : FVec Ideal S256x1024 .f32) (g : FVec Ideal S1024 .f32) (w : FVec Ideal S1024x1024 .f32) (b : FVec Ideal S1024 .f32)
    (R : Fin 128) : Fin 1024 → EReal :=
  branch (fun k => x (ix2 (Fin.castLE (by decide) R) k)) (fun k => g (ix1 k)) (fun k f => w (ix2 k f)) fun k => b (ix1 k)

/-- The end of the branch with the earlier rows in front, as the reference's lines compute it. -/
def last (x : FVec Ideal S256x1024 .f32) (buf : FVec Ideal S8x3x1024 .f32) (g : FVec Ideal S1024 .f32)
    (w : FVec Ideal S1024x1024 .f32) (b : FVec Ideal S1024 .f32) : FVec Ideal S8x8x1024 .f32 :=
  extractStridedSlice S8x8x1024 ![0, 11, 0] (concatenate S8x19x1024 1 [⟨S8x3x1024, buf⟩, ⟨S8x16x1024, (shapeCast
    S8x16x1024 (addf (Host.dotGeneral dot_S128x1024_S1024x1024_S128x1024_1_0_0_1_n_n none (mulf (mulf (extractStridedSlice
    S128x1024 ![0, 0] x slices_S256x1024_S128x1024_0_0) (broadcastInDim S128x1024 ![0, 1] bcast_S128x1_S128x1024_0_1
    (Host.rsqrt (addf (Host.divf (broadcastInDim S128x1 ![0] bcast_S128_S128x1_0 (Host.reduceAdd (mulf
    (extractStridedSlice S128x1024 ![0, 0] x slices_S256x1024_S128x1024_0_0) (extractStridedSlice S128x1024 ![0, 0] x
    slices_S256x1024_S128x1024_0_0)) (constant S_ .f32 0x00000000#32) reducesTo_S128x1024_S128_d1 h_S_)) (broadcastInDim
    S128x1 ![] bcast_S_S128x1 (constant S_ .f32 0x44800000#32))) (broadcastInDim S128x1 ![] bcast_S_S128x1 (constant S_
    .f32 0x358637BD#32)))))) (broadcastInDim S128x1024 ![0, 1] bcast_S1x1024_S128x1024_0_1 (broadcastInDim S1x1024 ![1]
    bcast_S1024_S1x1024_1 g))) w) (broadcastInDim S128x1024 ![0, 1] bcast_S1x1024_S128x1024_0_1 (broadcastInDim S1x1024
    ![1] bcast_S1024_S1x1024_1 b))) shapeCasts_S128x1024_S8x16x1024)⟩] concatenates_S8x3x1024_S8x16x1024_S8x19x1024_d1)
    slices_S8x19x1024_S8x8x1024_0_11_0

/-- The same, at an index. -/
theorem last_apply (x : FVec Ideal S256x1024 .f32) (buf : FVec Ideal S8x3x1024 .f32) (g : FVec Ideal S1024 .f32)
    (w : FVec Ideal S1024x1024 .f32) (b : FVec Ideal S1024 .f32) (n : Fin 8) (i : Fin 8) (k : Fin 1024) (R : Fin 128)
    (hR : R.val = n.val * 16 + (8 + i.val)) : last x buf g w b (ix3 n i k) = row x g w b R k := by
  have h : n.val * 16 + (11 + i.val - 3) < 128 := by clear hR; omega
  obtain rfl : R = ⟨n.val * 16 + (11 + i.val - 3), h⟩ := Fin.ext (by dsimp only; omega)
  pointwise [last]
  rw [dif_neg (by omega)]
  rfl

end Cert.Proof.RecurSampleReference

end
-- ==== Proof.ConvMetaKernel.lean ====
/-
  The meta tokens' gated short convolution read at an index.

  The grid has one point, the 16 meta tokens, which are rows 128 to 143 of the stream: the scratch holds zeros in rows 6 and 7
  and the tokens' gates from row 8 on. The call writes its rows over a copy of the other calls' rows and leaves the rest as it
  was.
-/
module

public import proofs.«01_k».proof.Proof.Gen.ConvMetaIdeal.Frame
public import proofs.«01_k».proof.Proof.ConvSpec
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.ConvMetaKernel

open Cert.ConvMetaIdeal Cert.ConvMetaIdeal.Gen Cert.Proof.Layer Idealize.ShloMosaic Idealize.ShloMosaic.TcCoe Idealize.SL.Sem

/-- A row of the block's projection. -/
def brow (x : Vec Ideal S16x1024 .f32) (g : Vec Ideal S1x1024 .f32) (w : Vec Ideal S1024x3072 .bf16) (r : Fin 16) :
    Fin 3072 → EReal :=
  rowMul (rowNorm (fun k => x (ix2 r k)) fun k => g (ix2 0 k)) fun k f => w (ix2 k f)

/-- The block's projection, at an index. -/
theorem proj_apply (x : Vec Ideal S16x1024 .f32) (g : Vec Ideal S1x1024 .f32) (w : Vec Ideal S1024x3072 .bf16) (r : Fin 16)
    (f : Fin 3072) : k0_pay5 x g w (ix2 r f) = brow x g w r f := by
  pointwise [k0_pay5]
  rfl

/-- The block's gates, at an index. -/
theorem gate_apply (x : Vec Ideal S16x1024 .f32) (g : Vec Ideal S1x1024 .f32) (w : Vec Ideal S1024x3072 .bf16) (r : Fin 16)
    (k : Fin 1024) : k0_pay6 x g w (ix2 r k) = gate (brow x g w r) k := by
  pointwise [k0_pay6]
  simp only [proj_apply]
  rfl

/-- A block of the result, at an index, from the taps and the three stretches of the scratch. -/
theorem out_apply (x : Vec Ideal S16x1024 .f32) (g : Vec Ideal S1x1024 .f32) (w : Vec Ideal S1024x3072 .bf16)
    (w0 w1 w2 : Vec Ideal S1x1024 .f32) (s0 s1 s2 : Vec Ideal S16x1024 .f32) (r : Fin 16) (q : Fin 1024) :
    k0_pay1 (k0_pay5 x g w) (k0_pay7 w0 s0) (k0_pay8 w1) s1 w2 s2 (ix2 r q)
      = brow x g w r ⟨q.val, by have := q.isLt; omega⟩
        * (w0 (ix2 0 q) * s0 (ix2 r q) + w1 (ix2 0 q) * s1 (ix2 r q) + w2 (ix2 0 q) * s2 (ix2 r q)) := by
  pointwise [k0_pay1, k0_pay7, k0_pay8]
  simp only [proj_apply]

/-- After a store of `W` whole rows from row `o` on, the scratch at one of them. -/
theorem stored_in {o W : ℕ} (inb : ∀ a : Fin 2, (![o, 0] : Fin 2 → ℕ) a + (![W, 1024] : Fin 2 → ℕ) a ≤ (![24, 1024] : Fin 2 → ℕ) a)
    (w : (Rect.unit (s := S24x1024) ![o, 0] ![W, 1024] inb).shape.Idx → Elt Ideal .f32) (L : List (View.Piece (Elt Ideal) S24x1024 .f32))
    (f) (i : Fin 24) (k : Fin 1024) (x : Fin W) (hx : i.val = o + x.val) :
    View.read (Elt Ideal) (View.whole cc0_scratch0) ((View.whole cc0_scratch0).writes (Elt Ideal) f
      (⟨Rect.unit ![o, 0] ![W, 1024] inb, w⟩ :: L)) (ix2 i k) = w (ix2 x k) :=
  View.read_writes_cons_rows_of_mem _ _ inb w L (ix2 i k) (ix2 x k) rfl hx rfl

/-- After a store of `W` whole rows from row `o` on, the scratch at another row. -/
theorem stored_off {o W : ℕ} (inb : ∀ a : Fin 2, (![o, 0] : Fin 2 → ℕ) a + (![W, 1024] : Fin 2 → ℕ) a ≤ (![24, 1024] : Fin 2 → ℕ) a)
    (w : (Rect.unit (s := S24x1024) ![o, 0] ![W, 1024] inb).shape.Idx → Elt Ideal .f32) (L : List (View.Piece (Elt Ideal) S24x1024 .f32))
    (f) (i : Fin 24) (k : Fin 1024) (h : i.val < o ∨ o + W ≤ i.val) :
    View.read (Elt Ideal) (View.whole cc0_scratch0) ((View.whole cc0_scratch0).writes (Elt Ideal) f
      (⟨Rect.unit ![o, 0] ![W, 1024] inb, w⟩ :: L)) (ix2 i k)
      = View.read (Elt Ideal) (View.whole cc0_scratch0) ((View.whole cc0_scratch0).writes (Elt Ideal) f L) (ix2 i k) :=
  View.read_writes_cons_rows_of_not_mem _ _ inb w L (ix2 i k) rfl rfl h

/-- A load of `W` rows of the scratch from row `o` on, at an index. -/
theorem loaded {o W : ℕ} (inb : ∀ a : Fin 2, (![o, 0] : Fin 2 → ℕ) a + (![W, 1024] : Fin 2 → ℕ) a ≤ (![24, 1024] : Fin 2 → ℕ) a)
    (X : Vec Ideal S24x1024 .f32) (r : Fin W) (k : Fin 1024) (i : Fin 24) (hi : i.val = o + r.val) :
    View.ld X (Rect.unit (s := S24x1024) ![o, 0] ![W, 1024] inb) (ix2 r k) = X (ix2 i k) :=
  View.ld_unit_apply_of X _ _ inb (ix2 r k) (ix2 i k) (Fin.forall_fin_two.mpr ⟨hi, (Nat.zero_add _).symm⟩)

/-- The same of a load that reads what earlier stores of the same point left. -/
theorem loadedCov {o W : ℕ} (inb : ∀ a : Fin 2, (![o, 0] : Fin 2 → ℕ) a + (![W, 1024] : Fin 2 → ℕ) a ≤ (![24, 1024] : Fin 2 → ℕ) a)
    (L : List (View.Piece (Elt Ideal) S24x1024 .f32)) (r : Fin W) (k : Fin 1024) (i : Fin 24) (hi : i.val = o + r.val) :
    (View.whole cc0_scratch0).readCov L (Rect.unit (s := S24x1024) ![o, 0] ![W, 1024] inb).toLoadRect (ix2 r k)
      = View.read (Elt Ideal) (View.whole cc0_scratch0)
          ((View.whole cc0_scratch0).writes (Elt Ideal) (View.whole cc0_scratch0).junk L) (ix2 i k) :=
  loaded inb (View.read (Elt Ideal) (View.whole cc0_scratch0)
    ((View.whole cc0_scratch0).writes (Elt Ideal) (View.whole cc0_scratch0).junk L)) r k i hi

variable (m : (ℓ : Loc nD τ sig) → Buf (Elt Ideal) ℓ)

/-- The host lines before the call. -/
theorem entry (c : Dev nD) :
    V m c main_v0 = broadcastInDim S1x8x1024 ![] bcast_S_S1x8x1024 (constant (F := Ideal) S_ .f32 0x00000000#32)
    ∧ V m c main_v1 = shapeCast S1x1024 (m ((c : Thread nD τ).loc main_arg2)) shapeCasts_S1024_S1x1024
    ∧ V m c main_v2 = truncf (F := Ideal) .bf16 (m ((c : Thread nD τ).loc main_arg3)) bitsLt_bf16_f32
    ∧ V m c main_v3 = pad S8x1024 ![0, 0] ![5, 0] ![0, 0] (m ((c : Thread nD τ).loc main_arg4))
        (sitofp (F := Ideal) .f32 (constantI S_ 32 0#32)) pads_S3x1024_S8x1024_050_000 h_S_ := by
  dsimp only [V, hostOps0, hostOps0_1, hostOps0_2, List.flatten_cons, List.flatten_nil, List.append_nil,
    List.cons_append, List.nil_append]
  refine ⟨?_, ?_, ?_, ?_⟩ <;> after_results <;> rfl

/-- The printed index maps. -/
theorem idx (t : Fin cfg0.N) : win0_0.index t = ![8, 0] ∧ win0_1.index t = ![0, 0, 0] ∧ win0_2.index t = ![0, 0]
    ∧ win0_3.index t = ![0, 0] ∧ win0_4.index t = ![0, 0] ∧ win0_5.index t = ![8, 0] ∧ win0_6.index t = ![0, 0, 0] :=
  (by decide +kernel : ∀ t : Fin grid0.N, win0_0.index t = ![8, 0] ∧ win0_1.index t = ![0, 0, 0]
    ∧ win0_2.index t = ![0, 0] ∧ win0_3.index t = ![0, 0] ∧ win0_4.index t = ![0, 0] ∧ win0_5.index t = ![8, 0]
    ∧ win0_6.index t = ![0, 0, 0]) t

/-- The stream's row of a meta token. -/
def at128 (R : Fin 16) : Fin 256 := ⟨128 + R.val, by omega⟩

/-- The projected row of the normed stream, of a meta token. -/
def row (c : Dev nD) (R : Fin 16) : Fin 3072 → EReal :=
  rowMul (rowNorm (fun k => m ((c : Thread nD τ).loc main_arg0) (ix2 (at128 R) k))
    fun k => m ((c : Thread nD τ).loc main_arg2) (ix1 k))
  fun k f => m ((c : Thread nD τ).loc main_arg3) (ix2 k f)

/-- The taps. -/
def taps (c : Dev nD) (s : Fin 3) (k : Fin 1024) : EReal := m ((c : Thread nD τ).loc main_arg4) (ix2 s k)

set_option maxHeartbeats 2000000 in
/-- The blocks at the grid point, read off the arrays the call is launched on. -/
theorem blocks (c : Dev nD) (t : Fin cfg0.N) :
    (∀ r : Fin 16, brow (iblk m c 0 t) (iblk m c 2 t) (iblk m c 3 t) r = row m c r)
    ∧ (∀ (i : Fin 8) (k : Fin 1024), iblk m c 1 t (ix3 0 i k) = (0 : EReal))
    ∧ (∀ (i : Fin 8) (s : Fin 3) (k : Fin 1024), i.val = s.val → iblk m c 4 t (ix2 i k) = taps m c s k) := by
  obtain ⟨e0, e1, e2, e3⟩ := entry m c
  have b0 : ∀ (r : Fin 16) (k : Fin 1024),
      iblk m c 0 t (ix2 r k) = m ((c : Thread nD τ).loc main_arg0) (ix2 (at128 r) k) := fun r k => by
    obtain ⟨R, hR⟩ : ∃ R : Fin 256, R.val = 128 + r.val := ⟨at128 r, rfl⟩
    obtain rfl : at128 r = R := Fin.ext hR.symm
    show V m c main_arg0 _ = _
    rw [V_main_arg0]
    blk_ext [iblk, idx t, at128]
  have b2 : ∀ k : Fin 1024, iblk m c 2 t (ix2 0 k) = m ((c : Thread nD τ).loc main_arg2) (ix1 k) := fun k => by
    show V m c main_v1 _ = _
    rw [e1, show (win0_2.blk t).view.emb (ix2 0 k) = ix2 0 k from by blk_ext [idx t]]
    pointwise
  have b3 : ∀ (k : Fin 1024) (f : Fin 3072), iblk m c 3 t (ix2 k f) = m ((c : Thread nD τ).loc main_arg3) (ix2 k f) :=
    fun k f => by
    show V m c main_v2 _ = _
    rw [e2]
    show m ((c : Thread nD τ).loc main_arg3) _ = _
    blk_ext [iblk, idx t]
  refine ⟨fun r => ?_, fun i k => ?_, fun i s k hi => ?_⟩
  · unfold brow row
    simp only [b0, b2, b3]
  · show V m c main_v0 _ = _
    rw [e0]
    pointwise
  · show V m c main_v3 _ = _
    rw [e3, show (win0_4.blk t).view.emb (ix2 i k) = ix2 i k from by blk_ext [idx t]]
    pointwise
    have hp : ∀ a : Fin 2, (![0, 0] : Fin 2 → ℕ) a ≤ (ix2 i k a).val
        ∧ ((ix2 i k a).val - (![0, 0] : Fin 2 → ℕ) a) % ((![0, 0] : Fin 2 → ℕ) a + 1) = 0
        ∧ ((ix2 i k a).val - (![0, 0] : Fin 2 → ℕ) a) / ((![0, 0] : Fin 2 → ℕ) a + 1) < S3x1024.size a := fun a =>
      match a with
      | 0 => ⟨Nat.zero_le _, Nat.mod_one _, by show (i.val - 0) / 1 < 3; omega⟩
      | 1 => ⟨Nat.zero_le _, Nat.mod_one _, by show (k.val - 0) / 1 < 1024; omega⟩
    refine (dif_pos hp).trans ?_
    exact congrArg (m ((c : Thread nD τ).loc main_arg4)) (congrArg (fun s => ix2 s k) (Fin.ext hi))

/-- Once the gates are stored, the scratch from row 8 on is them. -/
theorem own (c : Dev nD) (t : Fin cfg0.N) (L : List (View.Piece (Elt Ideal) S24x1024 .f32)) (f) (i : Fin 24) (k : Fin 1024)
    (hi : 8 ≤ i.val) (R : Fin 16) (hR : R.val = i.val - 8) :
    View.read (Elt Ideal) (View.whole cc0_scratch0) ((View.whole cc0_scratch0).writes (Elt Ideal) f
      (⟨Rect.unit ![8, 0] ![16, 1024] inb_S24x1024_S16x1024_8_0, k0_pay6 (iblk m c 0 t) (iblk m c 2 t) (iblk m c 3 t)⟩ :: L))
      (ix2 i k) = gate (row m c R) k := by
  rw [stored_in _ _ _ _ i k R (by omega), gate_apply, (blocks m c t).1]

/-- What the scratch holds while the result is computed, from row 6 on: the gates below two rows of zeros. -/
theorem held (c : Dev nD) (t : Fin cfg0.N) (f) (i : Fin 24) (k : Fin 1024) (s : ℕ) (hs : s < 18) (hi : 6 ≤ i.val)
    (hsi : s = i.val - 6) :
    View.read (Elt Ideal) (View.whole cc0_scratch0) ((View.whole cc0_scratch0).writes (Elt Ideal) f
      [⟨Rect.unit ![8, 0] ![16, 1024] inb_S24x1024_S16x1024_8_0, k0_pay6 (iblk m c 0 t) (iblk m c 2 t) (iblk m c 3 t)⟩,
        ⟨Rect.unit ![0, 0] ![8, 1024] inb_S24x1024_S8x1024_0_0, k0_pay4 (iblk m c 1 t)⟩]) (ix2 i k)
      = laggedMeta (row m c) s hs k := by
  by_cases h8 : 8 ≤ i.val
  · rw [laggedMeta_gate _ _ _ _ (by omega) ⟨i.val - 8, by omega⟩ (by dsimp only; omega)]
    exact own m c t _ _ i k h8 _ rfl
  · rw [stored_off _ _ _ _ i k (by omega), stored_in _ _ _ _ i k ⟨i.val, by omega⟩ (by dsimp only; omega), laggedMeta,
      dif_pos (by omega)]
    pointwise [k0_pay4]
    exact (blocks m c t).2.1 _ k

/-- A row loaded from the taps' block. -/
theorem loadedRow {o : ℕ} (inb : ∀ a : Fin 2, (![o, 0] : Fin 2 → ℕ) a + (![1, 1024] : Fin 2 → ℕ) a ≤ (![8, 1024] : Fin 2 → ℕ) a)
    (X : Vec Ideal S8x1024 .f32) (k : Fin 1024) (i : Fin 8) (hi : i.val = o + 0) :
    View.ld X (Rect.unit (s := S8x1024) ![o, 0] ![1, 1024] inb) (ix2 0 k) = X (ix2 i k) :=
  View.ld_unit_apply_of X _ _ inb (ix2 0 k) (ix2 i k) (Fin.forall_fin_two.mpr ⟨hi, (Nat.zero_add _).symm⟩)

/-- A tap loaded from its block. -/
theorem tap (c : Dev nD) (t : Fin cfg0.N) {o : ℕ} (inb : ∀ a : Fin 2, (![o, 0] : Fin 2 → ℕ) a + (![1, 1024] : Fin 2 → ℕ) a ≤ (![8, 1024] : Fin 2 → ℕ) a)
    (s : Fin 3) (hs : s.val = o) (k : Fin 1024) :
    View.ld (iblk m c 4 t) (Rect.unit (s := S8x1024) ![o, 0] ![1, 1024] inb) (ix2 0 k) = taps m c s k :=
  (loadedRow inb (iblk m c 4 t) k ⟨s.val, by omega⟩ hs).trans ((blocks m c t).2.2 _ s k rfl)

/-- What the point leaves in the first result's block, at an index. -/
theorem out5 (c : Dev nD) (t : Fin cfg0.N) (r : Fin 16) (q : Fin 1024) :
    (outsAt0 m c t).1 (ix2 r q) = metaRow (row m c) (taps m c) r q := by
  have s2 := fun L f => own m c t L f ⟨8 + r.val, by omega⟩ q (by dsimp only; omega) r (by dsimp only; omega)
  have s0 := fun f => held m c t f ⟨6 + r.val, by omega⟩ q r.val (by omega) (by dsimp only; omega) (by dsimp only; omega)
  have s1 := fun f => held m c t f ⟨7 + r.val, by omega⟩ q (1 + r.val) (by omega) (by dsimp only; omega)
    (by dsimp only; omega)
  dsimp only [outsAt0]
  frame_out
  rw [out_apply, loadedCov _ _ r q ⟨6 + r.val, by omega⟩ rfl, loadedCov _ _ r q ⟨7 + r.val, by omega⟩ rfl,
    loadedCov _ _ r q ⟨8 + r.val, by omega⟩ rfl, s0, s1, s2,
    tap m c t (o := 0) _ 0 rfl, tap m c t (o := 1) _ 1 rfl, tap m c t (o := 2) _ 2 rfl, (blocks m c t).1 r]
  rfl

/-- The last eight meta tokens. -/
def lastRow (i : Fin 8) : Fin 16 := ⟨8 + i.val, by omega⟩

/-- What the point leaves in the second result's block, at an index: the last gates. -/
theorem out6 (c : Dev nD) (t : Fin cfg0.N) (i : Fin 8) (k : Fin 1024) :
    (outsAt0 m c t).2 (ix3 0 i k) = gate (row m c (lastRow i)) k := by
  dsimp only [outsAt0]
  frame_out
  pointwise [k0_pay3]
  rw [loadedCov _ _ _ k ⟨16 + i.val, by omega⟩ rfl,
    own m c t _ _ _ k (by dsimp only; omega) (lastRow i) (by dsimp only [lastRow]; omega)]

/-- The first result after the run: the meta tokens' rows over the rows it is given. -/
def result5 (c : Dev nD) : Buf (Elt Ideal) ((c : Thread nD τ).loc main_v4_0) := fun i =>
  if h : 128 ≤ (i 0).val ∧ (i 0).val < 144 then metaRow (row m c) (taps m c) ⟨(i 0).val - 128, by omega⟩ (i 1)
  else m ((c : Thread nD τ).loc main_arg1) i

/-- `result5` at a row of the meta tokens. -/
theorem result5_meta (c : Dev nD) (R : Fin 256) (q : Fin 1024) (r : Fin 16) (h : R.val = 128 + r.val) :
    result5 m c (ix2 R q) = metaRow (row m c) (taps m c) r q := by
  show (if h : 128 ≤ R.val ∧ R.val < 144 then metaRow (row m c) (taps m c) ⟨R.val - 128, by omega⟩ q
    else m ((c : Thread nD τ).loc main_arg1) (ix2 R q)) = _
  rw [dif_pos (by omega)]
  exact congrArg (fun r => metaRow (row m c) (taps m c) r q) (Fin.ext (by dsimp only; omega))

/-- `result5` at another row. -/
theorem result5_kept (c : Dev nD) (i : S256x1024.Idx) (h : ¬(128 ≤ (i 0).val ∧ (i 0).val < 144)) :
    result5 m c i = m ((c : Thread nD τ).loc main_arg1) i := by
  show (if h : 128 ≤ (i 0).val ∧ (i 0).val < 144 then metaRow (row m c) (taps m c) ⟨(i 0).val - 128, by omega⟩ (i 1)
    else m ((c : Thread nD τ).loc main_arg1) i) = _
  exact dif_neg h

/-- The first result's array before the call. -/
theorem entry5 (c : Dev nD) : V m c main_v4_0 = m ((c : Thread nD τ).loc main_arg1) := by
  dsimp only [V, hostOps0, hostOps0_1, hostOps0_2, List.flatten_cons, List.flatten_nil, List.append_nil,
    List.cons_append, List.nil_append]
  after_results
  rfl

/-- After the run the first result's array is `result5`. -/
theorem final5 (c : Dev nD) : (dats m 0 c).arrAt 5 cfg0.N = result5 m c := by
  refine (dats m 0 c).arrAt_eq_of_coversWhere_of_agree 5 _ (fun β => β (0 : Fin _) = 8) (by decide +kernel)
    (fun t hf y => ?_) fun j hj => ?_
  · blk_simp
    rw [after0_5]
    obtain ⟨r, q, rfl⟩ : ∃ (r : Fin 16) (q : Fin 1024), y = ix2 r q := ⟨y 0, y 1, eq_ix2 y⟩
    obtain ⟨R, hR⟩ : ∃ R : Fin 256, R.val = 128 + r.val := ⟨at128 r, rfl⟩
    have hemb : (((View.whole main_v4_0).slice (win0_5.rect t)).emb (ix2 r q)) = ix2 R q := by
      blk_ext [idx t]
    rw [hemb, out5 m c t r q]
    exact (result5_meta m c R q r hR).symm
  · rw [A_eq]
    have h : ¬(128 ≤ (j 0).val ∧ (j 0).val < 144) := fun h => hj (by show (j 0).val / 16 = 8; omega)
    refine (congrFun (entry5 m c) _).trans ?_
    exact (result5_kept m c j h).symm

/-- The second result after the run. -/
def result6 (c : Dev nD) : Buf (Elt Ideal) ((c : Thread nD τ).loc main_v4_1) := fun i => gate (row m c (lastRow (i 1))) (i 2)

/-- After the run the second result's array is `result6`. -/
theorem final6 (c : Dev nD) : (dats m 0 c).arrAt 6 cfg0.N = result6 m c := by
  refine (dats m 0 c).arrAt_eq_of_covers 6 _ (by decide +kernel) fun t hf y => ?_
  blk_simp
  rw [after0_6]
  obtain ⟨z, i, k, rfl⟩ : ∃ (z : Fin 1) (i : Fin 8) (k : Fin 1024), y = ix3 z i k := ⟨y 0, y 1, y 2, eq_ix3 y⟩
  obtain rfl : z = 0 := Subsingleton.elim _ _
  have hemb : (((View.whole main_v4_1).slice (win0_6.rect t)).emb (ix3 0 i k)) = ix3 0 i k := by
    blk_ext [idx t]
  rw [hemb, out6 m c t i k]
  rfl

end Cert.Proof.ConvMetaKernel

end
-- ==== Proof.ConvMetaReference.lean ====
/-
  The reference of the meta tokens' short convolution read at an index: rows 128 to 143 of its first result are
  `Layer.metaRow`, the others are the given rows, and its second result is the end of the tokens' gates.
-/
module

public import proofs.«01_k».proof.Proof.Gen.ConvMetaReferenceIdeal.Run
public import proofs.«01_k».proof.Proof.ConvSpec

@[expose] public section

set_option maxRecDepth 16384

noncomputable section

namespace Cert.Proof.ConvMetaReference

open Cert.ConvMetaReferenceIdeal Cert.ConvMetaReferenceIdeal.Gen Cert.ConvMetaReferenceIdeal.Value Cert.Proof.Layer
open Idealize.ShloMosaic Idealize.ShloMosaic.TcCoe Idealize.SL.Sem

/-- The projected row of the normed stream, of a meta token. -/
def row (x : FVec Ideal S256x1024 .f32) (g : FVec Ideal S1024 .f32) (w : FVec Ideal S1024x3072 .f32) (R : Fin 16) :
    Fin 3072 → EReal :=
  rowMul (rowNorm (fun k => x (ix2 (⟨128 + R.val, by omega⟩ : Fin 256) k)) fun k => g (ix1 k)) fun k f => w (ix2 k f)

variable (m : (ℓ : Loc nD τ sig) → Buf (Elt Ideal) ℓ)

/-- The first result at a row of the meta tokens. -/
theorem final (c : Dev nD) (R : Fin 256) (q : Fin 1024) (h : 128 ≤ R.val ∧ R.val < 144) : res_main_v45 m c (ix2 R q) =
    metaRow (row (m ((c : Thread nD τ).loc main_arg0)) (m ((c : Thread nD τ).loc main_arg2)) (m ((c : Thread nD τ).loc main_arg3)))
      (fun s k => m ((c : Thread nD τ).loc main_arg4) (ix2 s k)) ⟨R.val - 128, by omega⟩ q := by
  pointwise [res_main_v45, fn_main_v45, fn_main_v20]
  rw [dif_neg (by omega), dif_pos (by omega)]
  rfl

/-- The first result at another row. -/
theorem kept (c : Dev nD) (R : Fin 256) (q : Fin 1024) (h : ¬(128 ≤ R.val ∧ R.val < 144)) :
    res_main_v45 m c (ix2 R q) = m ((c : Thread nD τ).loc main_arg1) (ix2 R q) := by
  pointwise [res_main_v45, fn_main_v45, fn_main_v20]
  by_cases h1 : R.val < 128
  · rw [dif_pos h1]
  · rw [dif_neg h1, dif_neg (by omega)]
    refine congrArg (m ((c : Thread nD τ).loc main_arg1)) (congrArg (fun R => ix2 R q) (Fin.ext ?_))
    dsimp only
    omega

/-- The last gates, as the reference's lines compute them. -/
def gates (x : FVec Ideal S256x1024 .f32) (g : FVec Ideal S1024 .f32) (w : FVec Ideal S1024x3072 .f32) :
    FVec Ideal S1x8x1024 .f32 :=
  broadcastInDim S1x8x1024 ![1, 2] bcast_S8x1024_S1x8x1024_1_2 (extractStridedSlice S8x1024 ![10, 0] (concatenate S18x1024
    0 [⟨S2x1024, (broadcastInDim S2x1024 ![] bcast_S_S2x1024 (constant S_ .f32 0x00000000#32))⟩, ⟨S16x1024, (mulf
    (extractStridedSlice S16x1024 ![0, 1024] (Host.dotGeneral dot_S16x1024_S1024x3072_S16x3072_1_0_0_1_n_n none (mulf
    (mulf (extractStridedSlice S16x1024 ![128, 0] x slices_S256x1024_S16x1024_128_0) (broadcastInDim S16x1024 ![0, 1]
    bcast_S16x1_S16x1024_0_1 (Host.rsqrt (addf (Host.divf (broadcastInDim S16x1 ![0] bcast_S16_S16x1_0 (Host.reduceAdd
    (mulf (extractStridedSlice S16x1024 ![128, 0] x slices_S256x1024_S16x1024_128_0) (extractStridedSlice S16x1024 ![128,
    0] x slices_S256x1024_S16x1024_128_0)) (constant S_ .f32 0x00000000#32) reducesTo_S16x1024_S16_d1 h_S_))
    (broadcastInDim S16x1 ![] bcast_S_S16x1 (constant S_ .f32 0x44800000#32))) (broadcastInDim S16x1 ![] bcast_S_S16x1
    (constant S_ .f32 0x358637BD#32)))))) (broadcastInDim S16x1024 ![0, 1] bcast_S1x1024_S16x1024_0_1 (broadcastInDim
    S1x1024 ![1] bcast_S1024_S1x1024_1 g))) w) slices_S16x3072_S16x1024_0_1024) (extractStridedSlice S16x1024 ![0, 2048]
    (Host.dotGeneral dot_S16x1024_S1024x3072_S16x3072_1_0_0_1_n_n none (mulf (mulf (extractStridedSlice S16x1024 ![128, 0]
    x slices_S256x1024_S16x1024_128_0) (broadcastInDim S16x1024 ![0, 1] bcast_S16x1_S16x1024_0_1 (Host.rsqrt (addf
    (Host.divf (broadcastInDim S16x1 ![0] bcast_S16_S16x1_0 (Host.reduceAdd (mulf (extractStridedSlice S16x1024 ![128, 0]
    x slices_S256x1024_S16x1024_128_0) (extractStridedSlice S16x1024 ![128, 0] x slices_S256x1024_S16x1024_128_0))
    (constant S_ .f32 0x00000000#32) reducesTo_S16x1024_S16_d1 h_S_)) (broadcastInDim S16x1 ![] bcast_S_S16x1 (constant S_
    .f32 0x44800000#32))) (broadcastInDim S16x1 ![] bcast_S_S16x1 (constant S_ .f32 0x358637BD#32)))))) (broadcastInDim
    S16x1024 ![0, 1] bcast_S1x1024_S16x1024_0_1 (broadcastInDim S1x1024 ![1] bcast_S1024_S1x1024_1 g))) w)
    slices_S16x3072_S16x1024_0_2048))⟩] concatenates_S2x1024_S16x1024_S18x1024_d0) slices_S18x1024_S8x1024_10_0)

/-- The second result, at an index. -/
theorem gates_apply (x : FVec Ideal S256x1024 .f32) (g : FVec Ideal S1024 .f32) (w : FVec Ideal S1024x3072 .f32) (i : Fin 8)
    (k : Fin 1024) (R : Fin 16) (hR : R.val = 8 + i.val) : gates x g w (ix3 0 i k) = gate (row x g w R) k := by
  rw [show R = (⟨10 + i.val - 2, by omega⟩ : Fin 16) from Fin.ext (by dsimp only; omega)]
  pointwise [gates]
  rw [dif_neg (by omega)]
  rfl

end Cert.Proof.ConvMetaReference

end
-- ==== Proof.lean ====
/-
  The proof of `Cert.Claim`.

  The attention call: `Proof/Safe.lean` has the rules for a body that only has to keep its buffers, `Proof/Attn.lean` takes
  the body apart by them, `Proof/AttnRun.lean` runs it over the grid.
  The feed-forward call: `Proof/Spec.lean` states one row of the layer's feed-forward part in the extended reals,
  `Proof/FfnKernel.lean` reads the call's result as that, `Proof/FfnReference.lean` the reference's; the same for an
  earlier layer's call in `Proof/InnerKernel.lean` and `Proof/InnerReference.lean`.
  The projections and the short convolution: `Proof/ProjKernel.lean`, `Proof/ConvKernel.lean` and the references' modules.
  The same calls on the stream of samples and meta tokens: `Proof/FfnTailKernel.lean`, `Proof/ProjTailKernel.lean`,
  `Proof/ConvSampleKernel.lean`, `Proof/ConvMetaKernel.lean` and the references' modules.
  The recurrent mixer's last result: `Proof/RecurSpec.lean` states one row of the mixer's branch, `Proof/RecurKernel.lean`
  reads the result of the prompts' call, `Proof/RecurSampleKernel.lean` that of the samples' call.
-/
module

public import proofs.«01_k».proof.Defs
public import proofs.«01_k».proof.Proof.AttnRun
public import proofs.«01_k».proof.Proof.Gen.Ffn.Frame
public import proofs.«01_k».proof.Proof.FfnKernel
public import proofs.«01_k».proof.Proof.FfnReference
public import proofs.«01_k».proof.Proof.Gen.Inner.Frame
public import proofs.«01_k».proof.Proof.InnerKernel
public import proofs.«01_k».proof.Proof.InnerReference
public import proofs.«01_k».proof.Proof.Gen.Proj.Frame
public import proofs.«01_k».proof.Proof.ProjKernel
public import proofs.«01_k».proof.Proof.ProjReference
public import proofs.«01_k».proof.Proof.Gen.Conv.Frame
public import proofs.«01_k».proof.Proof.ConvKernel
public import proofs.«01_k».proof.Proof.ConvReference
public import proofs.«01_k».proof.Proof.Gen.FfnTail.Frame
public import proofs.«01_k».proof.Proof.FfnTailKernel
public import proofs.«01_k».proof.Proof.FfnTailReference
public import proofs.«01_k».proof.Proof.Gen.ProjTail.Frame
public import proofs.«01_k».proof.Proof.ProjTailKernel
public import proofs.«01_k».proof.Proof.ProjTailReference
public import proofs.«01_k».proof.Proof.Gen.ConvSample.Frame
public import proofs.«01_k».proof.Proof.ConvSampleKernel
public import proofs.«01_k».proof.Proof.ConvSampleReference
public import proofs.«01_k».proof.Proof.Gen.Recur.Frame
public import proofs.«01_k».proof.Proof.RecurKernel
public import proofs.«01_k».proof.Proof.RecurReference
public import proofs.«01_k».proof.Proof.Gen.RecurSample.Frame
public import proofs.«01_k».proof.Proof.RecurSampleKernel
public import proofs.«01_k».proof.Proof.RecurSampleReference
public import proofs.«01_k».proof.Proof.Gen.ConvMeta.Frame
public import proofs.«01_k».proof.Proof.ConvMetaKernel
public import proofs.«01_k».proof.Proof.ConvMetaReference
public import Idealize.ShloMosaic.Lib.Claim

@[expose] public section

set_option maxRecDepth 16384

namespace Cert.Proof

open Idealize.ShloMosaic Idealize.SL.Sem

/-- The feed-forward call and its reference end with the same result. -/
theorem ffn : letI := Cert.FfnIdeal.Gen.facts; letI := Cert.FfnReferenceIdeal.Gen.facts
    Cert.algebraic_FfnIdeal_FfnReferenceIdeal := by
  pair_intro
  · run_from Cert.FfnIdeal.Gen.run_main m g
  · run_from Cert.FfnReferenceIdeal.Value.run m' g'
    refine .trans ?_ (FfnKernel.final m c).symm
    obtain ⟨a0, a1, a2, a3, a4, a5, a6, a7⟩ := hagree c
    funext i
    obtain ⟨r, q, rfl⟩ : ∃ (r : Fin 32768) (q : Fin 1024), i = ix2 r q := ⟨i 0, i 1, eq_ix2 i⟩
    refine (FfnReference.final m' c r q).trans ?_
    rw [a0, a1, a2, a3, a4, a5, a6, a7]
    rfl

/-- The feed-forward call of an earlier layer and its reference end with the same result. -/
theorem inner : letI := Cert.InnerIdeal.Gen.facts; letI := Cert.InnerReferenceIdeal.Gen.facts
    Cert.algebraic_InnerIdeal_InnerReferenceIdeal := by
  pair_intro
  · run_from Cert.InnerIdeal.Gen.run_main m g
  · run_from Cert.InnerReferenceIdeal.Value.run m' g'
    refine .trans ?_ (InnerKernel.final m c).symm
    obtain ⟨a0, a1, a2, a3, a4, a5, a6, a7, -⟩ := hagree c
    funext i
    obtain ⟨r, q, rfl⟩ : ∃ (r : Fin 32768) (q : Fin 1024), i = ix2 r q := ⟨i 0, i 1, eq_ix2 i⟩
    refine (InnerReference.final m' c r q).trans ?_
    rw [a0, a1, a2, a3, a4, a5, a6, a7]
    rfl

set_option maxHeartbeats 8000000 in
/-- The call of the attention's projections and its reference end with the same nine results. -/
theorem proj : letI := Cert.ProjIdeal.Gen.facts; letI := Cert.ProjReferenceIdeal.Gen.facts
    Cert.algebraic_ProjIdeal_ProjReferenceIdeal := by
  pair_intro
  · run_from Cert.ProjIdeal.Gen.run_main m g
  · refine θ_run_mono (Cert.ProjReferenceIdeal.Value.run m' g') fun r hr c => ?_
    obtain ⟨a0, a1, a2, a3, a4, a5, a6, a7⟩ := hagree c
    obtain ⟨h0, h1, h2, h3, h4, h5, h6, h7, h8, h⟩ := hr c
    refine ⟨h0.trans ?_, h1.trans ?_, h2.trans ?_, h3.trans ?_, h4.trans ?_, h5.trans ?_, h6.trans ?_, h7.trans ?_, h8.trans ?_, h⟩
    all_goals clear h0 h1 h2 h3 h4 h5 h6 h7 h8 h hr
    · refine .trans ?_ (ProjKernel.final4 m c).symm
      funext i
      obtain ⟨r, f, rfl⟩ : ∃ (r : Fin 32768) (f : Fin 256), i = ix2 r f := ⟨i 0, i 1, eq_ix2 i⟩
      refine (ProjReference.rows256_apply _ _ _ r f).trans ?_
      rw [a0, a1, a3]
      rfl
    · refine .trans ?_ (ProjKernel.final5 m c).symm
      funext i
      obtain ⟨r, f, rfl⟩ : ∃ (r : Fin 32768) (f : Fin 256), i = ix2 r f := ⟨i 0, i 1, eq_ix2 i⟩
      refine (ProjReference.rows256_apply _ _ _ r f).trans ?_
      rw [a0, a1, a4]
      rfl
    · refine .trans ?_ (ProjKernel.final6 m c).symm
      funext i
      obtain ⟨r, f, rfl⟩ : ∃ (r : Fin 32768) (f : Fin 64), i = ix2 r f := ⟨i 0, i 1, eq_ix2 i⟩
      refine (ProjReference.rows64_apply _ _ _ r f).trans ?_
      rw [a0, a1, a6]
      rfl
    · refine .trans ?_ (ProjKernel.final7 m c).symm
      funext i
      obtain ⟨r, f, rfl⟩ : ∃ (r : Fin 32768) (f : Fin 256), i = ix2 r f := ⟨i 0, i 1, eq_ix2 i⟩
      refine (ProjReference.rows256_apply _ _ _ r f).trans ?_
      rw [a0, a1, a3]
      rfl
    · refine .trans ?_ (ProjKernel.final8 m c).symm
      funext i
      obtain ⟨r, f, rfl⟩ : ∃ (r : Fin 32768) (f : Fin 64), i = ix2 r f := ⟨i 0, i 1, eq_ix2 i⟩
      refine (ProjReference.rows64_apply _ _ _ r f).trans ?_
      rw [a0, a1, a6]
      rfl
    · refine .trans ?_ (ProjKernel.final9 m c).symm
      funext i
      obtain ⟨b, f, l, rfl⟩ : ∃ (b : Fin 256) (f : Fin 1024) (l : Fin 128), i = ix3 b f l := ⟨i 0, i 1, i 2, eq_ix3 i⟩
      refine (ProjReference.cols1024_apply _ _ _ b f l).trans ?_
      rw [a0, a1, a2]
      rfl
    · refine .trans ?_ (ProjKernel.final10 m c).symm
      funext i
      obtain ⟨b, f, l, rfl⟩ : ∃ (b : Fin 256) (f : Fin 512) (l : Fin 128), i = ix3 b f l := ⟨i 0, i 1, i 2, eq_ix3 i⟩
      refine (ProjReference.cols512_apply _ _ _ b f l).trans ?_
      rw [a0, a1, a5]
      rfl
    · refine .trans ?_ (ProjKernel.final11 m c).symm
      funext i
      obtain ⟨b, f, l, rfl⟩ : ∃ (b : Fin 256) (f : Fin 256) (l : Fin 128), i = ix3 b f l := ⟨i 0, i 1, i 2, eq_ix3 i⟩
      refine (ProjReference.cols256_apply _ _ _ b f l).trans ?_
      rw [a0, a1, a4]
      rfl
    · refine .trans ?_ (ProjKernel.final12 m c).symm
      funext i
      obtain ⟨b, f, l, rfl⟩ : ∃ (b : Fin 256) (f : Fin 8) (l : Fin 128), i = ix3 b f l := ⟨i 0, i 1, i 2, eq_ix3 i⟩
      refine (ProjReference.cols8_apply _ _ _ b f l).trans ?_
      rw [a0, a1, a7]
      rfl

/-- The gated short convolution and its reference end with the same two results. -/
theorem conv : letI := Cert.ConvIdeal.Gen.facts; letI := Cert.ConvReferenceIdeal.Gen.facts
    Cert.algebraic_ConvIdeal_ConvReferenceIdeal := by
  pair_intro
  · run_from Cert.ConvIdeal.Gen.run_main m g
    exacts [Cert.ConvIdeal.Gen.V_main_arg1 m c, Cert.ConvIdeal.Gen.V_main_arg2 m c, Cert.ConvIdeal.Gen.V_main_arg3 m c,
      Cert.ConvIdeal.Gen.V_main_arg4 m c]
  · run_from Cert.ConvReferenceIdeal.Value.run m' g'
    all_goals obtain ⟨a0, a1, a2, a3, a4⟩ := hagree c
    · refine .trans ?_ (ConvKernel.final5 m c).symm
      funext i
      obtain ⟨r, q, rfl⟩ : ∃ (r : Fin 32768) (q : Fin 1024), i = ix2 r q := ⟨i 0, i 1, eq_ix2 i⟩
      refine (ConvReference.final m' c r q).trans ?_
      rw [a0, a1, a2, a3, a4]
      rfl
    · refine .trans ?_ (ConvKernel.final6 m c).symm
      funext i
      obtain ⟨b, s, k, rfl⟩ : ∃ (b : Fin 16) (s : Fin 8) (k : Fin 1024), i = ix3 b s k := ⟨i 0, i 1, i 2, eq_ix3 i⟩
      exact ConvReference.gates_apply _ _ _ _ b s k (ConvKernel.lastRow b s) rfl

/-- The feed-forward call on the samples and meta tokens and its reference end with the same result. -/
theorem ffnTail : letI := Cert.FfnTailIdeal.Gen.facts; letI := Cert.FfnTailReferenceIdeal.Gen.facts
    Cert.algebraic_FfnTailIdeal_FfnTailReferenceIdeal := by
  pair_intro
  · run_from Cert.FfnTailIdeal.Gen.run_main m g
  · run_from Cert.FfnTailReferenceIdeal.Value.run m' g'
    refine .trans ?_ (FfnTailKernel.final m c).symm
    obtain ⟨a0, a1, a2, a3, a4, a5, a6, a7⟩ := hagree c
    funext i
    obtain ⟨r, q, rfl⟩ : ∃ (r : Fin 256) (q : Fin 1024), i = ix2 r q := ⟨i 0, i 1, eq_ix2 i⟩
    refine (FfnTailReference.final m' c r q).trans ?_
    rw [a0, a1, a2, a3, a4, a5, a6, a7]
    rfl

set_option maxHeartbeats 8000000 in
/-- The call of the attention's projections on the samples and meta tokens and its reference end with the same nine results. -/
theorem projTail : letI := Cert.ProjTailIdeal.Gen.facts; letI := Cert.ProjTailReferenceIdeal.Gen.facts
    Cert.algebraic_ProjTailIdeal_ProjTailReferenceIdeal := by
  pair_intro
  · run_from Cert.ProjTailIdeal.Gen.run_main m g
  · refine θ_run_mono (Cert.ProjTailReferenceIdeal.Value.run m' g') fun r hr c => ?_
    obtain ⟨a0, a1, a2, a3, a4, a5, a6, a7⟩ := hagree c
    obtain ⟨h0, h1, h2, h3, h4, h5, h6, h7, h8, h⟩ := hr c
    refine ⟨h0.trans ?_, h1.trans ?_, h2.trans ?_, h3.trans ?_, h4.trans ?_, h5.trans ?_, h6.trans ?_, h7.trans ?_, h8.trans ?_, h⟩
    all_goals clear h0 h1 h2 h3 h4 h5 h6 h7 h8 h hr
    · refine .trans ?_ (ProjTailKernel.final4 m c).symm
      funext i
      obtain ⟨r, f, rfl⟩ : ∃ (r : Fin 256) (f : Fin 256), i = ix2 r f := ⟨i 0, i 1, eq_ix2 i⟩
      refine (ProjTailReference.rows256_apply _ _ _ r f).trans ?_
      rw [a0, a1, a3]
      rfl
    · refine .trans ?_ (ProjTailKernel.final5 m c).symm
      funext i
      obtain ⟨r, f, rfl⟩ : ∃ (r : Fin 256) (f : Fin 256), i = ix2 r f := ⟨i 0, i 1, eq_ix2 i⟩
      refine (ProjTailReference.rows256_apply _ _ _ r f).trans ?_
      rw [a0, a1, a4]
      rfl
    · refine .trans ?_ (ProjTailKernel.final6 m c).symm
      funext i
      obtain ⟨r, f, rfl⟩ : ∃ (r : Fin 256) (f : Fin 64), i = ix2 r f := ⟨i 0, i 1, eq_ix2 i⟩
      refine (ProjTailReference.rows64_apply _ _ _ r f).trans ?_
      rw [a0, a1, a6]
      rfl
    · refine .trans ?_ (ProjTailKernel.final7 m c).symm
      funext i
      obtain ⟨r, f, rfl⟩ : ∃ (r : Fin 256) (f : Fin 256), i = ix2 r f := ⟨i 0, i 1, eq_ix2 i⟩
      refine (ProjTailReference.rows256_apply _ _ _ r f).trans ?_
      rw [a0, a1, a3]
      rfl
    · refine .trans ?_ (ProjTailKernel.final8 m c).symm
      funext i
      obtain ⟨r, f, rfl⟩ : ∃ (r : Fin 256) (f : Fin 64), i = ix2 r f := ⟨i 0, i 1, eq_ix2 i⟩
      refine (ProjTailReference.rows64_apply _ _ _ r f).trans ?_
      rw [a0, a1, a6]
      rfl
    · refine .trans ?_ (ProjTailKernel.final9 m c).symm
      funext i
      obtain ⟨b, f, l, rfl⟩ : ∃ (b : Fin 2) (f : Fin 1024) (l : Fin 128), i = ix3 b f l := ⟨i 0, i 1, i 2, eq_ix3 i⟩
      refine (ProjTailReference.cols1024_apply _ _ _ b f l).trans ?_
      rw [a0, a1, a2]
      rfl
    · refine .trans ?_ (ProjTailKernel.final10 m c).symm
      funext i
      obtain ⟨b, f, l, rfl⟩ : ∃ (b : Fin 2) (f : Fin 512) (l : Fin 128), i = ix3 b f l := ⟨i 0, i 1, i 2, eq_ix3 i⟩
      refine (ProjTailReference.cols512_apply _ _ _ b f l).trans ?_
      rw [a0, a1, a5]
      rfl
    · refine .trans ?_ (ProjTailKernel.final11 m c).symm
      funext i
      obtain ⟨b, f, l, rfl⟩ : ∃ (b : Fin 2) (f : Fin 256) (l : Fin 128), i = ix3 b f l := ⟨i 0, i 1, i 2, eq_ix3 i⟩
      refine (ProjTailReference.cols256_apply _ _ _ b f l).trans ?_
      rw [a0, a1, a4]
      rfl
    · refine .trans ?_ (ProjTailKernel.final12 m c).symm
      funext i
      obtain ⟨b, f, l, rfl⟩ : ∃ (b : Fin 2) (f : Fin 8) (l : Fin 128), i = ix3 b f l := ⟨i 0, i 1, i 2, eq_ix3 i⟩
      refine (ProjTailReference.cols8_apply _ _ _ b f l).trans ?_
      rw [a0, a1, a7]
      rfl

/-- The samples' gated short convolution and its reference end with the same two results. -/
theorem convSample : letI := Cert.ConvSampleIdeal.Gen.facts; letI := Cert.ConvSampleReferenceIdeal.Gen.facts
    Cert.algebraic_ConvSampleIdeal_ConvSampleReferenceIdeal := by
  pair_intro
  · run_from Cert.ConvSampleIdeal.Gen.run_main m g
    exacts [Cert.ConvSampleIdeal.Gen.V_main_arg1 m c, Cert.ConvSampleIdeal.Gen.V_main_arg2 m c,
      Cert.ConvSampleIdeal.Gen.V_main_arg3 m c, Cert.ConvSampleIdeal.Gen.V_main_arg4 m c,
      Cert.ConvSampleIdeal.Gen.V_main_arg5 m c]
  · run_from Cert.ConvSampleReferenceIdeal.Value.run m' g'
    all_goals obtain ⟨a0, a1, a2, a3, a4, a5⟩ := hagree c
    · refine .trans ?_ (ConvSampleKernel.final5 m c).symm
      funext i
      obtain ⟨r, q, rfl⟩ : ∃ (r : Fin 256) (q : Fin 1024), i = ix2 r q := ⟨i 0, i 1, eq_ix2 i⟩
      by_cases h : r.val < 128
      · refine (ConvSampleReference.final m' c r q h).trans ?_
        rw [a0, a2, a3, a4, a5]
        exact (ConvSampleKernel.result5_sample m c r q h).symm
      · refine (ConvSampleReference.kept m' c r q h).trans ?_
        rw [a1]
        exact (ConvSampleKernel.result5_kept m c (ix2 r q) h).symm
    · refine .trans ?_ (ConvSampleKernel.final6 m c).symm
      funext i
      obtain ⟨b, s, k, rfl⟩ : ∃ (b : Fin 8) (s : Fin 8) (k : Fin 1024), i = ix3 b s k := ⟨i 0, i 1, i 2, eq_ix3 i⟩
      refine (ConvSampleReference.gates_apply _ _ _ _ b s k (ConvSampleKernel.lastRow b s) rfl).trans ?_
      rw [a3, a4]
      rfl

/-- The recurrent mixer's call on the prompts and its reference end with the same last rows for the convolution. -/
theorem recur : letI := Cert.RecurIdeal.Gen.facts; letI := Cert.RecurReferenceIdeal.Gen.facts
    Cert.algebraic_RecurIdeal_RecurReferenceIdeal := by
  pair_intro
  · run_from RecurKernel.run m g & Cert.RecurIdeal.Gen.unchanged m g
  · run_from Cert.RecurReferenceIdeal.Value.run m' g'
    obtain ⟨a0, a1, a2, a3, a4, a5, a6, a7, a8, a9, a10, a11, a12, a13, a14⟩ := hagree c
    funext i
    obtain ⟨b, s, k, rfl⟩ : ∃ (b : Fin 16) (s : Fin 8) (k : Fin 1024), i = ix3 b s k := ⟨i 0, i 1, i 2, eq_ix3 i⟩
    refine (RecurReference.last_apply _ _ _ _ _ b s k (RecurKernel.lastRow b s) rfl).trans ?_
    rw [a3, a6, a7]
    rfl

/-- The recurrent mixer's call on the samples and its reference end with the same last rows for the convolution. -/
theorem recurSample : letI := Cert.RecurSampleIdeal.Gen.facts; letI := Cert.RecurSampleReferenceIdeal.Gen.facts
    Cert.algebraic_RecurSampleIdeal_RecurSampleReferenceIdeal := by
  pair_intro
  · run_from RecurSampleKernel.run m g & Cert.RecurSampleIdeal.Gen.unchanged m g
  · run_from Cert.RecurSampleReferenceIdeal.Value.run m' g'
    obtain ⟨a0, a1, a2, a3, a4, a5, a6, a7, a8, a9, a10, a11, a12, a13, a14, a15⟩ := hagree c
    funext i
    obtain ⟨b, s, k, rfl⟩ : ∃ (b : Fin 8) (s : Fin 8) (k : Fin 1024), i = ix3 b s k := ⟨i 0, i 1, i 2, eq_ix3 i⟩
    refine (RecurSampleReference.last_apply _ _ _ _ _ b s k (RecurSampleKernel.lastRow b s) rfl).trans ?_
    rw [a4, a7, a8]
    rfl

/-- The short convolution of the meta tokens and its reference end with the same two results. -/
theorem convMeta : letI := Cert.ConvMetaIdeal.Gen.facts; letI := Cert.ConvMetaReferenceIdeal.Gen.facts
    Cert.algebraic_ConvMetaIdeal_ConvMetaReferenceIdeal := by
  pair_intro
  · run_from Cert.ConvMetaIdeal.Gen.run_main m g
    exacts [Cert.ConvMetaIdeal.Gen.V_main_arg1 m c, Cert.ConvMetaIdeal.Gen.V_main_arg2 m c,
      Cert.ConvMetaIdeal.Gen.V_main_arg3 m c, Cert.ConvMetaIdeal.Gen.V_main_arg4 m c]
  · run_from Cert.ConvMetaReferenceIdeal.Value.run m' g'
    all_goals obtain ⟨a0, a1, a2, a3, a4⟩ := hagree c
    · refine .trans ?_ (ConvMetaKernel.final5 m c).symm
      funext i
      obtain ⟨r, q, rfl⟩ : ∃ (r : Fin 256) (q : Fin 1024), i = ix2 r q := ⟨i 0, i 1, eq_ix2 i⟩
      by_cases h : 128 ≤ r.val ∧ r.val < 144
      · refine (ConvMetaReference.final m' c r q h).trans ?_
        rw [a0, a2, a3, a4]
        exact (ConvMetaKernel.result5_meta m c r q ⟨r.val - 128, by omega⟩ (by dsimp only; omega)).symm
      · refine (ConvMetaReference.kept m' c r q h).trans ?_
        rw [a1]
        exact (ConvMetaKernel.result5_kept m c (ix2 r q) h).symm
    · refine .trans ?_ (ConvMetaKernel.final6 m c).symm
      funext i
      obtain ⟨z, s, k, rfl⟩ : ∃ (z : Fin 1) (s : Fin 8) (k : Fin 1024), i = ix3 z s k := ⟨i 0, i 1, i 2, eq_ix3 i⟩
      obtain rfl : z = 0 := Subsingleton.elim _ _
      refine (ConvMetaReference.gates_apply _ _ _ s k (ConvMetaKernel.lastRow s) rfl).trans ?_
      rw [a2, a3]
      rfl

/-- Everything the statement claims. -/
theorem claim : Cert.Claim :=
  ⟨Cert.Kernel.Gen.facts, Cert.Ffn.Gen.facts, Cert.FfnIdeal.Gen.facts, Cert.FfnReferenceIdeal.Gen.facts,
    Cert.Inner.Gen.facts, Cert.InnerIdeal.Gen.facts, Cert.InnerReferenceIdeal.Gen.facts,
    Cert.Proj.Gen.facts, Cert.ProjIdeal.Gen.facts, Cert.ProjReferenceIdeal.Gen.facts,
    Cert.Conv.Gen.facts, Cert.ConvIdeal.Gen.facts, Cert.ConvReferenceIdeal.Gen.facts,
    Cert.FfnTail.Gen.facts, Cert.FfnTailIdeal.Gen.facts, Cert.FfnTailReferenceIdeal.Gen.facts,
    Cert.ProjTail.Gen.facts, Cert.ProjTailIdeal.Gen.facts, Cert.ProjTailReferenceIdeal.Gen.facts,
    Cert.ConvSample.Gen.facts, Cert.ConvSampleIdeal.Gen.facts, Cert.ConvSampleReferenceIdeal.Gen.facts,
    Cert.Recur.Gen.facts, Cert.RecurIdeal.Gen.facts, Cert.RecurReferenceIdeal.Gen.facts,
    Cert.RecurSample.Gen.facts, Cert.RecurSampleIdeal.Gen.facts, Cert.RecurSampleReferenceIdeal.Gen.facts,
    Cert.ConvMeta.Gen.facts, Cert.ConvMetaIdeal.Gen.facts, Cert.ConvMetaReferenceIdeal.Gen.facts,
    fun m g _ => Attn.run m g, fun m g _ => Cert.Ffn.Gen.frame m g, fun m g _ => Cert.FfnIdeal.Gen.frame m g,
    fun m g _ => (θ_run _ _ _).mono (fun r h => ⟨fun c => (h c).2, sem_eq_zero_of_no_sems (by decide) r.2⟩)
      (Cert.FfnReferenceIdeal.Value.run m g),
    fun m g _ => Cert.Inner.Gen.frame m g, fun m g _ => Cert.InnerIdeal.Gen.frame m g,
    fun m g _ => (θ_run _ _ _).mono (fun r h => ⟨fun c => (h c).2, sem_eq_zero_of_no_sems (by decide) r.2⟩)
      (Cert.InnerReferenceIdeal.Value.run m g),
    fun m g _ => Cert.Proj.Gen.frame m g, fun m g _ => Cert.ProjIdeal.Gen.frame m g,
    fun m g _ => (θ_run _ _ _).mono
      (fun r h => ⟨fun c => (h c).2.2.2.2.2.2.2.2.2, sem_eq_zero_of_no_sems (by decide) r.2⟩)
      (Cert.ProjReferenceIdeal.Value.run m g),
    fun m g _ => Cert.Conv.Gen.frame m g, fun m g _ => Cert.ConvIdeal.Gen.frame m g,
    fun m g _ => (θ_run _ _ _).mono (fun r h => ⟨fun c => (h c).2.2, sem_eq_zero_of_no_sems (by decide) r.2⟩)
      (Cert.ConvReferenceIdeal.Value.run m g),
    fun m g _ => Cert.FfnTail.Gen.frame m g, fun m g _ => Cert.FfnTailIdeal.Gen.frame m g,
    fun m g _ => (θ_run _ _ _).mono
      (fun r h => ⟨fun c => (h c).2, sem_eq_zero_of_no_sems (by decide) r.2⟩)
      (Cert.FfnTailReferenceIdeal.Value.run m g),
    fun m g _ => Cert.ProjTail.Gen.frame m g, fun m g _ => Cert.ProjTailIdeal.Gen.frame m g,
    fun m g _ => (θ_run _ _ _).mono
      (fun r h => ⟨fun c => (h c).2.2.2.2.2.2.2.2.2, sem_eq_zero_of_no_sems (by decide) r.2⟩)
      (Cert.ProjTailReferenceIdeal.Value.run m g),
    fun m g _ => Cert.ConvSample.Gen.frame m g, fun m g _ => Cert.ConvSampleIdeal.Gen.frame m g,
    fun m g _ => (θ_run _ _ _).mono
      (fun r h => ⟨fun c => (h c).2.2, sem_eq_zero_of_no_sems (by decide) r.2⟩)
      (Cert.ConvSampleReferenceIdeal.Value.run m g),
    fun m g _ => Cert.Recur.Gen.frame m g, fun m g _ => Cert.RecurIdeal.Gen.frame m g,
    fun m g _ => (θ_run _ _ _).mono
      (fun r h => ⟨fun c => (h c).2, sem_eq_zero_of_no_sems (by decide) r.2⟩)
      (Cert.RecurReferenceIdeal.Value.run m g),
    fun m g _ => Cert.RecurSample.Gen.frame m g, fun m g _ => Cert.RecurSampleIdeal.Gen.frame m g,
    fun m g _ => (θ_run _ _ _).mono
      (fun r h => ⟨fun c => (h c).2, sem_eq_zero_of_no_sems (by decide) r.2⟩)
      (Cert.RecurSampleReferenceIdeal.Value.run m g),
    fun m g _ => Cert.ConvMeta.Gen.frame m g, fun m g _ => Cert.ConvMetaIdeal.Gen.frame m g,
    fun m g _ => (θ_run _ _ _).mono
      (fun r h => ⟨fun c => (h c).2.2, sem_eq_zero_of_no_sems (by decide) r.2⟩)
      (Cert.ConvMetaReferenceIdeal.Value.run m g),
    trivial, ffn, trivial, inner, trivial, proj, trivial, conv, trivial, ffnTail, trivial, projTail, trivial, convSample,
    trivial, recur, trivial, recurSample, trivial, convMeta⟩

end Cert.Proof
